-- ==== Defs.lean ====
def Pre_StageC (m : (ℓ : Loc Cert.StageC.nD Cert.StageC.τ Cert.StageC.sig) → Buf (Elt Bits) ℓ) : Prop :=
  True

def Pre_StageCIdeal (m : (ℓ : Loc Cert.StageCIdeal.nD Cert.StageCIdeal.τ Cert.StageCIdeal.sig) → Buf (Elt Ideal) ℓ) : Prop :=
  True

def Pre_StageCIdeal_finite [hPre_finite : Cert.Pre_finite.Facts] (m : (ℓ : Loc Cert.StageCIdeal.nD Cert.StageCIdeal.τ Cert.StageCIdeal.sig) → Buf (Elt Ideal) ℓ) : Prop :=
  ∀ c : Dev Cert.StageCIdeal.nD,
    (Cert.Pre_finite.fn (F := Ideal) (m ((c.tc : Thread Cert.StageCIdeal.nD Cert.StageCIdeal.τ).loc Cert.StageCIdeal.main_arg0)) (m ((c.tc : Thread Cert.StageCIdeal.nD Cert.StageCIdeal.τ).loc Cert.StageCIdeal.main_arg1)) (m ((c.tc : Thread Cert.StageCIdeal.nD Cert.StageCIdeal.τ).loc Cert.StageCIdeal.main_arg2)) (m ((c.tc : Thread Cert.StageCIdeal.nD Cert.StageCIdeal.τ).loc Cert.StageCIdeal.main_arg3)) (m ((c.tc : Thread Cert.StageCIdeal.nD Cert.StageCIdeal.τ).loc Cert.StageCIdeal.main_arg4))) = (fun _ => 1#1)

def Pre_RefCIdeal (m : (ℓ : Loc Cert.RefCIdeal.nD Cert.RefCIdeal.τ Cert.RefCIdeal.sig) → Buf (Elt Ideal) ℓ) : Prop :=
  True

def Pre_RefCIdeal_finite [hPre_finite : Cert.Pre_finite.Facts] (m : (ℓ : Loc Cert.RefCIdeal.nD Cert.RefCIdeal.τ Cert.RefCIdeal.sig) → Buf (Elt Ideal) ℓ) : Prop :=
  ∀ c : Dev Cert.RefCIdeal.nD,
    (Cert.Pre_finite.fn (F := Ideal) (m ((c.tc : Thread Cert.RefCIdeal.nD Cert.RefCIdeal.τ).loc Cert.RefCIdeal.main_arg0)) (m ((c.tc : Thread Cert.RefCIdeal.nD Cert.RefCIdeal.τ).loc Cert.RefCIdeal.main_arg1)) (m ((c.tc : Thread Cert.RefCIdeal.nD Cert.RefCIdeal.τ).loc Cert.RefCIdeal.main_arg2)) (m ((c.tc : Thread Cert.RefCIdeal.nD Cert.RefCIdeal.τ).loc Cert.RefCIdeal.main_arg3)) (m ((c.tc : Thread Cert.RefCIdeal.nD Cert.RefCIdeal.τ).loc Cert.RefCIdeal.main_arg4))) = (fun _ => 1#1)

def Pre_StageD (m : (ℓ : Loc Cert.StageD.nD Cert.StageD.τ Cert.StageD.sig) → Buf (Elt Bits) ℓ) : Prop :=
  True

def Pre_StageDIdeal (m : (ℓ : Loc Cert.StageDIdeal.nD Cert.StageDIdeal.τ Cert.StageDIdeal.sig) → Buf (Elt Ideal) ℓ) : Prop :=
  True

def Pre_StageDIdeal_finite_in_range [hPre_finite_in_range : Cert.Pre_finite_in_range.Facts] (m : (ℓ : Loc Cert.StageDIdeal.nD Cert.StageDIdeal.τ Cert.StageDIdeal.sig) → Buf (Elt Ideal) ℓ) : Prop :=
  ∀ c : Dev Cert.StageDIdeal.nD,
    (Cert.Pre_finite_in_range.fn (F := Ideal) (m ((c.tc : Thread Cert.StageDIdeal.nD Cert.StageDIdeal.τ).loc Cert.StageDIdeal.main_arg0)) (m ((c.tc : Thread Cert.StageDIdeal.nD Cert.StageDIdeal.τ).loc Cert.StageDIdeal.main_arg1)) (m ((c.tc : Thread Cert.StageDIdeal.nD Cert.StageDIdeal.τ).loc Cert.StageDIdeal.main_arg2)) (m ((c.tc : Thread Cert.StageDIdeal.nD Cert.StageDIdeal.τ).loc Cert.StageDIdeal.main_arg3)) (m ((c.tc : Thread Cert.StageDIdeal.nD Cert.StageDIdeal.τ).loc Cert.StageDIdeal.main_arg4)) (m ((c.tc : Thread Cert.StageDIdeal.nD Cert.StageDIdeal.τ).loc Cert.StageDIdeal.main_arg5))) = (fun _ => 1#1)

def Pre_RefDIdeal (m : (ℓ : Loc Cert.RefDIdeal.nD Cert.RefDIdeal.τ Cert.RefDIdeal.sig) → Buf (Elt Ideal) ℓ) : Prop :=
  True

def Pre_RefDIdeal_finite_in_range [hPre_finite_in_range : Cert.Pre_finite_in_range.Facts] (m : (ℓ : Loc Cert.RefDIdeal.nD Cert.RefDIdeal.τ Cert.RefDIdeal.sig) → Buf (Elt Ideal) ℓ) : Prop :=
  ∀ c : Dev Cert.RefDIdeal.nD,
    (Cert.Pre_finite_in_range.fn (F := Ideal) (m ((c.tc : Thread Cert.RefDIdeal.nD Cert.RefDIdeal.τ).loc Cert.RefDIdeal.main_arg0)) (m ((c.tc : Thread Cert.RefDIdeal.nD Cert.RefDIdeal.τ).loc Cert.RefDIdeal.main_arg1)) (m ((c.tc : Thread Cert.RefDIdeal.nD Cert.RefDIdeal.τ).loc Cert.RefDIdeal.main_arg2)) (m ((c.tc : Thread Cert.RefDIdeal.nD Cert.RefDIdeal.τ).loc Cert.RefDIdeal.main_arg3)) (m ((c.tc : Thread Cert.RefDIdeal.nD Cert.RefDIdeal.τ).loc Cert.RefDIdeal.main_arg4)) (m ((c.tc : Thread Cert.RefDIdeal.nD Cert.RefDIdeal.τ).loc Cert.RefDIdeal.main_arg5))) = (fun _ => 1#1)

def Pre_StageB (m : (ℓ : Loc Cert.StageB.nD Cert.StageB.τ Cert.StageB.sig) → Buf (Elt Bits) ℓ) : Prop :=
  True

def Pre_StageBIdeal (m : (ℓ : Loc Cert.StageBIdeal.nD Cert.StageBIdeal.τ Cert.StageBIdeal.sig) → Buf (Elt Ideal) ℓ) : Prop :=
  True

def Pre_StageBIdeal_finite_in_range2 [hPre_finite_in_range2 : Cert.Pre_finite_in_range2.Facts] (m : (ℓ : Loc Cert.StageBIdeal.nD Cert.StageBIdeal.τ Cert.StageBIdeal.sig) → Buf (Elt Ideal) ℓ) : Prop :=
  ∀ c : Dev Cert.StageBIdeal.nD,
    (Cert.Pre_finite_in_range2.fn (F := Ideal) (m ((c.tc : Thread Cert.StageBIdeal.nD Cert.StageBIdeal.τ).loc Cert.StageBIdeal.main_arg0)) (m ((c.tc : Thread Cert.StageBIdeal.nD Cert.StageBIdeal.τ).loc Cert.StageBIdeal.main_arg1)) (m ((c.tc : Thread Cert.StageBIdeal.nD Cert.StageBIdeal.τ).loc Cert.StageBIdeal.main_arg2)) (m ((c.tc : Thread Cert.StageBIdeal.nD Cert.StageBIdeal.τ).loc Cert.StageBIdeal.main_arg3)) (m ((c.tc : Thread Cert.StageBIdeal.nD Cert.StageBIdeal.τ).loc Cert.StageBIdeal.main_arg4)) (m ((c.tc : Thread Cert.StageBIdeal.nD Cert.StageBIdeal.τ).loc Cert.StageBIdeal.main_arg5))) = (fun _ => 1#1)

def Pre_RefBIdeal (m : (ℓ : Loc Cert.RefBIdeal.nD Cert.RefBIdeal.τ Cert.RefBIdeal.sig) → Buf (Elt Ideal) ℓ) : Prop :=
  True

def Pre_RefBIdeal_finite_in_range2 [hPre_finite_in_range2 : Cert.Pre_finite_in_range2.Facts] (m : (ℓ : Loc Cert.RefBIdeal.nD Cert.RefBIdeal.τ Cert.RefBIdeal.sig) → Buf (Elt Ideal) ℓ) : Prop :=
  ∀ c : Dev Cert.RefBIdeal.nD,
    (Cert.Pre_finite_in_range2.fn (F := Ideal) (m ((c.tc : Thread Cert.RefBIdeal.nD Cert.RefBIdeal.τ).loc Cert.RefBIdeal.main_arg0)) (m ((c.tc : Thread Cert.RefBIdeal.nD Cert.RefBIdeal.τ).loc Cert.RefBIdeal.main_arg1)) (m ((c.tc : Thread Cert.RefBIdeal.nD Cert.RefBIdeal.τ).loc Cert.RefBIdeal.main_arg2)) (m ((c.tc : Thread Cert.RefBIdeal.nD Cert.RefBIdeal.τ).loc Cert.RefBIdeal.main_arg3)) (m ((c.tc : Thread Cert.RefBIdeal.nD Cert.RefBIdeal.τ).loc Cert.RefBIdeal.main_arg4)) (m ((c.tc : Thread Cert.RefBIdeal.nD Cert.RefBIdeal.τ).loc Cert.RefBIdeal.main_arg5))) = (fun _ => 1#1)

def Pre_StageA (m : (ℓ : Loc Cert.StageA.nD Cert.StageA.τ Cert.StageA.sig) → Buf (Elt Bits) ℓ) : Prop :=
  True

def Pre_StageAIdeal (m : (ℓ : Loc Cert.StageAIdeal.nD Cert.StageAIdeal.τ Cert.StageAIdeal.sig) → Buf (Elt Ideal) ℓ) : Prop :=
  True

def Pre_StageAIdeal_finite1 [hPre_finite1 : Cert.Pre_finite1.Facts] (m : (ℓ : Loc Cert.StageAIdeal.nD Cert.StageAIdeal.τ Cert.StageAIdeal.sig) → Buf (Elt Ideal) ℓ) : Prop :=
  ∀ c : Dev Cert.StageAIdeal.nD,
    (Cert.Pre_finite1.fn (F := Ideal) (m ((c.tc : Thread Cert.StageAIdeal.nD Cert.StageAIdeal.τ).loc Cert.StageAIdeal.main_arg0)) (m ((c.tc : Thread Cert.StageAIdeal.nD Cert.StageAIdeal.τ).loc Cert.StageAIdeal.main_arg1)) (m ((c.tc : Thread Cert.StageAIdeal.nD Cert.StageAIdeal.τ).loc Cert.StageAIdeal.main_arg2)) (m ((c.tc : Thread Cert.StageAIdeal.nD Cert.StageAIdeal.τ).loc Cert.StageAIdeal.main_arg3)) (m ((c.tc : Thread Cert.StageAIdeal.nD Cert.StageAIdeal.τ).loc Cert.StageAIdeal.main_arg4)) (m ((c.tc : Thread Cert.StageAIdeal.nD Cert.StageAIdeal.τ).loc Cert.StageAIdeal.main_arg5))) = (fun _ => 1#1)

def Pre_RefAIdeal (m : (ℓ : Loc Cert.RefAIdeal.nD Cert.RefAIdeal.τ Cert.RefAIdeal.sig) → Buf (Elt Ideal) ℓ) : Prop :=
  True

def Pre_RefAIdeal_finite1 [hPre_finite1 : Cert.Pre_finite1.Facts] (m : (ℓ : Loc Cert.RefAIdeal.nD Cert.RefAIdeal.τ Cert.RefAIdeal.sig) → Buf (Elt Ideal) ℓ) : Prop :=
  ∀ c : Dev Cert.RefAIdeal.nD,
    (Cert.Pre_finite1.fn (F := Ideal) (m ((c.tc : Thread Cert.RefAIdeal.nD Cert.RefAIdeal.τ).loc Cert.RefAIdeal.main_arg0)) (m ((c.tc : Thread Cert.RefAIdeal.nD Cert.RefAIdeal.τ).loc Cert.RefAIdeal.main_arg1)) (m ((c.tc : Thread Cert.RefAIdeal.nD Cert.RefAIdeal.τ).loc Cert.RefAIdeal.main_arg2)) (m ((c.tc : Thread Cert.RefAIdeal.nD Cert.RefAIdeal.τ).loc Cert.RefAIdeal.main_arg3)) (m ((c.tc : Thread Cert.RefAIdeal.nD Cert.RefAIdeal.τ).loc Cert.RefAIdeal.main_arg4)) (m ((c.tc : Thread Cert.RefAIdeal.nD Cert.RefAIdeal.τ).loc Cert.RefAIdeal.main_arg5))) = (fun _ => 1#1)

def quiescent_StageC [hStageC : Cert.StageC.Facts] : Prop :=
  ∀ (m : (ℓ : Loc Cert.StageC.nD Cert.StageC.τ Cert.StageC.sig) → Buf (Elt Bits) ℓ) (g : Dev Cert.StageC.nD → PrngReg), Pre_StageC m →
    θ_run (Cert.StageC.defs (F := Bits)) (onTc (τ := Cert.StageC.τ) (Cert.StageC.main (F := Bits))) ⟨m, fun _ => 0, g⟩ (fun r => (∀ c : Dev Cert.StageC.nD,
      r.2.mem ((c.tc : Thread Cert.StageC.nD Cert.StageC.τ).loc Cert.StageC.main_arg0) = m ((c.tc : Thread Cert.StageC.nD Cert.StageC.τ).loc Cert.StageC.main_arg0)
      ∧ r.2.mem ((c.tc : Thread Cert.StageC.nD Cert.StageC.τ).loc Cert.StageC.main_arg1) = m ((c.tc : Thread Cert.StageC.nD Cert.StageC.τ).loc Cert.StageC.main_arg1)
      ∧ r.2.mem ((c.tc : Thread Cert.StageC.nD Cert.StageC.τ).loc Cert.StageC.main_arg2) = m ((c.tc : Thread Cert.StageC.nD Cert.StageC.τ).loc Cert.StageC.main_arg2)
      ∧ r.2.mem ((c.tc : Thread Cert.StageC.nD Cert.StageC.τ).loc Cert.StageC.main_arg3) = m ((c.tc : Thread Cert.StageC.nD Cert.StageC.τ).loc Cert.StageC.main_arg3)
      ∧ r.2.mem ((c.tc : Thread Cert.StageC.nD Cert.StageC.τ).loc Cert.StageC.main_arg4) = m ((c.tc : Thread Cert.StageC.nD Cert.StageC.τ).loc Cert.StageC.main_arg4))
      ∧ r.2.sem = fun _ => 0)

def quiescent_StageCIdeal [hStageCIdeal : Cert.StageCIdeal.Facts] : Prop :=
  ∀ (m : (ℓ : Loc Cert.StageCIdeal.nD Cert.StageCIdeal.τ Cert.StageCIdeal.sig) → Buf (Elt Ideal) ℓ) (g : Dev Cert.StageCIdeal.nD → PrngReg), Pre_StageCIdeal m →
    θ_run (Cert.StageCIdeal.defs (F := Ideal)) (onTc (τ := Cert.StageCIdeal.τ) (Cert.StageCIdeal.main (F := Ideal))) ⟨m, fun _ => 0, g⟩ (fun r => (∀ c : Dev Cert.StageCIdeal.nD,
      r.2.mem ((c.tc : Thread Cert.StageCIdeal.nD Cert.StageCIdeal.τ).loc Cert.StageCIdeal.main_arg0) = m ((c.tc : Thread Cert.StageCIdeal.nD Cert.StageCIdeal.τ).loc Cert.StageCIdeal.main_arg0)
      ∧ r.2.mem ((c.tc : Thread Cert.StageCIdeal.nD Cert.StageCIdeal.τ).loc Cert.StageCIdeal.main_arg1) = m ((c.tc : Thread Cert.StageCIdeal.nD Cert.StageCIdeal.τ).loc Cert.StageCIdeal.main_arg1)
      ∧ r.2.mem ((c.tc : Thread Cert.StageCIdeal.nD Cert.StageCIdeal.τ).loc Cert.StageCIdeal.main_arg2) = m ((c.tc : Thread Cert.StageCIdeal.nD Cert.StageCIdeal.τ).loc Cert.StageCIdeal.main_arg2)
      ∧ r.2.mem ((c.tc : Thread Cert.StageCIdeal.nD Cert.StageCIdeal.τ).loc Cert.StageCIdeal.main_arg3) = m ((c.tc : Thread Cert.StageCIdeal.nD Cert.StageCIdeal.τ).loc Cert.StageCIdeal.main_arg3)
      ∧ r.2.mem ((c.tc : Thread Cert.StageCIdeal.nD Cert.StageCIdeal.τ).loc Cert.StageCIdeal.main_arg4) = m ((c.tc : Thread Cert.StageCIdeal.nD Cert.StageCIdeal.τ).loc Cert.StageCIdeal.main_arg4))
      ∧ r.2.sem = fun _ => 0)

def quiescent_StageCIdeal_pre_finite [hStageCIdeal : Cert.StageCIdeal.Facts] [hPre_finite : Cert.Pre_finite.Facts] : Prop :=
  ∀ (m : (ℓ : Loc Cert.StageCIdeal.nD Cert.StageCIdeal.τ Cert.StageCIdeal.sig) → Buf (Elt Ideal) ℓ) (g : Dev Cert.StageCIdeal.nD → PrngReg), Pre_StageCIdeal_finite m →
    θ_run (Cert.StageCIdeal.defs (F := Ideal)) (onTc (τ := Cert.StageCIdeal.τ) (Cert.StageCIdeal.main (F := Ideal))) ⟨m, fun _ => 0, g⟩ (fun r => (∀ c : Dev Cert.StageCIdeal.nD,
      r.2.mem ((c.tc : Thread Cert.StageCIdeal.nD Cert.StageCIdeal.τ).loc Cert.StageCIdeal.main_arg0) = m ((c.tc : Thread Cert.StageCIdeal.nD Cert.StageCIdeal.τ).loc Cert.StageCIdeal.main_arg0)
      ∧ r.2.mem ((c.tc : Thread Cert.StageCIdeal.nD Cert.StageCIdeal.τ).loc Cert.StageCIdeal.main_arg1) = m ((c.tc : Thread Cert.StageCIdeal.nD Cert.StageCIdeal.τ).loc Cert.StageCIdeal.main_arg1)
      ∧ r.2.mem ((c.tc : Thread Cert.StageCIdeal.nD Cert.StageCIdeal.τ).loc Cert.StageCIdeal.main_arg2) = m ((c.tc : Thread Cert.StageCIdeal.nD Cert.StageCIdeal.τ).loc Cert.StageCIdeal.main_arg2)
      ∧ r.2.mem ((c.tc : Thread Cert.StageCIdeal.nD Cert.StageCIdeal.τ).loc Cert.StageCIdeal.main_arg3) = m ((c.tc : Thread Cert.StageCIdeal.nD Cert.StageCIdeal.τ).loc Cert.StageCIdeal.main_arg3)
      ∧ r.2.mem ((c.tc : Thread Cert.StageCIdeal.nD Cert.StageCIdeal.τ).loc Cert.StageCIdeal.main_arg4) = m ((c.tc : Thread Cert.StageCIdeal.nD Cert.StageCIdeal.τ).loc Cert.StageCIdeal.main_arg4))
      ∧ r.2.sem = fun _ => 0)

def quiescent_RefCIdeal [hRefCIdeal : Cert.RefCIdeal.Facts] : Prop :=
  ∀ (m : (ℓ : Loc Cert.RefCIdeal.nD Cert.RefCIdeal.τ Cert.RefCIdeal.sig) → Buf (Elt Ideal) ℓ) (g : Dev Cert.RefCIdeal.nD → PrngReg), Pre_RefCIdeal m →
    θ_run (Cert.RefCIdeal.defs (F := Ideal)) (onTc (τ := Cert.RefCIdeal.τ) (Cert.RefCIdeal.main (F := Ideal))) ⟨m, fun _ => 0, g⟩ (fun r => (∀ c : Dev Cert.RefCIdeal.nD,
      r.2.mem ((c.tc : Thread Cert.RefCIdeal.nD Cert.RefCIdeal.τ).loc Cert.RefCIdeal.main_arg0) = m ((c.tc : Thread Cert.RefCIdeal.nD Cert.RefCIdeal.τ).loc Cert.RefCIdeal.main_arg0)
      ∧ r.2.mem ((c.tc : Thread Cert.RefCIdeal.nD Cert.RefCIdeal.τ).loc Cert.RefCIdeal.main_arg1) = m ((c.tc : Thread Cert.RefCIdeal.nD Cert.RefCIdeal.τ).loc Cert.RefCIdeal.main_arg1)
      ∧ r.2.mem ((c.tc : Thread Cert.RefCIdeal.nD Cert.RefCIdeal.τ).loc Cert.RefCIdeal.main_arg2) = m ((c.tc : Thread Cert.RefCIdeal.nD Cert.RefCIdeal.τ).loc Cert.RefCIdeal.main_arg2)
      ∧ r.2.mem ((c.tc : Thread Cert.RefCIdeal.nD Cert.RefCIdeal.τ).loc Cert.RefCIdeal.main_arg3) = m ((c.tc : Thread Cert.RefCIdeal.nD Cert.RefCIdeal.τ).loc Cert.RefCIdeal.main_arg3)
      ∧ r.2.mem ((c.tc : Thread Cert.RefCIdeal.nD Cert.RefCIdeal.τ).loc Cert.RefCIdeal.main_arg4) = m ((c.tc : Thread Cert.RefCIdeal.nD Cert.RefCIdeal.τ).loc Cert.RefCIdeal.main_arg4))
      ∧ r.2.sem = fun _ => 0)

def quiescent_RefCIdeal_pre_finite [hRefCIdeal : Cert.RefCIdeal.Facts] [hPre_finite : Cert.Pre_finite.Facts] : Prop :=
  ∀ (m : (ℓ : Loc Cert.RefCIdeal.nD Cert.RefCIdeal.τ Cert.RefCIdeal.sig) → Buf (Elt Ideal) ℓ) (g : Dev Cert.RefCIdeal.nD → PrngReg), Pre_RefCIdeal_finite m →
    θ_run (Cert.RefCIdeal.defs (F := Ideal)) (onTc (τ := Cert.RefCIdeal.τ) (Cert.RefCIdeal.main (F := Ideal))) ⟨m, fun _ => 0, g⟩ (fun r => (∀ c : Dev Cert.RefCIdeal.nD,
      r.2.mem ((c.tc : Thread Cert.RefCIdeal.nD Cert.RefCIdeal.τ).loc Cert.RefCIdeal.main_arg0) = m ((c.tc : Thread Cert.RefCIdeal.nD Cert.RefCIdeal.τ).loc Cert.RefCIdeal.main_arg0)
      ∧ r.2.mem ((c.tc : Thread Cert.RefCIdeal.nD Cert.RefCIdeal.τ).loc Cert.RefCIdeal.main_arg1) = m ((c.tc : Thread Cert.RefCIdeal.nD Cert.RefCIdeal.τ).loc Cert.RefCIdeal.main_arg1)
      ∧ r.2.mem ((c.tc : Thread Cert.RefCIdeal.nD Cert.RefCIdeal.τ).loc Cert.RefCIdeal.main_arg2) = m ((c.tc : Thread Cert.RefCIdeal.nD Cert.RefCIdeal.τ).loc Cert.RefCIdeal.main_arg2)
      ∧ r.2.mem ((c.tc : Thread Cert.RefCIdeal.nD Cert.RefCIdeal.τ).loc Cert.RefCIdeal.main_arg3) = m ((c.tc : Thread Cert.RefCIdeal.nD Cert.RefCIdeal.τ).loc Cert.RefCIdeal.main_arg3)
      ∧ r.2.mem ((c.tc : Thread Cert.RefCIdeal.nD Cert.RefCIdeal.τ).loc Cert.RefCIdeal.main_arg4) = m ((c.tc : Thread Cert.RefCIdeal.nD Cert.RefCIdeal.τ).loc Cert.RefCIdeal.main_arg4))
      ∧ r.2.sem = fun _ => 0)

def quiescent_StageD [hStageD : Cert.StageD.Facts] : Prop :=
  ∀ (m : (ℓ : Loc Cert.StageD.nD Cert.StageD.τ Cert.StageD.sig) → Buf (Elt Bits) ℓ) (g : Dev Cert.StageD.nD → PrngReg), Pre_StageD m →
    θ_run (Cert.StageD.defs (F := Bits)) (onTc (τ := Cert.StageD.τ) (Cert.StageD.main (F := Bits))) ⟨m, fun _ => 0, g⟩ (fun r => (∀ c : Dev Cert.StageD.nD,
      r.2.mem ((c.tc : Thread Cert.StageD.nD Cert.StageD.τ).loc Cert.StageD.main_arg0) = m ((c.tc : Thread Cert.StageD.nD Cert.StageD.τ).loc Cert.StageD.main_arg0)
      ∧ r.2.mem ((c.tc : Thread Cert.StageD.nD Cert.StageD.τ).loc Cert.StageD.main_arg1) = m ((c.tc : Thread Cert.StageD.nD Cert.StageD.τ).loc Cert.StageD.main_arg1)
      ∧ r.2.mem ((c.tc : Thread Cert.StageD.nD Cert.StageD.τ).loc Cert.StageD.main_arg2) = m ((c.tc : Thread Cert.StageD.nD Cert.StageD.τ).loc Cert.StageD.main_arg2)
      ∧ r.2.mem ((c.tc : Thread Cert.StageD.nD Cert.StageD.τ).loc Cert.StageD.main_arg3) = m ((c.tc : Thread Cert.StageD.nD Cert.StageD.τ).loc Cert.StageD.main_arg3)
      ∧ r.2.mem ((c.tc : Thread Cert.StageD.nD Cert.StageD.τ).loc Cert.StageD.main_arg4) = m ((c.tc : Thread Cert.StageD.nD Cert.StageD.τ).loc Cert.StageD.main_arg4)
      ∧ r.2.mem ((c.tc : Thread Cert.StageD.nD Cert.StageD.τ).loc Cert.StageD.main_arg5) = m ((c.tc : Thread Cert.StageD.nD Cert.StageD.τ).loc Cert.StageD.main_arg5))
      ∧ r.2.sem = fun _ => 0)

def quiescent_StageDIdeal [hStageDIdeal : Cert.StageDIdeal.Facts] : Prop :=
  ∀ (m : (ℓ : Loc Cert.StageDIdeal.nD Cert.StageDIdeal.τ Cert.StageDIdeal.sig) → Buf (Elt Ideal) ℓ) (g : Dev Cert.StageDIdeal.nD → PrngReg), Pre_StageDIdeal m →
    θ_run (Cert.StageDIdeal.defs (F := Ideal)) (onTc (τ := Cert.StageDIdeal.τ) (Cert.StageDIdeal.main (F := Ideal))) ⟨m, fun _ => 0, g⟩ (fun r => (∀ c : Dev Cert.StageDIdeal.nD,
      r.2.mem ((c.tc : Thread Cert.StageDIdeal.nD Cert.StageDIdeal.τ).loc Cert.StageDIdeal.main_arg0) = m ((c.tc : Thread Cert.StageDIdeal.nD Cert.StageDIdeal.τ).loc Cert.StageDIdeal.main_arg0)
      ∧ r.2.mem ((c.tc : Thread Cert.StageDIdeal.nD Cert.StageDIdeal.τ).loc Cert.StageDIdeal.main_arg1) = m ((c.tc : Thread Cert.StageDIdeal.nD Cert.StageDIdeal.τ).loc Cert.StageDIdeal.main_arg1)
      ∧ r.2.mem ((c.tc : Thread Cert.StageDIdeal.nD Cert.StageDIdeal.τ).loc Cert.StageDIdeal.main_arg2) = m ((c.tc : Thread Cert.StageDIdeal.nD Cert.StageDIdeal.τ).loc Cert.StageDIdeal.main_arg2)
      ∧ r.2.mem ((c.tc : Thread Cert.StageDIdeal.nD Cert.StageDIdeal.τ).loc Cert.StageDIdeal.main_arg3) = m ((c.tc : Thread Cert.StageDIdeal.nD Cert.StageDIdeal.τ).loc Cert.StageDIdeal.main_arg3)
      ∧ r.2.mem ((c.tc : Thread Cert.StageDIdeal.nD Cert.StageDIdeal.τ).loc Cert.StageDIdeal.main_arg4) = m ((c.tc : Thread Cert.StageDIdeal.nD Cert.StageDIdeal.τ).loc Cert.StageDIdeal.main_arg4)
      ∧ r.2.mem ((c.tc : Thread Cert.StageDIdeal.nD Cert.StageDIdeal.τ).loc Cert.StageDIdeal.main_arg5) = m ((c.tc : Thread Cert.StageDIdeal.nD Cert.StageDIdeal.τ).loc Cert.StageDIdeal.main_arg5))
      ∧ r.2.sem = fun _ => 0)

def quiescent_StageDIdeal_pre_finite_in_range [hStageDIdeal : Cert.StageDIdeal.Facts] [hPre_finite_in_range : Cert.Pre_finite_in_range.Facts] : Prop :=
  ∀ (m : (ℓ : Loc Cert.StageDIdeal.nD Cert.StageDIdeal.τ Cert.StageDIdeal.sig) → Buf (Elt Ideal) ℓ) (g : Dev Cert.StageDIdeal.nD → PrngReg), Pre_StageDIdeal_finite_in_range m →
    θ_run (Cert.StageDIdeal.defs (F := Ideal)) (onTc (τ := Cert.StageDIdeal.τ) (Cert.StageDIdeal.main (F := Ideal))) ⟨m, fun _ => 0, g⟩ (fun r => (∀ c : Dev Cert.StageDIdeal.nD,
      r.2.mem ((c.tc : Thread Cert.StageDIdeal.nD Cert.StageDIdeal.τ).loc Cert.StageDIdeal.main_arg0) = m ((c.tc : Thread Cert.StageDIdeal.nD Cert.StageDIdeal.τ).loc Cert.StageDIdeal.main_arg0)
      ∧ r.2.mem ((c.tc : Thread Cert.StageDIdeal.nD Cert.StageDIdeal.τ).loc Cert.StageDIdeal.main_arg1) = m ((c.tc : Thread Cert.StageDIdeal.nD Cert.StageDIdeal.τ).loc Cert.StageDIdeal.main_arg1)
      ∧ r.2.mem ((c.tc : Thread Cert.StageDIdeal.nD Cert.StageDIdeal.τ).loc Cert.StageDIdeal.main_arg2) = m ((c.tc : Thread Cert.StageDIdeal.nD Cert.StageDIdeal.τ).loc Cert.StageDIdeal.main_arg2)
      ∧ r.2.mem ((c.tc : Thread Cert.StageDIdeal.nD Cert.StageDIdeal.τ).loc Cert.StageDIdeal.main_arg3) = m ((c.tc : Thread Cert.StageDIdeal.nD Cert.StageDIdeal.τ).loc Cert.StageDIdeal.main_arg3)
      ∧ r.2.mem ((c.tc : Thread Cert.StageDIdeal.nD Cert.StageDIdeal.τ).loc Cert.StageDIdeal.main_arg4) = m ((c.tc : Thread Cert.StageDIdeal.nD Cert.StageDIdeal.τ).loc Cert.StageDIdeal.main_arg4)
      ∧ r.2.mem ((c.tc : Thread Cert.StageDIdeal.nD Cert.StageDIdeal.τ).loc Cert.StageDIdeal.main_arg5) = m ((c.tc : Thread Cert.StageDIdeal.nD Cert.StageDIdeal.τ).loc Cert.StageDIdeal.main_arg5))
      ∧ r.2.sem = fun _ => 0)

def quiescent_RefDIdeal [hRefDIdeal : Cert.RefDIdeal.Facts] : Prop :=
  ∀ (m : (ℓ : Loc Cert.RefDIdeal.nD Cert.RefDIdeal.τ Cert.RefDIdeal.sig) → Buf (Elt Ideal) ℓ) (g : Dev Cert.RefDIdeal.nD → PrngReg), Pre_RefDIdeal m →
    θ_run (Cert.RefDIdeal.defs (F := Ideal)) (onTc (τ := Cert.RefDIdeal.τ) (Cert.RefDIdeal.main (F := Ideal))) ⟨m, fun _ => 0, g⟩ (fun r => (∀ c : Dev Cert.RefDIdeal.nD,
      r.2.mem ((c.tc : Thread Cert.RefDIdeal.nD Cert.RefDIdeal.τ).loc Cert.RefDIdeal.main_arg0) = m ((c.tc : Thread Cert.RefDIdeal.nD Cert.RefDIdeal.τ).loc Cert.RefDIdeal.main_arg0)
      ∧ r.2.mem ((c.tc : Thread Cert.RefDIdeal.nD Cert.RefDIdeal.τ).loc Cert.RefDIdeal.main_arg1) = m ((c.tc : Thread Cert.RefDIdeal.nD Cert.RefDIdeal.τ).loc Cert.RefDIdeal.main_arg1)
      ∧ r.2.mem ((c.tc : Thread Cert.RefDIdeal.nD Cert.RefDIdeal.τ).loc Cert.RefDIdeal.main_arg2) = m ((c.tc : Thread Cert.RefDIdeal.nD Cert.RefDIdeal.τ).loc Cert.RefDIdeal.main_arg2)
      ∧ r.2.mem ((c.tc : Thread Cert.RefDIdeal.nD Cert.RefDIdeal.τ).loc Cert.RefDIdeal.main_arg3) = m ((c.tc : Thread Cert.RefDIdeal.nD Cert.RefDIdeal.τ).loc Cert.RefDIdeal.main_arg3)
      ∧ r.2.mem ((c.tc : Thread Cert.RefDIdeal.nD Cert.RefDIdeal.τ).loc Cert.RefDIdeal.main_arg4) = m ((c.tc : Thread Cert.RefDIdeal.nD Cert.RefDIdeal.τ).loc Cert.RefDIdeal.main_arg4)
      ∧ r.2.mem ((c.tc : Thread Cert.RefDIdeal.nD Cert.RefDIdeal.τ).loc Cert.RefDIdeal.main_arg5) = m ((c.tc : Thread Cert.RefDIdeal.nD Cert.RefDIdeal.τ).loc Cert.RefDIdeal.main_arg5))
      ∧ r.2.sem = fun _ => 0)

def quiescent_RefDIdeal_pre_finite_in_range [hRefDIdeal : Cert.RefDIdeal.Facts] [hPre_finite_in_range : Cert.Pre_finite_in_range.Facts] : Prop :=
  ∀ (m : (ℓ : Loc Cert.RefDIdeal.nD Cert.RefDIdeal.τ Cert.RefDIdeal.sig) → Buf (Elt Ideal) ℓ) (g : Dev Cert.RefDIdeal.nD → PrngReg), Pre_RefDIdeal_finite_in_range m →
    θ_run (Cert.RefDIdeal.defs (F := Ideal)) (onTc (τ := Cert.RefDIdeal.τ) (Cert.RefDIdeal.main (F := Ideal))) ⟨m, fun _ => 0, g⟩ (fun r => (∀ c : Dev Cert.RefDIdeal.nD,
      r.2.mem ((c.tc : Thread Cert.RefDIdeal.nD Cert.RefDIdeal.τ).loc Cert.RefDIdeal.main_arg0) = m ((c.tc : Thread Cert.RefDIdeal.nD Cert.RefDIdeal.τ).loc Cert.RefDIdeal.main_arg0)
      ∧ r.2.mem ((c.tc : Thread Cert.RefDIdeal.nD Cert.RefDIdeal.τ).loc Cert.RefDIdeal.main_arg1) = m ((c.tc : Thread Cert.RefDIdeal.nD Cert.RefDIdeal.τ).loc Cert.RefDIdeal.main_arg1)
      ∧ r.2.mem ((c.tc : Thread Cert.RefDIdeal.nD Cert.RefDIdeal.τ).loc Cert.RefDIdeal.main_arg2) = m ((c.tc : Thread Cert.RefDIdeal.nD Cert.RefDIdeal.τ).loc Cert.RefDIdeal.main_arg2)
      ∧ r.2.mem ((c.tc : Thread Cert.RefDIdeal.nD Cert.RefDIdeal.τ).loc Cert.RefDIdeal.main_arg3) = m ((c.tc : Thread Cert.RefDIdeal.nD Cert.RefDIdeal.τ).loc Cert.RefDIdeal.main_arg3)
      ∧ r.2.mem ((c.tc : Thread Cert.RefDIdeal.nD Cert.RefDIdeal.τ).loc Cert.RefDIdeal.main_arg4) = m ((c.tc : Thread Cert.RefDIdeal.nD Cert.RefDIdeal.τ).loc Cert.RefDIdeal.main_arg4)
      ∧ r.2.mem ((c.tc : Thread Cert.RefDIdeal.nD Cert.RefDIdeal.τ).loc Cert.RefDIdeal.main_arg5) = m ((c.tc : Thread Cert.RefDIdeal.nD Cert.RefDIdeal.τ).loc Cert.RefDIdeal.main_arg5))
      ∧ r.2.sem = fun _ => 0)

def quiescent_StageB [hStageB : Cert.StageB.Facts] : Prop :=
  ∀ (m : (ℓ : Loc Cert.StageB.nD Cert.StageB.τ Cert.StageB.sig) → Buf (Elt Bits) ℓ) (g : Dev Cert.StageB.nD → PrngReg), Pre_StageB m →
    θ_run (Cert.StageB.defs (F := Bits)) (onTc (τ := Cert.StageB.τ) (Cert.StageB.main (F := Bits))) ⟨m, fun _ => 0, g⟩ (fun r => (∀ c : Dev Cert.StageB.nD,
      r.2.mem ((c.tc : Thread Cert.StageB.nD Cert.StageB.τ).loc Cert.StageB.main_arg0) = m ((c.tc : Thread Cert.StageB.nD Cert.StageB.τ).loc Cert.StageB.main_arg0)
      ∧ r.2.mem ((c.tc : Thread Cert.StageB.nD Cert.StageB.τ).loc Cert.StageB.main_arg1) = m ((c.tc : Thread Cert.StageB.nD Cert.StageB.τ).loc Cert.StageB.main_arg1)
      ∧ r.2.mem ((c.tc : Thread Cert.StageB.nD Cert.StageB.τ).loc Cert.StageB.main_arg2) = m ((c.tc : Thread Cert.StageB.nD Cert.StageB.τ).loc Cert.StageB.main_arg2)
      ∧ r.2.mem ((c.tc : Thread Cert.StageB.nD Cert.StageB.τ).loc Cert.StageB.main_arg3) = m ((c.tc : Thread Cert.StageB.nD Cert.StageB.τ).loc Cert.StageB.main_arg3)
      ∧ r.2.mem ((c.tc : Thread Cert.StageB.nD Cert.StageB.τ).loc Cert.StageB.main_arg4) = m ((c.tc : Thread Cert.StageB.nD Cert.StageB.τ).loc Cert.StageB.main_arg4)
      ∧ r.2.mem ((c.tc : Thread Cert.StageB.nD Cert.StageB.τ).loc Cert.StageB.main_arg5) = m ((c.tc : Thread Cert.StageB.nD Cert.StageB.τ).loc Cert.StageB.main_arg5))
      ∧ r.2.sem = fun _ => 0)

def quiescent_StageBIdeal [hStageBIdeal : Cert.StageBIdeal.Facts] : Prop :=
  ∀ (m : (ℓ : Loc Cert.StageBIdeal.nD Cert.StageBIdeal.τ Cert.StageBIdeal.sig) → Buf (Elt Ideal) ℓ) (g : Dev Cert.StageBIdeal.nD → PrngReg), Pre_StageBIdeal m →
    θ_run (Cert.StageBIdeal.defs (F := Ideal)) (onTc (τ := Cert.StageBIdeal.τ) (Cert.StageBIdeal.main (F := Ideal))) ⟨m, fun _ => 0, g⟩ (fun r => (∀ c : Dev Cert.StageBIdeal.nD,
      r.2.mem ((c.tc : Thread Cert.StageBIdeal.nD Cert.StageBIdeal.τ).loc Cert.StageBIdeal.main_arg0) = m ((c.tc : Thread Cert.StageBIdeal.nD Cert.StageBIdeal.τ).loc Cert.StageBIdeal.main_arg0)
      ∧ r.2.mem ((c.tc : Thread Cert.StageBIdeal.nD Cert.StageBIdeal.τ).loc Cert.StageBIdeal.main_arg1) = m ((c.tc : Thread Cert.StageBIdeal.nD Cert.StageBIdeal.τ).loc Cert.StageBIdeal.main_arg1)
      ∧ r.2.mem ((c.tc : Thread Cert.StageBIdeal.nD Cert.StageBIdeal.τ).loc Cert.StageBIdeal.main_arg2) = m ((c.tc : Thread Cert.StageBIdeal.nD Cert.StageBIdeal.τ).loc Cert.StageBIdeal.main_arg2)
      ∧ r.2.mem ((c.tc : Thread Cert.StageBIdeal.nD Cert.StageBIdeal.τ).loc Cert.StageBIdeal.main_arg3) = m ((c.tc : Thread Cert.StageBIdeal.nD Cert.StageBIdeal.τ).loc Cert.StageBIdeal.main_arg3)
      ∧ r.2.mem ((c.tc : Thread Cert.StageBIdeal.nD Cert.StageBIdeal.τ).loc Cert.StageBIdeal.main_arg4) = m ((c.tc : Thread Cert.StageBIdeal.nD Cert.StageBIdeal.τ).loc Cert.StageBIdeal.main_arg4)
      ∧ r.2.mem ((c.tc : Thread Cert.StageBIdeal.nD Cert.StageBIdeal.τ).loc Cert.StageBIdeal.main_arg5) = m ((c.tc : Thread Cert.StageBIdeal.nD Cert.StageBIdeal.τ).loc Cert.StageBIdeal.main_arg5))
      ∧ r.2.sem = fun _ => 0)

def quiescent_StageBIdeal_pre_finite_in_range2 [hStageBIdeal : Cert.StageBIdeal.Facts] [hPre_finite_in_range2 : Cert.Pre_finite_in_range2.Facts] : Prop :=
  ∀ (m : (ℓ : Loc Cert.StageBIdeal.nD Cert.StageBIdeal.τ Cert.StageBIdeal.sig) → Buf (Elt Ideal) ℓ) (g : Dev Cert.StageBIdeal.nD → PrngReg), Pre_StageBIdeal_finite_in_range2 m →
    θ_run (Cert.StageBIdeal.defs (F := Ideal)) (onTc (τ := Cert.StageBIdeal.τ) (Cert.StageBIdeal.main (F := Ideal))) ⟨m, fun _ => 0, g⟩ (fun r => (∀ c : Dev Cert.StageBIdeal.nD,
      r.2.mem ((c.tc : Thread Cert.StageBIdeal.nD Cert.StageBIdeal.τ).loc Cert.StageBIdeal.main_arg0) = m ((c.tc : Thread Cert.StageBIdeal.nD Cert.StageBIdeal.τ).loc Cert.StageBIdeal.main_arg0)
      ∧ r.2.mem ((c.tc : Thread Cert.StageBIdeal.nD Cert.StageBIdeal.τ).loc Cert.StageBIdeal.main_arg1) = m ((c.tc : Thread Cert.StageBIdeal.nD Cert.StageBIdeal.τ).loc Cert.StageBIdeal.main_arg1)
      ∧ r.2.mem ((c.tc : Thread Cert.StageBIdeal.nD Cert.StageBIdeal.τ).loc Cert.StageBIdeal.main_arg2) = m ((c.tc : Thread Cert.StageBIdeal.nD Cert.StageBIdeal.τ).loc Cert.StageBIdeal.main_arg2)
      ∧ r.2.mem ((c.tc : Thread Cert.StageBIdeal.nD Cert.StageBIdeal.τ).loc Cert.StageBIdeal.main_arg3) = m ((c.tc : Thread Cert.StageBIdeal.nD Cert.StageBIdeal.τ).loc Cert.StageBIdeal.main_arg3)
      ∧ r.2.mem ((c.tc : Thread Cert.StageBIdeal.nD Cert.StageBIdeal.τ).loc Cert.StageBIdeal.main_arg4) = m ((c.tc : Thread Cert.StageBIdeal.nD Cert.StageBIdeal.τ).loc Cert.StageBIdeal.main_arg4)
      ∧ r.2.mem ((c.tc : Thread Cert.StageBIdeal.nD Cert.StageBIdeal.τ).loc Cert.StageBIdeal.main_arg5) = m ((c.tc : Thread Cert.StageBIdeal.nD Cert.StageBIdeal.τ).loc Cert.StageBIdeal.main_arg5))
      ∧ r.2.sem = fun _ => 0)

def quiescent_RefBIdeal [hRefBIdeal : Cert.RefBIdeal.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2)
      ∧ r.2.mem ((c.tc : Thread Cert.RefBIdeal.nD Cert.RefBIdeal.τ).loc Cert.RefBIdeal.main_arg3) = m ((c.tc : Thread Cert.RefBIdeal.nD Cert.RefBIdeal.τ).loc Cert.RefBIdeal.main_arg3)
      ∧ r.2.mem ((c.tc : Thread Cert.RefBIdeal.nD Cert.RefBIdeal.τ).loc Cert.RefBIdeal.main_arg4) = m ((c.tc : Thread Cert.RefBIdeal.nD Cert.RefBIdeal.τ).loc Cert.RefBIdeal.main_arg4)
      ∧ r.2.mem ((c.tc : Thread Cert.RefBIdeal.nD Cert.RefBIdeal.τ).loc Cert.RefBIdeal.main_arg5) = m ((c.tc : Thread Cert.RefBIdeal.nD Cert.RefBIdeal.τ).loc Cert.RefBIdeal.main_arg5))
      ∧ r.2.sem = fun _ => 0)

def quiescent_RefBIdeal_pre_finite_in_range2 [hRefBIdeal : Cert.RefBIdeal.Facts] [hPre_finite_in_range2 : Cert.Pre_finite_in_range2.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal_finite_in_range2 m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2)
      ∧ r.2.mem ((c.tc : Thread Cert.RefBIdeal.nD Cert.RefBIdeal.τ).loc Cert.RefBIdeal.main_arg3) = m ((c.tc : Thread Cert.RefBIdeal.nD Cert.RefBIdeal.τ).loc Cert.RefBIdeal.main_arg3)
      ∧ r.2.mem ((c.tc : Thread Cert.RefBIdeal.nD Cert.RefBIdeal.τ).loc Cert.RefBIdeal.main_arg4) = m ((c.tc : Thread Cert.RefBIdeal.nD Cert.RefBIdeal.τ).loc Cert.RefBIdeal.main_arg4)
      ∧ r.2.mem ((c.tc : Thread Cert.RefBIdeal.nD Cert.RefBIdeal.τ).loc Cert.RefBIdeal.main_arg5) = m ((c.tc : Thread Cert.RefBIdeal.nD Cert.RefBIdeal.τ).loc Cert.RefBIdeal.main_arg5))
      ∧ r.2.sem = fun _ => 0)

def quiescent_StageA [hStageA : Cert.StageA.Facts] : Prop :=
  ∀ (m : (ℓ : Loc Cert.StageA.nD Cert.StageA.τ Cert.StageA.sig) → Buf (Elt Bits) ℓ) (g : Dev Cert.StageA.nD → PrngReg), Pre_StageA m →
    θ_run (Cert.StageA.defs (F := Bits)) (onTc (τ := Cert.StageA.τ) (Cert.StageA.main (F := Bits))) ⟨m, fun _ => 0, g⟩ (fun r => (∀ c : Dev Cert.StageA.nD,
      r.2.mem ((c.tc : Thread Cert.StageA.nD Cert.StageA.τ).loc Cert.StageA.main_arg0) = m ((c.tc : Thread Cert.StageA.nD Cert.StageA.τ).loc Cert.StageA.main_arg0)
      ∧ r.2.mem ((c.tc : Thread Cert.StageA.nD Cert.StageA.τ).loc Cert.StageA.main_arg1) = m ((c.tc : Thread Cert.StageA.nD Cert.StageA.τ).loc Cert.StageA.main_arg1)
      ∧ r.2.mem ((c.tc : Thread Cert.StageA.nD Cert.StageA.τ).loc Cert.StageA.main_arg2) = m ((c.tc : Thread Cert.StageA.nD Cert.StageA.τ).loc Cert.StageA.main_arg2)
      ∧ r.2.mem ((c.tc : Thread Cert.StageA.nD Cert.StageA.τ).loc Cert.StageA.main_arg3) = m ((c.tc : Thread Cert.StageA.nD Cert.StageA.τ).loc Cert.StageA.main_arg3)
      ∧ r.2.mem ((c.tc : Thread Cert.StageA.nD Cert.StageA.τ).loc Cert.StageA.main_arg4) = m ((c.tc : Thread Cert.StageA.nD Cert.StageA.τ).loc Cert.StageA.main_arg4)
      ∧ r.2.mem ((c.tc : Thread Cert.StageA.nD Cert.StageA.τ).loc Cert.StageA.main_arg5) = m ((c.tc : Thread Cert.StageA.nD Cert.StageA.τ).loc Cert.StageA.main_arg5))
      ∧ r.2.sem = fun _ => 0)

def quiescent_StageAIdeal [hStageAIdeal : Cert.StageAIdeal.Facts] : Prop :=
  ∀ (m : (ℓ : Loc Cert.StageAIdeal.nD Cert.StageAIdeal.τ Cert.StageAIdeal.sig) → Buf (Elt Ideal) ℓ) (g : Dev Cert.StageAIdeal.nD → PrngReg), Pre_StageAIdeal m →
    θ_run (Cert.StageAIdeal.defs (F := Ideal)) (onTc (τ := Cert.StageAIdeal.τ) (Cert.StageAIdeal.main (F := Ideal))) ⟨m, fun _ => 0, g⟩ (fun r => (∀ c : Dev Cert.StageAIdeal.nD,
      r.2.mem ((c.tc : Thread Cert.StageAIdeal.nD Cert.StageAIdeal.τ).loc Cert.StageAIdeal.main_arg0) = m ((c.tc : Thread Cert.StageAIdeal.nD Cert.StageAIdeal.τ).loc Cert.StageAIdeal.main_arg0)
      ∧ r.2.mem ((c.tc : Thread Cert.StageAIdeal.nD Cert.StageAIdeal.τ).loc Cert.StageAIdeal.main_arg1) = m ((c.tc : Thread Cert.StageAIdeal.nD Cert.StageAIdeal.τ).loc Cert.StageAIdeal.main_arg1)
      ∧ r.2.mem ((c.tc : Thread Cert.StageAIdeal.nD Cert.StageAIdeal.τ).loc Cert.StageAIdeal.main_arg2) = m ((c.tc : Thread Cert.StageAIdeal.nD Cert.StageAIdeal.τ).loc Cert.StageAIdeal.main_arg2)
      ∧ r.2.mem ((c.tc : Thread Cert.StageAIdeal.nD Cert.StageAIdeal.τ).loc Cert.StageAIdeal.main_arg3) = m ((c.tc : Thread Cert.StageAIdeal.nD Cert.StageAIdeal.τ).loc Cert.StageAIdeal.main_arg3)
      ∧ r.2.mem ((c.tc : Thread Cert.StageAIdeal.nD Cert.StageAIdeal.τ).loc Cert.StageAIdeal.main_arg4) = m ((c.tc : Thread Cert.StageAIdeal.nD Cert.StageAIdeal.τ).loc Cert.StageAIdeal.main_arg4)
      ∧ r.2.mem ((c.tc : Thread Cert.StageAIdeal.nD Cert.StageAIdeal.τ).loc Cert.StageAIdeal.main_arg5) = m ((c.tc : Thread Cert.StageAIdeal.nD Cert.StageAIdeal.τ).loc Cert.StageAIdeal.main_arg5))
      ∧ r.2.sem = fun _ => 0)

def quiescent_StageAIdeal_pre_finite1 [hStageAIdeal : Cert.StageAIdeal.Facts] [hPre_finite1 : Cert.Pre_finite1.Facts] : Prop :=
  ∀ (m : (ℓ : Loc Cert.StageAIdeal.nD Cert.StageAIdeal.τ Cert.StageAIdeal.sig) → Buf (Elt Ideal) ℓ) (g : Dev Cert.StageAIdeal.nD → PrngReg), Pre_StageAIdeal_finite1 m →
    θ_run (Cert.StageAIdeal.defs (F := Ideal)) (onTc (τ := Cert.StageAIdeal.τ) (Cert.StageAIdeal.main (F := Ideal))) ⟨m, fun _ => 0, g⟩ (fun r => (∀ c : Dev Cert.StageAIdeal.nD,
      r.2.mem ((c.tc : Thread Cert.StageAIdeal.nD Cert.StageAIdeal.τ).loc Cert.StageAIdeal.main_arg0) = m ((c.tc : Thread Cert.StageAIdeal.nD Cert.StageAIdeal.τ).loc Cert.StageAIdeal.main_arg0)
      ∧ r.2.mem ((c.tc : Thread Cert.StageAIdeal.nD Cert.StageAIdeal.τ).loc Cert.StageAIdeal.main_arg1) = m ((c.tc : Thread Cert.StageAIdeal.nD Cert.StageAIdeal.τ).loc Cert.StageAIdeal.main_arg1)
      ∧ r.2.mem ((c.tc : Thread Cert.StageAIdeal.nD Cert.StageAIdeal.τ).loc Cert.StageAIdeal.main_arg2) = m ((c.tc : Thread Cert.StageAIdeal.nD Cert.StageAIdeal.τ).loc Cert.StageAIdeal.main_arg2)
      ∧ r.2.mem ((c.tc : Thread Cert.StageAIdeal.nD Cert.StageAIdeal.τ).loc Cert.StageAIdeal.main_arg3) = m ((c.tc : Thread Cert.StageAIdeal.nD Cert.StageAIdeal.τ).loc Cert.StageAIdeal.main_arg3)
      ∧ r.2.mem ((c.tc : Thread Cert.StageAIdeal.nD Cert.StageAIdeal.τ).loc Cert.StageAIdeal.main_arg4) = m ((c.tc : Thread Cert.StageAIdeal.nD Cert.StageAIdeal.τ).loc Cert.StageAIdeal.main_arg4)
      ∧ r.2.mem ((c.tc : Thread Cert.StageAIdeal.nD Cert.StageAIdeal.τ).loc Cert.StageAIdeal.main_arg5) = m ((c.tc : Thread Cert.StageAIdeal.nD Cert.StageAIdeal.τ).loc Cert.StageAIdeal.main_arg5))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2)
      ∧ r.2.mem ((c.tc : Thread Cert.RefAIdeal.nD Cert.RefAIdeal.τ).loc Cert.RefAIdeal.main_arg3) = m ((c.tc : Thread Cert.RefAIdeal.nD Cert.RefAIdeal.τ).loc Cert.RefAIdeal.main_arg3)
      ∧ r.2.mem ((c.tc : Thread Cert.RefAIdeal.nD Cert.RefAIdeal.τ).loc Cert.RefAIdeal.main_arg4) = m ((c.tc : Thread Cert.RefAIdeal.nD Cert.RefAIdeal.τ).loc Cert.RefAIdeal.main_arg4)
      ∧ r.2.mem ((c.tc : Thread Cert.RefAIdeal.nD Cert.RefAIdeal.τ).loc Cert.RefAIdeal.main_arg5) = m ((c.tc : Thread Cert.RefAIdeal.nD Cert.RefAIdeal.τ).loc Cert.RefAIdeal.main_arg5))
      ∧ r.2.sem = fun _ => 0)

def quiescent_RefAIdeal_pre_finite1 [hRefAIdeal : Cert.RefAIdeal.Facts] [hPre_finite1 : Cert.Pre_finite1.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal_finite1 m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2)
      ∧ r.2.mem ((c.tc : Thread Cert.RefAIdeal.nD Cert.RefAIdeal.τ).loc Cert.RefAIdeal.main_arg3) = m ((c.tc : Thread Cert.RefAIdeal.nD Cert.RefAIdeal.τ).loc Cert.RefAIdeal.main_arg3)
      ∧ r.2.mem ((c.tc : Thread Cert.RefAIdeal.nD Cert.RefAIdeal.τ).loc Cert.RefAIdeal.main_arg4) = m ((c.tc : Thread Cert.RefAIdeal.nD Cert.RefAIdeal.τ).loc Cert.RefAIdeal.main_arg4)
      ∧ r.2.mem ((c.tc : Thread Cert.RefAIdeal.nD Cert.RefAIdeal.τ).loc Cert.RefAIdeal.main_arg5) = m ((c.tc : Thread Cert.RefAIdeal.nD Cert.RefAIdeal.τ).loc Cert.RefAIdeal.main_arg5))
      ∧ r.2.sem = fun _ => 0)

def preserves_StageC_StageCIdeal : Prop :=
  IdealRules.named_const.Statement Cert.StageCIdeal.κ "floor" .f32 0xF149F2CA#32 ⊥
  ∧ IdealRules.named_const.Statement Cert.StageCIdeal.κ "mask" .f32 0x7149F2CA#32 ⊤

def algebraic_StageCIdeal_RefCIdeal_pre_finite [hStageCIdeal : Cert.StageCIdeal.Facts] [hRefCIdeal : Cert.RefCIdeal.Facts] [hPre_finite : Cert.Pre_finite.Facts] : Prop :=
  ∀ (m : (ℓ : Loc Cert.StageCIdeal.nD Cert.StageCIdeal.τ Cert.StageCIdeal.sig) → Buf (Elt Ideal) ℓ) (g : Dev Cert.StageCIdeal.nD → PrngReg)
    (m' : (ℓ : Loc Cert.RefCIdeal.nD Cert.RefCIdeal.τ Cert.RefCIdeal.sig) → Buf (Elt Ideal) ℓ) (g' : Dev Cert.RefCIdeal.nD → PrngReg), Pre_StageCIdeal_finite m →
    (∀ c : Dev Cert.StageCIdeal.nD,
      m' ((c.tc : Thread Cert.RefCIdeal.nD Cert.RefCIdeal.τ).loc Cert.RefCIdeal.main_arg0) = m ((c.tc : Thread Cert.StageCIdeal.nD Cert.StageCIdeal.τ).loc Cert.StageCIdeal.main_arg0)
      ∧ m' ((c.tc : Thread Cert.RefCIdeal.nD Cert.RefCIdeal.τ).loc Cert.RefCIdeal.main_arg1) = m ((c.tc : Thread Cert.StageCIdeal.nD Cert.StageCIdeal.τ).loc Cert.StageCIdeal.main_arg1)
      ∧ m' ((c.tc : Thread Cert.RefCIdeal.nD Cert.RefCIdeal.τ).loc Cert.RefCIdeal.main_arg2) = m ((c.tc : Thread Cert.StageCIdeal.nD Cert.StageCIdeal.τ).loc Cert.StageCIdeal.main_arg2)
      ∧ m' ((c.tc : Thread Cert.RefCIdeal.nD Cert.RefCIdeal.τ).loc Cert.RefCIdeal.main_arg3) = m ((c.tc : Thread Cert.StageCIdeal.nD Cert.StageCIdeal.τ).loc Cert.StageCIdeal.main_arg3)
      ∧ m' ((c.tc : Thread Cert.RefCIdeal.nD Cert.RefCIdeal.τ).loc Cert.RefCIdeal.main_arg4) = m ((c.tc : Thread Cert.StageCIdeal.nD Cert.StageCIdeal.τ).loc Cert.StageCIdeal.main_arg4)) →
    ∃ (v0 : (c : Dev Cert.StageCIdeal.nD) → Buf (Elt Ideal) ((c.tc : Thread Cert.StageCIdeal.nD Cert.StageCIdeal.τ).loc Cert.StageCIdeal.main_v3)),
      θ_run (Cert.StageCIdeal.defs (F := Ideal)) (onTc (τ := Cert.StageCIdeal.τ) (Cert.StageCIdeal.main (F := Ideal))) ⟨m, fun _ => 0, g⟩ (fun r => ∀ c : Dev Cert.StageCIdeal.nD,
          r.2.mem ((c.tc : Thread Cert.StageCIdeal.nD Cert.StageCIdeal.τ).loc Cert.StageCIdeal.main_v3) = v0 c
          ∧ r.2.mem ((c.tc : Thread Cert.StageCIdeal.nD Cert.StageCIdeal.τ).loc Cert.StageCIdeal.main_arg0) = m ((c.tc : Thread Cert.StageCIdeal.nD Cert.StageCIdeal.τ).loc Cert.StageCIdeal.main_arg0)
          ∧ r.2.mem ((c.tc : Thread Cert.StageCIdeal.nD Cert.StageCIdeal.τ).loc Cert.StageCIdeal.main_arg1) = m ((c.tc : Thread Cert.StageCIdeal.nD Cert.StageCIdeal.τ).loc Cert.StageCIdeal.main_arg1)
          ∧ r.2.mem ((c.tc : Thread Cert.StageCIdeal.nD Cert.StageCIdeal.τ).loc Cert.StageCIdeal.main_arg2) = m ((c.tc : Thread Cert.StageCIdeal.nD Cert.StageCIdeal.τ).loc Cert.StageCIdeal.main_arg2)
          ∧ r.2.mem ((c.tc : Thread Cert.StageCIdeal.nD Cert.StageCIdeal.τ).loc Cert.StageCIdeal.main_arg3) = m ((c.tc : Thread Cert.StageCIdeal.nD Cert.StageCIdeal.τ).loc Cert.StageCIdeal.main_arg3)
          ∧ r.2.mem ((c.tc : Thread Cert.StageCIdeal.nD Cert.StageCIdeal.τ).loc Cert.StageCIdeal.main_arg4) = m ((c.tc : Thread Cert.StageCIdeal.nD Cert.StageCIdeal.τ).loc Cert.StageCIdeal.main_arg4))
      ∧ θ_run (Cert.RefCIdeal.defs (F := Ideal)) (onTc (τ := Cert.RefCIdeal.τ) (Cert.RefCIdeal.main (F := Ideal))) ⟨m', fun _ => 0, g'⟩ (fun r => ∀ c : Dev Cert.RefCIdeal.nD,
          r.2.mem ((c.tc : Thread Cert.RefCIdeal.nD Cert.RefCIdeal.τ).loc Cert.RefCIdeal.main_v60) = v0 c
          ∧ r.2.mem ((c.tc : Thread Cert.RefCIdeal.nD Cert.RefCIdeal.τ).loc Cert.RefCIdeal.main_arg0) = m' ((c.tc : Thread Cert.RefCIdeal.nD Cert.RefCIdeal.τ).loc Cert.RefCIdeal.main_arg0)
          ∧ r.2.mem ((c.tc : Thread Cert.RefCIdeal.nD Cert.RefCIdeal.τ).loc Cert.RefCIdeal.main_arg1) = m' ((c.tc : Thread Cert.RefCIdeal.nD Cert.RefCIdeal.τ).loc Cert.RefCIdeal.main_arg1)
          ∧ r.2.mem ((c.tc : Thread Cert.RefCIdeal.nD Cert.RefCIdeal.τ).loc Cert.RefCIdeal.main_arg2) = m' ((c.tc : Thread Cert.RefCIdeal.nD Cert.RefCIdeal.τ).loc Cert.RefCIdeal.main_arg2)
          ∧ r.2.mem ((c.tc : Thread Cert.RefCIdeal.nD Cert.RefCIdeal.τ).loc Cert.RefCIdeal.main_arg3) = m' ((c.tc : Thread Cert.RefCIdeal.nD Cert.RefCIdeal.τ).loc Cert.RefCIdeal.main_arg3)
          ∧ r.2.mem ((c.tc : Thread Cert.RefCIdeal.nD Cert.RefCIdeal.τ).loc Cert.RefCIdeal.main_arg4) = m' ((c.tc : Thread Cert.RefCIdeal.nD Cert.RefCIdeal.τ).loc Cert.RefCIdeal.main_arg4))

def preserves_StageD_StageDIdeal : Prop :=
  IdealRules.named_const.Statement Cert.StageDIdeal.κ "floor" .f32 0xF149F2CA#32 ⊥
  ∧ IdealRules.named_const.Statement Cert.StageDIdeal.κ "mask" .f32 0x7149F2CA#32 ⊤

def algebraic_StageDIdeal_RefDIdeal_pre_finite_in_range [hStageDIdeal : Cert.StageDIdeal.Facts] [hRefDIdeal : Cert.RefDIdeal.Facts] [hPre_finite_in_range : Cert.Pre_finite_in_range.Facts] : Prop :=
  ∀ (m : (ℓ : Loc Cert.StageDIdeal.nD Cert.StageDIdeal.τ Cert.StageDIdeal.sig) → Buf (Elt Ideal) ℓ) (g : Dev Cert.StageDIdeal.nD → PrngReg)
    (m' : (ℓ : Loc Cert.RefDIdeal.nD Cert.RefDIdeal.τ Cert.RefDIdeal.sig) → Buf (Elt Ideal) ℓ) (g' : Dev Cert.RefDIdeal.nD → PrngReg), Pre_StageDIdeal_finite_in_range m →
    (∀ c : Dev Cert.StageDIdeal.nD,
      m' ((c.tc : Thread Cert.RefDIdeal.nD Cert.RefDIdeal.τ).loc Cert.RefDIdeal.main_arg0) = m ((c.tc : Thread Cert.StageDIdeal.nD Cert.StageDIdeal.τ).loc Cert.StageDIdeal.main_arg0)
      ∧ m' ((c.tc : Thread Cert.RefDIdeal.nD Cert.RefDIdeal.τ).loc Cert.RefDIdeal.main_arg1) = m ((c.tc : Thread Cert.StageDIdeal.nD Cert.StageDIdeal.τ).loc Cert.StageDIdeal.main_arg1)
      ∧ m' ((c.tc : Thread Cert.RefDIdeal.nD Cert.RefDIdeal.τ).loc Cert.RefDIdeal.main_arg2) = m ((c.tc : Thread Cert.StageDIdeal.nD Cert.StageDIdeal.τ).loc Cert.StageDIdeal.main_arg2)
      ∧ m' ((c.tc : Thread Cert.RefDIdeal.nD Cert.RefDIdeal.τ).loc Cert.RefDIdeal.main_arg3) = m ((c.tc : Thread Cert.StageDIdeal.nD Cert.StageDIdeal.τ).loc Cert.StageDIdeal.main_arg3)
      ∧ m' ((c.tc : Thread Cert.RefDIdeal.nD Cert.RefDIdeal.τ).loc Cert.RefDIdeal.main_arg4) = m ((c.tc : Thread Cert.StageDIdeal.nD Cert.StageDIdeal.τ).loc Cert.StageDIdeal.main_arg4)
      ∧ m' ((c.tc : Thread Cert.RefDIdeal.nD Cert.RefDIdeal.τ).loc Cert.RefDIdeal.main_arg5) = m ((c.tc : Thread Cert.StageDIdeal.nD Cert.StageDIdeal.τ).loc Cert.StageDIdeal.main_arg5)) →
    ∃ (v0 : (c : Dev Cert.StageDIdeal.nD) → Buf (Elt Ideal) ((c.tc : Thread Cert.StageDIdeal.nD Cert.StageDIdeal.τ).loc Cert.StageDIdeal.main_v5_1)) (v1 : (c : Dev Cert.StageDIdeal.nD) → Buf (Elt Ideal) ((c.tc : Thread Cert.StageDIdeal.nD Cert.StageDIdeal.τ).loc Cert.StageDIdeal.main_v5_0)),
      θ_run (Cert.StageDIdeal.defs (F := Ideal)) (onTc (τ := Cert.StageDIdeal.τ) (Cert.StageDIdeal.main (F := Ideal))) ⟨m, fun _ => 0, g⟩ (fun r => ∀ c : Dev Cert.StageDIdeal.nD,
          r.2.mem ((c.tc : Thread Cert.StageDIdeal.nD Cert.StageDIdeal.τ).loc Cert.StageDIdeal.main_v5_1) = v0 c
          ∧ r.2.mem ((c.tc : Thread Cert.StageDIdeal.nD Cert.StageDIdeal.τ).loc Cert.StageDIdeal.main_v5_0) = v1 c
          ∧ r.2.mem ((c.tc : Thread Cert.StageDIdeal.nD Cert.StageDIdeal.τ).loc Cert.StageDIdeal.main_arg0) = m ((c.tc : Thread Cert.StageDIdeal.nD Cert.StageDIdeal.τ).loc Cert.StageDIdeal.main_arg0)
          ∧ r.2.mem ((c.tc : Thread Cert.StageDIdeal.nD Cert.StageDIdeal.τ).loc Cert.StageDIdeal.main_arg1) = m ((c.tc : Thread Cert.StageDIdeal.nD Cert.StageDIdeal.τ).loc Cert.StageDIdeal.main_arg1)
          ∧ r.2.mem ((c.tc : Thread Cert.StageDIdeal.nD Cert.StageDIdeal.τ).loc Cert.StageDIdeal.main_arg2) = m ((c.tc : Thread Cert.StageDIdeal.nD Cert.StageDIdeal.τ).loc Cert.StageDIdeal.main_arg2)
          ∧ r.2.mem ((c.tc : Thread Cert.StageDIdeal.nD Cert.StageDIdeal.τ).loc Cert.StageDIdeal.main_arg3) = m ((c.tc : Thread Cert.StageDIdeal.nD Cert.StageDIdeal.τ).loc Cert.StageDIdeal.main_arg3)
          ∧ r.2.mem ((c.tc : Thread Cert.StageDIdeal.nD Cert.StageDIdeal.τ).loc Cert.StageDIdeal.main_arg4) = m ((c.tc : Thread Cert.StageDIdeal.nD Cert.StageDIdeal.τ).loc Cert.StageDIdeal.main_arg4)
          ∧ r.2.mem ((c.tc : Thread Cert.StageDIdeal.nD Cert.StageDIdeal.τ).loc Cert.StageDIdeal.main_arg5) = m ((c.tc : Thread Cert.StageDIdeal.nD Cert.StageDIdeal.τ).loc Cert.StageDIdeal.main_arg5))
      ∧ θ_run (Cert.RefDIdeal.defs (F := Ideal)) (onTc (τ := Cert.RefDIdeal.τ) (Cert.RefDIdeal.main (F := Ideal))) ⟨m', fun _ => 0, g'⟩ (fun r => ∀ c : Dev Cert.RefDIdeal.nD,
          r.2.mem ((c.tc : Thread Cert.RefDIdeal.nD Cert.RefDIdeal.τ).loc Cert.RefDIdeal.main_v1_0) = v0 c
          ∧ r.2.mem ((c.tc : Thread Cert.RefDIdeal.nD Cert.RefDIdeal.τ).loc Cert.RefDIdeal.main_v62) = v1 c
          ∧ r.2.mem ((c.tc : Thread Cert.RefDIdeal.nD Cert.RefDIdeal.τ).loc Cert.RefDIdeal.main_arg0) = m' ((c.tc : Thread Cert.RefDIdeal.nD Cert.RefDIdeal.τ).loc Cert.RefDIdeal.main_arg0)
          ∧ r.2.mem ((c.tc : Thread Cert.RefDIdeal.nD Cert.RefDIdeal.τ).loc Cert.RefDIdeal.main_arg1) = m' ((c.tc : Thread Cert.RefDIdeal.nD Cert.RefDIdeal.τ).loc Cert.RefDIdeal.main_arg1)
          ∧ r.2.mem ((c.tc : Thread Cert.RefDIdeal.nD Cert.RefDIdeal.τ).loc Cert.RefDIdeal.main_arg2) = m' ((c.tc : Thread Cert.RefDIdeal.nD Cert.RefDIdeal.τ).loc Cert.RefDIdeal.main_arg2)
          ∧ r.2.mem ((c.tc : Thread Cert.RefDIdeal.nD Cert.RefDIdeal.τ).loc Cert.RefDIdeal.main_arg3) = m' ((c.tc : Thread Cert.RefDIdeal.nD Cert.RefDIdeal.τ).loc Cert.RefDIdeal.main_arg3)
          ∧ r.2.mem ((c.tc : Thread Cert.RefDIdeal.nD Cert.RefDIdeal.τ).loc Cert.RefDIdeal.main_arg4) = m' ((c.tc : Thread Cert.RefDIdeal.nD Cert.RefDIdeal.τ).loc Cert.RefDIdeal.main_arg4)
          ∧ r.2.mem ((c.tc : Thread Cert.RefDIdeal.nD Cert.RefDIdeal.τ).loc Cert.RefDIdeal.main_arg5) = m' ((c.tc : Thread Cert.RefDIdeal.nD Cert.RefDIdeal.τ).loc Cert.RefDIdeal.main_arg5))

def preserves_StageB_StageBIdeal : Prop :=
  IdealRules.named_const.Statement Cert.StageBIdeal.κ "floor" .f32 0xF149F2CA#32 ⊥
  ∧ IdealRules.named_const.Statement Cert.StageBIdeal.κ "mask" .f32 0x7149F2CA#32 ⊤

def algebraic_StageBIdeal_RefBIdeal_pre_finite_in_range2 [hStageBIdeal : Cert.StageBIdeal.Facts] [hRefBIdeal : Cert.RefBIdeal.Facts] [hPre_finite_in_range2 : Cert.Pre_finite_in_range2.Facts] : Prop :=
  ∀ (m : (ℓ : Loc Cert.StageBIdeal.nD Cert.StageBIdeal.τ Cert.StageBIdeal.sig) → Buf (Elt Ideal) ℓ) (g : Dev Cert.StageBIdeal.nD → PrngReg)
    (m' : (ℓ : Loc Cert.RefBIdeal.nD Cert.RefBIdeal.τ Cert.RefBIdeal.sig) → Buf (Elt Ideal) ℓ) (g' : Dev Cert.RefBIdeal.nD → PrngReg), Pre_StageBIdeal_finite_in_range2 m →
    (∀ c : Dev Cert.StageBIdeal.nD,
      m' ((c.tc : Thread Cert.RefBIdeal.nD Cert.RefBIdeal.τ).loc Cert.RefBIdeal.main_arg0) = m ((c.tc : Thread Cert.StageBIdeal.nD Cert.StageBIdeal.τ).loc Cert.StageBIdeal.main_arg0)
      ∧ m' ((c.tc : Thread Cert.RefBIdeal.nD Cert.RefBIdeal.τ).loc Cert.RefBIdeal.main_arg1) = m ((c.tc : Thread Cert.StageBIdeal.nD Cert.StageBIdeal.τ).loc Cert.StageBIdeal.main_arg1)
      ∧ m' ((c.tc : Thread Cert.RefBIdeal.nD Cert.RefBIdeal.τ).loc Cert.RefBIdeal.main_arg2) = m ((c.tc : Thread Cert.StageBIdeal.nD Cert.StageBIdeal.τ).loc Cert.StageBIdeal.main_arg2)
      ∧ m' ((c.tc : Thread Cert.RefBIdeal.nD Cert.RefBIdeal.τ).loc Cert.RefBIdeal.main_arg3) = m ((c.tc : Thread Cert.StageBIdeal.nD Cert.StageBIdeal.τ).loc Cert.StageBIdeal.main_arg3)
      ∧ m' ((c.tc : Thread Cert.RefBIdeal.nD Cert.RefBIdeal.τ).loc Cert.RefBIdeal.main_arg4) = m ((c.tc : Thread Cert.StageBIdeal.nD Cert.StageBIdeal.τ).loc Cert.StageBIdeal.main_arg4)
      ∧ m' ((c.tc : Thread Cert.RefBIdeal.nD Cert.RefBIdeal.τ).loc Cert.RefBIdeal.main_arg5) = m ((c.tc : Thread Cert.StageBIdeal.nD Cert.StageBIdeal.τ).loc Cert.StageBIdeal.main_arg5)) →
    ∃ (v0 : (c : Dev Cert.StageBIdeal.nD) → Buf (Elt Ideal) ((c.tc : Thread Cert.StageBIdeal.nD Cert.StageBIdeal.τ).loc Cert.StageBIdeal.main_v5_1)) (v1 : (c : Dev Cert.StageBIdeal.nD) → Buf (Elt Ideal) ((c.tc : Thread Cert.StageBIdeal.nD Cert.StageBIdeal.τ).loc Cert.StageBIdeal.main_v5_0)),
      θ_run (Cert.StageBIdeal.defs (F := Ideal)) (onTc (τ := Cert.StageBIdeal.τ) (Cert.StageBIdeal.main (F := Ideal))) ⟨m, fun _ => 0, g⟩ (fun r => ∀ c : Dev Cert.StageBIdeal.nD,
          r.2.mem ((c.tc : Thread Cert.StageBIdeal.nD Cert.StageBIdeal.τ).loc Cert.StageBIdeal.main_v5_1) = v0 c
          ∧ r.2.mem ((c.tc : Thread Cert.StageBIdeal.nD Cert.StageBIdeal.τ).loc Cert.StageBIdeal.main_v5_0) = v1 c
          ∧ r.2.mem ((c.tc : Thread Cert.StageBIdeal.nD Cert.StageBIdeal.τ).loc Cert.StageBIdeal.main_arg0) = m ((c.tc : Thread Cert.StageBIdeal.nD Cert.StageBIdeal.τ).loc Cert.StageBIdeal.main_arg0)
          ∧ r.2.mem ((c.tc : Thread Cert.StageBIdeal.nD Cert.StageBIdeal.τ).loc Cert.StageBIdeal.main_arg1) = m ((c.tc : Thread Cert.StageBIdeal.nD Cert.StageBIdeal.τ).loc Cert.StageBIdeal.main_arg1)
          ∧ r.2.mem ((c.tc : Thread Cert.StageBIdeal.nD Cert.StageBIdeal.τ).loc Cert.StageBIdeal.main_arg2) = m ((c.tc : Thread Cert.StageBIdeal.nD Cert.StageBIdeal.τ).loc Cert.StageBIdeal.main_arg2)
          ∧ r.2.mem ((c.tc : Thread Cert.StageBIdeal.nD Cert.StageBIdeal.τ).loc Cert.StageBIdeal.main_arg3) = m ((c.tc : Thread Cert.StageBIdeal.nD Cert.StageBIdeal.τ).loc Cert.StageBIdeal.main_arg3)
          ∧ r.2.mem ((c.tc : Thread Cert.StageBIdeal.nD Cert.StageBIdeal.τ).loc Cert.StageBIdeal.main_arg4) = m ((c.tc : Thread Cert.StageBIdeal.nD Cert.StageBIdeal.τ).loc Cert.StageBIdeal.main_arg4)
          ∧ r.2.mem ((c.tc : Thread Cert.StageBIdeal.nD Cert.StageBIdeal.τ).loc Cert.StageBIdeal.main_arg5) = m ((c.tc : Thread Cert.StageBIdeal.nD Cert.StageBIdeal.τ).loc Cert.StageBIdeal.main_arg5))
      ∧ θ_run (Cert.RefBIdeal.defs (F := Ideal)) (onTc (τ := Cert.RefBIdeal.τ) (Cert.RefBIdeal.main (F := Ideal))) ⟨m', fun _ => 0, g'⟩ (fun r => ∀ c : Dev Cert.RefBIdeal.nD,
          r.2.mem ((c.tc : Thread Cert.RefBIdeal.nD Cert.RefBIdeal.τ).loc Cert.RefBIdeal.main_v1_0) = v0 c
          ∧ r.2.mem ((c.tc : Thread Cert.RefBIdeal.nD Cert.RefBIdeal.τ).loc Cert.RefBIdeal.main_v62) = v1 c
          ∧ r.2.mem ((c.tc : Thread Cert.RefBIdeal.nD Cert.RefBIdeal.τ).loc Cert.RefBIdeal.main_arg0) = m' ((c.tc : Thread Cert.RefBIdeal.nD Cert.RefBIdeal.τ).loc Cert.RefBIdeal.main_arg0)
          ∧ r.2.mem ((c.tc : Thread Cert.RefBIdeal.nD Cert.RefBIdeal.τ).loc Cert.RefBIdeal.main_arg1) = m' ((c.tc : Thread Cert.RefBIdeal.nD Cert.RefBIdeal.τ).loc Cert.RefBIdeal.main_arg1)
          ∧ r.2.mem ((c.tc : Thread Cert.RefBIdeal.nD Cert.RefBIdeal.τ).loc Cert.RefBIdeal.main_arg2) = m' ((c.tc : Thread Cert.RefBIdeal.nD Cert.RefBIdeal.τ).loc Cert.RefBIdeal.main_arg2)
          ∧ r.2.mem ((c.tc : Thread Cert.RefBIdeal.nD Cert.RefBIdeal.τ).loc Cert.RefBIdeal.main_arg3) = m' ((c.tc : Thread Cert.RefBIdeal.nD Cert.RefBIdeal.τ).loc Cert.RefBIdeal.main_arg3)
          ∧ r.2.mem ((c.tc : Thread Cert.RefBIdeal.nD Cert.RefBIdeal.τ).loc Cert.RefBIdeal.main_arg4) = m' ((c.tc : Thread Cert.RefBIdeal.nD Cert.RefBIdeal.τ).loc Cert.RefBIdeal.main_arg4)
          ∧ r.2.mem ((c.tc : Thread Cert.RefBIdeal.nD Cert.RefBIdeal.τ).loc Cert.RefBIdeal.main_arg5) = m' ((c.tc : Thread Cert.RefBIdeal.nD Cert.RefBIdeal.τ).loc Cert.RefBIdeal.main_arg5))

def preserves_StageA_StageAIdeal : Prop :=
  IdealRules.named_const.Statement Cert.StageAIdeal.κ "floor" .f32 0xF149F2CA#32 ⊥
  ∧ IdealRules.named_const.Statement Cert.StageAIdeal.κ "mask" .f32 0x7149F2CA#32 ⊤

def algebraic_StageAIdeal_RefAIdeal_pre_finite1 [hStageAIdeal : Cert.StageAIdeal.Facts] [hRefAIdeal : Cert.RefAIdeal.Facts] [hPre_finite1 : Cert.Pre_finite1.Facts] : Prop :=
  ∀ (m : (ℓ : Loc Cert.StageAIdeal.nD Cert.StageAIdeal.τ Cert.StageAIdeal.sig) → Buf (Elt Ideal) ℓ) (g : Dev Cert.StageAIdeal.nD → PrngReg)
    (m' : (ℓ : Loc Cert.RefAIdeal.nD Cert.RefAIdeal.τ Cert.RefAIdeal.sig) → Buf (Elt Ideal) ℓ) (g' : Dev Cert.RefAIdeal.nD → PrngReg), Pre_StageAIdeal_finite1 m →
    (∀ c : Dev Cert.StageAIdeal.nD,
      m' ((c.tc : Thread Cert.RefAIdeal.nD Cert.RefAIdeal.τ).loc Cert.RefAIdeal.main_arg0) = m ((c.tc : Thread Cert.StageAIdeal.nD Cert.StageAIdeal.τ).loc Cert.StageAIdeal.main_arg0)
      ∧ m' ((c.tc : Thread Cert.RefAIdeal.nD Cert.RefAIdeal.τ).loc Cert.RefAIdeal.main_arg1) = m ((c.tc : Thread Cert.StageAIdeal.nD Cert.StageAIdeal.τ).loc Cert.StageAIdeal.main_arg1)
      ∧ m' ((c.tc : Thread Cert.RefAIdeal.nD Cert.RefAIdeal.τ).loc Cert.RefAIdeal.main_arg2) = m ((c.tc : Thread Cert.StageAIdeal.nD Cert.StageAIdeal.τ).loc Cert.StageAIdeal.main_arg2)
      ∧ m' ((c.tc : Thread Cert.RefAIdeal.nD Cert.RefAIdeal.τ).loc Cert.RefAIdeal.main_arg3) = m ((c.tc : Thread Cert.StageAIdeal.nD Cert.StageAIdeal.τ).loc Cert.StageAIdeal.main_arg3)
      ∧ m' ((c.tc : Thread Cert.RefAIdeal.nD Cert.RefAIdeal.τ).loc Cert.RefAIdeal.main_arg4) = m ((c.tc : Thread Cert.StageAIdeal.nD Cert.StageAIdeal.τ).loc Cert.StageAIdeal.main_arg4)
      ∧ m' ((c.tc : Thread Cert.RefAIdeal.nD Cert.RefAIdeal.τ).loc Cert.RefAIdeal.main_arg5) = m ((c.tc : Thread Cert.StageAIdeal.nD Cert.StageAIdeal.τ).loc Cert.StageAIdeal.main_arg5)) →
    ∃ (v0 : (c : Dev Cert.StageAIdeal.nD) → Buf (Elt Ideal) ((c.tc : Thread Cert.StageAIdeal.nD Cert.StageAIdeal.τ).loc Cert.StageAIdeal.main_v4)),
      θ_run (Cert.StageAIdeal.defs (F := Ideal)) (onTc (τ := Cert.StageAIdeal.τ) (Cert.StageAIdeal.main (F := Ideal))) ⟨m, fun _ => 0, g⟩ (fun r => ∀ c : Dev Cert.StageAIdeal.nD,
          r.2.mem ((c.tc : Thread Cert.StageAIdeal.nD Cert.StageAIdeal.τ).loc Cert.StageAIdeal.main_v4) = v0 c
          ∧ r.2.mem ((c.tc : Thread Cert.StageAIdeal.nD Cert.StageAIdeal.τ).loc Cert.StageAIdeal.main_arg0) = m ((c.tc : Thread Cert.StageAIdeal.nD Cert.StageAIdeal.τ).loc Cert.StageAIdeal.main_arg0)
          ∧ r.2.mem ((c.tc : Thread Cert.StageAIdeal.nD Cert.StageAIdeal.τ).loc Cert.StageAIdeal.main_arg1) = m ((c.tc : Thread Cert.StageAIdeal.nD Cert.StageAIdeal.τ).loc Cert.StageAIdeal.main_arg1)
          ∧ r.2.mem ((c.tc : Thread Cert.StageAIdeal.nD Cert.StageAIdeal.τ).loc Cert.StageAIdeal.main_arg2) = m ((c.tc : Thread Cert.StageAIdeal.nD Cert.StageAIdeal.τ).loc Cert.StageAIdeal.main_arg2)
          ∧ r.2.mem ((c.tc : Thread Cert.StageAIdeal.nD Cert.StageAIdeal.τ).loc Cert.StageAIdeal.main_arg3) = m ((c.tc : Thread Cert.StageAIdeal.nD Cert.StageAIdeal.τ).loc Cert.StageAIdeal.main_arg3)
          ∧ r.2.mem ((c.tc : Thread Cert.StageAIdeal.nD Cert.StageAIdeal.τ).loc Cert.StageAIdeal.main_arg4) = m ((c.tc : Thread Cert.StageAIdeal.nD Cert.StageAIdeal.τ).loc Cert.StageAIdeal.main_arg4)
          ∧ r.2.mem ((c.tc : Thread Cert.StageAIdeal.nD Cert.StageAIdeal.τ).loc Cert.StageAIdeal.main_arg5) = m ((c.tc : Thread Cert.StageAIdeal.nD Cert.StageAIdeal.τ).loc Cert.StageAIdeal.main_arg5))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          r.2.mem ((c.tc : Thread Cert.RefAIdeal.nD Cert.RefAIdeal.τ).loc Cert.RefAIdeal.main_v65) = v0 c
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0)
          ∧ r.2.mem ((c.tc : Thread Cert.RefAIdeal.nD Cert.RefAIdeal.τ).loc Cert.RefAIdeal.main_arg1) = m' ((c.tc : Thread Cert.RefAIdeal.nD Cert.RefAIdeal.τ).loc Cert.RefAIdeal.main_arg1)
          ∧ r.2.mem ((c.tc : Thread Cert.RefAIdeal.nD Cert.RefAIdeal.τ).loc Cert.RefAIdeal.main_arg2) = m' ((c.tc : Thread Cert.RefAIdeal.nD Cert.RefAIdeal.τ).loc Cert.RefAIdeal.main_arg2)
          ∧ r.2.mem ((c.tc : Thread Cert.RefAIdeal.nD Cert.RefAIdeal.τ).loc Cert.RefAIdeal.main_arg3) = m' ((c.tc : Thread Cert.RefAIdeal.nD Cert.RefAIdeal.τ).loc Cert.RefAIdeal.main_arg3)
          ∧ r.2.mem ((c.tc : Thread Cert.RefAIdeal.nD Cert.RefAIdeal.τ).loc Cert.RefAIdeal.main_arg4) = m' ((c.tc : Thread Cert.RefAIdeal.nD Cert.RefAIdeal.τ).loc Cert.RefAIdeal.main_arg4)
          ∧ r.2.mem ((c.tc : Thread Cert.RefAIdeal.nD Cert.RefAIdeal.τ).loc Cert.RefAIdeal.main_arg5) = m' ((c.tc : Thread Cert.RefAIdeal.nD Cert.RefAIdeal.τ).loc Cert.RefAIdeal.main_arg5))

def Claim : Prop :=
  ∃ (hStageC : Cert.StageC.Facts) (hStageCIdeal : Cert.StageCIdeal.Facts) (hRefCIdeal : Cert.RefCIdeal.Facts) (hStageD : Cert.StageD.Facts) (hStageDIdeal : Cert.StageDIdeal.Facts) (hRefDIdeal : Cert.RefDIdeal.Facts) (hStageB : Cert.StageB.Facts) (hStageBIdeal : Cert.StageBIdeal.Facts) (hRefBIdeal : Cert.RefBIdeal.Facts) (hStageA : Cert.StageA.Facts) (hStageAIdeal : Cert.StageAIdeal.Facts) (hRefAIdeal : Cert.RefAIdeal.Facts) (hPre_finite : Cert.Pre_finite.Facts) (hPre_finite_in_range : Cert.Pre_finite_in_range.Facts) (hPre_finite_in_range2 : Cert.Pre_finite_in_range2.Facts) (hPre_finite1 : Cert.Pre_finite1.Facts),
    quiescent_StageC (hStageC := hStageC)
    ∧ quiescent_StageCIdeal (hStageCIdeal := hStageCIdeal)
    ∧ quiescent_StageCIdeal_pre_finite (hStageCIdeal := hStageCIdeal) (hPre_finite := hPre_finite)
    ∧ quiescent_RefCIdeal (hRefCIdeal := hRefCIdeal)
    ∧ quiescent_RefCIdeal_pre_finite (hRefCIdeal := hRefCIdeal) (hPre_finite := hPre_finite)
    ∧ quiescent_StageD (hStageD := hStageD)
    ∧ quiescent_StageDIdeal (hStageDIdeal := hStageDIdeal)
    ∧ quiescent_StageDIdeal_pre_finite_in_range (hStageDIdeal := hStageDIdeal) (hPre_finite_in_range := hPre_finite_in_range)
    ∧ quiescent_RefDIdeal (hRefDIdeal := hRefDIdeal)
    ∧ quiescent_RefDIdeal_pre_finite_in_range (hRefDIdeal := hRefDIdeal) (hPre_finite_in_range := hPre_finite_in_range)
    ∧ quiescent_StageB (hStageB := hStageB)
    ∧ quiescent_StageBIdeal (hStageBIdeal := hStageBIdeal)
    ∧ quiescent_StageBIdeal_pre_finite_in_range2 (hStageBIdeal := hStageBIdeal) (hPre_finite_in_range2 := hPre_finite_in_range2)
    ∧ quiescent_RefBIdeal (hRefBIdeal := hRefBIdeal)
    ∧ quiescent_RefBIdeal_pre_finite_in_range2 (hRefBIdeal := hRefBIdeal) (hPre_finite_in_range2 := hPre_finite_in_range2)
    ∧ quiescent_StageA (hStageA := hStageA)
    ∧ quiescent_StageAIdeal (hStageAIdeal := hStageAIdeal)
    ∧ quiescent_StageAIdeal_pre_finite1 (hStageAIdeal := hStageAIdeal) (hPre_finite1 := hPre_finite1)
    ∧ quiescent_RefAIdeal (hRefAIdeal := hRefAIdeal)
    ∧ quiescent_RefAIdeal_pre_finite1 (hRefAIdeal := hRefAIdeal) (hPre_finite1 := hPre_finite1)
    ∧ preserves_StageC_StageCIdeal
    ∧ algebraic_StageCIdeal_RefCIdeal_pre_finite (hStageCIdeal := hStageCIdeal) (hRefCIdeal := hRefCIdeal) (hPre_finite := hPre_finite)
    ∧ preserves_StageD_StageDIdeal
    ∧ algebraic_StageDIdeal_RefDIdeal_pre_finite_in_range (hStageDIdeal := hStageDIdeal) (hRefDIdeal := hRefDIdeal) (hPre_finite_in_range := hPre_finite_in_range)
    ∧ preserves_StageB_StageBIdeal
    ∧ algebraic_StageBIdeal_RefBIdeal_pre_finite_in_range2 (hStageBIdeal := hStageBIdeal) (hRefBIdeal := hRefBIdeal) (hPre_finite_in_range2 := hPre_finite_in_range2)
    ∧ preserves_StageA_StageAIdeal
    ∧ algebraic_StageAIdeal_RefAIdeal_pre_finite1 (hStageAIdeal := hStageAIdeal) (hRefAIdeal := hRefAIdeal) (hPre_finite1 := hPre_finite1)
-- ==== Pre_finite.lean ====
abbrev S16x3x512 : Shape := ⟨3, ![16, 3, 512]⟩
abbrev S16x64x512 : Shape := ⟨3, ![16, 64, 512]⟩
abbrev S64x128 : Shape := ⟨2, ![64, 128]⟩
abbrev S64 : Shape := ⟨1, ![64]⟩
abbrev S_ : Shape := ⟨0, ![]⟩

class Facts : Prop where
  bcast_S_S16x3x512 : S_.BroadcastsInDim S16x3x512 (![] : Fin 0 → Fin S16x3x512.rank)
  reducesTo_S16x3x512_S_d0_1_2 : S16x3x512.ReducesTo [0, 1, 2] S_
  h_S_ : 0 < S_.numel
  bcast_S_S16x64x512 : S_.BroadcastsInDim S16x64x512 (![] : Fin 0 → Fin S16x64x512.rank)
  reducesTo_S16x64x512_S_d0_1_2 : S16x64x512.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S16x3x512 .f32) (main_arg1 : FVec F S16x64x512 .f32) (main_arg2 : FVec F S64x128 .f32) (main_arg3 : FVec F S64 .f32) (main_arg4 : FVec F S64 .f32) : IVec S_ 1 :=
  let main_v0 : FVec F S16x3x512 .f32 := Host.absf main_arg0
  let main_cst : FVec F S_ .f32 := constant S_ .f32 0x7F800000#32
  let main_v1 : FVec F S16x3x512 .f32 := broadcastInDim S16x3x512 ![] bcast_S_S16x3x512 main_cst
  let main_v2 : IVec S16x3x512 1 := cmpf .olt main_v0 main_v1
  let main_c : IVec S_ 1 := constantI S_ 1 1#1
  let main_v3 : IVec S_ 1 := (fun x v => Host.reduce IntOp.andi x v reducesTo_S16x3x512_S_d0_1_2 h_S_) main_v2 main_c
  let main_v4 : FVec F S16x64x512 .f32 := Host.absf main_arg1
  let main_cst_0 : FVec F S_ .f32 := constant S_ .f32 0x7F800000#32
  let main_v5 : FVec F S16x64x512 .f32 := broadcastInDim S16x64x512 ![] bcast_S_S16x64x512 main_cst_0
  let main_v6 : IVec S16x64x512 1 := cmpf .olt main_v4 main_v5
  let main_c_1 : IVec S_ 1 := constantI S_ 1 1#1
  let main_v7 : IVec S_ 1 := (fun x v => Host.reduce IntOp.andi x v reducesTo_S16x64x512_S_d0_1_2 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Pre_finite1.lean ====
abbrev S16x3x2048 : Shape := ⟨3, ![16, 3, 2048]⟩
abbrev S8x3 : Shape := ⟨2, ![8, 3]⟩
abbrev S8 : Shape := ⟨1, ![8]⟩
abbrev S32x16 : Shape := ⟨2, ![32, 16]⟩
abbrev S32 : Shape := ⟨1, ![32]⟩
abbrev S_ : Shape := ⟨0, ![]⟩

class Facts : Prop where
  bcast_S_S16x3x2048 : S_.BroadcastsInDim S16x3x2048 (![] : Fin 0 → Fin S16x3x2048.rank)
  reducesTo_S16x3x2048_S_d0_1_2 : S16x3x2048.ReducesTo [0, 1, 2] S_
  h_S_ : 0 < S_.numel
  bcast_S_S8x3 : S_.BroadcastsInDim S8x3 (![] : Fin 0 → Fin S8x3.rank)
  reducesTo_S8x3_S_d0_1 : S8x3.ReducesTo [0, 1] S_
  bcast_S_S8 : S_.BroadcastsInDim S8 (![] : Fin 0 → Fin S8.rank)
  reducesTo_S8_S_d0 : S8.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_arg5 : FVec F S32 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S16x3x2048 .f32) (main_arg1 : FVec F S8x3 .f32) (main_arg2 : FVec F S8 .f32) (main_arg3 : FVec F S32x16 .f32) (main_arg4 : FVec F S32 .f32) (main_arg5 : FVec F S32 .f32) : IVec S_ 1 :=
  let main_v0 : FVec F S16x3x2048 .f32 := Host.absf main_arg0
  let main_cst : FVec F S_ .f32 := constant S_ .f32 0x7F800000#32
  let main_v1 : FVec F S16x3x2048 .f32 := broadcastInDim S16x3x2048 ![] bcast_S_S16x3x2048 main_cst
  let main_v2 : IVec S16x3x2048 1 := cmpf .olt main_v0 main_v1
  let main_c : IVec S_ 1 := constantI S_ 1 1#1
  let main_v3 : IVec S_ 1 := (fun x v => Host.reduce IntOp.andi x v reducesTo_S16x3x2048_S_d0_1_2 h_S_) main_v2 main_c
  let main_v4 : FVec F S8x3 .f32 := Host.absf main_arg1
  let main_cst_0 : FVec F S_ .f32 := constant S_ .f32 0x7F800000#32
  let main_v5 : FVec F S8x3 .f32 := broadcastInDim S8x3 ![] bcast_S_S8x3 main_cst_0
  let main_v6 : IVec S8x3 1 := cmpf .olt main_v4 main_v5
  let main_c_1 : IVec S_ 1 := constantI S_ 1 1#1
  let main_v7 : IVec S_ 1 := (fun x v => Host.reduce IntOp.andi x v reducesTo_S8x3_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_v13 main_v16
-- ==== Pre_finite_in_range.lean ====
abbrev S16x3x512 : Shape := ⟨3, ![16, 3, 512]⟩
abbrev S16x64x512 : Shape := ⟨3, ![16, 64, 512]⟩
abbrev S128x16 : Shape := ⟨2, ![128, 16]⟩
abbrev S128x128 : Shape := ⟨2, ![128, 128]⟩
abbrev S128 : Shape := ⟨1, ![128]⟩
abbrev S_ : Shape := ⟨0, ![]⟩

class Facts : Prop where
  bcast_S_S16x3x512 : S_.BroadcastsInDim S16x3x512 (![] : Fin 0 → Fin S16x3x512.rank)
  reducesTo_S16x3x512_S_d0_1_2 : S16x3x512.ReducesTo [0, 1, 2] S_
  h_S_ : 0 < S_.numel
  bcast_S_S16x64x512 : S_.BroadcastsInDim S16x64x512 (![] : Fin 0 → Fin S16x64x512.rank)
  reducesTo_S16x64x512_S_d0_1_2 : S16x64x512.ReducesTo [0, 1, 2] S_
  bcast_S_S128x16 : S_.BroadcastsInDim S128x16 (![] : Fin 0 → Fin S128x16.rank)
  reducesTo_S128x16_S_d0_1 : S128x16.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg3 : FVec F S128x128 .f32) (main_arg4 : FVec F S128 .f32) (main_arg5 : FVec F S128 .f32) (main_v12 : IVec S_ 1) (main_v15 : IVec S_ 1) : IVec S_ 1 :=
  let main_v16 : IVec S_ 1 := andi main_v12 main_v15
  let main_v17 : FVec F S128x128 .f32 := Host.absf main_arg3
  let main_cst_6 : FVec F S_ .f32 := constant S_ .f32 0x7F800000#32
  let main_v18 : FVec F S128x128 .f32 := broadcastInDim S128x128 ![] bcast_S_S128x128 main_cst_6
  let main_v19 : IVec S128x128 1 := cmpf .olt main_v17 main_v18
  let main_c_7 : IVec S_ 1 := constantI S_ 1 1#1
  let main_v20 : IVec S_ 1 := (fun x v => Host.reduce IntOp.andi x v reducesTo_S128x128_S_d0_1 h_S_) main_v19 main_c_7
  let main_v21 : IVec S_ 1 := andi main_v16 main_v20
  let main_v22 : FVec F S128 .f32 := Host.absf main_arg4
  let main_cst_8 : FVec F S_ .f32 := constant S_ .f32 0x7F800000#32
  let main_v23 : FVec F S128 .f32 := broadcastInDim S128 ![] bcast_S_S128 main_cst_8
  let main_v24 : IVec S128 1 := cmpf .olt main_v22 main_v23
  let main_c_9 : IVec S_ 1 := constantI S_ 1 1#1
  let main_v25 : IVec S_ 1 := (fun x v => Host.reduce IntOp.andi x v reducesTo_S128_S_d0 h_S_) main_v24 main_c_9
  let main_v26 : IVec S_ 1 := andi main_v21 main_v25
  let main_v27 : FVec F S128 .f32 := Host.absf main_arg5
  let main_cst_10 : FVec F S_ .f32 := constant S_ .f32 0x7F800000#32
  let main_v28 : FVec F S128 .f32 := broadcastInDim S128 ![] bcast_S_S128 main_cst_10
  let main_v29 : IVec S128 1 := cmpf .olt main_v27 main_v28
  let main_c_11 : IVec S_ 1 := constantI S_ 1 1#1
  let main_v30 : IVec S_ 1 := (fun x v => Host.reduce IntOp.andi x v reducesTo_S128_S_d0 h_S_) main_v29 main_c_11
  let main_v31 : IVec S_ 1 := andi main_v26 main_v30
  main_v31

def fn {F : FTy → Type} [FloatOps F] (main_arg0 : FVec F S16x3x512 .f32) (main_arg1 : FVec F S16x64x512 .f32) (main_arg2 : IVec S128x16 32) (main_arg3 : FVec F S128x128 .f32) (main_arg4 : FVec F S128 .f32) (main_arg5 : FVec F S128 .f32) : IVec S_ 1 :=
  let main_v0 : FVec F S16x3x512 .f32 := Host.absf main_arg0
  let main_cst : FVec F S_ .f32 := constant S_ .f32 0x7F800000#32
  let main_v1 : FVec F S16x3x512 .f32 := broadcastInDim S16x3x512 ![] bcast_S_S16x3x512 main_cst
  let main_v2 : IVec S16x3x512 1 := cmpf .olt main_v0 main_v1
  let main_c : IVec S_ 1 := constantI S_ 1 1#1
  let main_v3 : IVec S_ 1 := (fun x v => Host.reduce IntOp.andi x v reducesTo_S16x3x512_S_d0_1_2 h_S_) main_v2 main_c
  let main_v4 : FVec F S16x64x512 .f32 := Host.absf main_arg1
  let main_cst_0 : FVec F S_ .f32 := constant S_ .f32 0x7F800000#32
  let main_v5 : FVec F S16x64x512 .f32 := broadcastInDim S16x64x512 ![] bcast_S_S16x64x512 main_cst_0
  let main_v6 : IVec S16x64x512 1 := cmpf .olt main_v4 main_v5
  let main_c_1 : IVec S_ 1 := constantI S_ 1 1#1
  let main_v7 : IVec S_ 1 := (fun x v => Host.reduce IntOp.andi x v reducesTo_S16x64x512_S_d0_1_2 h_S_) main_v6 main_c_1
  let main_v8 : IVec S_ 1 := andi main_v3 main_v7
  let main_c_2 : IVec S_ 32 := constantI S_ 32 0#32
  let main_v9 : IVec S128x16 32 := broadcastInDim S128x16 ![] bcast_S_S128x16 main_c_2
  let main_v10 : IVec S128x16 1 := cmpi .sge main_arg2 main_v9
  let main_c_3 : IVec S_ 1 := constantI S_ 1 1#1
  let main_v11 : IVec S_ 1 := (fun x v => Host.reduce IntOp.andi x v reducesTo_S128x16_S_d0_1 h_S_) main_v10 main_c_3
  let main_v12 : IVec S_ 1 := andi main_v8 main_v11
  let main_c_4 : IVec S_ 32 := constantI S_ 32 512#32
  let main_v13 : IVec S128x16 32 := broadcastInDim S128x16 ![] bcast_S_S128x16 main_c_4
  let main_v14 : IVec S128x16 1 := cmpi .slt main_arg2 main_v13
  let main_c_5 : IVec S_ 1 := constantI S_ 1 1#1
  let main_v15 : IVec S_ 1 := (fun x v => Host.reduce IntOp.andi x v reducesTo_S128x16_S_d0_1 h_S_) main_v14 main_c_5
  fn_part1 (F := F) main_arg3 main_arg4 main_arg5 main_v12 main_v15
-- ==== Pre_finite_in_range2.lean ====
abbrev S16x3x2048 : Shape := ⟨3, ![16, 3, 2048]⟩
abbrev S16x32x2048 : Shape := ⟨3, ![16, 32, 2048]⟩
abbrev S512x16 : Shape := ⟨2, ![512, 16]⟩
abbrev S64x64 : Shape := ⟨2, ![64, 64]⟩
abbrev S64 : Shape := ⟨1, ![64]⟩
abbrev S_ : Shape := ⟨0, ![]⟩

class Facts : Prop where
  bcast_S_S16x3x2048 : S_.BroadcastsInDim S16x3x2048 (![] : Fin 0 → Fin S16x3x2048.rank)
  reducesTo_S16x3x2048_S_d0_1_2 : S16x3x2048.ReducesTo [0, 1, 2] S_
  h_S_ : 0 < S_.numel
  bcast_S_S16x32x2048 : S_.BroadcastsInDim S16x32x2048 (![] : Fin 0 → Fin S16x32x2048.rank)
  reducesTo_S16x32x2048_S_d0_1_2 : S16x32x2048.ReducesTo [0, 1, 2] S_
  bcast_S_S512x16 : S_.BroadcastsInDim S512x16 (![] : Fin 0 → Fin S512x16.rank)
  reducesTo_S512x16_S_d0_1 : S512x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : FVec F S64x64 .f32) (main_arg4 : FVec F S64 .f32) (main_arg5 : FVec F S64 .f32) (main_v12 : IVec S_ 1) (main_v15 : IVec S_ 1) : IVec S_ 1 :=
  let main_v16 : IVec S_ 1 := andi main_v12 main_v15
  let main_v17 : FVec F S64x64 .f32 := Host.absf main_arg3
  let main_cst_6 : FVec F S_ .f32 := constant S_ .f32 0x7F800000#32
  let main_v18 : FVec F S64x64 .f32 := broadcastInDim S64x64 ![] bcast_S_S64x64 main_cst_6
  let main_v19 : IVec S64x64 1 := cmpf .olt main_v17 main_v18
  let main_c_7 : IVec S_ 1 := constantI S_ 1 1#1
  let main_v20 : IVec S_ 1 := (fun x v => Host.reduce IntOp.andi x v reducesTo_S64x64_S_d0_1 h_S_) main_v19 main_c_7
  let main_v21 : IVec S_ 1 := andi main_v16 main_v20
  let main_v22 : FVec F S64 .f32 := Host.absf main_arg4
  let main_cst_8 : FVec F S_ .f32 := constant S_ .f32 0x7F800000#32
  let main_v23 : FVec F S64 .f32 := broadcastInDim S64 ![] bcast_S_S64 main_cst_8
  let main_v24 : IVec S64 1 := cmpf .olt main_v22 main_v23
  let main_c_9 : IVec S_ 1 := constantI S_ 1 1#1
  let main_v25 : IVec S_ 1 := (fun x v => Host.reduce IntOp.andi x v reducesTo_S64_S_d0 h_S_) main_v24 main_c_9
  let main_v26 : IVec S_ 1 := andi main_v21 main_v25
  let main_v27 : FVec F S64 .f32 := Host.absf main_arg5
  let main_cst_10 : FVec F S_ .f32 := constant S_ .f32 0x7F800000#32
  let main_v28 : FVec F S64 .f32 := broadcastInDim S64 ![] bcast_S_S64 main_cst_10
  let main_v29 : IVec S64 1 := cmpf .olt main_v27 main_v28
  let main_c_11 : IVec S_ 1 := constantI S_ 1 1#1
  let main_v30 : IVec S_ 1 := (fun x v => Host.reduce IntOp.andi x v reducesTo_S64_S_d0 h_S_) main_v29 main_c_11
  let main_v31 : IVec S_ 1 := andi main_v26 main_v30
  main_v31

def fn {F : FTy → Type} [FloatOps F] (main_arg0 : FVec F S16x3x2048 .f32) (main_arg1 : FVec F S16x32x2048 .f32) (main_arg2 : IVec S512x16 32) (main_arg3 : FVec F S64x64 .f32) (main_arg4 : FVec F S64 .f32) (main_arg5 : FVec F S64 .f32) : IVec S_ 1 :=
  let main_v0 : FVec F S16x3x2048 .f32 := Host.absf main_arg0
  let main_cst : FVec F S_ .f32 := constant S_ .f32 0x7F800000#32
  let main_v1 : FVec F S16x3x2048 .f32 := broadcastInDim S16x3x2048 ![] bcast_S_S16x3x2048 main_cst
  let main_v2 : IVec S16x3x2048 1 := cmpf .olt main_v0 main_v1
  let main_c : IVec S_ 1 := constantI S_ 1 1#1
  let main_v3 : IVec S_ 1 := (fun x v => Host.reduce IntOp.andi x v reducesTo_S16x3x2048_S_d0_1_2 h_S_) main_v2 main_c
  let main_v4 : FVec F S16x32x2048 .f32 := Host.absf main_arg1
  let main_cst_0 : FVec F S_ .f32 := constant S_ .f32 0x7F800000#32
  let main_v5 : FVec F S16x32x2048 .f32 := broadcastInDim S16x32x2048 ![] bcast_S_S16x32x2048 main_cst_0
  let main_v6 : IVec S16x32x2048 1 := cmpf .olt main_v4 main_v5
  let main_c_1 : IVec S_ 1 := constantI S_ 1 1#1
  let main_v7 : IVec S_ 1 := (fun x v => Host.reduce IntOp.andi x v reducesTo_S16x32x2048_S_d0_1_2 h_S_) main_v6 main_c_1
  let main_v8 : IVec S_ 1 := andi main_v3 main_v7
  let main_c_2 : IVec S_ 32 := constantI S_ 32 0#32
  let main_v9 : IVec S512x16 32 := broadcastInDim S512x16 ![] bcast_S_S512x16 main_c_2
  let main_v10 : IVec S512x16 1 := cmpi .sge main_arg2 main_v9
  let main_c_3 : IVec S_ 1 := constantI S_ 1 1#1
  let main_v11 : IVec S_ 1 := (fun x v => Host.reduce IntOp.andi x v reducesTo_S512x16_S_d0_1 h_S_) main_v10 main_c_3
  let main_v12 : IVec S_ 1 := andi main_v8 main_v11
  let main_c_4 : IVec S_ 32 := constantI S_ 32 2048#32
  let main_v13 : IVec S512x16 32 := broadcastInDim S512x16 ![] bcast_S_S512x16 main_c_4
  let main_v14 : IVec S512x16 1 := cmpi .slt main_arg2 main_v13
  let main_c_5 : IVec S_ 1 := constantI S_ 1 1#1
  let main_v15 : IVec S_ 1 := (fun x v => Host.reduce IntOp.andi x v reducesTo_S512x16_S_d0_1 h_S_) main_v14 main_c_5
  fn_part1 (F := F) main_arg3 main_arg4 main_arg5 main_v12 main_v15
-- ==== StageC.lean ====
abbrev S16x3x512 : Shape := ⟨3, ![16, 3, 512]⟩
abbrev S16x64x512 : Shape := ⟨3, ![16, 64, 512]⟩
abbrev S64x128 : Shape := ⟨2, ![64, 128]⟩
abbrev S64 : Shape := ⟨1, ![64]⟩
abbrev S16x512x3 : Shape := ⟨3, ![16, 512, 3]⟩
abbrev S64x1 : Shape := ⟨2, ![64, 1]⟩
abbrev S1x3x512 : Shape := ⟨3, ![1, 3, 512]⟩
abbrev S1x512x3 : Shape := ⟨3, ![1, 512, 3]⟩
abbrev S1x64x512 : Shape := ⟨3, ![1, 64, 512]⟩
abbrev S512x128 : Shape := ⟨2, ![512, 128]⟩
abbrev S512x1 : Shape := ⟨2, ![512, 1]⟩
abbrev S64x512 : Shape := ⟨2, ![64, 512]⟩
abbrev S3x512 : Shape := ⟨2, ![3, 512]⟩
abbrev S512x3 : Shape := ⟨2, ![512, 3]⟩
abbrev S512 : Shape := ⟨1, ![512]⟩
abbrev S1x3x128 : Shape := ⟨3, ![1, 3, 128]⟩
abbrev S3x128 : Shape := ⟨2, ![3, 128]⟩
abbrev S1x64x128 : Shape := ⟨3, ![1, 64, 128]⟩
abbrev S128 : Shape := ⟨1, ![128]⟩
abbrev S1x128 : Shape := ⟨2, ![1, 128]⟩
abbrev S128x128 : Shape := ⟨2, ![128, 128]⟩
abbrev S64x64 : Shape := ⟨2, ![64, 64]⟩

abbrev nBuf : Space → Nat
  | .hbm => 9
  | .vmem => 19
  | .smem => 0
  | _ => 0

abbrev bufTy : (tb : Table) → Fin (tcTables nBuf tb) → BufTy
  | .hbm, ⟨0, _⟩ => ⟨S16x3x512, .f32⟩
  | .hbm, ⟨1, _⟩ => ⟨S16x64x512, .f32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S16x512x3, .f32⟩
  | .hbm, ⟨6, _⟩ => ⟨S64x1, .f32⟩
  | .hbm, ⟨7, _⟩ => ⟨S64x1, .f32⟩
  | .hbm, ⟨8, _⟩ => ⟨S16x64x512, .f32⟩
  | .local _ .vmem, ⟨0, _⟩ => ⟨S1x3x512, .f32⟩
  | .local _ .vmem, ⟨1, _⟩ => ⟨S1x3x512, .f32⟩
  | .local _ .vmem, ⟨2, _⟩ => ⟨S1x512x3, .f32⟩
  | .local _ .vmem, ⟨3, _⟩ => ⟨S1x512x3, .f32⟩
  | .local _ .vmem, ⟨4, _⟩ => ⟨S1x64x512, .f32⟩
  | .local _ .vmem, ⟨5, _⟩ => ⟨S1x64x512, .f32⟩
  | .local _ .vmem, ⟨6, _⟩ => ⟨S64x128, .f32⟩
  | .local _ .vmem, ⟨7, _⟩ => ⟨S64x1, .f32⟩
  | .local _ .vmem, ⟨8, _⟩ => ⟨S64x1, .f32⟩
  | .local _ .vmem, ⟨9, _⟩ => ⟨S1x64x512, .f32⟩
  | .local _ .vmem, ⟨10, _⟩ => ⟨S1x64x512, .f32⟩
  | .local _ .vmem, ⟨11, _⟩ => ⟨S512x128, .f32⟩
  | .local _ .vmem, ⟨12, _⟩ => ⟨S512x1, .f32⟩
  | .local _ .vmem, ⟨13, _⟩ => ⟨S64x512, .f32⟩
  | .local _ .vmem, ⟨14, _⟩ => ⟨S64x512, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | _, _ => ⟨S16x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let c0_6 : Index := 0#32
  let c0_7 : Index := 0#32
  let arg1 : BitVec 32 := BitVec.ofNat 32 (i 1).val
  let c128_i32 : BitVec 32 := 128#32
  let v7 : BitVec 32 := Scalar.muli arg1 c128_i32
  let v9 : Index := Scalar.indexCast v7
  ![0, 0, v9.toNat]
def k0_off2 (i : grid0.Coords) : Fin 3 → Nat :=
  let c0_8 : Index := 0#32
  let c0_9 : Index := 0#32
  let arg1 : BitVec 32 := BitVec.ofNat 32 (i 1).val
  let c128_i32 : BitVec 32 := 128#32
  let v7 : BitVec 32 := Scalar.muli arg1 c128_i32
  let v12 : Index := Scalar.indexCast v7
  ![0, 0, v12.toNat]
@[reducible] def k0_t1_loop : Scf.Loop 32 :=
  let c0_i32_23 : BitVec 32 := 0#32
  let c16_i32 : BitVec 32 := 16#32
  let v39 : BitVec 32 := Scalar.addi c0_i32_23 c16_i32
  let c1_i32 : BitVec 32 := 1#32
  ⟨c0_i32_23, v39, c1_i32⟩
def k0_off3 (i : grid0.Coords) : Fin 2 → Nat :=
  let c0_26 : Index := 0#32
  let arg1 : BitVec 32 := BitVec.ofNat 32 (i 1).val
  let c128_i32 : BitVec 32 := 128#32
  let v7 : BitVec 32 := Scalar.muli arg1 c128_i32
  let v41 : Index := Scalar.indexCast v7
  ![0, v41.toNat]
def k0_cond2 (i : grid0.Coords) : BitVec 1 :=
  let arg1 : BitVec 32 := BitVec.ofNat 32 (i 1).val
  let c3_i32 : BitVec 32 := 3#32
  let v50 : BitVec 1 := Scalar.cmpi .eq arg1 c3_i32
  let v51 : BitVec 32 := Scalar.extui v50
  let c0_i32_30 : BitVec 32 := 0#32
  let v52 : BitVec 1 := Scalar.cmpi .ne v51 c0_i32_30
  v52

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== StageCIdeal.lean ====
variable {F : FTy → Type} [FloatOps F] [Named F]
def κ : String → Option EReal := fun
  | "floor" => some ⊥
  | "mask" => some ⊤
  | _ => none
-- ==== RefCIdeal.lean ====
abbrev S16x3x512 : Shape := ⟨3, ![16, 3, 512]⟩
abbrev S16x64x512 : Shape := ⟨3, ![16, 64, 512]⟩
abbrev S64x128 : Shape := ⟨2, ![64, 128]⟩
abbrev S64 : Shape := ⟨1, ![64]⟩
abbrev S16x512x3 : Shape := ⟨3, ![16, 512, 3]⟩
abbrev S_ : Shape := ⟨0, ![]⟩
abbrev S16x512 : Shape := ⟨2, ![16, 512]⟩
abbrev S16x512x1 : Shape := ⟨3, ![16, 512, 1]⟩
abbrev S16x1x512 : Shape := ⟨3, ![16, 1, 512]⟩
abbrev S16x512x512 : Shape := ⟨3, ![16, 512, 512]⟩
abbrev S16x512x16 : Shape := ⟨3, ![16, 512, 16]⟩
abbrev S16x512x64 : Shape := ⟨3, ![16, 512, 64]⟩
abbrev S16x512x16x1 : Shape := ⟨4, ![16, 512, 16, 1]⟩
abbrev S16x512x16x64 : Shape := ⟨4, ![16, 512, 16, 64]⟩
abbrev S16x64x512x16 : Shape := ⟨4, ![16, 64, 512, 16]⟩
abbrev S16x64x512x1 : Shape := ⟨4, ![16, 64, 512, 1]⟩
abbrev S16x128x512x16 : Shape := ⟨4, ![16, 128, 512, 16]⟩
abbrev S16x4x16x512x16 : Shape := ⟨5, ![16, 4, 16, 512, 16]⟩
abbrev S16x4 : Shape := ⟨2, ![16, 4]⟩
abbrev S16x4x1x1x1 : Shape := ⟨5, ![16, 4, 1, 1, 1]⟩
abbrev S1x64x1x1 : Shape := ⟨4, ![1, 64, 1, 1]⟩

abbrev nBuf : Space → Nat
  | .hbm => 103
  | .vmem => 0
  | .smem => 0
  | _ => 0

abbrev bufTy : (tb : Table) → Fin (tcTables nBuf tb) → BufTy
  | .hbm, ⟨0, _⟩ => ⟨S16x3x512, .f32⟩
  | .hbm, ⟨1, _⟩ => ⟨S16x64x512, .f32⟩
  | .hbm, ⟨2, _⟩ => ⟨S64x128, .f32⟩
  | .hbm, ⟨3, _⟩ => ⟨S64, .f32⟩
  | .hbm, ⟨4, _⟩ => ⟨S64, .f32⟩
  | .hbm, ⟨5, _⟩ => ⟨S16x512x3, .f32⟩
  | .hbm, ⟨6, _⟩ => ⟨S16x512x3, .f32⟩
  | .hbm, ⟨7, _⟩ => ⟨S16x512x3, .f32⟩
  | .hbm, ⟨8, _⟩ => ⟨S_, .f32⟩
  | .hbm, ⟨9, _⟩ => ⟨S16x512, .f32⟩
  | .hbm, ⟨10, _⟩ => ⟨S16x512x1, .f32⟩
  | .hbm, ⟨11, _⟩ => ⟨S16x512x3, .f32⟩
  | .hbm, ⟨12, _⟩ => ⟨S_, .f32⟩
  | .hbm, ⟨13, _⟩ => ⟨S16x512, .f32⟩
  | .hbm, ⟨14, _⟩ => ⟨S16x1x512, .f32⟩
  | .hbm, ⟨15, _⟩ => ⟨S16x512x512, .f32⟩
  | .hbm, ⟨16, _⟩ => ⟨S16x512x512, .f32⟩
  | .hbm, ⟨17, _⟩ => ⟨S16x512x512, .f32⟩
  | .hbm, ⟨18, _⟩ => ⟨S16x512x512, .f32⟩
  | .hbm, ⟨19, _⟩ => ⟨S_, .f32⟩
  | .hbm, ⟨20, _⟩ => ⟨S16x512x512, .f32⟩
  | .hbm, ⟨21, _⟩ => ⟨S16x512x512, .f32⟩
  | .hbm, ⟨22, _⟩ => ⟨S16x512x512, .f32⟩
  | .hbm, ⟨23, _⟩ => ⟨S_, .f32⟩
  | .hbm, ⟨24, _⟩ => ⟨S16x512x512, .f32⟩
  | .hbm, ⟨25, _⟩ => ⟨S16x512x512, .f32⟩
  | .hbm, ⟨26, _⟩ => ⟨S16x512x512, .f32⟩
  | .hbm, ⟨27, _⟩ => ⟨S16x512x512, .f32⟩
  | .hbm, ⟨28, _⟩ => ⟨S16x512x512, .f32⟩
  | .hbm, ⟨29, _⟩ => ⟨S16x512x16, .f32⟩
  | .hbm, ⟨30, _⟩ => ⟨S16x512x16, .i32⟩
  | .hbm, ⟨31, _⟩ => ⟨S16x512x64, .f32⟩
  | .hbm, ⟨32, _⟩ => ⟨S_, .i32⟩
  | .hbm, ⟨33, _⟩ => ⟨S16x512x16, .i32⟩
  | .hbm, ⟨34, _⟩ => ⟨S16x512x16, .i1⟩
  | .hbm, ⟨35, _⟩ => ⟨S_, .i32⟩
  | .hbm, ⟨36, _⟩ => ⟨S16x512x16, .i32⟩
  | .hbm, ⟨37, _⟩ => ⟨S16x512x16, .i32⟩
  | .hbm, ⟨38, _⟩ => ⟨S16x512x16, .i32⟩
  | .hbm, ⟨39, _⟩ => ⟨S16x512x16x1, .i32⟩
  | .hbm, ⟨40, _⟩ => ⟨S16x512x16x64, .f32⟩
  | .hbm, ⟨41, _⟩ => ⟨S16x64x512x16, .f32⟩
  | .hbm, ⟨42, _⟩ => ⟨S16x64x512x1, .f32⟩
  | .hbm, ⟨43, _⟩ => ⟨S16x64x512x16, .f32⟩
  | .hbm, ⟨44, _⟩ => ⟨S16x64x512x16, .f32⟩
  | .hbm, ⟨45, _⟩ => ⟨S16x128x512x16, .f32⟩
  | .hbm, ⟨46, _⟩ => ⟨S16x512x16x64, .f32⟩
  | .hbm, ⟨47, _⟩ => ⟨S16x64x512x16, .f32⟩
  | .hbm, ⟨48, _⟩ => ⟨S16x4x16x512x16, .f32⟩
  | .hbm, ⟨49, _⟩ => ⟨S_, .f32⟩
  | .hbm, ⟨50, _⟩ => ⟨S16x4, .f32⟩
  | .hbm, ⟨51, _⟩ => ⟨S16x4x1x1x1, .f32⟩
  | .hbm, ⟨52, _⟩ => ⟨S_, .f32⟩
  | .hbm, ⟨53, _⟩ => ⟨S16x4x1x1x1, .f32⟩
  | .hbm, ⟨54, _⟩ => ⟨S16x4x1x1x1, .f32⟩
  | .hbm, ⟨55, _⟩ => ⟨S_, .i32⟩
  | .hbm, ⟨56, _⟩ => ⟨S_, .f32⟩
  | .hbm, ⟨57, _⟩ => ⟨S16x4, .f32⟩
  | .hbm, ⟨58, _⟩ => ⟨S16x4x1x1x1, .f32⟩
  | .hbm, ⟨59, _⟩ => ⟨S_, .f32⟩
  | .hbm, ⟨60, _⟩ => ⟨S16x4x1x1x1, .f32⟩
  | .hbm, ⟨61, _⟩ => ⟨S16x4x1x1x1, .f32⟩
  | .hbm, ⟨62, _⟩ => ⟨S16x4x16x512x16, .f32⟩
  | .hbm, ⟨63, _⟩ => ⟨S16x4x16x512x16, .f32⟩
  | .hbm, ⟨64, _⟩ => ⟨S16x4x16x512x16, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S16x4, .f32⟩
  | .hbm, ⟨70, _⟩ => ⟨S16x4x1x1x1, .f32⟩
  | .hbm, ⟨71, _⟩ => ⟨S16x4x1x1x1, .f32⟩
  | .hbm, ⟨72, _⟩ => ⟨S16x4x1x1x1, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S16x4x1x1x1, .f32⟩
  | .hbm, ⟨78, _⟩ => ⟨S16x4x1x1x1, .f32⟩
  | .hbm, ⟨79, _⟩ => ⟨S16x4x16x512x16, .f32⟩
  | .hbm, ⟨80, _⟩ => ⟨S16x4x16x512x16, .f32⟩
  | .hbm, ⟨81, _⟩ => ⟨S_, .f32⟩
  | .hbm, ⟨82, _⟩ => ⟨S16x4x1x1x1, .f32⟩
  | .hbm, ⟨83, _⟩ => ⟨S16x4x1x1x1, .f32⟩
  | .hbm, ⟨84, _⟩ => ⟨S16x4x1x1x1, .f32⟩
  | .hbm, ⟨85, _⟩ => ⟨S16x4x16x512x16, .f32⟩
  | .hbm, ⟨86, _⟩ => ⟨S16x4x16x512x16, .f32⟩
  | .hbm, ⟨87, _⟩ => ⟨S16x64x512x16, .f32⟩
  | .hbm, ⟨88, _⟩ => ⟨S1x64x1x1, .f32⟩
  | .hbm, ⟨89, _⟩ => ⟨S16x64x512x16, .f32⟩
  | .hbm, ⟨90, _⟩ => ⟨S16x64x512x16, .f32⟩
  | .hbm, ⟨91, _⟩ => ⟨S1x64x1x1, .f32⟩
  | .hbm, ⟨92, _⟩ => ⟨S16x64x512x16, .f32⟩
  | .hbm, ⟨93, _⟩ => ⟨S16x64x512x16, .f32⟩
  | .hbm, ⟨94, _⟩ => ⟨S_, .f32⟩
  | .hbm, ⟨95, _⟩ => ⟨S16x64x512x16, .f32⟩
  | .hbm, ⟨96, _⟩ => ⟨S16x64x512x16, .i1⟩
  | .hbm, ⟨97, _⟩ => ⟨S_, .f32⟩
  | .hbm, ⟨98, _⟩ => ⟨S16x64x512x16, .f32⟩
  | .hbm, ⟨99, _⟩ => ⟨S16x64x512x16, .f32⟩
  | .hbm, ⟨100, _⟩ => ⟨S16x64x512x16, .f32⟩
  | .hbm, ⟨101, _⟩ => ⟨S_, .f32⟩
  | .hbm, ⟨102, _⟩ => ⟨S16x64x512, .f32⟩
  | _, _ => ⟨S16x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_values : Ref sig .tc := ⟨.hbm, 29, rfl⟩
abbrev main_indices : Ref sig .tc := ⟨.hbm, 30, rfl⟩
abbrev main_v20 : Ref sig .tc := ⟨.hbm, 31, rfl⟩
abbrev main_c : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_c_6 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_v12 : Ref sig .tc := ⟨.hbm, 72, rfl⟩
abbrev main_call0_cst_3 : Ref sig .tc := ⟨.hbm, 73, rfl⟩
abbrev main_call0_v13 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_7 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_8 : Ref sig .tc := ⟨.hbm, 94, rfl⟩
abbrev main_v55 : Ref sig .tc := ⟨.hbm, 95, rfl⟩
abbrev main_v56 : Ref sig .tc := ⟨.hbm, 96, rfl⟩
abbrev main_cst_9 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_cst_10 : Ref sig .tc := ⟨.hbm, 101, rfl⟩
abbrev main_v60 : Ref sig .tc := ⟨.hbm, 102, rfl⟩

abbrev nD : Nat := 1
abbrev τ : Topo := Topo.v7x

variable {F : FTy → Type} [FloatOps F]
-- ==== StageD.lean ====
abbrev S16x3x512 : Shape := ⟨3, ![16, 3, 512]⟩
abbrev S16x64x512 : Shape := ⟨3, ![16, 64, 512]⟩
abbrev S128x16 : Shape := ⟨2, ![128, 16]⟩
abbrev S128x128 : Shape := ⟨2, ![128, 128]⟩
abbrev S128 : Shape := ⟨1, ![128]⟩
abbrev S16x512x3 : Shape := ⟨3, ![16, 512, 3]⟩
abbrev S16x128 : Shape := ⟨2, ![16, 128]⟩
abbrev S16x1x128 : Shape := ⟨3, ![16, 1, 128]⟩
abbrev S128x1 : Shape := ⟨2, ![128, 1]⟩
abbrev S16x128x128 : Shape := ⟨3, ![16, 128, 128]⟩
abbrev S16x3x128 : Shape := ⟨3, ![16, 3, 128]⟩
abbrev S1x3x512 : Shape := ⟨3, ![1, 3, 512]⟩
abbrev S1x512x3 : Shape := ⟨3, ![1, 512, 3]⟩
abbrev S1x64x512 : Shape := ⟨3, ![1, 64, 512]⟩
abbrev S1x1x128 : Shape := ⟨3, ![1, 1, 128]⟩
abbrev S1x128x128 : Shape := ⟨3, ![1, 128, 128]⟩
abbrev S1x3x128 : Shape := ⟨3, ![1, 3, 128]⟩
abbrev S512x128 : Shape := ⟨2, ![512, 128]⟩
abbrev S512x1 : Shape := ⟨2, ![512, 1]⟩
abbrev S3x512 : Shape := ⟨2, ![3, 512]⟩
abbrev S512x3 : Shape := ⟨2, ![512, 3]⟩
abbrev S512 : Shape := ⟨1, ![512]⟩
abbrev S64x512 : Shape := ⟨2, ![64, 512]⟩
abbrev S1x128 : Shape := ⟨2, ![1, 128]⟩
abbrev S3x128 : Shape := ⟨2, ![3, 128]⟩
abbrev S64x128 : Shape := ⟨2, ![64, 128]⟩

abbrev nBuf : Space → Nat
  | .hbm => 13
  | .vmem => 23
  | .smem => 0
  | _ => 0

abbrev bufTy : (tb : Table) → Fin (tcTables nBuf tb) → BufTy
  | .hbm, ⟨0, _⟩ => ⟨S16x3x512, .f32⟩
  | .hbm, ⟨1, _⟩ => ⟨S16x64x512, .f32⟩
  | .hbm, ⟨2, _⟩ => ⟨S128x16, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S16x512x3, .f32⟩
  | .hbm, ⟨7, _⟩ => ⟨S16x128, .i32⟩
  | .hbm, ⟨8, _⟩ => ⟨S16x1x128, .i32⟩
  | .hbm, ⟨9, _⟩ => ⟨S128x1, .f32⟩
  | .hbm, ⟨10, _⟩ => ⟨S128x1, .f32⟩
  | .hbm, ⟨11, _⟩ => ⟨S16x128x128, .f32⟩
  | .hbm, ⟨12, _⟩ => ⟨S16x3x128, .f32⟩
  | .local _ .vmem, ⟨0, _⟩ => ⟨S1x3x512, .f32⟩
  | .local _ .vmem, ⟨1, _⟩ => ⟨S1x3x512, .f32⟩
  | .local _ .vmem, ⟨2, _⟩ => ⟨S1x512x3, .f32⟩
  | .local _ .vmem, ⟨3, _⟩ => ⟨S1x512x3, .f32⟩
  | .local _ .vmem, ⟨4, _⟩ => ⟨S1x64x512, .f32⟩
  | .local _ .vmem, ⟨5, _⟩ => ⟨S1x64x512, .f32⟩
  | .local _ .vmem, ⟨6, _⟩ => ⟨S1x1x128, .i32⟩
  | .local _ .vmem, ⟨7, _⟩ => ⟨S1x1x128, .i32⟩
  | .local _ .vmem, ⟨8, _⟩ => ⟨S128x128, .f32⟩
  | .local _ .vmem, ⟨9, _⟩ => ⟨S128x1, .f32⟩
  | .local _ .vmem, ⟨10, _⟩ => ⟨S128x1, .f32⟩
  | .local _ .vmem, ⟨11, _⟩ => ⟨S1x128x128, .f32⟩
  | .local _ .vmem, ⟨12, _⟩ => ⟨S1x128x128, .f32⟩
  | .local _ .vmem, ⟨13, _⟩ => ⟨S1x3x128, .f32⟩
  | .local _ .vmem, ⟨14, _⟩ => ⟨S1x3x128, .f32⟩
  | .local _ .vmem, ⟨15, _⟩ => ⟨S512x128, .f32⟩
  | .local _ .vmem, ⟨16, _⟩ => ⟨S512x1, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | _, _ => ⟨S16x3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 1], ![false, false]⟩

def k0_off1 (i : grid0.Coords) : Fin 3 → Nat :=
  let c0_6 : Index := 0#32
  let c0_7 : Index := 0#32
  let arg1 : BitVec 32 := BitVec.ofNat 32 (i 1).val
  let c128_i32 : BitVec 32 := 128#32
  let v7 : BitVec 32 := Scalar.muli arg1 c128_i32
  let v9 : Index := Scalar.indexCast v7
  ![0, 0, v9.toNat]
@[reducible] def k0_t1_loop : Scf.Loop 32 :=
  let c0_i32_26 : BitVec 32 := 0#32
  let c16_i32 : BitVec 32 := 16#32
  let v45 : BitVec 32 := Scalar.addi c0_i32_26 c16_i32
  let c1_i32 : BitVec 32 := 1#32
  ⟨c0_i32_26, v45, c1_i32⟩
def k0_off2 (i : grid0.Coords) : Fin 2 → Nat :=
  let c0_29 : Index := 0#32
  let arg1 : BitVec 32 := BitVec.ofNat 32 (i 1).val
  let c128_i32 : BitVec 32 := 128#32
  let v7 : BitVec 32 := Scalar.muli arg1 c128_i32
  let v47 : Index := Scalar.indexCast v7
  ![0, v47.toNat]
def k0_cond2 (i : grid0.Coords) : BitVec 1 :=
  let arg1 : BitVec 32 := BitVec.ofNat 32 (i 1).val
  let c0_i32_33 : BitVec 32 := 0#32
  let v56 : BitVec 1 := Scalar.cmpi .eq arg1 c0_i32_33
  let v57 : BitVec 32 := Scalar.extui v56
  let c0_i32_34 : BitVec 32 := 0#32
  let v58 : BitVec 1 := Scalar.cmpi .ne v57 c0_i32_34
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StageDIdeal.lean ====
variable {F : FTy → Type} [FloatOps F] [Named F]
def κ : String → Option EReal := fun
  | "floor" => some ⊥
  | "mask" => some ⊤
  | _ => none
-- ==== RefDIdeal.lean ====
abbrev S16x3x512 : Shape := ⟨3, ![16, 3, 512]⟩
abbrev S16x64x512 : Shape := ⟨3, ![16, 64, 512]⟩
abbrev S128x16 : Shape := ⟨2, ![128, 16]⟩
abbrev S128x128 : Shape := ⟨2, ![128, 128]⟩
abbrev S128 : Shape := ⟨1, ![128]⟩
abbrev S16x128 : Shape := ⟨2, ![16, 128]⟩
abbrev S16x67x512 : Shape := ⟨3, ![16, 67, 512]⟩
abbrev S16x512x67 : Shape := ⟨3, ![16, 512, 67]⟩
abbrev S_ : Shape := ⟨0, ![]⟩
abbrev S16x128x1 : Shape := ⟨3, ![16, 128, 1]⟩
abbrev S16x128x67 : Shape := ⟨3, ![16, 128, 67]⟩
abbrev S16x67x128 : Shape := ⟨3, ![16, 67, 128]⟩
abbrev S16x3x128 : Shape := ⟨3, ![16, 3, 128]⟩
abbrev S16x64x128 : Shape := ⟨3, ![16, 64, 128]⟩
abbrev S16x128x3 : Shape := ⟨3, ![16, 128, 3]⟩
abbrev S16x512x3 : Shape := ⟨3, ![16, 512, 3]⟩
abbrev S16x512 : Shape := ⟨2, ![16, 512]⟩
abbrev S16x512x1 : Shape := ⟨3, ![16, 512, 1]⟩
abbrev S16x1x128 : Shape := ⟨3, ![16, 1, 128]⟩
abbrev S16x512x128 : Shape := ⟨3, ![16, 512, 128]⟩
abbrev S16x128x512 : Shape := ⟨3, ![16, 128, 512]⟩
abbrev S16x128x16 : Shape := ⟨3, ![16, 128, 16]⟩
abbrev S16x512x64 : Shape := ⟨3, ![16, 512, 64]⟩
abbrev S16x128x16x1 : Shape := ⟨4, ![16, 128, 16, 1]⟩
abbrev S16x128x16x64 : Shape := ⟨4, ![16, 128, 16, 64]⟩
abbrev S16x64x128x16 : Shape := ⟨4, ![16, 64, 128, 16]⟩
abbrev S16x64x128x1 : Shape := ⟨4, ![16, 64, 128, 1]⟩
abbrev S16x128x128x16 : Shape := ⟨4, ![16, 128, 128, 16]⟩
abbrev S16x128x16x128 : Shape := ⟨4, ![16, 128, 16, 128]⟩
abbrev S16x4x32x128x16 : Shape := ⟨5, ![16, 4, 32, 128, 16]⟩
abbrev S16x4 : Shape := ⟨2, ![16, 4]⟩
abbrev S16x4x1x1x1 : Shape := ⟨5, ![16, 4, 1, 1, 1]⟩
abbrev S1x128x1x1 : Shape := ⟨4, ![1, 128, 1, 1]⟩
abbrev S16x128x128 : Shape := ⟨3, ![16, 128, 128]⟩

abbrev nBuf : Space → Nat
  | .hbm => 119
  | .vmem => 0
  | .smem => 0
  | _ => 0

abbrev bufTy : (tb : Table) → Fin (tcTables nBuf tb) → BufTy
  | .hbm, ⟨0, _⟩ => ⟨S16x3x512, .f32⟩
  | .hbm, ⟨1, _⟩ => ⟨S16x64x512, .f32⟩
  | .hbm, ⟨2, _⟩ => ⟨S128x16, .i32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S16x128, .i32⟩
  | .hbm, ⟨7, _⟩ => ⟨S16x67x512, .f32⟩
  | .hbm, ⟨8, _⟩ => ⟨S16x512x67, .f32⟩
  | .hbm, ⟨9, _⟩ => ⟨S_, .i32⟩
  | .hbm, ⟨10, _⟩ => ⟨S16x128, .i32⟩
  | .hbm, ⟨11, _⟩ => ⟨S16x128, .i1⟩
  | .hbm, ⟨12, _⟩ => ⟨S_, .i32⟩
  | .hbm, ⟨13, _⟩ => ⟨S16x128, .i32⟩
  | .hbm, ⟨14, _⟩ => ⟨S16x128, .i32⟩
  | .hbm, ⟨15, _⟩ => ⟨S16x128, .i32⟩
  | .hbm, ⟨16, _⟩ => ⟨S16x128x1, .i32⟩
  | .hbm, ⟨17, _⟩ => ⟨S16x128x67, .f32⟩
  | .hbm, ⟨18, _⟩ => ⟨S16x67x128, .f32⟩
  | .hbm, ⟨19, _⟩ => ⟨S16x3x128, .f32⟩
  | .hbm, ⟨20, _⟩ => ⟨S16x64x128, .f32⟩
  | .hbm, ⟨21, _⟩ => ⟨S16x128x3, .f32⟩
  | .hbm, ⟨22, _⟩ => ⟨S16x512x3, .f32⟩
  | .hbm, ⟨23, _⟩ => ⟨S16x512x3, .f32⟩
  | .hbm, ⟨24, _⟩ => ⟨S_, .f32⟩
  | .hbm, ⟨25, _⟩ => ⟨S16x512, .f32⟩
  | .hbm, ⟨26, _⟩ => ⟨S16x512x1, .f32⟩
  | .hbm, ⟨27, _⟩ => ⟨S16x128x3, .f32⟩
  | .hbm, ⟨28, _⟩ => ⟨S_, .f32⟩
  | .hbm, ⟨29, _⟩ => ⟨S16x128, .f32⟩
  | .hbm, ⟨30, _⟩ => ⟨S16x1x128, .f32⟩
  | .hbm, ⟨31, _⟩ => ⟨S16x512x128, .f32⟩
  | .hbm, ⟨32, _⟩ => ⟨S16x512x128, .f32⟩
  | .hbm, ⟨33, _⟩ => ⟨S16x512x128, .f32⟩
  | .hbm, ⟨34, _⟩ => ⟨S16x512x128, .f32⟩
  | .hbm, ⟨35, _⟩ => ⟨S_, .f32⟩
  | .hbm, ⟨36, _⟩ => ⟨S16x512x128, .f32⟩
  | .hbm, ⟨37, _⟩ => ⟨S16x512x128, .f32⟩
  | .hbm, ⟨38, _⟩ => ⟨S16x512x128, .f32⟩
  | .hbm, ⟨39, _⟩ => ⟨S_, .f32⟩
  | .hbm, ⟨40, _⟩ => ⟨S16x512x128, .f32⟩
  | .hbm, ⟨41, _⟩ => ⟨S16x512x128, .f32⟩
  | .hbm, ⟨42, _⟩ => ⟨S16x512x128, .f32⟩
  | .hbm, ⟨43, _⟩ => ⟨S16x512x128, .f32⟩
  | .hbm, ⟨44, _⟩ => ⟨S16x128x512, .f32⟩
  | .hbm, ⟨45, _⟩ => ⟨S16x128x16, .f32⟩
  | .hbm, ⟨46, _⟩ => ⟨S16x128x16, .i32⟩
  | .hbm, ⟨47, _⟩ => ⟨S16x512x64, .f32⟩
  | .hbm, ⟨48, _⟩ => ⟨S_, .i32⟩
  | .hbm, ⟨49, _⟩ => ⟨S16x128x16, .i32⟩
  | .hbm, ⟨50, _⟩ => ⟨S16x128x16, .i1⟩
  | .hbm, ⟨51, _⟩ => ⟨S_, .i32⟩
  | .hbm, ⟨52, _⟩ => ⟨S16x128x16, .i32⟩
  | .hbm, ⟨53, _⟩ => ⟨S16x128x16, .i32⟩
  | .hbm, ⟨54, _⟩ => ⟨S16x128x16, .i32⟩
  | .hbm, ⟨55, _⟩ => ⟨S16x128x16x1, .i32⟩
  | .hbm, ⟨56, _⟩ => ⟨S16x128x16x64, .f32⟩
  | .hbm, ⟨57, _⟩ => ⟨S16x64x128x16, .f32⟩
  | .hbm, ⟨58, _⟩ => ⟨S16x64x128x1, .f32⟩
  | .hbm, ⟨59, _⟩ => ⟨S16x64x128x16, .f32⟩
  | .hbm, ⟨60, _⟩ => ⟨S16x64x128x16, .f32⟩
  | .hbm, ⟨61, _⟩ => ⟨S16x128x128x16, .f32⟩
  | .hbm, ⟨62, _⟩ => ⟨S16x128x16x128, .f32⟩
  | .hbm, ⟨63, _⟩ => ⟨S16x128x128x16, .f32⟩
  | .hbm, ⟨64, _⟩ => ⟨S16x4x32x128x16, .f32⟩
  | .hbm, ⟨65, _⟩ => ⟨S_, .f32⟩
  | .hbm, ⟨66, _⟩ => ⟨S16x4, .f32⟩
  | .hbm, ⟨67, _⟩ => ⟨S16x4x1x1x1, .f32⟩
  | .hbm, ⟨68, _⟩ => ⟨S_, .f32⟩
  | .hbm, ⟨69, _⟩ => ⟨S16x4x1x1x1, .f32⟩
  | .hbm, ⟨70, _⟩ => ⟨S16x4x1x1x1, .f32⟩
  | .hbm, ⟨71, _⟩ => ⟨S_, .i32⟩
  | .hbm, ⟨72, _⟩ => ⟨S_, .f32⟩
  | .hbm, ⟨73, _⟩ => ⟨S16x4, .f32⟩
  | .hbm, ⟨74, _⟩ => ⟨S16x4x1x1x1, .f32⟩
  | .hbm, ⟨75, _⟩ => ⟨S_, .f32⟩
  | .hbm, ⟨76, _⟩ => ⟨S16x4x1x1x1, .f32⟩
  | .hbm, ⟨77, _⟩ => ⟨S16x4x1x1x1, .f32⟩
  | .hbm, ⟨78, _⟩ => ⟨S16x4x32x128x16, .f32⟩
  | .hbm, ⟨79, _⟩ => ⟨S16x4x32x128x16, .f32⟩
  | .hbm, ⟨80, _⟩ => ⟨S16x4x32x128x16, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S16x4, .f32⟩
  | .hbm, ⟨86, _⟩ => ⟨S16x4x1x1x1, .f32⟩
  | .hbm, ⟨87, _⟩ => ⟨S16x4x1x1x1, .f32⟩
  | .hbm, ⟨88, _⟩ => ⟨S16x4x1x1x1, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S16x4x1x1x1, .f32⟩
  | .hbm, ⟨94, _⟩ => ⟨S16x4x1x1x1, .f32⟩
  | .hbm, ⟨95, _⟩ => ⟨S16x4x32x128x16, .f32⟩
  | .hbm, ⟨96, _⟩ => ⟨S16x4x32x128x16, .f32⟩
  | .hbm, ⟨97, _⟩ => ⟨S_, .f32⟩
  | .hbm, ⟨98, _⟩ => ⟨S16x4x1x1x1, .f32⟩
  | .hbm, ⟨99, _⟩ => ⟨S16x4x1x1x1, .f32⟩
  | .hbm, ⟨100, _⟩ => ⟨S16x4x1x1x1, .f32⟩
  | .hbm, ⟨101, _⟩ => ⟨S16x4x32x128x16, .f32⟩
  | .hbm, ⟨102, _⟩ => ⟨S16x4x32x128x16, .f32⟩
  | .hbm, ⟨103, _⟩ => ⟨S16x128x128x16, .f32⟩
  | .hbm, ⟨104, _⟩ => ⟨S1x128x1x1, .f32⟩
  | .hbm, ⟨105, _⟩ => ⟨S16x128x128x16, .f32⟩
  | .hbm, ⟨106, _⟩ => ⟨S16x128x128x16, .f32⟩
  | .hbm, ⟨107, _⟩ => ⟨S1x128x1x1, .f32⟩
  | .hbm, ⟨108, _⟩ => ⟨S16x128x128x16, .f32⟩
  | .hbm, ⟨109, _⟩ => ⟨S16x128x128x16, .f32⟩
  | .hbm, ⟨110, _⟩ => ⟨S_, .f32⟩
  | .hbm, ⟨111, _⟩ => ⟨S16x128x128x16, .f32⟩
  | .hbm, ⟨112, _⟩ => ⟨S16x128x128x16, .i1⟩
  | .hbm, ⟨113, _⟩ => ⟨S_, .f32⟩
  | .hbm, ⟨114, _⟩ => ⟨S16x128x128x16, .f32⟩
  | .hbm, ⟨115, _⟩ => ⟨S16x128x128x16, .f32⟩
  | .hbm, ⟨116, _⟩ => ⟨S16x128x128x16, .f32⟩
  | .hbm, ⟨117, _⟩ => ⟨S_, .f32⟩
  | .hbm, ⟨118, _⟩ => ⟨S16x128x128, .f32⟩
  | _, _ => ⟨S16x3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v1_0 : Ref sig .tc := ⟨.hbm, 19, rfl⟩
abbrev main_v1_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_values : Ref sig .tc := ⟨.hbm, 45, rfl⟩
abbrev main_indices : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_cst_3 : Ref sig .tc := ⟨.hbm, 89, rfl⟩
abbrev main_call1_v13 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_7 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_8 : Ref sig .tc := ⟨.hbm, 110, rfl⟩
abbrev main_v57 : Ref sig .tc := ⟨.hbm, 111, rfl⟩
abbrev main_v58 : Ref sig .tc := ⟨.hbm, 112, rfl⟩
abbrev main_cst_9 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_10 : Ref sig .tc := ⟨.hbm, 117, rfl⟩
abbrev main_v62 : Ref sig .tc := ⟨.hbm, 118, rfl⟩

abbrev nD : Nat := 1
abbrev τ : Topo := Topo.v7x

variable {F : FTy → Type} [FloatOps F]
-- ==== StageB.lean ====
abbrev S16x3x2048 : Shape := ⟨3, ![16, 3, 2048]⟩
abbrev S16x32x2048 : Shape := ⟨3, ![16, 32, 2048]⟩
abbrev S512x16 : Shape := ⟨2, ![512, 16]⟩
abbrev S64x64 : Shape := ⟨2, ![64, 64]⟩
abbrev S64 : Shape := ⟨1, ![64]⟩
abbrev S16x2048x3 : Shape := ⟨3, ![16, 2048, 3]⟩
abbrev S16x512 : Shape := ⟨2, ![16, 512]⟩
abbrev S16x1x512 : Shape := ⟨3, ![16, 1, 512]⟩
abbrev S64x1 : Shape := ⟨2, ![64, 1]⟩
abbrev S16x64x512 : Shape := ⟨3, ![16, 64, 512]⟩
abbrev S16x3x512 : Shape := ⟨3, ![16, 3, 512]⟩
abbrev S1x3x2048 : Shape := ⟨3, ![1, 3, 2048]⟩
abbrev S1x2048x3 : Shape := ⟨3, ![1, 2048, 3]⟩
abbrev S1x32x2048 : Shape := ⟨3, ![1, 32, 2048]⟩
abbrev S1x1x512 : Shape := ⟨3, ![1, 1, 512]⟩
abbrev S1x64x512 : Shape := ⟨3, ![1, 64, 512]⟩
abbrev S1x3x128 : Shape := ⟨3, ![1, 3, 128]⟩
abbrev S2048x128 : Shape := ⟨2, ![2048, 128]⟩
abbrev S2048x1 : Shape := ⟨2, ![2048, 1]⟩
abbrev S64x512 : Shape := ⟨2, ![64, 512]⟩
abbrev S64x128 : Shape := ⟨2, ![64, 128]⟩
abbrev S3x2048 : Shape := ⟨2, ![3, 2048]⟩
abbrev S2048x3 : Shape := ⟨2, ![2048, 3]⟩
abbrev S2048 : Shape := ⟨1, ![2048]⟩
abbrev S32x2048 : Shape := ⟨2, ![32, 2048]⟩
abbrev S1x1x128 : Shape := ⟨3, ![1, 1, 128]⟩
abbrev S1x128 : Shape := ⟨2, ![1, 128]⟩
abbrev S3x128 : Shape := ⟨2, ![3, 128]⟩
abbrev S32x128 : Shape := ⟨2, ![32, 128]⟩
abbrev S128 : Shape := ⟨1, ![128]⟩

abbrev nBuf : Space → Nat
  | .hbm => 13
  | .vmem => 23
  | .smem => 0
  | _ => 0

abbrev bufTy : (tb : Table) → Fin (tcTables nBuf tb) → BufTy
  | .hbm, ⟨0, _⟩ => ⟨S16x3x2048, .f32⟩
  | .hbm, ⟨1, _⟩ => ⟨S16x32x2048, .f32⟩
  | .hbm, ⟨2, _⟩ => ⟨S512x16, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S16x2048x3, .f32⟩
  | .hbm, ⟨7, _⟩ => ⟨S16x512, .i32⟩
  | .hbm, ⟨8, _⟩ => ⟨S16x1x512, .i32⟩
  | .hbm, ⟨9, _⟩ => ⟨S64x1, .f32⟩
  | .hbm, ⟨10, _⟩ => ⟨S64x1, .f32⟩
  | .hbm, ⟨11, _⟩ => ⟨S16x64x512, .f32⟩
  | .hbm, ⟨12, _⟩ => ⟨S16x3x512, .f32⟩
  | .local _ .vmem, ⟨0, _⟩ => ⟨S1x3x2048, .f32⟩
  | .local _ .vmem, ⟨1, _⟩ => ⟨S1x3x2048, .f32⟩
  | .local _ .vmem, ⟨2, _⟩ => ⟨S1x2048x3, .f32⟩
  | .local _ .vmem, ⟨3, _⟩ => ⟨S1x2048x3, .f32⟩
  | .local _ .vmem, ⟨4, _⟩ => ⟨S1x32x2048, .f32⟩
  | .local _ .vmem, ⟨5, _⟩ => ⟨S1x32x2048, .f32⟩
  | .local _ .vmem, ⟨6, _⟩ => ⟨S1x1x512, .i32⟩
  | .local _ .vmem, ⟨7, _⟩ => ⟨S1x1x512, .i32⟩
  | .local _ .vmem, ⟨8, _⟩ => ⟨S64x64, .f32⟩
  | .local _ .vmem, ⟨9, _⟩ => ⟨S64x1, .f32⟩
  | .local _ .vmem, ⟨10, _⟩ => ⟨S64x1, .f32⟩
  | .local _ .vmem, ⟨11, _⟩ => ⟨S1x64x512, .f32⟩
  | .local _ .vmem, ⟨12, _⟩ => ⟨S1x64x512, .f32⟩
  | .local _ .vmem, ⟨13, _⟩ => ⟨S1x3x128, .f32⟩
  | .local _ .vmem, ⟨14, _⟩ => ⟨S1x3x128, .f32⟩
  | .local _ .vmem, ⟨15, _⟩ => ⟨S2048x128, .f32⟩
  | .local _ .vmem, ⟨16, _⟩ => ⟨S2048x1, .f32⟩
  | .local _ .vmem, ⟨17, _⟩ => ⟨S64x512, .f32⟩
  | .local _ .vmem, ⟨18, _⟩ => ⟨S64x512, .f32⟩
  | .local _ .vmem, ⟨19, _⟩ => ⟨S64x128, .f32⟩
  | .local _ .vmem, ⟨20, _⟩ => ⟨S64x128, .f32⟩
  | .local _ .vmem, ⟨21, _⟩ => ⟨S64x128, .f32⟩
  | .local _ .vmem, ⟨22, _⟩ => ⟨S64x128, .f32⟩
  | _, _ => ⟨S16x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let c0_6 : Index := 0#32
  let c0_7 : Index := 0#32
  let arg1 : BitVec 32 := BitVec.ofNat 32 (i 1).val
  let c128_i32 : BitVec 32 := 128#32
  let v7 : BitVec 32 := Scalar.muli arg1 c128_i32
  let v9 : Index := Scalar.indexCast v7
  ![0, 0, v9.toNat]
@[reducible] def k0_t1_loop : Scf.Loop 32 :=
  let c0_i32_26 : BitVec 32 := 0#32
  let c16_i32 : BitVec 32 := 16#32
  let v45 : BitVec 32 := Scalar.addi c0_i32_26 c16_i32
  let c1_i32 : BitVec 32 := 1#32
  ⟨c0_i32_26, v45, c1_i32⟩
def k0_off2 (i : grid0.Coords) : Fin 2 → Nat :=
  let c0_29 : Index := 0#32
  let arg1 : BitVec 32 := BitVec.ofNat 32 (i 1).val
  let c128_i32 : BitVec 32 := 128#32
  let v7 : BitVec 32 := Scalar.muli arg1 c128_i32
  let v47 : Index := Scalar.indexCast v7
  ![0, v47.toNat]
def k0_cond2 (i : grid0.Coords) : BitVec 1 :=
  let arg1 : BitVec 32 := BitVec.ofNat 32 (i 1).val
  let c3_i32 : BitVec 32 := 3#32
  let v56 : BitVec 1 := Scalar.cmpi .eq arg1 c3_i32
  let v57 : BitVec 32 := Scalar.extui v56
  let c0_i32_33 : BitVec 32 := 0#32
  let v58 : BitVec 1 := Scalar.cmpi .ne v57 c0_i32_33
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== StageBIdeal.lean ====
variable {F : FTy → Type} [FloatOps F] [Named F]
def κ : String → Option EReal := fun
  | "floor" => some ⊥
  | "mask" => some ⊤
  | _ => none
-- ==== RefBIdeal.lean ====
abbrev S16x3x2048 : Shape := ⟨3, ![16, 3, 2048]⟩
abbrev S16x32x2048 : Shape := ⟨3, ![16, 32, 2048]⟩
abbrev S512x16 : Shape := ⟨2, ![512, 16]⟩
abbrev S64x64 : Shape := ⟨2, ![64, 64]⟩
abbrev S64 : Shape := ⟨1, ![64]⟩
abbrev S16x512 : Shape := ⟨2, ![16, 512]⟩
abbrev S16x35x2048 : Shape := ⟨3, ![16, 35, 2048]⟩
abbrev S16x2048x35 : Shape := ⟨3, ![16, 2048, 35]⟩
abbrev S_ : Shape := ⟨0, ![]⟩
abbrev S16x512x1 : Shape := ⟨3, ![16, 512, 1]⟩
abbrev S16x512x35 : Shape := ⟨3, ![16, 512, 35]⟩
abbrev S16x35x512 : Shape := ⟨3, ![16, 35, 512]⟩
abbrev S16x3x512 : Shape := ⟨3, ![16, 3, 512]⟩
abbrev S16x32x512 : Shape := ⟨3, ![16, 32, 512]⟩
abbrev S16x512x3 : Shape := ⟨3, ![16, 512, 3]⟩
abbrev S16x2048x3 : Shape := ⟨3, ![16, 2048, 3]⟩
abbrev S16x2048 : Shape := ⟨2, ![16, 2048]⟩
abbrev S16x2048x1 : Shape := ⟨3, ![16, 2048, 1]⟩
abbrev S16x1x512 : Shape := ⟨3, ![16, 1, 512]⟩
abbrev S16x2048x512 : Shape := ⟨3, ![16, 2048, 512]⟩
abbrev S16x512x2048 : Shape := ⟨3, ![16, 512, 2048]⟩
abbrev S16x512x16 : Shape := ⟨3, ![16, 512, 16]⟩
abbrev S16x2048x32 : Shape := ⟨3, ![16, 2048, 32]⟩
abbrev S16x512x16x1 : Shape := ⟨4, ![16, 512, 16, 1]⟩
abbrev S16x512x16x32 : Shape := ⟨4, ![16, 512, 16, 32]⟩
abbrev S16x32x512x16 : Shape := ⟨4, ![16, 32, 512, 16]⟩
abbrev S16x32x512x1 : Shape := ⟨4, ![16, 32, 512, 1]⟩
abbrev S16x64x512x16 : Shape := ⟨4, ![16, 64, 512, 16]⟩
abbrev S16x512x16x64 : Shape := ⟨4, ![16, 512, 16, 64]⟩
abbrev S16x4x16x512x16 : Shape := ⟨5, ![16, 4, 16, 512, 16]⟩
abbrev S16x4 : Shape := ⟨2, ![16, 4]⟩
abbrev S16x4x1x1x1 : Shape := ⟨5, ![16, 4, 1, 1, 1]⟩
abbrev S1x64x1x1 : Shape := ⟨4, ![1, 64, 1, 1]⟩
abbrev S16x64x512 : Shape := ⟨3, ![16, 64, 512]⟩

abbrev nBuf : Space → Nat
  | .hbm => 119
  | .vmem => 0
  | .smem => 0
  | _ => 0

abbrev bufTy : (tb : Table) → Fin (tcTables nBuf tb) → BufTy
  | .hbm, ⟨0, _⟩ => ⟨S16x3x2048, .f32⟩
  | .hbm, ⟨1, _⟩ => ⟨S16x32x2048, .f32⟩
  | .hbm, ⟨2, _⟩ => ⟨S512x16, .i32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S16x512, .i32⟩
  | .hbm, ⟨7, _⟩ => ⟨S16x35x2048, .f32⟩
  | .hbm, ⟨8, _⟩ => ⟨S16x2048x35, .f32⟩
  | .hbm, ⟨9, _⟩ => ⟨S_, .i32⟩
  | .hbm, ⟨10, _⟩ => ⟨S16x512, .i32⟩
  | .hbm, ⟨11, _⟩ => ⟨S16x512, .i1⟩
  | .hbm, ⟨12, _⟩ => ⟨S_, .i32⟩
  | .hbm, ⟨13, _⟩ => ⟨S16x512, .i32⟩
  | .hbm, ⟨14, _⟩ => ⟨S16x512, .i32⟩
  | .hbm, ⟨15, _⟩ => ⟨S16x512, .i32⟩
  | .hbm, ⟨16, _⟩ => ⟨S16x512x1, .i32⟩
  | .hbm, ⟨17, _⟩ => ⟨S16x512x35, .f32⟩
  | .hbm, ⟨18, _⟩ => ⟨S16x35x512, .f32⟩
  | .hbm, ⟨19, _⟩ => ⟨S16x3x512, .f32⟩
  | .hbm, ⟨20, _⟩ => ⟨S16x32x512, .f32⟩
  | .hbm, ⟨21, _⟩ => ⟨S16x512x3, .f32⟩
  | .hbm, ⟨22, _⟩ => ⟨S16x2048x3, .f32⟩
  | .hbm, ⟨23, _⟩ => ⟨S16x2048x3, .f32⟩
  | .hbm, ⟨24, _⟩ => ⟨S_, .f32⟩
  | .hbm, ⟨25, _⟩ => ⟨S16x2048, .f32⟩
  | .hbm, ⟨26, _⟩ => ⟨S16x2048x1, .f32⟩
  | .hbm, ⟨27, _⟩ => ⟨S16x512x3, .f32⟩
  | .hbm, ⟨28, _⟩ => ⟨S_, .f32⟩
  | .hbm, ⟨29, _⟩ => ⟨S16x512, .f32⟩
  | .hbm, ⟨30, _⟩ => ⟨S16x1x512, .f32⟩
  | .hbm, ⟨31, _⟩ => ⟨S16x2048x512, .f32⟩
  | .hbm, ⟨32, _⟩ => ⟨S16x2048x512, .f32⟩
  | .hbm, ⟨33, _⟩ => ⟨S16x2048x512, .f32⟩
  | .hbm, ⟨34, _⟩ => ⟨S16x2048x512, .f32⟩
  | .hbm, ⟨35, _⟩ => ⟨S_, .f32⟩
  | .hbm, ⟨36, _⟩ => ⟨S16x2048x512, .f32⟩
  | .hbm, ⟨37, _⟩ => ⟨S16x2048x512, .f32⟩
  | .hbm, ⟨38, _⟩ => ⟨S16x2048x512, .f32⟩
  | .hbm, ⟨39, _⟩ => ⟨S_, .f32⟩
  | .hbm, ⟨40, _⟩ => ⟨S16x2048x512, .f32⟩
  | .hbm, ⟨41, _⟩ => ⟨S16x2048x512, .f32⟩
  | .hbm, ⟨42, _⟩ => ⟨S16x2048x512, .f32⟩
  | .hbm, ⟨43, _⟩ => ⟨S16x2048x512, .f32⟩
  | .hbm, ⟨44, _⟩ => ⟨S16x512x2048, .f32⟩
  | .hbm, ⟨45, _⟩ => ⟨S16x512x16, .f32⟩
  | .hbm, ⟨46, _⟩ => ⟨S16x512x16, .i32⟩
  | .hbm, ⟨47, _⟩ => ⟨S16x2048x32, .f32⟩
  | .hbm, ⟨48, _⟩ => ⟨S_, .i32⟩
  | .hbm, ⟨49, _⟩ => ⟨S16x512x16, .i32⟩
  | .hbm, ⟨50, _⟩ => ⟨S16x512x16, .i1⟩
  | .hbm, ⟨51, _⟩ => ⟨S_, .i32⟩
  | .hbm, ⟨52, _⟩ => ⟨S16x512x16, .i32⟩
  | .hbm, ⟨53, _⟩ => ⟨S16x512x16, .i32⟩
  | .hbm, ⟨54, _⟩ => ⟨S16x512x16, .i32⟩
  | .hbm, ⟨55, _⟩ => ⟨S16x512x16x1, .i32⟩
  | .hbm, ⟨56, _⟩ => ⟨S16x512x16x32, .f32⟩
  | .hbm, ⟨57, _⟩ => ⟨S16x32x512x16, .f32⟩
  | .hbm, ⟨58, _⟩ => ⟨S16x32x512x1, .f32⟩
  | .hbm, ⟨59, _⟩ => ⟨S16x32x512x16, .f32⟩
  | .hbm, ⟨60, _⟩ => ⟨S16x32x512x16, .f32⟩
  | .hbm, ⟨61, _⟩ => ⟨S16x64x512x16, .f32⟩
  | .hbm, ⟨62, _⟩ => ⟨S16x512x16x64, .f32⟩
  | .hbm, ⟨63, _⟩ => ⟨S16x64x512x16, .f32⟩
  | .hbm, ⟨64, _⟩ => ⟨S16x4x16x512x16, .f32⟩
  | .hbm, ⟨65, _⟩ => ⟨S_, .f32⟩
  | .hbm, ⟨66, _⟩ => ⟨S16x4, .f32⟩
  | .hbm, ⟨67, _⟩ => ⟨S16x4x1x1x1, .f32⟩
  | .hbm, ⟨68, _⟩ => ⟨S_, .f32⟩
  | .hbm, ⟨69, _⟩ => ⟨S16x4x1x1x1, .f32⟩
  | .hbm, ⟨70, _⟩ => ⟨S16x4x1x1x1, .f32⟩
  | .hbm, ⟨71, _⟩ => ⟨S_, .i32⟩
  | .hbm, ⟨72, _⟩ => ⟨S_, .f32⟩
  | .hbm, ⟨73, _⟩ => ⟨S16x4, .f32⟩
  | .hbm, ⟨74, _⟩ => ⟨S16x4x1x1x1, .f32⟩
  | .hbm, ⟨75, _⟩ => ⟨S_, .f32⟩
  | .hbm, ⟨76, _⟩ => ⟨S16x4x1x1x1, .f32⟩
  | .hbm, ⟨77, _⟩ => ⟨S16x4x1x1x1, .f32⟩
  | .hbm, ⟨78, _⟩ => ⟨S16x4x16x512x16, .f32⟩
  | .hbm, ⟨79, _⟩ => ⟨S16x4x16x512x16, .f32⟩
  | .hbm, ⟨80, _⟩ => ⟨S16x4x16x512x16, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S16x4, .f32⟩
  | .hbm, ⟨86, _⟩ => ⟨S16x4x1x1x1, .f32⟩
  | .hbm, ⟨87, _⟩ => ⟨S16x4x1x1x1, .f32⟩
  | .hbm, ⟨88, _⟩ => ⟨S16x4x1x1x1, .f32⟩
  | .hbm, ⟨89, _⟩ => ⟨S_, .f32⟩
  | .hbm, ⟨90, _⟩ => ⟨S_, .i1⟩
  | .hbm, ⟨91, _⟩ => ⟨S_, .f32⟩
  | .hbm, ⟨92, _⟩ => ⟨S_, .f32⟩
  | .hbm, ⟨93, _⟩ => ⟨S16x4x1x1x1, .f32⟩
  | .hbm, ⟨94, _⟩ => ⟨S16x4x1x1x1, .f32⟩
  | .hbm, ⟨95, _⟩ => ⟨S16x4x16x512x16, .f32⟩
  | .hbm, ⟨96, _⟩ => ⟨S16x4x16x512x16, .f32⟩
  | .hbm, ⟨97, _⟩ => ⟨S_, .f32⟩
  | .hbm, ⟨98, _⟩ => ⟨S16x4x1x1x1, .f32⟩
  | .hbm, ⟨99, _⟩ => ⟨S16x4x1x1x1, .f32⟩
  | .hbm, ⟨100, _⟩ => ⟨S16x4x1x1x1, .f32⟩
  | .hbm, ⟨101, _⟩ => ⟨S16x4x16x512x16, .f32⟩
  | .hbm, ⟨102, _⟩ => ⟨S16x4x16x512x16, .f32⟩
  | .hbm, ⟨103, _⟩ => ⟨S16x64x512x16, .f32⟩
  | .hbm, ⟨104, _⟩ => ⟨S1x64x1x1, .f32⟩
  | .hbm, ⟨105, _⟩ => ⟨S16x64x512x16, .f32⟩
  | .hbm, ⟨106, _⟩ => ⟨S16x64x512x16, .f32⟩
  | .hbm, ⟨107, _⟩ => ⟨S1x64x1x1, .f32⟩
  | .hbm, ⟨108, _⟩ => ⟨S16x64x512x16, .f32⟩
  | .hbm, ⟨109, _⟩ => ⟨S16x64x512x16, .f32⟩
  | .hbm, ⟨110, _⟩ => ⟨S_, .f32⟩
  | .hbm, ⟨111, _⟩ => ⟨S16x64x512x16, .f32⟩
  | .hbm, ⟨112, _⟩ => ⟨S16x64x512x16, .i1⟩
  | .hbm, ⟨113, _⟩ => ⟨S_, .f32⟩
  | .hbm, ⟨114, _⟩ => ⟨S16x64x512x16, .f32⟩
  | .hbm, ⟨115, _⟩ => ⟨S16x64x512x16, .f32⟩
  | .hbm, ⟨116, _⟩ => ⟨S16x64x512x16, .f32⟩
  | .hbm, ⟨117, _⟩ => ⟨S_, .f32⟩
  | .hbm, ⟨118, _⟩ => ⟨S16x64x512, .f32⟩
  | _, _ => ⟨S16x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v1_0 : Ref sig .tc := ⟨.hbm, 19, rfl⟩
abbrev main_v1_1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_values : Ref sig .tc := ⟨.hbm, 45, rfl⟩
abbrev main_indices : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_3 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_c_6 : Ref sig .tc := ⟨.hbm, 71, rfl⟩
abbrev main_call1_cst : Ref sig .tc := ⟨.hbm, 72, rfl⟩
abbrev main_call1_v0 : Ref sig .tc := ⟨.hbm, 73, rfl⟩
abbrev main_call1_v1 : Ref sig .tc := ⟨.hbm, 74, rfl⟩
abbrev main_call1_cst_0 : Ref sig .tc := ⟨.hbm, 75, rfl⟩
abbrev main_call1_v2 : Ref sig .tc := ⟨.hbm, 76, rfl⟩
abbrev main_call1_v3 : Ref sig .tc := ⟨.hbm, 77, rfl⟩
abbrev main_call1_v4 : Ref sig .tc := ⟨.hbm, 78, rfl⟩
abbrev main_call1_v5 : Ref sig .tc := ⟨.hbm, 79, rfl⟩
abbrev main_call1_v6 : Ref sig .tc := ⟨.hbm, 80, rfl⟩
abbrev main_call1_v7 : Ref sig .tc := ⟨.hbm, 81, rfl⟩
abbrev main_call1_cst_1 : Ref sig .tc := ⟨.hbm, 82, rfl⟩
abbrev main_call1_v8 : Ref sig .tc := ⟨.hbm, 83, rfl⟩
abbrev main_call1_cst_2 : Ref sig .tc := ⟨.hbm, 84, rfl⟩
abbrev main_call1_v9 : Ref sig .tc := ⟨.hbm, 85, rfl⟩
abbrev main_call1_v10 : Ref sig .tc := ⟨.hbm, 86, rfl⟩
abbrev main_call1_v11 : Ref sig .tc := ⟨.hbm, 87, rfl⟩
abbrev main_call1_v12 : Ref sig .tc := ⟨.hbm, 88, rfl⟩
abbrev main_call1_cst_3 : Ref sig .tc := ⟨.hbm, 89, rfl⟩
abbrev main_call1_v13 : Ref sig .tc := ⟨.hbm, 90, rfl⟩
abbrev main_call1_cst_4 : Ref sig .tc := ⟨.hbm, 91, rfl⟩
abbrev main_call1_call0_v0 : Ref sig .tc := ⟨.hbm, 92, rfl⟩
abbrev main_call1_call0_v1 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_cst_7 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_cst_8 : Ref sig .tc := ⟨.hbm, 110, rfl⟩
abbrev main_v57 : Ref sig .tc := ⟨.hbm, 111, rfl⟩
abbrev main_v58 : Ref sig .tc := ⟨.hbm, 112, rfl⟩
abbrev main_cst_9 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_cst_10 : Ref sig .tc := ⟨.hbm, 117, rfl⟩
abbrev main_v62 : Ref sig .tc := ⟨.hbm, 118, rfl⟩

abbrev nD : Nat := 1
abbrev τ : Topo := Topo.v7x

variable {F : FTy → Type} [FloatOps F]
-- ==== StageA.lean ====
abbrev S16x3x2048 : Shape := ⟨3, ![16, 3, 2048]⟩
abbrev S8x3 : Shape := ⟨2, ![8, 3]⟩
abbrev S8 : Shape := ⟨1, ![8]⟩
abbrev S32x16 : Shape := ⟨2, ![32, 16]⟩
abbrev S32 : Shape := ⟨1, ![32]⟩
abbrev S16x2048x3 : Shape := ⟨3, ![16, 2048, 3]⟩
abbrev S32x1 : Shape := ⟨2, ![32, 1]⟩
abbrev S8x1 : Shape := ⟨2, ![8, 1]⟩
abbrev S16x32x2048 : Shape := ⟨3, ![16, 32, 2048]⟩
abbrev S1x3x2048 : Shape := ⟨3, ![1, 3, 2048]⟩
abbrev S1x2048x3 : Shape := ⟨3, ![1, 2048, 3]⟩
abbrev S1x32x2048 : Shape := ⟨3, ![1, 32, 2048]⟩
abbrev S2048x128 : Shape := ⟨2, ![2048, 128]⟩
abbrev S2048x1 : Shape := ⟨2, ![2048, 1]⟩
abbrev S8x2048 : Shape := ⟨2, ![8, 2048]⟩
abbrev S32x2048 : Shape := ⟨2, ![32, 2048]⟩
abbrev S32x128 : Shape := ⟨2, ![32, 128]⟩
abbrev S3x2048 : Shape := ⟨2, ![3, 2048]⟩
abbrev S2048x3 : Shape := ⟨2, ![2048, 3]⟩
abbrev S2048 : Shape := ⟨1, ![2048]⟩
abbrev S1x3x128 : Shape := ⟨3, ![1, 3, 128]⟩
abbrev S3x128 : Shape := ⟨2, ![3, 128]⟩
abbrev S8x128 : Shape := ⟨2, ![8, 128]⟩
abbrev S128 : Shape := ⟨1, ![128]⟩
abbrev S1x128 : Shape := ⟨2, ![1, 128]⟩
abbrev S16x128 : Shape := ⟨2, ![16, 128]⟩
abbrev S32x32 : Shape := ⟨2, ![32, 32]⟩

abbrev nBuf : Space → Nat
  | .hbm => 11
  | .vmem => 20
  | .smem => 0
  | _ => 0

abbrev bufTy : (tb : Table) → Fin (tcTables nBuf tb) → BufTy
  | .hbm, ⟨0, _⟩ => ⟨S16x3x2048, .f32⟩
  | .hbm, ⟨1, _⟩ => ⟨S8x3, .f32⟩
  | .hbm, ⟨2, _⟩ => ⟨S8, .f32⟩
  | .hbm, ⟨3, _⟩ => ⟨S32x16, .f32⟩
  | .hbm, ⟨4, _⟩ => ⟨S32, .f32⟩
  | .hbm, ⟨5, _⟩ => ⟨S32, .f32⟩
  | .hbm, ⟨6, _⟩ => ⟨S16x2048x3, .f32⟩
  | .hbm, ⟨7, _⟩ => ⟨S32x1, .f32⟩
  | .hbm, ⟨8, _⟩ => ⟨S32x1, .f32⟩
  | .hbm, ⟨9, _⟩ => ⟨S8x1, .f32⟩
  | .hbm, ⟨10, _⟩ => ⟨S16x32x2048, .f32⟩
  | .local _ .vmem, ⟨0, _⟩ => ⟨S1x3x2048, .f32⟩
  | .local _ .vmem, ⟨1, _⟩ => ⟨S1x3x2048, .f32⟩
  | .local _ .vmem, ⟨2, _⟩ => ⟨S1x2048x3, .f32⟩
  | .local _ .vmem, ⟨3, _⟩ => ⟨S1x2048x3, .f32⟩
  | .local _ .vmem, ⟨4, _⟩ => ⟨S8x3, .f32⟩
  | .local _ .vmem, ⟨5, _⟩ => ⟨S8x1, .f32⟩
  | .local _ .vmem, ⟨6, _⟩ => ⟨S32x16, .f32⟩
  | .local _ .vmem, ⟨7, _⟩ => ⟨S32x1, .f32⟩
  | .local _ .vmem, ⟨8, _⟩ => ⟨S32x1, .f32⟩
  | .local _ .vmem, ⟨9, _⟩ => ⟨S1x32x2048, .f32⟩
  | .local _ .vmem, ⟨10, _⟩ => ⟨S1x32x2048, .f32⟩
  | .local _ .vmem, ⟨11, _⟩ => ⟨S2048x128, .f32⟩
  | .local _ .vmem, ⟨12, _⟩ => ⟨S2048x1, .f32⟩
  | .local _ .vmem, ⟨13, _⟩ => ⟨S8x2048, .f32⟩
  | .local _ .vmem, ⟨14, _⟩ => ⟨S32x2048, .f32⟩
  | .local _ .vmem, ⟨15, _⟩ => ⟨S32x2048, .f32⟩
  | .local _ .vmem, ⟨16, _⟩ => ⟨S32x128, .f32⟩
  | .local _ .vmem, ⟨17, _⟩ => ⟨S32x128, .f32⟩
  | .local _ .vmem, ⟨18, _⟩ => ⟨S32x128, .f32⟩
  | .local _ .vmem, ⟨19, _⟩ => ⟨S32x128, .f32⟩
  | _, _ => ⟨S16x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![16, 16], ![false, false]⟩

def k0_off1 (i : grid0.Coords) : Fin 3 → Nat :=
  let c0_5 : Index := 0#32
  let c0_6 : Index := 0#32
  let arg1 : BitVec 32 := BitVec.ofNat 32 (i 1).val
  let c128_i32 : BitVec 32 := 128#32
  let v6 : BitVec 32 := Scalar.muli arg1 c128_i32
  let v8 : Index := Scalar.indexCast v6
  ![0, 0, v8.toNat]
def k0_off2 (i : grid0.Coords) : Fin 2 → Nat :=
  let c0_7 : Index := 0#32
  let arg1 : BitVec 32 := BitVec.ofNat 32 (i 1).val
  let c128_i32 : BitVec 32 := 128#32
  let v6 : BitVec 32 := Scalar.muli arg1 c128_i32
  let v11 : Index := Scalar.indexCast v6
  ![0, v11.toNat]
@[reducible] def k0_t1_loop : Scf.Loop 32 :=
  let c0_i32_21 : BitVec 32 := 0#32
  let c16_i32 : BitVec 32 := 16#32
  let v37 : BitVec 32 := Scalar.addi c0_i32_21 c16_i32
  let c1_i32 : BitVec 32 := 1#32
  ⟨c0_i32_21, v37, c1_i32⟩
def k0_off3 (i : grid0.Coords) : Fin 2 → Nat :=
  let c0_24 : Index := 0#32
  let arg1 : BitVec 32 := BitVec.ofNat 32 (i 1).val
  let c128_i32 : BitVec 32 := 128#32
  let v6 : BitVec 32 := Scalar.muli arg1 c128_i32
  let v39 : Index := Scalar.indexCast v6
  ![0, v39.toNat]
def k0_cond2 (i : grid0.Coords) : BitVec 1 :=
  let arg1 : BitVec 32 := BitVec.ofNat 32 (i 1).val
  let c15_i32 : BitVec 32 := 15#32
  let v48 : BitVec 1 := Scalar.cmpi .eq arg1 c15_i32
  let v49 : BitVec 32 := Scalar.extui v48
  let c0_i32_28 : BitVec 32 := 0#32
  let v50 : BitVec 1 := Scalar.cmpi .ne v49 c0_i32_28
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StageAIdeal.lean ====
variable {F : FTy → Type} [FloatOps F] [Named F]
def κ : String → Option EReal := fun
  | "floor" => some ⊥
  | "mask" => some ⊤
  | _ => none
-- ==== RefAIdeal.lean ====
abbrev S16x3x2048 : Shape := ⟨3, ![16, 3, 2048]⟩
abbrev S8x3 : Shape := ⟨2, ![8, 3]⟩
abbrev S8 : Shape := ⟨1, ![8]⟩
abbrev S32x16 : Shape := ⟨2, ![32, 16]⟩
abbrev S32 : Shape := ⟨1, ![32]⟩
abbrev S16x2048x8 : Shape := ⟨3, ![16, 2048, 8]⟩
abbrev S16x8x2048 : Shape := ⟨3, ![16, 8, 2048]⟩
abbrev S1x8x1 : Shape := ⟨3, ![1, 8, 1]⟩
abbrev S16x2048x3 : Shape := ⟨3, ![16, 2048, 3]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S16x2048x2048 : Shape := ⟨3, ![16, 2048, 2048]⟩
abbrev S16x2048x16 : Shape := ⟨3, ![16, 2048, 16]⟩
abbrev S16x2048x16x1 : Shape := ⟨4, ![16, 2048, 16, 1]⟩
abbrev S16x2048x16x8 : Shape := ⟨4, ![16, 2048, 16, 8]⟩
abbrev S16x8x2048x16 : Shape := ⟨4, ![16, 8, 2048, 16]⟩
abbrev S16x8x2048x1 : Shape := ⟨4, ![16, 8, 2048, 1]⟩
abbrev S16x16x2048x16 : Shape := ⟨4, ![16, 16, 2048, 16]⟩
abbrev S16x2048x16x32 : Shape := ⟨4, ![16, 2048, 16, 32]⟩
abbrev S16x32x2048x16 : Shape := ⟨4, ![16, 32, 2048, 16]⟩
abbrev S16x4x8x2048x16 : Shape := ⟨5, ![16, 4, 8, 2048, 16]⟩
abbrev S16x4 : Shape := ⟨2, ![16, 4]⟩
abbrev S16x4x1x1x1 : Shape := ⟨5, ![16, 4, 1, 1, 1]⟩
abbrev S1x32x1x1 : Shape := ⟨4, ![1, 32, 1, 1]⟩
abbrev S16x32x2048 : Shape := ⟨3, ![16, 32, 2048]⟩

abbrev nBuf : Space → Nat
  | .hbm => 109
  | .vmem => 0
  | .smem => 0
  | _ => 0

abbrev bufTy : (tb : Table) → Fin (tcTables nBuf tb) → BufTy
  | .hbm, ⟨0, _⟩ => ⟨S16x3x2048, .f32⟩
  | .hbm, ⟨1, _⟩ => ⟨S8x3, .f32⟩
  | .hbm, ⟨2, _⟩ => ⟨S8, .f32⟩
  | .hbm, ⟨3, _⟩ => ⟨S32x16, .f32⟩
  | .hbm, ⟨4, _⟩ => ⟨S32, .f32⟩
  | .hbm, ⟨5, _⟩ => ⟨S32, .f32⟩
  | .hbm, ⟨6, _⟩ => ⟨S16x2048x8, .f32⟩
  | .hbm, ⟨7, _⟩ => ⟨S16x8x2048, .f32⟩
  | .hbm, ⟨8, _⟩ => ⟨S1x8x1, .f32⟩
  | .hbm, ⟨9, _⟩ => ⟨S16x8x2048, .f32⟩
  | .hbm, ⟨10, _⟩ => ⟨S16x8x2048, .f32⟩
  | .hbm, ⟨11, _⟩ => ⟨S16x2048x3, .f32⟩
  | .hbm, ⟨12, _⟩ => ⟨S16x2048x3, .f32⟩
  | .hbm, ⟨13, _⟩ => ⟨S16x2048x3, .f32⟩
  | .hbm, ⟨14, _⟩ => ⟨S_, .f32⟩
  | .hbm, ⟨15, _⟩ => ⟨S16x2048, .f32⟩
  | .hbm, ⟨16, _⟩ => ⟨S16x2048x1, .f32⟩
  | .hbm, ⟨17, _⟩ => ⟨S16x2048x3, .f32⟩
  | .hbm, ⟨18, _⟩ => ⟨S_, .f32⟩
  | .hbm, ⟨19, _⟩ => ⟨S16x2048, .f32⟩
  | .hbm, ⟨20, _⟩ => ⟨S16x1x2048, .f32⟩
  | .hbm, ⟨21, _⟩ => ⟨S16x2048x2048, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S_, .f32⟩
  | .hbm, ⟨30, _⟩ => ⟨S16x2048x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x16, .f32⟩
  | .hbm, ⟨36, _⟩ => ⟨S16x2048x16, .i32⟩
  | .hbm, ⟨37, _⟩ => ⟨S16x2048x8, .f32⟩
  | .hbm, ⟨38, _⟩ => ⟨S_, .i32⟩
  | .hbm, ⟨39, _⟩ => ⟨S16x2048x16, .i32⟩
  | .hbm, ⟨40, _⟩ => ⟨S16x2048x16, .i1⟩
  | .hbm, ⟨41, _⟩ => ⟨S_, .i32⟩
  | .hbm, ⟨42, _⟩ => ⟨S16x2048x16, .i32⟩
  | .hbm, ⟨43, _⟩ => ⟨S16x2048x16, .i32⟩
  | .hbm, ⟨44, _⟩ => ⟨S16x2048x16, .i32⟩
  | .hbm, ⟨45, _⟩ => ⟨S16x2048x16x1, .i32⟩
  | .hbm, ⟨46, _⟩ => ⟨S16x2048x16x8, .f32⟩
  | .hbm, ⟨47, _⟩ => ⟨S16x8x2048x16, .f32⟩
  | .hbm, ⟨48, _⟩ => ⟨S16x8x2048x1, .f32⟩
  | .hbm, ⟨49, _⟩ => ⟨S16x8x2048x16, .f32⟩
  | .hbm, ⟨50, _⟩ => ⟨S16x8x2048x16, .f32⟩
  | .hbm, ⟨51, _⟩ => ⟨S16x16x2048x16, .f32⟩
  | .hbm, ⟨52, _⟩ => ⟨S16x2048x16x32, .f32⟩
  | .hbm, ⟨53, _⟩ => ⟨S16x32x2048x16, .f32⟩
  | .hbm, ⟨54, _⟩ => ⟨S16x4x8x2048x16, .f32⟩
  | .hbm, ⟨55, _⟩ => ⟨S_, .f32⟩
  | .hbm, ⟨56, _⟩ => ⟨S16x4, .f32⟩
  | .hbm, ⟨57, _⟩ => ⟨S16x4x1x1x1, .f32⟩
  | .hbm, ⟨58, _⟩ => ⟨S_, .f32⟩
  | .hbm, ⟨59, _⟩ => ⟨S16x4x1x1x1, .f32⟩
  | .hbm, ⟨60, _⟩ => ⟨S16x4x1x1x1, .f32⟩
  | .hbm, ⟨61, _⟩ => ⟨S_, .i32⟩
  | .hbm, ⟨62, _⟩ => ⟨S_, .f32⟩
  | .hbm, ⟨63, _⟩ => ⟨S16x4, .f32⟩
  | .hbm, ⟨64, _⟩ => ⟨S16x4x1x1x1, .f32⟩
  | .hbm, ⟨65, _⟩ => ⟨S_, .f32⟩
  | .hbm, ⟨66, _⟩ => ⟨S16x4x1x1x1, .f32⟩
  | .hbm, ⟨67, _⟩ => ⟨S16x4x1x1x1, .f32⟩
  | .hbm, ⟨68, _⟩ => ⟨S16x4x8x2048x16, .f32⟩
  | .hbm, ⟨69, _⟩ => ⟨S16x4x8x2048x16, .f32⟩
  | .hbm, ⟨70, _⟩ => ⟨S16x4x8x2048x16, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16x4, .f32⟩
  | .hbm, ⟨76, _⟩ => ⟨S16x4x1x1x1, .f32⟩
  | .hbm, ⟨77, _⟩ => ⟨S16x4x1x1x1, .f32⟩
  | .hbm, ⟨78, _⟩ => ⟨S16x4x1x1x1, .f32⟩
  | .hbm, ⟨79, _⟩ => ⟨S_, .f32⟩
  | .hbm, ⟨80, _⟩ => ⟨S_, .i1⟩
  | .hbm, ⟨81, _⟩ => ⟨S_, .f32⟩
  | .hbm, ⟨82, _⟩ => ⟨S_, .f32⟩
  | .hbm, ⟨83, _⟩ => ⟨S16x4x1x1x1, .f32⟩
  | .hbm, ⟨84, _⟩ => ⟨S16x4x1x1x1, .f32⟩
  | .hbm, ⟨85, _⟩ => ⟨S16x4x8x2048x16, .f32⟩
  | .hbm, ⟨86, _⟩ => ⟨S16x4x8x2048x16, .f32⟩
  | .hbm, ⟨87, _⟩ => ⟨S_, .f32⟩
  | .hbm, ⟨88, _⟩ => ⟨S16x4x1x1x1, .f32⟩
  | .hbm, ⟨89, _⟩ => ⟨S16x4x1x1x1, .f32⟩
  | .hbm, ⟨90, _⟩ => ⟨S16x4x1x1x1, .f32⟩
  | .hbm, ⟨91, _⟩ => ⟨S16x4x8x2048x16, .f32⟩
  | .hbm, ⟨92, _⟩ => ⟨S16x4x8x2048x16, .f32⟩
  | .hbm, ⟨93, _⟩ => ⟨S16x32x2048x16, .f32⟩
  | .hbm, ⟨94, _⟩ => ⟨S1x32x1x1, .f32⟩
  | .hbm, ⟨95, _⟩ => ⟨S16x32x2048x16, .f32⟩
  | .hbm, ⟨96, _⟩ => ⟨S16x32x2048x16, .f32⟩
  | .hbm, ⟨97, _⟩ => ⟨S1x32x1x1, .f32⟩
  | .hbm, ⟨98, _⟩ => ⟨S16x32x2048x16, .f32⟩
  | .hbm, ⟨99, _⟩ => ⟨S16x32x2048x16, .f32⟩
  | .hbm, ⟨100, _⟩ => ⟨S_, .f32⟩
  | .hbm, ⟨101, _⟩ => ⟨S16x32x2048x16, .f32⟩
  | .hbm, ⟨102, _⟩ => ⟨S16x32x2048x16, .i1⟩
  | .hbm, ⟨103, _⟩ => ⟨S_, .f32⟩
  | .hbm, ⟨104, _⟩ => ⟨S16x32x2048x16, .f32⟩
  | .hbm, ⟨105, _⟩ => ⟨S16x32x2048x16, .f32⟩
  | .hbm, ⟨106, _⟩ => ⟨S16x32x2048x16, .f32⟩
  | .hbm, ⟨107, _⟩ => ⟨S_, .f32⟩
  | .hbm, ⟨108, _⟩ => ⟨S16x32x2048, .f32⟩
  | _, _ => ⟨S16x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_values : Ref sig .tc := ⟨.hbm, 35, rfl⟩
abbrev main_indices : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_4 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_c_6 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_cst_3 : Ref sig .tc := ⟨.hbm, 79, rfl⟩
abbrev main_call0_v13 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_cst_7 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_cst_8 : Ref sig .tc := ⟨.hbm, 100, rfl⟩
abbrev main_v60 : Ref sig .tc := ⟨.hbm, 101, rfl⟩
abbrev main_v61 : Ref sig .tc := ⟨.hbm, 102, rfl⟩
abbrev main_cst_9 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_cst_10 : Ref sig .tc := ⟨.hbm, 107, rfl⟩
abbrev main_v65 : Ref sig .tc := ⟨.hbm, 108, rfl⟩

abbrev nD : Nat := 1
abbrev τ : Topo := Topo.v7x

variable {F : FTy → Type} [FloatOps F]
-- ==== Proof.Knn.Memory.lean ====
module

public import Idealize.ShloMosaic.Lib.Pipeline.Value

@[expose] public section

noncomputable section

namespace Cert.Knn

open Idealize.ShloMosaic

/-! # Whole arrays stored and loaded, and what an array holds before a trip of a loop -/

variable {F : FTy → Type} [FloatOps F]

/-- One store of a whole memref leaves exactly its payload, whatever was there. -/
theorem writes_full {sig : RefSig} {sp : Space} {S : Shape} {e : EltTy} {mr : Memref sig .tc sp S e} (h : mr.IsWhole)
    (f : BufTy.Contents (Elt F) mr.view.ty) {off : Fin S.rank → Nat} (ho : off = fun _ => 0)
    (inb : ∀ a, off a + S.size a ≤ S.size a) (w : S.Idx → Elt F e) :
    mr.view.writes (Elt F) f [⟨Rect.unit off S.size inb, w⟩] = h.unread w := by
  apply h.eq_unread
  rw [View.read_writes_eq_canon _ _ _ (fun y => ⟨_, List.mem_cons_self .., View.mem_set_unit_zero ho inb y⟩),
    View.canon_cons_unit_zero ho]

/-- A load of a whole memref reads its contents. -/
theorem readAt_full {sig : RefSig} {sp : Space} {S : Shape} {e : EltTy} (mr : Memref sig .tc sp S e)
    (f : BufTy.Contents (Elt F) mr.view.ty) {off : Fin S.rank → Nat} (ho : off = fun _ => 0)
    (inb : ∀ a, off a + S.size a ≤ S.size a) :
    mr.view.readAt (Elt F) (Rect.unit off S.size inb).toLoadRect f = mr.view.read (Elt F) f := by
  rw [View.readAt_eq_ld, View.ld_unit_zero ho]

/-- The two zero offsets. -/
theorem off2 : (![0, 0] : Fin 2 → Nat) = fun _ => 0 := by
  funext a; fin_cases a <;> rfl

/-- The three zero offsets. -/
theorem off3 : (![0, 0, 0] : Fin 3 → Nat) = fun _ => 0 := by
  funext a; fin_cases a <;> rfl

/-- What an array holds before trip `k`: `g` on entry, `v` later. -/
abbrev entry {α : Type} (g : α) (k : ℕ) (v : α) : α := Nat.casesOn (motive := fun _ => α) k g (fun _ => v)

/-- When `v` is `g` on entry it is what the array holds throughout. -/
theorem entry_eq {α : Type} (g : α) (k : ℕ) (v : α) (h : k = 0 → v = g) : entry g k v = v := by
  cases k with
  | zero => exact (h rfl).symm
  | succ k => rfl

end Cert.Knn

end
-- ==== Proof.Knn.Carry.lean ====
module

public import proofs.«01_k».proof.Proof.Knn.Memory
public import Idealize.ShloMosaic.Lib.Pipeline.FrameBody

@[expose] public section

noncomputable section

namespace Cert.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! # What a neighbour loop carries in scratch

Five arrays: the distances still open, of one shape `P`, and four running values of a shape `Q`. -/

/-- What the loop carries in scratch: the distances still open, the running maximum and minimum of
the products, and the running sum and sum of squares. -/
structure LState (F : FTy → Type) (P Q : Shape) where
  d : Vec F P .f32
  mx : Vec F Q .f32
  mn : Vec F Q .f32
  sm : Vec F Q .f32
  sq : Vec F Q .f32

/-- The state after `k` steps `f`. -/
def steps {α : Type} (f : α → α) (s : α) : ℕ → α
  | 0 => s
  | k + 1 => f (steps f s k)

section Contents

variable {F : FTy → Type} {sig : RefSig} {sp : Space} {P Q : Shape}
  (a : Memref sig .tc sp P .f32) (ha : a.IsWhole) (b : Memref sig .tc sp Q .f32) (hb : b.IsWhole)
  (c : Memref sig .tc sp Q .f32) (hc : c.IsWhole) (d : Memref sig .tc sp Q .f32) (hd : d.IsWhole)
  (e : Memref sig .tc sp Q .f32) (he : e.IsWhole)

/-- The contents of the five scratch arrays of the loop. -/
abbrev LCont (F : FTy → Type) (a : Memref sig .tc sp P .f32) (b c d e : Memref sig .tc sp Q .f32) : Type :=
  BufTy.Contents (Elt F) a.view.ty × BufTy.Contents (Elt F) b.view.ty × BufTy.Contents (Elt F) c.view.ty
    × BufTy.Contents (Elt F) d.view.ty × BufTy.Contents (Elt F) e.view.ty

/-- The state those contents hold. -/
def lread (g : LCont F a b c d e) : LState F P Q :=
  ⟨a.view.read (Elt F) g.1, b.view.read (Elt F) g.2.1, c.view.read (Elt F) g.2.2.1,
    d.view.read (Elt F) g.2.2.2.1, e.view.read (Elt F) g.2.2.2.2⟩

/-- The contents that hold a state. -/
def lput (s : LState F P Q) : LCont F a b c d e :=
  (ha.unread s.d, hb.unread s.mx, hc.unread s.mn, hd.unread s.sm, he.unread s.sq)

/-- The contents after `k` trips from contents `g`, a trip being the step `f`. -/
def lcont (f : LState F P Q → LState F P Q) (g : LCont F a b c d e) : ℕ → LCont F a b c d e
  | 0 => g
  | k + 1 => lput a ha b hb c hc d hd e he (f (lread a b c d e (lcont f g k)))

/-- Reading what was put gives the state. -/
theorem lread_lput (s : LState F P Q) : lread a b c d e (lput a ha b hb c hc d hd e he s) = s := by
  unfold lread lput
  simp only [Memref.IsWhole.read_unread]

/-- The contents after `k` trips hold the state after `k` steps. -/
theorem lread_lcont (f : LState F P Q → LState F P Q) (g : LCont F a b c d e) (k : ℕ) :
    lread a b c d e (lcont a ha b hb c hc d hd e he f g k) = steps f (lread a b c d e g) k := by
  induction k with
  | zero => rfl
  | succ k ih => unfold lcont steps; rw [lread_lput, ih]

/-- After at least one trip the contents are the state's. -/
theorem lcont_succ (f : LState F P Q → LState F P Q) (g : LCont F a b c d e) (k : ℕ) :
    lcont a ha b hb c hc d hd e he f g (k + 1) = lput a ha b hb c hc d hd e he (steps f (lread a b c d e g) (k + 1)) := by
  show lput .. = _
  rw [lread_lcont]; rfl

end Contents

section Held

variable {M : Type} [RA.URA M] {α₁ α₂ α₃ α₄ α₅ : Type} (R : sProp M) (P₁ : α₁ → sProp M) (P₂ : α₂ → sProp M) (P₃ : α₃ → sProp M)
  (P₄ : α₄ → sProp M) (P₅ : α₅ → sProp M) (g v : α₁ × α₂ × α₃ × α₄ × α₅) (k : ℕ)

/-- Five arrays before trip `k`: on entry each is at its component of `g`, later of `v`; beside them `R`. -/
abbrev carried : sProp M :=
  iprop(R ∗ (∃ f, P₁ f ∗ ⌜f = entry g.1 k v.1⌝) ∗ (∃ f, P₂ f ∗ ⌜f = entry g.2.1 k v.2.1⌝)
    ∗ (∃ f, P₃ f ∗ ⌜f = entry g.2.2.1 k v.2.2.1⌝) ∗ (∃ f, P₄ f ∗ ⌜f = entry g.2.2.2.1 k v.2.2.2.1⌝)
    ∗ (∃ f, P₅ f ∗ ⌜f = entry g.2.2.2.2 k v.2.2.2.2⌝))

/-- When `v` is `g` on entry, the five arrays are at `v`. -/
theorem carried_open (h : k = 0 → v = g) : carried R P₁ P₂ P₃ P₄ P₅ g v k
    ⊢ iprop(R ∗ P₁ v.1 ∗ P₂ v.2.1 ∗ P₃ v.2.2.1 ∗ P₄ v.2.2.2.1 ∗ P₅ v.2.2.2.2) := by
  iintro ⟨HR, ⟨%f1, H1, %h1⟩, ⟨%f2, H2, %h2⟩, ⟨%f3, H3, %h3⟩, ⟨%f4, H4, %h4⟩, ⟨%f5, H5, %h5⟩⟩
  rw [entry_eq _ _ _ (by intro hk; rw [h hk])] at h1 h2 h3 h4 h5
  subst h1 h2 h3 h4 h5
  isplitl [HR]; · iexact HR
  isplitl [H1]; · iexact H1
  isplitl [H2]; · iexact H2
  isplitl [H3]; · iexact H3
  isplitl [H4]; · iexact H4
  iexact H5

/-- Five arrays at `v` after a trip are what the next trip finds. -/
theorem carried_next : iprop(R ∗ P₁ v.1 ∗ P₂ v.2.1 ∗ P₃ v.2.2.1 ∗ P₄ v.2.2.2.1 ∗ P₅ v.2.2.2.2)
    ⊢ carried R P₁ P₂ P₃ P₄ P₅ g v (k + 1) := by
  iintro ⟨HR, H1, H2, H3, H4, H5⟩
  isplitl [HR]; · iexact HR
  isplitl [H1]
  · iexists _; isplitl [H1]; · iexact H1
    ipureintro; rfl
  isplitl [H2]
  · iexists _; isplitl [H2]; · iexact H2
    ipureintro; rfl
  isplitl [H3]
  · iexists _; isplitl [H3]; · iexact H3
    ipureintro; rfl
  isplitl [H4]
  · iexists _; isplitl [H4]; · iexact H4
    ipureintro; rfl
  iexists _; isplitl [H5]; · iexact H5
  ipureintro; rfl

end Held

end Cert.Knn

end
-- ==== Proof.StageC.Loop.lean ====
module

public import proofs.«01_k».proof.Proof.Gen.StageCIdeal.Loops
public import proofs.«01_k».proof.Proof.Knn.Carry
public import Idealize.ShloMosaic.Lib.Pipeline.FrameBody
public import Idealize.ShloMosaic.Lib.Pipeline.Value

@[expose] public section

set_option maxRecDepth 8192

noncomputable section

namespace Cert.StageCIdeal.Hand

open Cert.StageCIdeal.Gen
open Cert.Knn (writes_full readAt_full off2 entry steps lread lput lcont lcont_succ carried_open carried_next)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # The neighbour loop of one grid point, by values -/

/-- What the loop carries in scratch. -/
abbrev LState (F : FTy → Type) : Type := Knn.LState F S512x128 S64x128

/-- One neighbour taken: features `v6`, indices `v8`, query features `v14`, weights `w`. -/
def lstep (v6 : FVec F S64x512 .f32) (v8 : IVec S512x128 32) (v14 : FVec F S64x128 .f32)
    (w : Vec F S64x128 .f32) (s : LState F) : LState F where
  d := k0_pay9 v8 s.d
  mx := k0_pay11 v6 v8 v14 s.d w s.mx
  mn := k0_pay12 v6 v8 v14 s.d w s.mn
  sm := k0_pay3 (k0_pay10 v6 v8 v14 s.d w) s.sm
  sq := k0_pay4 (k0_pay10 v6 v8 v14 s.d w) s.sq

/-- The state after `k` neighbours. -/
abbrev lstate (v6 : FVec F S64x512 .f32) (v8 : IVec S512x128 32) (v14 : FVec F S64x128 .f32)
    (w : Vec F S64x128 .f32) (s : LState F) (k : ℕ) : LState F := steps (lstep v6 v8 v14 w) s k

section Trip

variable (𝒱 : Variants) (c : Dev nD) (bd : Option 𝒱.V) (i : grid0.Coords)
  (arg2 : Memref sig .tc .vmem S1x3x512 .f32) (harg2 : arg2.IsWhole)
  (arg3 : Memref sig .tc .vmem S1x512x3 .f32) (harg3 : arg3.IsWhole)
  (arg4 : Memref sig .tc .vmem S1x64x512 .f32) (harg4 : arg4.IsWhole)
  (arg5 : Memref sig .tc .vmem S64x128 .f32) (harg5 : arg5.IsWhole)
  (arg6 : Memref sig .tc .vmem S64x1 .f32) (harg6 : arg6.IsWhole)
  (arg7 : Memref sig .tc .vmem S64x1 .f32) (harg7 : arg7.IsWhole)
  (arg8 : Memref sig .tc .vmem S1x64x512 .f32) (harg8 : arg8.IsWhole)
  (arg9 : Memref sig .tc .vmem S512x128 .f32) (harg9 : arg9.IsWhole)
  (arg10 : Memref sig .tc .vmem S512x1 .f32) (harg10 : arg10.IsWhole)
  (arg11 : Memref sig .tc .vmem S64x512 .f32) (harg11 : arg11.IsWhole)
  (arg12 : Memref sig .tc .vmem S64x512 .f32) (harg12 : arg12.IsWhole)
  (arg13 : Memref sig .tc .vmem S64x128 .f32) (harg13 : arg13.IsWhole)
  (arg14 : Memref sig .tc .vmem S64x128 .f32) (harg14 : arg14.IsWhole)
  (arg15 : Memref sig .tc .vmem S64x128 .f32) (harg15 : arg15.IsWhole)
  (arg16 : Memref sig .tc .vmem S64x128 .f32) (harg16 : arg16.IsWhole)
  (v6 : FVec F S64x512 .f32) (v8 : IVec S512x128 32) (v14 : FVec F S64x128 .f32)

/-- An array whole, at contents `f`. -/
abbrev own {S : Shape} (a : Memref sig .tc .vmem S .f32) (f : BufTy.Contents (Elt F) a.view.ty) :
    sProp (MT nD τ sig Unit (Elt F) ℕ (UR sig nD τ) ℕ) :=
  iprop((a.view.loc (c : Thread nD τ) ↦[a.view.set]{fullShare} f))

/-- What one trip touches: the weights read at `X` and the five scratch arrays at `f·`. -/
abbrev held (X : BufTy.Contents (Elt F) arg5.view.ty)
    (f9 : BufTy.Contents (Elt F) arg9.view.ty) (f13 : BufTy.Contents (Elt F) arg13.view.ty)
    (f14 : BufTy.Contents (Elt F) arg14.view.ty) (f15 : BufTy.Contents (Elt F) arg15.view.ty)
    (f16 : BufTy.Contents (Elt F) arg16.view.ty) : sProp (MT nD τ sig Unit (Elt F) ℕ (UR sig nD τ) ℕ) :=
  iprop((arg5.view.loc (c : Thread nD τ) ↦[arg5.view.set]{fullShare} X)
    ∗ (arg9.view.loc (c : Thread nD τ) ↦[arg9.view.set]{fullShare} f9)
    ∗ (arg13.view.loc (c : Thread nD τ) ↦[arg13.view.set]{fullShare} f13)
    ∗ (arg14.view.loc (c : Thread nD τ) ↦[arg14.view.set]{fullShare} f14)
    ∗ (arg15.view.loc (c : Thread nD τ) ↦[arg15.view.set]{fullShare} f15)
    ∗ (arg16.view.loc (c : Thread nD τ) ↦[arg16.view.set]{fullShare} f16))

/-- One trip of the loop: the scratch it finds at `f·` it leaves at the next state of what it read. -/
theorem trip (X : BufTy.Contents (Elt F) arg5.view.ty)
    (k : Fin k0_t1_loop.trips) (E : Set ℕ)
    (f9 : BufTy.Contents (Elt F) arg9.view.ty) (f13 : BufTy.Contents (Elt F) arg13.view.ty)
    (f14 : BufTy.Contents (Elt F) arg14.view.ty) (f15 : BufTy.Contents (Elt F) arg15.view.ty)
    (f16 : BufTy.Contents (Elt F) arg16.view.ty) :
    held (F := F) c arg5 arg9 arg13 arg14 arg15 arg16 X f9 f13 f14 f15 f16
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v6 v8 v14 k PUnit.unit)
          (fun _ => held (F := F) c arg5 arg9 arg13 arg14 arg15 arg16 X
            (harg9.unread (lstep v6 v8 v14 (arg5.view.read (Elt F) X) ⟨arg9.view.read (Elt F) f9, arg13.view.read (Elt F) f13,
              arg14.view.read (Elt F) f14, arg15.view.read (Elt F) f15, arg16.view.read (Elt F) f16⟩).d) (harg13.unread (lstep v6 v8 v14 (arg5.view.read (Elt F) X) ⟨arg9.view.read (Elt F) f9, arg13.view.read (Elt F) f13,
              arg14.view.read (Elt F) f14, arg15.view.read (Elt F) f15, arg16.view.read (Elt F) f16⟩).mx)
            (harg14.unread (lstep v6 v8 v14 (arg5.view.read (Elt F) X) ⟨arg9.view.read (Elt F) f9, arg13.view.read (Elt F) f13,
              arg14.view.read (Elt F) f14, arg15.view.read (Elt F) f15, arg16.view.read (Elt F) f16⟩).mn) (harg15.unread (lstep v6 v8 v14 (arg5.view.read (Elt F) X) ⟨arg9.view.read (Elt F) f9, arg13.view.read (Elt F) f13,
              arg14.view.read (Elt F) f14, arg15.view.read (Elt F) f15, arg16.view.read (Elt F) f16⟩).sm)
            (harg16.unread (lstep v6 v8 v14 (arg5.view.read (Elt F) X) ⟨arg9.view.read (Elt F) f9, arg13.view.read (Elt F) f13,
              arg14.view.read (Elt F) f14, arg15.view.read (Elt F) f15, arg16.view.read (Elt F) f16⟩).sq)) := by
  have hk : k.val < 16 := Nat.lt_of_lt_of_le k.isLt k0_t1_abs.2.1
  unfold k0_t1_body
  iintro ⟨HR_arg5, HW_arg9, HW_arg13, HW_arg14, HW_arg15, HW_arg16⟩
  sl_exec
  sl_step
  unfold trip.sl.r trip.sl.r_1
  rw [writes_full harg9 _ off2, writes_full harg13 _ off2, writes_full harg14 _ off2, writes_full harg15 _ off2,
    writes_full harg16 _ off2]
  simp only [readAt_full (S := S512x128) _ _ off2, readAt_full (S := S64x128) _ _ off2]
  unfold lstep
  sl_close

set_option warn.classDefReducibility false in
/-- The loop by its values: after `k` trips the five scratch arrays hold the state after `k` steps. -/
@[sl_loop] def loopVal (E : Set ℕ) (X : BufTy.Contents (Elt F) arg5.view.ty)
    (g9 : BufTy.Contents (Elt F) arg9.view.ty) (g13 : BufTy.Contents (Elt F) arg13.view.ty)
    (g14 : BufTy.Contents (Elt F) arg14.view.ty) (g15 : BufTy.Contents (Elt F) arg15.view.ty)
    (g16 : BufTy.Contents (Elt F) arg16.view.ty) :
    Cert.StageCIdeal.Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 v6 v8 v14 where
  inv k _ := iprop((arg5.view.loc (c : Thread nD τ) ↦[arg5.view.set]{fullShare} X)
    ∗ (∃ f, (arg9.view.loc (c : Thread nD τ) ↦[arg9.view.set]{fullShare} f) ∗ ⌜f = entry g9 k
      (lcont arg9 harg9 arg13 harg13 arg14 harg14 arg15 harg15 arg16 harg16 (lstep v6 v8 v14 (arg5.view.read (Elt F) X)) (g9, g13, g14, g15, g16) k).1⌝)
    ∗ (∃ f, (arg13.view.loc (c : Thread nD τ) ↦[arg13.view.set]{fullShare} f) ∗ ⌜f = entry g13 k
      (lcont arg9 harg9 arg13 harg13 arg14 harg14 arg15 harg15 arg16 harg16 (lstep v6 v8 v14 (arg5.view.read (Elt F) X)) (g9, g13, g14, g15, g16) k).2.1⌝)
    ∗ (∃ f, (arg14.view.loc (c : Thread nD τ) ↦[arg14.view.set]{fullShare} f) ∗ ⌜f = entry g14 k
      (lcont arg9 harg9 arg13 harg13 arg14 harg14 arg15 harg15 arg16 harg16 (lstep v6 v8 v14 (arg5.view.read (Elt F) X)) (g9, g13, g14, g15, g16) k).2.2.1⌝)
    ∗ (∃ f, (arg15.view.loc (c : Thread nD τ) ↦[arg15.view.set]{fullShare} f) ∗ ⌜f = entry g15 k
      (lcont arg9 harg9 arg13 harg13 arg14 harg14 arg15 harg15 arg16 harg16 (lstep v6 v8 v14 (arg5.view.read (Elt F) X)) (g9, g13, g14, g15, g16) k).2.2.2.1⌝)
    ∗ (∃ f, (arg16.view.loc (c : Thread nD τ) ↦[arg16.view.set]{fullShare} f) ∗ ⌜f = entry g16 k
      (lcont arg9 harg9 arg13 harg13 arg14 harg14 arg15 harg15 arg16 harg16 (lstep v6 v8 v14 (arg5.view.read (Elt F) X)) (g9, g13, g14, g15, g16) k).2.2.2.2⌝))
  step k acc := by
    refine (carried_open (own (F := F) c arg5 X) (own c arg9) (own c arg13) (own c arg14) (own c arg15) (own c arg16)
      (g9, g13, g14, g15, g16) _ _ (by rintro h; rw [h]; rfl)).trans
      ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v6 v8 v14 X k E _ _ _ _ _).trans (wp_mono _ _ _ (fun _ => ?_)))
    exact carried_next (own (F := F) c arg5 X) (own c arg9) (own c arg13) (own c arg14) (own c arg15) (own c arg16) (g9, g13, g14, g15, g16)
      (lcont arg9 harg9 arg13 harg13 arg14 harg14 arg15 harg15 arg16 harg16 (lstep v6 v8 v14 (arg5.view.read (Elt F) X)) (g9, g13, g14, g15, g16) (k + 1)) k

/-- After the loop the five scratch arrays hold the state after sixteen steps. -/
instance loopExit (E : Set ℕ) (X : BufTy.Contents (Elt F) arg5.view.ty)
    (g9 : BufTy.Contents (Elt F) arg9.view.ty) (g13 : BufTy.Contents (Elt F) arg13.view.ty)
    (g14 : BufTy.Contents (Elt F) arg14.view.ty) (g15 : BufTy.Contents (Elt F) arg15.view.ty)
    (g16 : BufTy.Contents (Elt F) arg16.view.ty) :
    LoopExit (loopVal (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 v6 v8 v14 E X g9 g13 g14 g15 g16) where
  post _ := iprop((arg5.view.loc (c : Thread nD τ) ↦[arg5.view.set]{fullShare} X)
    ∗ (arg9.view.loc (c : Thread nD τ) ↦[arg9.view.set]{fullShare} harg9.unread (lstate v6 v8 v14 (arg5.view.read (Elt F) X)
      (lread arg9 arg13 arg14 arg15 arg16 (g9, g13, g14, g15, g16)) 16).d)
    ∗ (arg13.view.loc (c : Thread nD τ) ↦[arg13.view.set]{fullShare} harg13.unread (lstate v6 v8 v14 (arg5.view.read (Elt F) X)
      (lread arg9 arg13 arg14 arg15 arg16 (g9, g13, g14, g15, g16)) 16).mx)
    ∗ (arg14.view.loc (c : Thread nD τ) ↦[arg14.view.set]{fullShare} harg14.unread (lstate v6 v8 v14 (arg5.view.read (Elt F) X)
      (lread arg9 arg13 arg14 arg15 arg16 (g9, g13, g14, g15, g16)) 16).mn)
    ∗ (arg15.view.loc (c : Thread nD τ) ↦[arg15.view.set]{fullShare} harg15.unread (lstate v6 v8 v14 (arg5.view.read (Elt F) X)
      (lread arg9 arg13 arg14 arg15 arg16 (g9, g13, g14, g15, g16)) 16).sm)
    ∗ (arg16.view.loc (c : Thread nD τ) ↦[arg16.view.set]{fullShare} harg16.unread (lstate v6 v8 v14 (arg5.view.read (Elt F) X)
      (lread arg9 arg13 arg14 arg15 arg16 (g9, g13, g14, g15, g16)) 16).sq))
  exit acc := by
    have ht : Scf.trips k0_t1_loop.lb k0_t1_loop.ub k0_t1_loop.st = 15 + 1 := by decide
    unfold loopVal
    dsimp only
    rw [ht]
    have e := lcont_succ arg9 harg9 arg13 harg13 arg14 harg14 arg15 harg15 arg16 harg16 (lstep v6 v8 v14 (arg5.view.read (Elt F) X)) (g9, g13, g14, g15, g16) 15
    rw [e]
    exact carried_open (own (F := F) c arg5 X) (own c arg9) (own c arg13) (own c arg14) (own c arg15) (own c arg16) (g9, g13, g14, g15, g16) _ _ (fun h => absurd h (by decide))

end Trip

end Cert.StageCIdeal.Hand

end
-- ==== Proof.StageC.Point.lean ====
module

public import proofs.«01_k».proof.Proof.StageC.Loop
public import proofs.«01_k».proof.Proof.Gen.StageCIdeal.Points
public import Idealize.ShloMosaic.Lib.WritesUnit
public import Idealize.ShloMosaic.Lib.ValueIdxCore

@[expose] public section

set_option maxRecDepth 8192

noncomputable section

namespace Cert.StageCIdeal.Hand

open Cert.StageCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # One grid point's run, by values -/

/-- The point is the first of its batch entry. -/
abbrev cond0_0 (i : grid0.Coords) : Prop :=
  (Scalar.cmpi .ne (Scalar.extui (Scalar.cmpi .eq (BitVec.ofNat 32 (i 1).val) 0#32)) 0#32) = 1#1

/-- The point is the last of its batch entry. -/
abbrev cond0_1 (i : grid0.Coords) : Prop := k0_cond2 i = 1#1

/-- The row number at each entry of the distance table. -/
def rowIx : IVec S512x128 32 := iota .tc S512x128 32 [0] iota_S512x128_d0_w32

/-- The point's query coordinates. -/
def qCoord (i : grid0.Coords) (x0 : Vec F S1x3x512 .f32) : Vec F S1x3x128 .f32 :=
  View.ld x0 (Rect.unit (s := S1x3x512) (k0_off1 i) S1x3x128.size (k0_off1_inb i))

/-- The point's query features. -/
def qFeat (i : grid0.Coords) (x2 : Vec F S1x64x512 .f32) : Vec F S1x64x128 .f32 :=
  View.ld x2 (Rect.unit (s := S1x64x512) (k0_off2 i) S1x64x128.size (k0_off2_inb i))

/-- The loop's state when the point enters it, from the key norms and the running sums. -/
def enter (i : grid0.Coords) (x0 : Vec F S1x3x512 .f32) (ksq : Vec F S512x1 .f32) (sm sq : Vec F S64x128 .f32) : LState F :=
  ⟨k0_pay28 x0 (qCoord i x0) ksq, k0_pay1 k0_pay29, k0_pay2, sm, sq⟩

/-- The loop's state when the point leaves it. -/
def leave (i : grid0.Coords) (x0 : Vec F S1x3x512 .f32) (x2 : Vec F S1x64x512 .f32) (x3 : Vec F S64x128 .f32)
    (ksq : Vec F S512x1 .f32) (sm sq : Vec F S64x128 .f32) : LState F :=
  lstate (k0_pay26 x2) rowIx (k0_pay27 (qFeat i x2)) x3 (enter i x0 ksq sm sq) 16

/-- The table `x` with the point's 128 columns replaced by `v`. -/
def put (i : grid0.Coords) (x : Vec F S64x512 .f32) (v : Vec F S64x128 .f32) : Vec F S64x512 .f32 := fun y =>
  if h : 128 * (i 1).val ≤ (y 1).val ∧ (y 1).val < 128 * (i 1).val + 128 then
    v (ValueIdx.ix2 (y 0) ⟨(y 1).val - 128 * (i 1).val, by omega⟩)
  else x y

/-- The batch entry's result from its sums and its tables of maxima and minima. -/
def result (sm sq : Vec F S64x128 .f32) (x4 x5 : Vec F S64x1 .f32) (mb nb : Vec F S64x512 .f32) : Vec F S1x64x512 .f32 :=
  k0_pay7
    (k0_pay21 (k0_pay13 sm) (k0_pay14 sq) k0_pay15 (iota .tc S64x64 32 [1] iota_S64x64_d1_w32) 16#32 k0_pay16 k0_pay17
      (Scalar.extui (Scalar.cmpi .sgt 16#32 0#32)) x4 x5)
    (k0_pay22 (k0_pay13 sm) (k0_pay14 sq) k0_pay15 (iota .tc S64x64 32 [1] iota_S64x64_d1_w32) 16#32 k0_pay16 k0_pay17
      (Scalar.extui (Scalar.cmpi .sgt 16#32 0#32)) x4 mb nb)

/-- A store of the point's columns leaves the table with them replaced. -/
theorem read_put (i : grid0.Coords) {mr : Memref sig .tc .vmem S64x512 .f32} (h : mr.IsWhole) (x : Vec F S64x512 .f32)
    (v : Vec F S64x128 .f32) :
    mr.view.read (Elt F) (mr.view.writes (Elt F) (h.unread x)
      [⟨Rect.unit (s := S64x512) (k0_off3 i) S64x128.size (k0_off3_inb i), v⟩]) = put i x v := by
  have ho := k0_off3_eq i
  have e0 : (k0_off3 i) 0 = 0 := by rw [ho]; rfl
  have e1 : (k0_off3 i) 1 = 128 * (i 1).val := by rw [ho]; rfl
  funext y
  unfold put
  split
  · next hy =>
    refine View.read_writes_cons_unit_of_mem mr.view _ (k0_off3_inb i) v []
      y (ValueIdx.ix2 (n0 := 64) (n1 := 128) (y 0) ⟨(y 1).val - 128 * (i 1).val, by omega⟩) ho fun a => ?_
    fin_cases a
    · exact (Nat.zero_add _).symm
    · show (y 1).val = 128 * (i 1).val + ((y 1).val - 128 * (i 1).val)
      omega
  · next hy =>
    rw [View.read_writes_cons_unit_of_not_mem _ _ (k0_off3_inb i) v [] y ho 1 ?_]
    · exact congrFun (h.read_unread x) y
    · show (y 1).val < 128 * (i 1).val ∨ 128 * (i 1).val + 128 ≤ (y 1).val
      omega

end Cert.StageCIdeal.Hand

end
-- ==== Proof.StageC.RunA.lean ====
module

public import proofs.«01_k».proof.Proof.StageC.Point
public import proofs.«01_k».proof.Proof.Gen.StageCIdeal.Points
public import Idealize.ShloMosaic.Lib.WritesUnit
public import Idealize.ShloMosaic.Lib.ValueIdxCore

@[expose] public section

set_option maxRecDepth 8192

noncomputable section

namespace Cert.StageCIdeal.Hand

open Cert.StageCIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x512 .f32) (harg2 : arg2.IsWhole)
  (arg3 : Memref sig .tc .vmem S1x512x3 .f32) (harg3 : arg3.IsWhole)
  (arg4 : Memref sig .tc .vmem S1x64x512 .f32) (harg4 : arg4.IsWhole)
  (arg5 : Memref sig .tc .vmem S64x128 .f32) (harg5 : arg5.IsWhole)
  (arg6 : Memref sig .tc .vmem S64x1 .f32) (harg6 : arg6.IsWhole)
  (arg7 : Memref sig .tc .vmem S64x1 .f32) (harg7 : arg7.IsWhole)
  (arg8 : Memref sig .tc .vmem S1x64x512 .f32) (harg8 : arg8.IsWhole)
  (arg9 : Memref sig .tc .vmem S512x128 .f32) (harg9 : arg9.IsWhole)
  (arg10 : Memref sig .tc .vmem S512x1 .f32) (harg10 : arg10.IsWhole)
  (arg11 : Memref sig .tc .vmem S64x512 .f32) (harg11 : arg11.IsWhole)
  (arg12 : Memref sig .tc .vmem S64x512 .f32) (harg12 : arg12.IsWhole)
  (arg13 : Memref sig .tc .vmem S64x128 .f32) (harg13 : arg13.IsWhole)
  (arg14 : Memref sig .tc .vmem S64x128 .f32) (harg14 : arg14.IsWhole)
  (arg15 : Memref sig .tc .vmem S64x128 .f32) (harg15 : arg15.IsWhole)
  (arg16 : Memref sig .tc .vmem S64x128 .f32) (harg16 : arg16.IsWhole)

local notation "𝕄" => MT nD τ sig Unit (Elt F) ℕ (UR sig nD τ) ℕ

/-- The resources of a point: its six input windows at their contents, the output window at `x6`, the scratch. -/
abbrev Res (x0 : Vec F S1x3x512 .f32) (x1 : Vec F S1x512x3 .f32) (x2 : Vec F S1x64x512 .f32) (x3 : Vec F S64x128 .f32)
    (x4 : Vec F S64x1 .f32) (x5 : Vec F S64x1 .f32) (x6 : Vec F S1x64x512 .f32) (ksq : Vec F S512x1 .f32)
    (mb nb : Vec F S64x512 .f32) (sm sq : Vec F S64x128 .f32) : sProp 𝕄 :=
  iprop(owns (c : Thread nD τ) arg2 fullShare x0 ∗ owns (c : Thread nD τ) arg3 fullShare x1
    ∗ owns (c : Thread nD τ) arg4 fullShare x2 ∗ owns (c : Thread nD τ) arg5 fullShare x3
    ∗ owns (c : Thread nD τ) arg6 fullShare x4 ∗ owns (c : Thread nD τ) arg7 fullShare x5
    ∗ owns (c : Thread nD τ) arg8 fullShare x6 ∗ (∃ d, owns (c : Thread nD τ) arg9 fullShare d)
    ∗ owns (c : Thread nD τ) arg10 fullShare ksq ∗ owns (c : Thread nD τ) arg11 fullShare mb
    ∗ owns (c : Thread nD τ) arg12 fullShare nb ∗ (∃ d, owns (c : Thread nD τ) arg13 fullShare d)
    ∗ (∃ d, owns (c : Thread nD τ) arg14 fullShare d) ∗ owns (c : Thread nD τ) arg15 fullShare sm
    ∗ owns (c : Thread nD τ) arg16 fullShare sq)

set_option maxHeartbeats 1600000 in
/-- A batch entry's first point: the key norms and the sums start afresh. -/
theorem runA (hc0 : cond0_0 i) (hc1 : ¬cond0_1 i)
    (x0 : Vec F S1x3x512 .f32) (x1 : Vec F S1x512x3 .f32) (x2 : Vec F S1x64x512 .f32) (x3 : Vec F S64x128 .f32)
    (x4 : Vec F S64x1 .f32) (x5 : Vec F S64x1 .f32) (x6 : Vec F S1x64x512 .f32) (ksq : Vec F S512x1 .f32)
    (mb nb : Vec F S64x512 .f32) (sm sq : Vec F S64x128 .f32) (E : Set ℕ) (K : PUnit → sProp 𝕄) :
    iprop(Res c arg2 arg3 arg4 arg5 arg6 arg7 arg8 arg9 arg10 arg11 arg12 arg13 arg14 arg15 arg16 x0 x1 x2 x3 x4 x5 x6 ksq mb nb sm sq
        ∗ (Res c arg2 arg3 arg4 arg5 arg6 arg7 arg8 arg9 arg10 arg11 arg12 arg13 arg14 arg15 arg16 x0 x1 x2 x3 x4 x5 x6
          (k0_pay23 x1) (put i mb (k0_pay5 (leave i x0 x2 x3 (k0_pay23 x1) k0_pay24 k0_pay25).mx)) (put i nb (k0_pay6 (leave i x0 x2 x3 (k0_pay23 x1) k0_pay24 k0_pay25).mn))
          (leave i x0 x2 x3 (k0_pay23 x1) k0_pay24 k0_pay25).sm (leave i x0 x2 x3 (k0_pay23 x1) k0_pay24 k0_pay25).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  simp only [k0_part4_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%ds0, %fs0, -, HS0⟩, ⟨%fs1, %hfs1, HS1⟩, ⟨%fs2, %hfs2, HS2⟩, ⟨%fs3, %hfs3, HS3⟩,
    ⟨%ds4, %fs4, -, HS4⟩, ⟨%ds5, %fs5, -, HS5⟩, ⟨%fs6, %hfs6, HS6⟩, ⟨%fs7, %hfs7, HS7⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs1
  obtain rfl := harg11.eq_unread hfs2; obtain rfl := harg12.eq_unread hfs3
  obtain rfl := harg15.eq_unread hfs6; obtain rfl := harg16.eq_unread hfs7
  sl_exec (disch := first | sl_exact hc0 | sl_exact hc1)
  sl_step
  have r11 := read_put i harg11 mb (k0_pay5 (leave i x0 x2 x3 (k0_pay23 x1) k0_pay24 k0_pay25).mx)
  have r12 := read_put i harg12 nb (k0_pay6 (leave i x0 x2 x3 (k0_pay23 x1) k0_pay24 k0_pay25).mn)
  have r10 := harg10.read_unread (Val := Elt F) (k0_pay23 x1)
  have r15 := harg15.read_unread (Val := Elt F) (leave i x0 x2 x3 (k0_pay23 x1) k0_pay24 k0_pay25).sm
  have r16 := harg16.read_unread (Val := Elt F) (leave i x0 x2 x3 (k0_pay23 x1) k0_pay24 k0_pay25).sq
  unfold leave enter rowIx qCoord qFeat at r11 r12 r15 r16
  unfold runA.sl.v40 runA.sl.v45 runA.sl.HS0_1 runA.sl.v19 runA.sl.HS1_1 runA.sl.HS4_1 runA.sl.HS5_1 runA.sl.HS6_1 runA.sl.HS7_1 runA.sl.r runA.sl.r_1 runA.sl.v8
  simp only [leave, enter, rowIx, qCoord, qFeat, Knn.lread,
    View.readCov_unit_zero (S := S512x1) arg10.view off2, View.readAt_eq_ld,
    View.ld_unit_zero (S := S512x1) off2, View.ld_unit_zero (S := S64x128) off2, View.ld_unit_zero (S := S512x128) off2,
    View.ld_unit_zero (S := S64x512) off2, View.ld_unit_zero (S := S64x1) off2,
    View.ld_unit_zero (S := S1x3x512) off3, View.ld_unit_zero (S := S1x512x3) off3, View.ld_unit_zero (S := S1x64x512) off3,
    writes_full (S := S512x128) harg9 _ off2, writes_full (S := S512x1) harg10 _ off2,
    writes_full (S := S64x128) harg13 _ off2, writes_full (S := S64x128) harg14 _ off2,
    writes_full (S := S64x128) harg15 _ off2, writes_full (S := S64x128) harg16 _ off2,
    read_put i harg11, read_put i harg12, Memref.IsWhole.read_unread]
  iapply Hk
  sl_close

end Cert.StageCIdeal.Hand

end
-- ==== Proof.StageC.RunC.lean ====
module

public import proofs.«01_k».proof.Proof.StageC.RunA
public import proofs.«01_k».proof.Proof.Gen.StageCIdeal.Points
public import Idealize.ShloMosaic.Lib.WritesUnit
public import Idealize.ShloMosaic.Lib.ValueIdxCore

@[expose] public section

set_option maxRecDepth 8192

noncomputable section

namespace Cert.StageCIdeal.Hand

open Cert.StageCIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x512 .f32) (harg2 : arg2.IsWhole)
  (arg3 : Memref sig .tc .vmem S1x512x3 .f32) (harg3 : arg3.IsWhole)
  (arg4 : Memref sig .tc .vmem S1x64x512 .f32) (harg4 : arg4.IsWhole)
  (arg5 : Memref sig .tc .vmem S64x128 .f32) (harg5 : arg5.IsWhole)
  (arg6 : Memref sig .tc .vmem S64x1 .f32) (harg6 : arg6.IsWhole)
  (arg7 : Memref sig .tc .vmem S64x1 .f32) (harg7 : arg7.IsWhole)
  (arg8 : Memref sig .tc .vmem S1x64x512 .f32) (harg8 : arg8.IsWhole)
  (arg9 : Memref sig .tc .vmem S512x128 .f32) (harg9 : arg9.IsWhole)
  (arg10 : Memref sig .tc .vmem S512x1 .f32) (harg10 : arg10.IsWhole)
  (arg11 : Memref sig .tc .vmem S64x512 .f32) (harg11 : arg11.IsWhole)
  (arg12 : Memref sig .tc .vmem S64x512 .f32) (harg12 : arg12.IsWhole)
  (arg13 : Memref sig .tc .vmem S64x128 .f32) (harg13 : arg13.IsWhole)
  (arg14 : Memref sig .tc .vmem S64x128 .f32) (harg14 : arg14.IsWhole)
  (arg15 : Memref sig .tc .vmem S64x128 .f32) (harg15 : arg15.IsWhole)
  (arg16 : Memref sig .tc .vmem S64x128 .f32) (harg16 : arg16.IsWhole)

local notation "𝕄" => MT nD τ sig Unit (Elt F) ℕ (UR sig nD τ) ℕ

set_option maxHeartbeats 1600000 in
/-- A batch entry's last point: it writes the entry's result. -/
theorem runC (hc0 : ¬cond0_0 i) (hc1 : cond0_1 i)
    (x0 : Vec F S1x3x512 .f32) (x1 : Vec F S1x512x3 .f32) (x2 : Vec F S1x64x512 .f32) (x3 : Vec F S64x128 .f32)
    (x4 : Vec F S64x1 .f32) (x5 : Vec F S64x1 .f32) (x6 : Vec F S1x64x512 .f32) (ksq : Vec F S512x1 .f32)
    (mb nb : Vec F S64x512 .f32) (sm sq : Vec F S64x128 .f32) (E : Set ℕ) (K : PUnit → sProp 𝕄) :
    iprop(Res c arg2 arg3 arg4 arg5 arg6 arg7 arg8 arg9 arg10 arg11 arg12 arg13 arg14 arg15 arg16 x0 x1 x2 x3 x4 x5 x6 ksq mb nb sm sq
        ∗ (Res c arg2 arg3 arg4 arg5 arg6 arg7 arg8 arg9 arg10 arg11 arg12 arg13 arg14 arg15 arg16 x0 x1 x2 x3 x4 x5 (result (leave i x0 x2 x3 ksq sm sq).sm (leave i x0 x2 x3 ksq sm sq).sq x4 x5 (put i mb (k0_pay5 (leave i x0 x2 x3 ksq sm sq).mx)) (put i nb (k0_pay6 (leave i x0 x2 x3 ksq sm sq).mn)))
          ksq (put i mb (k0_pay5 (leave i x0 x2 x3 ksq sm sq).mx)) (put i nb (k0_pay6 (leave i x0 x2 x3 ksq sm sq).mn))
          (leave i x0 x2 x3 ksq sm sq).sm (leave i x0 x2 x3 ksq sm sq).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  simp only [k0_part4_eq_skeleton, k0_part2_eq_skeleton, k0_part3_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%ds0, %fs0, -, HS0⟩, ⟨%fs1, %hfs1, HS1⟩, ⟨%fs2, %hfs2, HS2⟩, ⟨%fs3, %hfs3, HS3⟩,
    ⟨%ds4, %fs4, -, HS4⟩, ⟨%ds5, %fs5, -, HS5⟩, ⟨%fs6, %hfs6, HS6⟩, ⟨%fs7, %hfs7, HS7⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs1
  obtain rfl := harg11.eq_unread hfs2; obtain rfl := harg12.eq_unread hfs3
  obtain rfl := harg15.eq_unread hfs6; obtain rfl := harg16.eq_unread hfs7
  sl_exec (disch := first | sl_exact hc0 | sl_exact hc1)
  sl_step
  have r11 := read_put i harg11 mb (k0_pay5 (leave i x0 x2 x3 ksq sm sq).mx)
  have r12 := read_put i harg12 nb (k0_pay6 (leave i x0 x2 x3 ksq sm sq).mn)
  have r10 := harg10.read_unread (Val := Elt F) ksq
  have r15 := harg15.read_unread (Val := Elt F) (leave i x0 x2 x3 ksq sm sq).sm
  have r16 := harg16.read_unread (Val := Elt F) (leave i x0 x2 x3 ksq sm sq).sq
  have r8 := harg8.read_unread (Val := Elt F) (result (leave i x0 x2 x3 ksq sm sq).sm (leave i x0 x2 x3 ksq sm sq).sq x4 x5 (put i mb (k0_pay5 (leave i x0 x2 x3 ksq sm sq).mx)) (put i nb (k0_pay6 (leave i x0 x2 x3 ksq sm sq).mn)))
  unfold leave enter rowIx qCoord qFeat at r11 r12 r15 r16 r8
  unfold runC.sl.r_4 runC.sl.r_5 runC.sl.r_2 runC.sl.r_3 runC.sl.v84 runC.sl.v132 runC.sl.v133 runC.sl.HS2_1 runC.sl.HS3_1 runC.sl.v53 runC.sl.v56 runC.sl.v40 runC.sl.v45 runC.sl.HS0_1 runC.sl.HS4_1 runC.sl.HS5_1 runC.sl.r runC.sl.r_1 runC.sl.v8
  simp only [leave, enter, rowIx, qCoord, qFeat, Knn.lread,
    View.readCov_unit_zero (S := S512x1) arg10.view off2, View.readAt_eq_ld,
    View.ld_unit_zero (S := S512x1) off2, View.ld_unit_zero (S := S64x128) off2, View.ld_unit_zero (S := S512x128) off2,
    View.ld_unit_zero (S := S64x512) off2, View.ld_unit_zero (S := S64x1) off2,
    View.ld_unit_zero (S := S1x3x512) off3, View.ld_unit_zero (S := S1x512x3) off3, View.ld_unit_zero (S := S1x64x512) off3,
    writes_full (S := S512x128) harg9 _ off2, writes_full (S := S512x1) harg10 _ off2,
    writes_full (S := S64x128) harg13 _ off2, writes_full (S := S64x128) harg14 _ off2,
    writes_full (S := S64x128) harg15 _ off2, writes_full (S := S64x128) harg16 _ off2,
    read_put i harg11, read_put i harg12, Memref.IsWhole.read_unread, writes_full (S := S1x64x512) harg8 _ off3, result]
  iapply Hk
  sl_close

end Cert.StageCIdeal.Hand

end
-- ==== Proof.StageC.RunB.lean ====
module

public import proofs.«01_k».proof.Proof.StageC.RunA
public import proofs.«01_k».proof.Proof.Gen.StageCIdeal.Points
public import Idealize.ShloMosaic.Lib.WritesUnit
public import Idealize.ShloMosaic.Lib.ValueIdxCore

@[expose] public section

set_option maxRecDepth 8192

noncomputable section

namespace Cert.StageCIdeal.Hand

open Cert.StageCIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x512 .f32) (harg2 : arg2.IsWhole)
  (arg3 : Memref sig .tc .vmem S1x512x3 .f32) (harg3 : arg3.IsWhole)
  (arg4 : Memref sig .tc .vmem S1x64x512 .f32) (harg4 : arg4.IsWhole)
  (arg5 : Memref sig .tc .vmem S64x128 .f32) (harg5 : arg5.IsWhole)
  (arg6 : Memref sig .tc .vmem S64x1 .f32) (harg6 : arg6.IsWhole)
  (arg7 : Memref sig .tc .vmem S64x1 .f32) (harg7 : arg7.IsWhole)
  (arg8 : Memref sig .tc .vmem S1x64x512 .f32) (harg8 : arg8.IsWhole)
  (arg9 : Memref sig .tc .vmem S512x128 .f32) (harg9 : arg9.IsWhole)
  (arg10 : Memref sig .tc .vmem S512x1 .f32) (harg10 : arg10.IsWhole)
  (arg11 : Memref sig .tc .vmem S64x512 .f32) (harg11 : arg11.IsWhole)
  (arg12 : Memref sig .tc .vmem S64x512 .f32) (harg12 : arg12.IsWhole)
  (arg13 : Memref sig .tc .vmem S64x128 .f32) (harg13 : arg13.IsWhole)
  (arg14 : Memref sig .tc .vmem S64x128 .f32) (harg14 : arg14.IsWhole)
  (arg15 : Memref sig .tc .vmem S64x128 .f32) (harg15 : arg15.IsWhole)
  (arg16 : Memref sig .tc .vmem S64x128 .f32) (harg16 : arg16.IsWhole)

local notation "𝕄" => MT nD τ sig Unit (Elt F) ℕ (UR sig nD τ) ℕ

set_option maxHeartbeats 1600000 in
/-- A middle point of a batch entry. -/
theorem runB (hc0 : ¬cond0_0 i) (hc1 : ¬cond0_1 i)
    (x0 : Vec F S1x3x512 .f32) (x1 : Vec F S1x512x3 .f32) (x2 : Vec F S1x64x512 .f32) (x3 : Vec F S64x128 .f32)
    (x4 : Vec F S64x1 .f32) (x5 : Vec F S64x1 .f32) (x6 : Vec F S1x64x512 .f32) (ksq : Vec F S512x1 .f32)
    (mb nb : Vec F S64x512 .f32) (sm sq : Vec F S64x128 .f32) (E : Set ℕ) (K : PUnit → sProp 𝕄) :
    iprop(Res c arg2 arg3 arg4 arg5 arg6 arg7 arg8 arg9 arg10 arg11 arg12 arg13 arg14 arg15 arg16 x0 x1 x2 x3 x4 x5 x6 ksq mb nb sm sq
        ∗ (Res c arg2 arg3 arg4 arg5 arg6 arg7 arg8 arg9 arg10 arg11 arg12 arg13 arg14 arg15 arg16 x0 x1 x2 x3 x4 x5 x6
          ksq (put i mb (k0_pay5 (leave i x0 x2 x3 ksq sm sq).mx)) (put i nb (k0_pay6 (leave i x0 x2 x3 ksq sm sq).mn))
          (leave i x0 x2 x3 ksq sm sq).sm (leave i x0 x2 x3 ksq sm sq).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_body_eq_skeleton]; unfold cc0_body_skel
  simp only [k0_part4_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%ds0, %fs0, -, HS0⟩, ⟨%fs1, %hfs1, HS1⟩, ⟨%fs2, %hfs2, HS2⟩, ⟨%fs3, %hfs3, HS3⟩,
    ⟨%ds4, %fs4, -, HS4⟩, ⟨%ds5, %fs5, -, HS5⟩, ⟨%fs6, %hfs6, HS6⟩, ⟨%fs7, %hfs7, HS7⟩⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6; obtain rfl := harg10.eq_unread hfs1
  obtain rfl := harg11.eq_unread hfs2; obtain rfl := harg12.eq_unread hfs3
  obtain rfl := harg15.eq_unread hfs6; obtain rfl := harg16.eq_unread hfs7
  sl_exec (disch := first | sl_exact hc0 | sl_exact hc1)
  sl_step
  have r11 := read_put i harg11 mb (k0_pay5 (leave i x0 x2 x3 ksq sm sq).mx)
  have r12 := read_put i harg12 nb (k0_pay6 (leave i x0 x2 x3 ksq sm sq).mn)
  have r10 := harg10.read_unread (Val := Elt F) ksq
  have r15 := harg15.read_unread (Val := Elt F) (leave i x0 x2 x3 ksq sm sq).sm
  have r16 := harg16.read_unread (Val := Elt F) (leave i x0 x2 x3 ksq sm sq).sq
  unfold leave enter rowIx qCoord qFeat at r11 r12 r15 r16
  unfold runB.sl.v40 runB.sl.v45 runB.sl.HS0_1 runB.sl.HS4_1 runB.sl.HS5_1 runB.sl.r runB.sl.r_1 runB.sl.v8
  simp only [leave, enter, rowIx, qCoord, qFeat, Knn.lread,
    View.readCov_unit_zero (S := S512x1) arg10.view off2, View.readAt_eq_ld,
    View.ld_unit_zero (S := S512x1) off2, View.ld_unit_zero (S := S64x128) off2, View.ld_unit_zero (S := S512x128) off2,
    View.ld_unit_zero (S := S64x512) off2, View.ld_unit_zero (S := S64x1) off2,
    View.ld_unit_zero (S := S1x3x512) off3, View.ld_unit_zero (S := S1x512x3) off3, View.ld_unit_zero (S := S1x64x512) off3,
    writes_full (S := S512x128) harg9 _ off2, writes_full (S := S512x1) harg10 _ off2,
    writes_full (S := S64x128) harg13 _ off2, writes_full (S := S64x128) harg14 _ off2,
    writes_full (S := S64x128) harg15 _ off2, writes_full (S := S64x128) harg16 _ off2,
    read_put i harg11, read_put i harg12, Memref.IsWhole.read_unread]
  iapply Hk
  sl_close

end Cert.StageCIdeal.Hand

end
-- ==== Proof.StageC.Run.lean ====
module

public import proofs.«01_k».proof.Proof.StageC.RunC
public import proofs.«01_k».proof.Proof.StageC.RunB
public import proofs.«01_k».proof.Proof.Gen.StageCIdeal.Frame
public import Idealize.ShloMosaic.Lib.Pipeline.FrameBody
public import Idealize.ShloMosaic.Lib.WordCmp
public import Idealize.ShloMosaic.Lib.Claim

@[expose] public section

set_option maxRecDepth 16384

noncomputable section

namespace Cert.StageCIdeal.Hand

open Cert.StageCIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run over the grid: what every point leaves, and the frame -/

/-- Grid point number `n`. -/
def pt (n : ℕ) : Fin cfg0.N := ⟨n % 64, by rw [show cfg0.N = 64 from N_0]; exact Nat.mod_lt _ (by decide)⟩

theorem pt_val (t : Fin cfg0.N) : pt t.val = t :=
  Fin.ext (Nat.mod_eq_of_lt (lt_of_lt_of_eq t.isLt (show cfg0.N = 64 from N_0)))

/-- The key norms in force at point `n`: those its batch entry's first point stored. -/
def norms (c : Dev nD) (n : ℕ) : Vec F S512x1 .f32 := k0_pay23 (iblk m c 1 (pt (4 * (n / 4))))

/-- The loop state point `n` leaves. -/
def left (c : Dev nD) : ℕ → LState F
  | 0 => leave (grid0.coords (pt 0)) (iblk m c 0 (pt 0)) (iblk m c 2 (pt 0)) (iblk m c 3 (pt 0)) (norms m c 0) k0_pay24 k0_pay25
  | n + 1 =>
    if (n + 1) % 4 = 0 then
      leave (grid0.coords (pt (n + 1))) (iblk m c 0 (pt (n + 1))) (iblk m c 2 (pt (n + 1))) (iblk m c 3 (pt (n + 1)))
        (norms m c (n + 1)) k0_pay24 k0_pay25
    else
      leave (grid0.coords (pt (n + 1))) (iblk m c 0 (pt (n + 1))) (iblk m c 2 (pt (n + 1))) (iblk m c 3 (pt (n + 1)))
        (norms m c (n + 1)) (left c n).sm (left c n).sq

/-- A first point starts its sums at zero. -/
theorem left_first (c : Dev nD) (n : ℕ) (h : n % 4 = 0) :
    left m c n = leave (grid0.coords (pt n)) (iblk m c 0 (pt n)) (iblk m c 2 (pt n)) (iblk m c 3 (pt n)) (norms m c n) k0_pay24 k0_pay25 := by
  cases n with
  | zero => rfl
  | succ n => exact if_pos h

/-- Another point adds to the sums of the point before. -/
theorem left_next (c : Dev nD) (n : ℕ) (h : ¬(n + 1) % 4 = 0) :
    left m c (n + 1) = leave (grid0.coords (pt (n + 1))) (iblk m c 0 (pt (n + 1))) (iblk m c 2 (pt (n + 1))) (iblk m c 3 (pt (n + 1)))
      (norms m c (n + 1)) (left m c n).sm (left m c n).sq := if_neg h

/-- The batch entry's table of maxima: at each column, what that column's point leaves. -/
def maxTab (c : Dev nD) (n : ℕ) : Vec F S64x512 .f32 := fun y =>
  k0_pay5 (left m c (4 * (n / 4) + (y 1).val / 128)).mx (ValueIdx.ix2 (y 0) ⟨(y 1).val % 128, Nat.mod_lt _ (by decide)⟩)

/-- The batch entry's table of minima. -/
def minTab (c : Dev nD) (n : ℕ) : Vec F S64x512 .f32 := fun y =>
  k0_pay6 (left m c (4 * (n / 4) + (y 1).val / 128)).mn (ValueIdx.ix2 (y 0) ⟨(y 1).val % 128, Nat.mod_lt _ (by decide)⟩)

/-- The table `a` agrees with `b` on the columns written up to point `n`. -/
def Agree (n : ℕ) (a b : Vec F S64x512 .f32) : Prop := ∀ y : S64x512.Idx, (y 1).val < 128 * (n % 4 + 1) → a y = b y

theorem coord1 (n : ℕ) : (grid0.coords (pt n) 1).val = n % 4 := by
  have e1 : (grid0.coords (pt n) 1).val = (pt n).val / 1 % 4 := Pipeline.Grid.coords_val (pt n) 1 (by decide) rfl
  rw [e1]; show n % 64 / 1 % 4 = n % 4; omega

/-- The columns point `n` puts agree, when they are the table's, and those before agree already. -/
theorem agree_put (n : ℕ) (a b : Vec F S64x512 .f32) (v : Vec F S64x128 .f32)
    (hb : ∀ y : S64x512.Idx, (y 1).val / 128 = n % 4 → b y = v (ValueIdx.ix2 (y 0) ⟨(y 1).val % 128, Nat.mod_lt _ (by decide)⟩))
    (ha : ∀ y : S64x512.Idx, (y 1).val < 128 * (n % 4) → a y = b y) :
    Agree n (put (grid0.coords (pt n)) a v) b := by
  intro y hy
  have e := coord1 n
  unfold put
  split
  · next h =>
    rw [e] at h
    rw [hb y (by omega)]
    have : (⟨(y 1).val - 128 * (grid0.coords (pt n) 1).val, by omega⟩ : Fin 128) = ⟨(y 1).val % 128, Nat.mod_lt _ (by decide)⟩ := by
      apply Fin.ext; show (y 1).val - 128 * (grid0.coords (pt n) 1).val = (y 1).val % 128; omega
    rw [this]
  · next h => rw [e] at h; exact ha y (by omega)

theorem maxTab_put (c : Dev nD) (n : ℕ) (y : S64x512.Idx) (hy : (y 1).val / 128 = n % 4) :
    maxTab m c n y = k0_pay5 (left m c n).mx (ValueIdx.ix2 (y 0) ⟨(y 1).val % 128, Nat.mod_lt _ (by decide)⟩) := by
  unfold maxTab; rw [hy, Nat.div_add_mod]

theorem minTab_put (c : Dev nD) (n : ℕ) (y : S64x512.Idx) (hy : (y 1).val / 128 = n % 4) :
    minTab m c n y = k0_pay6 (left m c n).mn (ValueIdx.ix2 (y 0) ⟨(y 1).val % 128, Nat.mod_lt _ (by decide)⟩) := by
  unfold minTab; rw [hy, Nat.div_add_mod]

theorem maxTab_prev (c : Dev nD) (n : ℕ) (h : ¬(n + 1) % 4 = 0) : maxTab m c (n + 1) = maxTab m c n := by
  unfold maxTab; rw [show (n + 1) / 4 = n / 4 from by omega]

theorem minTab_prev (c : Dev nD) (n : ℕ) (h : ¬(n + 1) % 4 = 0) : minTab m c (n + 1) = minTab m c n := by
  unfold minTab; rw [show (n + 1) / 4 = n / 4 from by omega]

theorem norms_prev (c : Dev nD) (n : ℕ) (h : ¬(n + 1) % 4 = 0) : norms m c (n + 1) = norms m c n := by
  unfold norms; rw [show (n + 1) / 4 = n / 4 from by omega]

/-- After a last point the whole table agrees. -/
theorem agree_last (n : ℕ) (h : n % 4 = 3) (a b : Vec F S64x512 .f32) (hab : Agree n a b) : a = b := by
  funext y
  have : (y 1).val < 512 := (y 1).isLt
  exact hab y (by omega)

/-- The result block a last point stores. -/
def outBlk (c : Dev nD) (n : ℕ) : Vec F S1x64x512 .f32 :=
  result (left m c n).sm (left m c n).sq (iblk m c 4 (pt n)) (iblk m c 5 (pt n)) (maxTab m c n) (minTab m c n)

/-! ## The branch conditions at a point, and where the output window is idle -/

theorem hcond0_0 : ∀ t : Fin cfg0.N, cond0_0 (grid0.coords t) ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [cond0_0, e1]
    word_cmp
   : ∀ t : Fin grid0.N, cond0_0 (grid0.coords t) ↔ t.val % 4 = 0)

theorem hcond0_1 : ∀ t : Fin cfg0.N, cond0_1 (grid0.coords t) ↔ t.val % 4 = 3 :=
  (fun t => by
    have ht : t.val < 64 := Nat.lt_of_lt_of_eq t.isLt N_0
    have e1 : (grid0.coords t 1).val = t.val / 1 % 4 := Pipeline.Grid.coords_val t 1 (by decide) rfl
    simp only [cond0_1, k0_cond2, e1]
    word_cmp
   : ∀ t : Fin grid0.N, cond0_1 (grid0.coords t) ↔ t.val % 4 = 3)

theorem idleOff : ∀ t : Fin cfg0.N, ¬cond0_1 (grid0.coords t) → cfg0.idle 6 (grid0.coords t) = true := by decide +kernel
theorem noFlushOff : ∀ t : Fin cfg0.N, ¬cond0_1 (grid0.coords t) → (cfg0.win 6).flush t = false := by decide +kernel
theorem liveLast : ∀ t : Fin cfg0.N, cond0_1 (grid0.coords t) → cfg0.idle 6 (grid0.coords t) = false := by decide +kernel

abbrev ms0_0 (t : Fin cfg0.N) : Memref sig .tc .vmem S1x3x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x64x512 .f32 := win0_6.stage (cfg0.slots t 6)
abbrev hs0_6 (t : Fin cfg0.N) : (ms0_6 t).IsWhole := hstage0_6 ((cfg0.slots t 6).cast nbuf0_6)
abbrev scM0_0 : Memref sig .tc .vmem S512x128 .f32 := Memref.whole cc0_scratch0
abbrev scM0_1 : Memref sig .tc .vmem S512x1 .f32 := Memref.whole cc0_scratch1
abbrev scM0_2 : Memref sig .tc .vmem S64x512 .f32 := Memref.whole cc0_scratch2
abbrev scM0_3 : Memref sig .tc .vmem S64x512 .f32 := Memref.whole cc0_scratch3
abbrev scM0_4 : Memref sig .tc .vmem S64x128 .f32 := Memref.whole cc0_scratch4
abbrev scM0_5 : Memref sig .tc .vmem S64x128 .f32 := Memref.whole cc0_scratch5
abbrev scM0_6 : Memref sig .tc .vmem S64x128 .f32 := Memref.whole cc0_scratch6
abbrev scM0_7 : Memref sig .tc .vmem S64x128 .f32 := Memref.whole cc0_scratch7

/-! ## The invariant -/

/-- The scratch at given key norms, tables and sums, the rest at anything. -/
def Scr (c : Dev nD) (ksq : Vec F S512x1 .f32) (mb nb : Vec F S64x512 .f32) (sm sq : Vec F S64x128 .f32) : sProp 𝕄 :=
  iprop((∃ d, owns (c : Thread nD τ) scM0_0 fullShare d) ∗ owns (c : Thread nD τ) scM0_1 fullShare ksq
    ∗ owns (c : Thread nD τ) scM0_2 fullShare mb ∗ owns (c : Thread nD τ) scM0_3 fullShare nb
    ∗ (∃ d, owns (c : Thread nD τ) scM0_4 fullShare d) ∗ (∃ d, owns (c : Thread nD τ) scM0_5 fullShare d)
    ∗ owns (c : Thread nD τ) scM0_6 fullShare sm ∗ owns (c : Thread nD τ) scM0_7 fullShare sq
    ∗ (∃ r, prngReg c r))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The launch's scratch is the scratch at something, -/
theorem scr_of_PhiA (c : Dev nD) :
    (Pipeline.ΦA spec0 c : sProp 𝕄) ⊢ iprop(∃ ksq mb nb sm sq, Scr (F := F) c ksq mb nb sm sq) := by
  rw [PhiA0_eq]; unfold Scr
  iintro ⟨⟨⟨%z0, HS0⟩, ⟨%a, HS1⟩, ⟨%b, HS2⟩, ⟨%e, HS3⟩, ⟨%z4, HS4⟩, ⟨%z5, HS5⟩, ⟨%f, HS6⟩, ⟨%g, HS7⟩⟩, ⟨%r, Hg⟩⟩
  iexists a; iexists b; iexists e; iexists f; iexists g
  sl_close

/-- and the scratch at anything is the launch's. -/
theorem PhiA_of_scr (c : Dev nD) (ksq : Vec F S512x1 .f32) (mb nb : Vec F S64x512 .f32) (sm sq : Vec F S64x128 .f32) :
    Scr c ksq mb nb sm sq ⊢ (Pipeline.ΦA spec0 c : sProp 𝕄) := by
  rw [PhiA0_eq]; unfold Scr
  iintro ⟨HS0, HS1, HS2, HS3, HS4, HS5, HS6, HS7, Hg⟩
  isplitr [Hg]
  · isplitl [HS0]; · iexact HS0
    isplitl [HS1]; · iexists _; iexact HS1
    isplitl [HS2]; · iexists _; iexact HS2
    isplitl [HS3]; · iexists _; iexact HS3
    isplitl [HS4]; · iexact HS4
    isplitl [HS5]; · iexact HS5
    isplitl [HS6]; · iexists _; iexact HS6
    iexists _; iexact HS7
  iexact Hg

/-- The region invariant: before the first point the launch's scratch; after point `n` the key norms and sums at what
    the point left, the tables agreeing with the batch entry's on the columns written so far. -/
def PhiS (c : Dev nD) : ℕ → sProp 𝕄
  | 0 => Pipeline.ΦA spec0 c
  | n + 1 => iprop(∃ mb nb, ⌜Agree n mb (maxTab m c n) ∧ Agree n nb (minTab m c n)⌝
      ∗ Scr c (norms m c n) mb nb (left m c n).sm (left m c n).sq)

theorem PhiS_succ (c : Dev nD) (n : ℕ) :
    PhiS m c (n + 1) = iprop(∃ mb nb, ⌜Agree n mb (maxTab m c n) ∧ Agree n nb (minTab m c n)⌝
      ∗ Scr c (norms m c n) mb nb (left m c n).sm (left m c n).sq) := rfl

/-- At any point the invariant holds the scratch at something. -/
theorem PhiS_any (c : Dev nD) (n : ℕ) : PhiS m c n ⊢ iprop(∃ ksq mb nb sm sq, Scr (F := F) c ksq mb nb sm sq) := by
  cases n with
  | zero => exact scr_of_PhiA c
  | succ n =>
    rw [PhiS_succ]
    iintro ⟨%mb, %nb, -, H⟩
    iexists _; iexists mb; iexists nb; iexists _; iexists _
    iexact H

/-- The proof data of the pipeline on core `c`: each input's buffer at its block, the output's at the result block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- A point's six input windows at their blocks. -/
def Ins (c : Dev nD) (t : Fin cfg0.N) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t)
    ∗ owns (c : Thread nD τ) (ms0_4 t) fullShare (iblk m c 4 t) ∗ owns (c : Thread nD τ) (ms0_5 t) fullShare (iblk m c 5 t))

set_option maxHeartbeats 1600000 in
/-- A first point's triple: the scratch at anything before, at the point's own contents after. -/
theorem soundA (c : Dev nD) (t : Fin cfg0.N) (h0 : t.val % 4 = 0) (x6 : Vec F S1x64x512 .f32)
    (ksq : Vec F S512x1 .f32) (mb nb : Vec F S64x512 .f32) (sm sq : Vec F S64x128 .f32) :
    iprop(Ins m c t ∗ owns (c : Thread nD τ) (ms0_6 t) fullShare x6 ∗ Scr c ksq mb nb sm sq)
      ⊢ wp frame (wpE (defs₀ (F := F)) Variants.none c none) Set.univ (bodyAt0 t)
        (fun _ => iprop(Ins m c t ∗ owns (c : Thread nD τ) (ms0_6 t) fullShare x6 ∗ PhiS m c (t.val + 1))) := by
  have hc0 := (hcond0_0 t).mpr h0
  have hc1 : ¬cond0_1 (grid0.coords t) := fun h => by have := (hcond0_1 t).mp h; omega
  have hl := left_first m c t.val h0
  have hn : norms m c t.val = k0_pay23 (iblk m c 1 t) := by
    unfold norms; rw [show 4 * (t.val / 4) = t.val from by omega, pt_val]
  have g1 := agree_put t.val mb (maxTab m c t.val) (k0_pay5 (left m c t.val).mx) (maxTab_put m c t.val) (fun y hy => by omega)
  have g2 := agree_put t.val nb (minTab m c t.val) (k0_pay6 (left m c t.val).mn) (minTab_put m c t.val) (fun y hy => by omega)
  rw [pt_val] at hl g1 g2
  rw [PhiS_succ]
  unfold Ins bodyAt0 Scr
  iintro ⟨⟨H0, H1, H2, H3, H4, H5⟩, H6, ⟨%z0, HS0⟩, HS1, HS2, HS3, ⟨%z4, HS4⟩, ⟨%z5, HS5⟩, HS6, HS7, ⟨%r, Hg⟩⟩
  iapply (runA c (grid0.coords t) _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) x6 ksq mb nb sm sq Set.univ _)
  isplitr [Hg]
  · unfold Res
    sl_close
  unfold Res
  rw [← hn, ← hl]
  iintro ⟨H0, H1, H2, H3, H4, H5, H6, ⟨%y0, HS0⟩, HS1, HS2, HS3, ⟨%y4, HS4⟩, ⟨%y5, HS5⟩, HS6, HS7⟩
  isplitl [H0 H1 H2 H3 H4 H5]; · sl_close
  isplitl [H6]; · iexact H6
  iexists _; iexists _
  isplitr; · ipureintro; exact ⟨g1, g2⟩
  sl_close

set_option maxHeartbeats 1600000 in
/-- A middle point's triple: the sums and tables extended. -/
theorem soundB (c : Dev nD) (t : Fin cfg0.N) (n : ℕ) (hn : t.val = n + 1) (h0 : ¬(n + 1) % 4 = 0) (h3 : ¬(n + 1) % 4 = 3) (x6 : Vec F S1x64x512 .f32) :
    iprop(Ins m c t ∗ owns (c : Thread nD τ) (ms0_6 t) fullShare x6 ∗ PhiS m c (n + 1))
      ⊢ wp frame (wpE (defs₀ (F := F)) Variants.none c none) Set.univ (bodyAt0 t)
        (fun _ => iprop(Ins m c t ∗ owns (c : Thread nD τ) (ms0_6 t) fullShare x6 ∗ PhiS m c (n + 2))) := by
  have hc0 : ¬cond0_0 (grid0.coords t) := fun h => by have := (hcond0_0 t).mp h; omega
  have hc1 : ¬cond0_1 (grid0.coords t) := fun h => by have := (hcond0_1 t).mp h; omega
  have hpt : pt (n + 1) = t := by rw [← hn]; exact pt_val t
  have hl := left_next m c n h0
  have hk := norms_prev m c n h0
  rw [PhiS_succ, PhiS_succ]
  iintro ⟨HI, H6, ⟨%mb, %nb, %hab, HS⟩⟩
  have g1 := agree_put (n + 1) mb (maxTab m c (n + 1)) (k0_pay5 (left m c (n + 1)).mx) (maxTab_put m c (n + 1))
    (fun y hy => by rw [maxTab_prev m c n h0]; exact hab.1 y (by omega))
  have g2 := agree_put (n + 1) nb (minTab m c (n + 1)) (k0_pay6 (left m c (n + 1)).mn) (minTab_put m c (n + 1))
    (fun y hy => by rw [minTab_prev m c n h0]; exact hab.2 y (by omega))
  rw [hpt, hk] at hl
  rw [hpt] at g1 g2
  unfold Ins bodyAt0 Scr
  icases HI with ⟨H0, H1, H2, H3, H4, H5⟩
  icases HS with ⟨⟨%z0, HS0⟩, HS1, HS2, HS3, ⟨%z4, HS4⟩, ⟨%z5, HS5⟩, HS6, HS7, ⟨%r, Hg⟩⟩
  iapply (runB c (grid0.coords t) _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) x6 (norms m c n) mb nb (left m c n).sm (left m c n).sq Set.univ _)
  isplitr [Hg]
  · unfold Res
    sl_close
  unfold Res
  rw [← hl, ← hk]
  iintro ⟨H0, H1, H2, H3, H4, H5, H6, ⟨%y0, HS0⟩, HS1, HS2, HS3, ⟨%y4, HS4⟩, ⟨%y5, HS5⟩, HS6, HS7⟩
  isplitl [H0 H1 H2 H3 H4 H5]; · sl_close
  isplitl [H6]; · iexact H6
  iexists _; iexists _
  isplitr; · ipureintro; exact ⟨g1, g2⟩
  sl_close

set_option maxHeartbeats 1600000 in
/-- A last point's triple: the sums and tables extended, and the result block stored. -/
theorem soundC (c : Dev nD) (t : Fin cfg0.N) (n : ℕ) (hn : t.val = n + 1) (h0 : ¬(n + 1) % 4 = 0) (h3 : (n + 1) % 4 = 3) (x6 : Vec F S1x64x512 .f32) :
    iprop(Ins m c t ∗ owns (c : Thread nD τ) (ms0_6 t) fullShare x6 ∗ PhiS m c (n + 1))
      ⊢ wp frame (wpE (defs₀ (F := F)) Variants.none c none) Set.univ (bodyAt0 t)
        (fun _ => iprop(Ins m c t ∗ owns (c : Thread nD τ) (ms0_6 t) fullShare (outBlk m c (n + 1)) ∗ PhiS m c (n + 2))) := by
  have hc0 : ¬cond0_0 (grid0.coords t) := fun h => by have := (hcond0_0 t).mp h; omega
  have hc1 : cond0_1 (grid0.coords t) := (hcond0_1 t).mpr (by omega)
  have hpt : pt (n + 1) = t := by rw [← hn]; exact pt_val t
  have hl := left_next m c n h0
  have hk := norms_prev m c n h0
  rw [PhiS_succ, PhiS_succ]
  iintro ⟨HI, H6, ⟨%mb, %nb, %hab, HS⟩⟩
  have g1 := agree_put (n + 1) mb (maxTab m c (n + 1)) (k0_pay5 (left m c (n + 1)).mx) (maxTab_put m c (n + 1))
    (fun y hy => by rw [maxTab_prev m c n h0]; exact hab.1 y (by omega))
  have g2 := agree_put (n + 1) nb (minTab m c (n + 1)) (k0_pay6 (left m c (n + 1)).mn) (minTab_put m c (n + 1))
    (fun y hy => by rw [minTab_prev m c n h0]; exact hab.2 y (by omega))
  have ho : result (left m c (n + 1)).sm (left m c (n + 1)).sq (iblk m c 4 t) (iblk m c 5 t)
      (put (grid0.coords t) mb (k0_pay5 (left m c (n + 1)).mx)) (put (grid0.coords t) nb (k0_pay6 (left m c (n + 1)).mn)) = outBlk m c (n + 1) := by
    unfold outBlk
    rw [hpt, ← agree_last (n + 1) h3 _ _ g1, ← agree_last (n + 1) h3 _ _ g2, hpt]
  rw [hpt, hk] at hl
  rw [hpt] at g1 g2
  unfold Ins bodyAt0 Scr
  icases HI with ⟨H0, H1, H2, H3, H4, H5⟩
  icases HS with ⟨⟨%z0, HS0⟩, HS1, HS2, HS3, ⟨%z4, HS4⟩, ⟨%z5, HS5⟩, HS6, HS7, ⟨%r, Hg⟩⟩
  iapply (runC c (grid0.coords t) _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) x6 (norms m c n) mb nb (left m c n).sm (left m c n).sq Set.univ _)
  isplitr [Hg]
  · unfold Res
    sl_close
  unfold Res
  rw [← hl, ho, ← hk]
  iintro ⟨H0, H1, H2, H3, H4, H5, H6, ⟨%y0, HS0⟩, HS1, HS2, HS3, ⟨%y4, HS4⟩, ⟨%y5, HS5⟩, HS6, HS7⟩
  isplitl [H0 H1 H2 H3 H4 H5]; · sl_close
  isplitl [H6]; · iexact H6
  iexists _; iexists _
  isplitr; · ipureintro; exact ⟨g1, g2⟩
  sl_close

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- What the body returns, from the input windows, the output window and the invariant. -/
theorem post_of (c : Dev nD) (t : Fin cfg0.N) :
    iprop(PhiS m c (t.val + 1) ∗ (dats m 0 c).owesAt () t.castSucc ∗ Ins m c t ∗ (dats m 0 c).leavesExact 6 t) ⊢ bodyPost m c t := by
  unfold bodyPost Ins
  rw [show (dats m 0 c).Φ t.succ = PhiS m c (t.val + 1) from rfl, show (dats m 0 c).owesAt () t.succ = (dats m 0 c).owesAt () t.castSucc from rfl]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl,
    show (dats m 0 c).leavesExact 4 t = owns (c : Thread nD τ) (ms0_4 t) fullShare (iblk m c 4 t) from rfl,
    show (dats m 0 c).leavesExact 5 t = owns (c : Thread nD τ) (ms0_5 t) fullShare (iblk m c 5 t) from rfl]
  iintro ⟨HP, Ho, ⟨H0, H1, H2, H3, H4, H5⟩, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- A point's triple over its windows and scratch gives the body's. -/
theorem body_of (c : Dev nD) (t : Fin cfg0.N) (x6 y6 : Vec F S1x64x512 .f32) (P : sProp 𝕄)
    (hk : iprop(Ins m c t ∗ owns (c : Thread nD τ) (ms0_6 t) fullShare x6 ∗ P)
      ⊢ wp frame (wpE (defs₀ (F := F)) Variants.none c none) Set.univ (bodyAt0 t)
        (fun _ => iprop(Ins m c t ∗ owns (c : Thread nD τ) (ms0_6 t) fullShare y6 ∗ PhiS m c (t.val + 1))))
    (hq : owns (c : Thread nD τ) (ms0_6 t) fullShare y6 ⊢ (dats m 0 c).leavesExact 6 t) :
    iprop((dats m 0 c).owesAt () t.castSucc ∗ (Ins m c t ∗ owns (c : Thread nD τ) (ms0_6 t) fullShare x6 ∗ P))
      ⊢ wp frame (wpE (defs₀ (F := F)) Variants.none c none) Set.univ (bodyAt0 t) (fun _ => bodyPost m c t) := by
  refine ((sep_mono_right hk).trans (wp_frame_l _ _ _)).trans (wp_mono _ _ _ fun _ => ?_)
  refine .trans ?_ (post_of m c t)
  iintro ⟨Ho, HI, H6, HP⟩
  isplitl [HP]; · iexact HP
  isplitl [Ho]; · iexact Ho
  isplitl [HI]; · iexact HI
  iapply hq
  iexact H6

/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  have hb := body_of m c t
  unfold bodyPre
  simp only [before0_0, before0_1, before0_2, before0_3, before0_4, before0_5]
  rw [show (dats m 0 c).Φ t.castSucc = PhiS m c t.val from rfl]
  iintro ⟨HP, Ho, ⟨%d0, H0⟩, ⟨%d1, H1⟩, ⟨%d2, H2⟩, ⟨%d3, H3⟩, ⟨%d4, H4⟩, ⟨%d5, H5⟩, ⟨%d6, H6⟩⟩
  by_cases h3 : t.val % 4 = 3
  · obtain ⟨n, hn⟩ : ∃ n, t.val = n + 1 := ⟨t.val - 1, by omega⟩
    have hlive := liveLast t ((hcond0_1 t).mpr h3)
    have hq : owns (c : Thread nD τ) (ms0_6 t) fullShare (outBlk m c (n + 1)) ⊢ (dats m 0 c).leavesExact 6 t := by
      unfold Dat.leavesExact; rw [hlive, after0_6, hn]; try exact .rfl
    iapply (hb ((dats m 0 c).before 6 t d6) _ _ (by rw [hn]; exact soundC m c t n hn (by omega) (by omega) _) hq)
    rw [hn]; unfold Ins
    isplitl [Ho]; · iexact Ho
    isplitr [H6 HP]
    · isplitl [H0]; · iexact H0
      isplitl [H1]; · iexact H1
      isplitl [H2]; · iexact H2
      isplitl [H3]; · iexact H3
      isplitl [H4]; · iexact H4
      iexact H5
    isplitl [H6]; · iexact H6
    iexact HP
  · have hc1 : ¬cond0_1 (grid0.coords t) := fun h => h3 ((hcond0_1 t).mp h)
    have hq : owns (c : Thread nD τ) (ms0_6 t) fullShare ((dats m 0 c).before 6 t d6) ⊢ (dats m 0 c).leavesExact 6 t := by
      rw [Dat.leavesExact_idle (dats m 0 c) 6 t (idleOff t hc1) (noFlushOff t hc1)]
      iintro H; iexists _; iexact H
    by_cases h0 : t.val % 4 = 0
    · ihave HP := (PhiS_any m c t.val) $$ HP
      icases HP with ⟨%ksq, %mb, %nb, %sm, %sq, HP⟩
      iapply (hb ((dats m 0 c).before 6 t d6) _ _ (soundA m c t h0 _ ksq mb nb sm sq) hq)
      unfold Ins
      isplitl [Ho]; · iexact Ho
      isplitr [H6 HP]
      · isplitl [H0]; · iexact H0
        isplitl [H1]; · iexact H1
        isplitl [H2]; · iexact H2
        isplitl [H3]; · iexact H3
        isplitl [H4]; · iexact H4
        iexact H5
      isplitl [H6]; · iexact H6
      iexact HP
    · obtain ⟨n, hn⟩ : ∃ n, t.val = n + 1 := ⟨t.val - 1, by omega⟩
      iapply (hb ((dats m 0 c).before 6 t d6) _ _ (by rw [hn]; exact soundB m c t n hn (by omega) (by omega) _) hq)
      rw [hn]; unfold Ins
      isplitl [Ho]; · iexact Ho
      isplitr [H6 HP]
      · isplitl [H0]; · iexact H0
        isplitl [H1]; · iexact H1
        isplitl [H2]; · iexact H2
        isplitl [H3]; · iexact H3
        isplitl [H4]; · iexact H4
        iexact H5
      isplitl [H6]; · iexact H6
      iexact HP

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl]
  refine (PhiS_any m c _).trans ?_
  iintro ⟨%ksq, %mb, %nb, %sm, %sq, H⟩
  iapply (PhiA_of_scr c ksq mb nb sm sq)
  iexact H

/-! ## The run and the frame -/

set_option backward.isDefEq.respectTransparency.types false in
/-- The launch: every final state has the arrays the proof data names, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: termination, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.StageCIdeal.Hand

end
-- ==== Proof.StageC.Plain.lean ====
module

public import proofs.«01_k».proof.StageC
public import proofs.«01_k».proof.Proof.Gen.StageC
public import proofs.«01_k».proof.Proof.StageC.Run

@[expose] public section

set_option maxRecDepth 8192

noncomputable section

/-! # The frame of the printed kernel, from the frame of the idealized one -/

namespace Cert.StageC.Hand

open Idealize.ShloMosaic Idealize.ShloMosaic.TcCoe Idealize.SL Idealize.SL.Sem

variable {F : FTy → Type} [FloatOps F]

/-- A named constant read as the word it is printed from. -/
abbrev plainly : Named F where
  named _ _ {_} w := Scalar.ofBits _ w

/-- The two kernel bodies are one, a named constant being read as its word. -/
theorem body_eq : @Cert.StageC.cc0_body F _ _ = @Cert.StageCIdeal.cc0_body F _ plainly _ := by
  funext i a1 h1 a2 h2 a3 h3 a4 h4 a5 h5 a6 h6 a7 h7
  rfl

/-- So are the two body tables. -/
theorem table_eq : (Cert.StageC.defs₀ (F := F)) = @Cert.StageCIdeal.defs₀ F _ plainly _ := by
  unfold Cert.StageC.defs₀ Cert.StageCIdeal.defs₀
  congr 1
  funext l x
  match l, x with
  | 0, (t, s) => rfl

/-- And the two programs' definitions. -/
theorem defs_eq : (Cert.StageC.defs (F := F)) = @Cert.StageCIdeal.defs F _ plainly _ := by
  unfold Cert.StageC.defs Cert.StageCIdeal.defs
  rw [table_eq]
  rfl

variable (m : (ℓ : Loc Cert.StageC.nD Cert.StageC.τ Cert.StageC.sig) → Buf (Elt F) ℓ) (ρ : Dev Cert.StageC.nD → PrngReg)

/-- The frame of the printed kernel: termination, the arguments unchanged, every counter at zero. -/
theorem frame : θ_run Cert.StageC.defs (onTc (τ := Cert.StageC.τ) (Cert.StageC.main (F := F))) ⟨m, fun _ => 0, ρ⟩ (fun r => (∀ c : Dev Cert.StageC.nD,
      r.2.mem ((c.tc : Thread Cert.StageC.nD Cert.StageC.τ).loc Cert.StageC.main_arg0) = m ((c.tc : Thread Cert.StageC.nD Cert.StageC.τ).loc Cert.StageC.main_arg0)
      ∧ r.2.mem ((c.tc : Thread Cert.StageC.nD Cert.StageC.τ).loc Cert.StageC.main_arg1) = m ((c.tc : Thread Cert.StageC.nD Cert.StageC.τ).loc Cert.StageC.main_arg1)
      ∧ r.2.mem ((c.tc : Thread Cert.StageC.nD Cert.StageC.τ).loc Cert.StageC.main_arg2) = m ((c.tc : Thread Cert.StageC.nD Cert.StageC.τ).loc Cert.StageC.main_arg2)
      ∧ r.2.mem ((c.tc : Thread Cert.StageC.nD Cert.StageC.τ).loc Cert.StageC.main_arg3) = m ((c.tc : Thread Cert.StageC.nD Cert.StageC.τ).loc Cert.StageC.main_arg3)
      ∧ r.2.mem ((c.tc : Thread Cert.StageC.nD Cert.StageC.τ).loc Cert.StageC.main_arg4) = m ((c.tc : Thread Cert.StageC.nD Cert.StageC.τ).loc Cert.StageC.main_arg4))
      ∧ r.2.sem = fun _ => 0) := by
  rw [defs_eq]
  exact @Cert.StageCIdeal.Hand.frame F _ plainly m ρ

end Cert.StageC.Hand
end
-- ==== Proof.Knn.Select.lean ====
module

public import Idealize.ShloMosaic.Lib.SortPrefix
public import Idealize.ShloMosaic.Lib.Pointwise

@[expose] public section

noncomputable section

namespace Cert.Knn

open Idealize.ShloMosaic

/-! # The nearest entries of a row of distances, one after another -/

variable {n : ℕ} [NeZero n]

theorem exists_least (d : Fin n → EReal) : ∃ k, (∀ j, d k ≤ d j) ∧ ∀ j, d j = d k → k ≤ j := by
  obtain ⟨k, -, hk⟩ := Finset.exists_min_image Finset.univ (fun k => toLex (d k, k)) ⟨⟨0, Nat.pos_of_ne_zero (NeZero.ne n)⟩, Finset.mem_univ _⟩
  refine ⟨k, fun j => ?_, fun j hj => ?_⟩
  · rcases Prod.Lex.toLex_le_toLex.mp (hk j (Finset.mem_univ _)) with h | h
    · exact h.le
    · exact h.1.le
  · rcases Prod.Lex.toLex_le_toLex.mp (hk j (Finset.mem_univ _)) with h | h
    · exact absurd h (by simp [hj])
    · exact h.2

/-- The first position of the least entry. -/
def least (d : Fin n → EReal) : Fin n := (exists_least d).choose

theorem least_le (d : Fin n → EReal) (j : Fin n) : d (least d) ≤ d j := (exists_least d).choose_spec.1 j

theorem least_first (d : Fin n → EReal) (j : Fin n) (h : d j = d (least d)) : least d ≤ j :=
  (exists_least d).choose_spec.2 j h

/-- The running minimum of a row is its least entry. -/
theorem fold_min (d : Fin n → EReal) : Finset.univ.fold min ⊤ d = d (least d) := by
  apply le_antisymm
  · exact (Finset.fold_min_le _).mpr (Or.inr ⟨least d, Finset.mem_univ _, le_refl _⟩)
  · exact (Finset.le_fold_min _).mpr ⟨le_top, fun j _ => least_le d j⟩

/-- A running signed minimum of words is the word that is among them and is at most each. -/
theorem fold_minsi {ι : Type} (s : Finset ι) (b c : BitVec 32) (f : ι → BitVec 32) (hb : c.toInt ≤ b.toInt)
    (hc : ∃ k ∈ s, f k = c) (h : ∀ k ∈ s, c.toInt ≤ (f k).toInt) : s.fold IntOp.minsi b f = c := by
  apply BitVec.eq_of_toInt_eq
  have hm : ∀ x y : BitVec 32, (IntOp.minsi x y).toInt = min x.toInt y.toInt := fun x y => by
    unfold IntOp.minsi
    by_cases hxy : x.slt y
    · rw [if_pos hxy]; rw [BitVec.slt_iff_toInt_lt] at hxy; exact (min_eq_left hxy.le).symm
    · rw [if_neg hxy]; rw [BitVec.slt_iff_toInt_lt] at hxy; exact (min_eq_right (not_lt.mp hxy)).symm
  rw [← Finset.fold_hom (op' := min) hm]
  obtain ⟨k, hk, e⟩ := hc
  apply le_antisymm
  · exact (Finset.fold_min_le _).mpr (Or.inr ⟨k, hk, by rw [e]⟩)
  · exact (Finset.le_fold_min _).mpr ⟨hb, h⟩

theorem toInt_ofNat (k : ℕ) (h : k < 2 ^ 31) : (BitVec.ofNat 32 k).toInt = k := by
  rw [BitVec.toInt_ofNat']
  exact Int.bmod_eq_of_le (by omega) (by omega)

/-- The least of the row numbers at which a row holds its minimum. -/
theorem fold_least (hn : n < 2 ^ 31) (d : Fin n → EReal) :
    Finset.univ.fold IntOp.minsi (2147483647#32)
      (fun x : Fin n => if d x = d (least d) then BitVec.ofNat 32 x.val else BitVec.ofNat 32 n) = BitVec.ofNat 32 (least d).val := by
  have hl := (least d).isLt
  refine fold_minsi _ _ _ _ ?_ ⟨least d, Finset.mem_univ _, if_pos rfl⟩ fun k _ => ?_
  · rw [toInt_ofNat _ (by omega)]
    show ((least d).val : ℤ) ≤ 2147483647
    omega
  · rw [toInt_ofNat _ (by omega)]
    split
    · next h =>
      have := least_first d k h
      rw [toInt_ofNat _ (by omega)]
      exact_mod_cast this
    · rw [toInt_ofNat _ (by omega)]
      exact_mod_cast hl.le

/-- The row after its first `r` selections, each at `⊤`. -/
def rest (d : Fin n → EReal) : ℕ → Fin n → EReal
  | 0 => d
  | r + 1 => fun j => if j = least (rest d r) then ⊤ else rest d r j

/-- The `r`-th nearest position. -/
def sel (d : Fin n → EReal) (r : ℕ) : Fin n := least (rest d r)

theorem rest_succ (d : Fin n → EReal) (r : ℕ) (j : Fin n) : rest d (r + 1) j = if j = sel d r then ⊤ else rest d r j := rfl

theorem rest_of_ne (d : Fin n → EReal) (j : Fin n) (r : ℕ) (h : ∀ s < r, sel d s ≠ j) : rest d r j = d j := by
  induction r with
  | zero => rfl
  | succ r ih =>
    rw [rest_succ, if_neg (h r (Nat.lt_succ_self r)).symm]
    exact ih fun s hs => h s (Nat.lt_succ_of_lt hs)

theorem rest_sel (d : Fin n → EReal) (s r : ℕ) (h : s < r) : rest d r (sel d s) = ⊤ := by
  induction r with
  | zero => exact absurd h (Nat.not_lt_zero _)
  | succ r ih =>
    rw [rest_succ]
    split
    · rfl
    · next hne =>
      refine ih (lt_of_le_of_ne (Nat.lt_succ_iff.mp h) fun e => hne (by rw [e]))

theorem le_rest (d : Fin n → EReal) (r : ℕ) (j : Fin n) : d j ≤ rest d r j := by
  induction r with
  | zero => exact le_refl _
  | succ r ih =>
    rw [rest_succ]
    split
    · exact le_top
    · exact ih

/-- While rows are left, the selection is of an entry not selected before. -/
theorem rest_sel_ne_top (d : Fin n → EReal) (hd : ∀ j, d j ≠ ⊤) (r : ℕ) (h : r < n) : rest d r (sel d r) ≠ ⊤ := by
  classical
  have hc : ((Finset.range r).image (sel d)).card < Fintype.card (Fin n) := by
    rw [Fintype.card_fin]
    exact lt_of_le_of_lt Finset.card_image_le (by rw [Finset.card_range]; exact h)
  obtain ⟨j, hj⟩ : ∃ j, j ∉ (Finset.range r).image (sel d) := by
    by_contra hne
    push Not at hne
    rw [Finset.eq_univ_of_forall hne, Finset.card_univ] at hc
    exact lt_irrefl _ hc
  have hr : rest d r j = d j := rest_of_ne d j r fun s hs e => hj (Finset.mem_image.mpr ⟨s, Finset.mem_range.mpr hs, e⟩)
  intro htop
  have := least_le (rest d r) j
  rw [show rest d r (least (rest d r)) = ⊤ from htop, hr] at this
  exact hd j (top_le_iff.mp this)

theorem sel_ne (d : Fin n → EReal) (hd : ∀ j, d j ≠ ⊤) (s r : ℕ) (hs : s < r) (h : r < n) : sel d s ≠ sel d r := fun e =>
  rest_sel_ne_top d hd r h (by rw [← e]; exact rest_sel d s r hs)

/-- An entry not selected in the first `r` rounds is not before the `r`-th selection. -/
theorem sel_before (d : Fin n → EReal) (hd : ∀ j, d j ≠ ⊤) (r : ℕ) (h : r < n) (p : Fin n) (hp : ∀ s < r, sel d s ≠ p) :
    d (sel d r) ≤ d p ∧ (d p = d (sel d r) → sel d r ≤ p) := by
  have h1 : rest d r (sel d r) = d (sel d r) := rest_of_ne d _ r fun s hs => sel_ne d hd s r hs h
  have h2 : rest d r p = d p := rest_of_ne d p r hp
  refine ⟨?_, fun e => ?_⟩
  · have := least_le (rest d r) p
    rw [h2] at this
    exact h1 ▸ this
  · refine least_first (rest d r) p ?_
    rw [h2, e]; exact h1.symm

/-- A stable sort by decreasing key puts the selections first, in order, when the keys decrease as the distances grow. -/
theorem sortedFrom_sel {k : ℕ} (hk : k ≤ n) (d key : Fin n → EReal) (hd : ∀ j, d j ≠ ⊤)
    (hkey : ∀ i j, key i < key j ↔ d j < d i) (B : Fin n → Fin n → Bool) (hB : ∀ i j, B i j = true ↔ key j < key i) (r : Fin k) :
    sortedFrom B (r.castLE hk) = sel d r.val := by
  classical
  let lt : EReal → EReal → Bool := fun a b => decide (b < a)
  let B' : Fin n → Fin n → Bool := fun i j => lt (key i) (key j) || (decide (key i = key j) && decide (i < j))
  have hB' : StrictTotalBefore B' := StrictTotalBefore.of_key_then_position lt key
    (fun a => by simp [lt]) (fun a b c => by simp only [lt, decide_eq_true_eq]; exact fun h1 h2 => lt_trans h2 h1)
    (fun a b => by
      simp only [lt, decide_eq_true_eq]
      rcases lt_trichotomy a b with h | h | h
      · exact Or.inr (Or.inr h)
      · exact Or.inr (Or.inl h)
      · exact Or.inl h)
  have hins : ∀ (a : Fin n) (l : List (Fin n)), (∀ b ∈ l, a < b) → insertBefore B a l = insertBefore B' a l := fun a l hl =>
    insertBefore_congr B B' a l fun b hb => by
      have hab := hl b hb
      have : decide (b < a) = false := decide_eq_false (not_lt.mpr hab.le)
      simp only [B', lt, this, Bool.and_false, Bool.or_false]
      rw [Bool.eq_iff_iff, hB, decide_eq_true_eq]
  have hsort : ∀ l : List (Fin n), l.Pairwise (· < ·) → stableSort B l = stableSort B' l := by
    intro l hl
    induction l with
    | nil => rfl
    | cons a l ih =>
      rw [List.pairwise_cons] at hl
      unfold stableSort
      rw [ih hl.2]
      exact hins a _ fun b hb => hl.1 b ((perm_stableSort B' l).mem_iff.mp hb)
  have hpos : sortPositions n B = sortPositions n B' := hsort _ (List.pairwise_lt_finRange n)
  have hfrom : sortedFrom B = sortedFrom B' := by
    funext i
    unfold sortedFrom
    rw [List.get_of_eq hpos]
    rfl
  have hbf : ∀ (r : ℕ) (_ : r < n) (p : Fin n), (∀ s < r, sel d s ≠ p) → B' p (sel d r) = false := fun r hr p hp => by
    obtain ⟨h1, h2⟩ := sel_before d hd r hr p hp
    rw [Bool.eq_false_iff]
    intro h
    simp only [B', lt, Bool.or_eq_true, Bool.and_eq_true, decide_eq_true_eq, hkey] at h
    rcases h with h | ⟨e, hlt⟩
    · exact absurd h (not_lt.mpr h1)
    · have e' : d p = d (sel d r) := by
        apply le_antisymm
        · by_contra hc
          have := (hkey p (sel d r)).mpr (not_le.mp hc)
          rw [e] at this; exact lt_irrefl _ this
        · exact h1
      exact absurd hlt (not_lt.mpr (h2 e'))
  rw [hfrom]
  refine hB'.sortedFrom_eq_of_prefix hk (fun i : Fin k => sel d i.val) ?_ ?_ ?_ r
  · intro i j e
    apply Fin.ext
    rcases lt_trichotomy i.val j.val with h | h | h
    · exact absurd e (sel_ne d hd _ _ h (lt_of_lt_of_le j.isLt hk))
    · exact h
    · exact absurd e.symm (sel_ne d hd _ _ h (lt_of_lt_of_le i.isLt hk))
  · intro i j hij
    refine hbf i.val (lt_of_lt_of_le i.isLt hk) _ fun s hs => ?_
    exact sel_ne d hd s j.val (lt_trans hs hij) (lt_of_lt_of_le j.isLt hk)
  · intro i p hp
    exact hbf i.val (lt_of_lt_of_le i.isLt hk) p fun s hs => hp ⟨s, lt_trans hs i.isLt⟩

/-- A sum against the indicator of one position is the entry there. -/
theorem sum_indicator (x : Fin n → EReal) (a : Fin n) : ∑ k, x k * (if k = a then (1 : EReal) else 0) = x a := by
  rw [Finset.sum_eq_single a]
  · rw [if_pos rfl, mul_one]
  · intro b _ hb; rw [if_neg hb, mul_zero]
  · intro h; exact absurd (Finset.mem_univ _) h

/-- An edge feature's product: weights `wa` against the neighbour's features less the query's, weights `wb` against the query's. -/
def edge {C : ℕ} (wa wb : Fin C → EReal) (f : Fin C → Fin n → EReal) (q : Fin C → EReal) (a : Fin n) : EReal :=
  ∑ c, wa c * (f c a - q c) + ∑ c, wb c * q c

/-- The squared distances from the point `q` to the points `p`, not below zero. -/
def dist (p : Fin 3 → Fin n → EReal) (q : Fin 3 → EReal) (k : Fin n) : EReal :=
  max (∑ a, p a k * p a k + ∑ a, q a * q a - Ideal.ofBits .f32 1073741824#32 * ∑ a, p a k * q a) 0

end Cert.Knn

end
-- ==== Proof.Knn.Trace.lean ====
module

public import proofs.«01_k».proof.Proof.Knn.Select

@[expose] public section

noncomputable section

namespace Cert.Knn

/-! # What a loop over the neighbours accumulates

Each sequence is a loop's state after `k` rounds, at one place. -/

/-- A row whose least entry is put at `⊤` each round holds what is left of the first row. -/
theorem rest_of_step {n : ℕ} [NeZero n] (d : ℕ → Fin n → EReal) (h : ∀ k i, d (k + 1) i = if i = least (d k) then ⊤ else d k i) (k : ℕ) :
    d k = rest (d 0) k := by
  induction k with
  | zero => rfl
  | succ k ih => funext i; rw [h, ih]; rfl

/-- A running maximum. -/
theorem max_of_step (f p : ℕ → EReal) (h : ∀ k, f (k + 1) = max (f k) (p k)) (k : ℕ) : f k = (Finset.range k).fold max (f 0) p := by
  induction k with
  | zero => rfl
  | succ k ih => rw [h, ih, Finset.range_add_one, Finset.fold_insert Finset.notMem_range_self, max_comm]

/-- A running minimum. -/
theorem min_of_step (f p : ℕ → EReal) (h : ∀ k, f (k + 1) = min (f k) (p k)) (k : ℕ) : f k = (Finset.range k).fold min (f 0) p := by
  induction k with
  | zero => rfl
  | succ k ih => rw [h, ih, Finset.range_add_one, Finset.fold_insert Finset.notMem_range_self, min_comm]

/-- A running sum. -/
theorem sum_of_step (f p : ℕ → EReal) (h : ∀ k, f (k + 1) = f k + p k) (k : ℕ) : f k = f 0 + ∑ r ∈ Finset.range k, p r := by
  induction k with
  | zero => simp
  | succ k ih => rw [h, ih, Finset.sum_range_succ, add_assoc]

end Cert.Knn

end
-- ==== Proof.Knn.Words.lean ====
module

public import Idealize.ShloMosaic.Lib.Pointwise

@[expose] public section

noncomputable section

namespace Cert.Knn

open Idealize.ShloMosaic

/-! # The constants and the word comparisons of every stage -/

/-- The word of plus infinity. -/
theorem inf_word : Ideal.ofBits .f32 2139095040#32 = ⊤ := by
  simp [Ideal.ofBits, Ideal.ieee]

/-- The word of minus infinity. -/
theorem bot_word : Ideal.ofBits .f32 4286578688#32 = ⊥ := by
  simp [Ideal.ofBits, Ideal.ieee]

/-- The word added to the variance is a positive number. -/
theorem eps_word : ∃ e : ℝ, 0 < e ∧ Ideal.ofBits .f32 925353388#32 = (e : EReal) := by
  refine ⟨_, ?_, by simp [Ideal.ofBits, Ideal.ieee, -EReal.coe_mul]; rfl⟩
  norm_num

/-- The slope of the leaky step is a number not below zero. -/
theorem slope_word : ∃ e : ℝ, 0 ≤ e ∧ Ideal.ofBits .f32 1045220557#32 = (e : EReal) := by
  refine ⟨_, ?_, by simp [Ideal.ofBits, Ideal.ieee, -EReal.coe_mul]; rfl⟩
  norm_num

/-- The integer zero, converted, is zero. -/
theorem zero_word : (FloatOps.sitofp .f32 (0#32) : Ideal .f32) = (0 : EReal) := by
  show ((((0#32).toInt : ℤ) : ℝ) : EReal) = 0
  norm_num

/-- A truth value widened and converted is one or zero. -/
theorem truth_word (p : Prop) [Decidable p] :
    (FloatOps.sitofp .f32 (BitVec.setWidth 32 (if p then 1#1 else 0#1)) : Ideal .f32) = if p then (1 : EReal) else 0 := by
  split
  · show ((((1#32).toInt : ℤ) : ℝ) : EReal) = 1
    norm_num
  · exact zero_word

/-- Two positions are equal exactly when their words are. -/
theorem same_word {n : ℕ} (hn : n < 2 ^ 31) (i k : Fin n) :
    IntOp.cmpi .eq (BitVec.ofNat 32 i.val) (BitVec.ofNat 32 k.val) = if i = k then 1#1 else 0#1 := by
  have hi := i.isLt
  have hk := k.isLt
  unfold IntOp.cmpi
  by_cases e : i = k
  · rw [if_pos e, e]; simp
  · rw [if_neg e]
    have : BitVec.ofNat 32 i.val ≠ BitVec.ofNat 32 k.val := fun h => e (by
      have := congrArg BitVec.toNat h
      rw [BitVec.toNat_ofNat, BitVec.toNat_ofNat, Nat.mod_eq_of_lt (by omega), Nat.mod_eq_of_lt (by omega)] at this
      exact Fin.ext this)
    show BitVec.ofBool (_ == _) = _
    rw [beq_eq_false_iff_ne.mpr this]
    rfl

end Cert.Knn

end
-- ==== Proof.StageC.Vals.lean ====
module

public import proofs.«01_k».proof.Proof.StageC.Run
public import proofs.«01_k».proof.Proof.Knn.Trace
public import proofs.«01_k».proof.Proof.Knn.Words
public import Idealize.ShloMosaic.Lib.Pointwise
public import Idealize.ShloMosaic.Lib.Pipeline.ValueKit

@[expose] public section

set_option maxRecDepth 16384

noncomputable section

namespace Cert.StageCIdeal.Hand
open Idealize.ShloMosaic.TcCoe

open Cert.StageCIdeal.Gen
open Idealize.ShloMosaic

theorem rowIx_at (i : Fin 512) (j : Fin 128) : rowIx (ix2 i j) = BitVec.ofNat 32 i.val := by
  unfold rowIx
  pointwise

theorem mask_named : (Named.named (F := Ideal) κ "mask" (φ := .f32) 1900671690#32) = ⊤ := rfl
theorem floor_named : (Named.named (F := Ideal) κ "floor" (φ := .f32) 4048155338#32) = ⊥ := rfl

/-- The mask of a round is set at the first place of the least entry of each column. -/
theorem hit (d : Vec Ideal S512x128 .f32) (i : Fin 512) (j : Fin 128) :
    k0_pay8 (F := Ideal) rowIx d (ix2 i j) = if i = Knn.least (fun k : Fin 512 => d (ix2 k j)) then 1#1 else 0#1 := by
  pointwise [k0_pay8]
  simp only [Knn.inf_word, rowIx_at, Knn.fold_min]
  rw [Knn.fold_least (by norm_num) (fun k => d (ix2 k j))]
  exact Knn.same_word (by norm_num) _ _

/-- Marking puts the least entry of each column at `⊤` and leaves the others. -/
theorem open_at (d : Vec Ideal S512x128 .f32) (i : Fin 512) (j : Fin 128) :
    k0_pay9 (F := Ideal) rowIx d (ix2 i j) = if i = Knn.least (fun k : Fin 512 => d (ix2 k j)) then ⊤ else d (ix2 i j) := by
  pointwise [k0_pay9]
  rw [hit, mask_named]
  split <;> rfl

/-- The round's product is taken at the marked neighbour. -/
theorem prod_at (v6 : FVec Ideal S64x512 .f32) (v14 : FVec Ideal S64x128 .f32) (d : Vec Ideal S512x128 .f32) (w : Vec Ideal S64x128 .f32) (i : Fin 64) (j : Fin 128) :
    k0_pay10 v6 rowIx v14 d w (ix2 i j) =
      Knn.edge (fun c : Fin 64 => w (ix2 i ⟨c.val, by omega⟩)) (fun c => w (ix2 i ⟨64 + c.val, by omega⟩)) (fun c k => v6 (ix2 c k))
        (fun c => v14 (ix2 c j)) (Knn.least (fun k : Fin 512 => d (ix2 k j))) := by
  pointwise [k0_pay10]
  simp only [hit, Knn.truth_word, Knn.sum_indicator]
  rfl

/-- The product of the `r`-th neighbour of query `j` at output channel `i`, from the loop's inputs. -/
def prodOf (v6 : FVec Ideal S64x512 .f32) (v14 : FVec Ideal S64x128 .f32) (w : Vec Ideal S64x128 .f32) (d : Vec Ideal S512x128 .f32)
    (i : Fin 64) (j : Fin 128) (r : ℕ) : EReal :=
  Knn.edge (fun c : Fin 64 => w (ix2 i ⟨c.val, by omega⟩)) (fun c => w (ix2 i ⟨64 + c.val, by omega⟩)) (fun c k => v6 (ix2 c k))
    (fun c => v14 (ix2 c j)) (Knn.sel (fun k : Fin 512 => d (ix2 k j)) r)

section
variable (v6 : FVec Ideal S64x512 .f32) (v14 : FVec Ideal S64x128 .f32) (w : Vec Ideal S64x128 .f32) (s : LState Ideal)

/-- The distances still open after `k` neighbours. -/
theorem lstate_d (k : ℕ) (i : Fin 512) (j : Fin 128) :
    (lstate v6 rowIx v14 w s k).d (ix2 i j) = Knn.rest (fun k' : Fin 512 => s.d (ix2 k' j)) k i := by
  refine congrFun (Knn.rest_of_step (fun k i => (lstate v6 rowIx v14 w s k).d (ix2 i j)) (fun k i => ?_) k) i
  show (lstate v6 rowIx v14 w s (k + 1)).d (ix2 i j) = _
  rw [show lstate v6 rowIx v14 w s (k + 1) = lstep v6 rowIx v14 w (lstate v6 rowIx v14 w s k) from rfl]
  unfold lstep
  dsimp only
  rw [open_at]

/-- The product of a round. -/
theorem lstate_prod (k : ℕ) (i : Fin 64) (j : Fin 128) :
    k0_pay10 v6 rowIx v14 (lstate v6 rowIx v14 w s k).d w (ix2 i j) = prodOf v6 v14 w s.d i j k := by
  rw [prod_at]
  simp only [lstate_d]
  rfl

/-- The largest product so far. -/
theorem lstate_mx (k : ℕ) (i : Fin 64) (j : Fin 128) :
    (lstate v6 rowIx v14 w s k).mx (ix2 i j) = (Finset.range k).fold max (s.mx (ix2 i j)) (prodOf v6 v14 w s.d i j) := by
  refine Knn.max_of_step (fun k => (lstate v6 rowIx v14 w s k).mx (ix2 i j)) _ (fun k => ?_) k
  show k0_pay11 (F := Ideal) _ _ _ _ _ _ (ix2 i j) = _
  pointwise [k0_pay11]
  rw [lstate_prod]

/-- The least product so far. -/
theorem lstate_mn (k : ℕ) (i : Fin 64) (j : Fin 128) :
    (lstate v6 rowIx v14 w s k).mn (ix2 i j) = (Finset.range k).fold min (s.mn (ix2 i j)) (prodOf v6 v14 w s.d i j) := by
  refine Knn.min_of_step (fun k => (lstate v6 rowIx v14 w s k).mn (ix2 i j)) _ (fun k => ?_) k
  show k0_pay12 (F := Ideal) _ _ _ _ _ _ (ix2 i j) = _
  pointwise [k0_pay12]
  rw [lstate_prod]

/-- The sum of the products so far. -/
theorem lstate_sm (k : ℕ) (i : Fin 64) (j : Fin 128) :
    (lstate v6 rowIx v14 w s k).sm (ix2 i j) = s.sm (ix2 i j) + ∑ r ∈ Finset.range k, prodOf v6 v14 w s.d i j r := by
  refine Knn.sum_of_step (fun k => (lstate v6 rowIx v14 w s k).sm (ix2 i j)) _ (fun k => ?_) k
  show k0_pay3 (F := Ideal) _ _ (ix2 i j) = _
  pointwise [k0_pay3]
  rw [lstate_prod]

/-- The sum of their squares so far. -/
theorem lstate_sq (k : ℕ) (i : Fin 64) (j : Fin 128) :
    (lstate v6 rowIx v14 w s k).sq (ix2 i j) =
      s.sq (ix2 i j) + ∑ r ∈ Finset.range k, prodOf v6 v14 w s.d i j r * prodOf v6 v14 w s.d i j r := by
  refine Knn.sum_of_step (fun k => (lstate v6 rowIx v14 w s k).sq (ix2 i j)) _ (fun k => ?_) k
  show k0_pay4 (F := Ideal) _ _ (ix2 i j) = _
  pointwise [k0_pay4]
  rw [lstate_prod]
end

/-- The group matrix has a one where two channels lie in one group. -/
theorem group_word : ∀ i j : Fin 64, k0_pay18 (F := Ideal) k0_pay15 (iota .tc S64x64 32 [1] iota_S64x64_d1_w32) 16#32 k0_pay16 k0_pay17
      (Scalar.extui (Scalar.cmpi .sgt 16#32 0#32)) (ix2 i j) = if i.val / 16 = j.val / 16 then (1 : EReal) else 0 := by
  intro i j
  pointwise [k0_pay18,k0_pay15,k0_pay16,k0_pay17]
  rw [← Knn.truth_word]
  congr 2
  revert i j
  decide +kernel

theorem off1_1 (n : ℕ) : ∀ a, k0_off1 (grid0.coords (pt n)) a = ![0, 0, 128 * (n % 4)] a := by
  intro a
  rw [k0_off1_eq, coord1]
theorem off2_1 (n : ℕ) : ∀ a, k0_off2 (grid0.coords (pt n)) a = ![0, 0, 128 * (n % 4)] a := by
  intro a
  rw [k0_off2_eq, coord1]

theorem qCoord_at (n) (i) (j : Fin 128) (x : Vec Ideal S1x3x512 .f32) : qCoord (F := Ideal) (grid0.coords (pt n)) x (ix3 0 i j) = x (ix3 0 i ⟨128 * (n % 4) + j.val, by have := j.isLt; omega⟩) := by
  have e1 : k0_off1 (grid0.coords (pt n)) 1 = 0 := off1_1 n 1
  have e2 : k0_off1 (grid0.coords (pt n)) 2 = 128 * (n % 4) := off1_1 n 2
  unfold qCoord
  pointwise
  congr 2
  · apply Fin.ext; show k0_off1 (grid0.coords (pt n)) 1 + i.val = i.val; omega
  · apply Fin.ext; show k0_off1 (grid0.coords (pt n)) 2 + j.val = 128 * (n % 4) + j.val; omega

theorem qFeat_at (n) (i) (j : Fin 128) (x : Vec Ideal S1x64x512 .f32) : qFeat (F := Ideal) (grid0.coords (pt n)) x (ix3 0 i j) = x (ix3 0 i ⟨128 * (n % 4) + j.val, by have := j.isLt; omega⟩) := by
  have e1 : k0_off2 (grid0.coords (pt n)) 1 = 0 := off2_1 n 1
  have e2 : k0_off2 (grid0.coords (pt n)) 2 = 128 * (n % 4) := off2_1 n 2
  unfold qFeat
  pointwise
  congr 2
  · apply Fin.ext; show k0_off2 (grid0.coords (pt n)) 1 + i.val = i.val; omega
  · apply Fin.ext; show k0_off2 (grid0.coords (pt n)) 2 + j.val = 128 * (n % 4) + j.val; omega

/-- Where each window lies at a point. -/
theorem idx : ∀ t : Fin cfg0.N, win0_0.index t = ![t.val / 4, 0, 0] ∧ win0_1.index t = ![t.val / 4, 0, 0] ∧ win0_2.index t = ![t.val / 4, 0, 0]
    ∧ win0_3.index t = ![0, 0] ∧ win0_4.index t = ![0, 0] ∧ win0_5.index t = ![0, 0] ∧ win0_6.index t = ![t.val / 4, 0, 0] :=
  (by decide +kernel : ∀ t : Fin grid0.N, _)

section
variable (m : (ℓ : Loc nD τ sig) → Buf (Elt Ideal) ℓ) (c : Dev nD) (b : Fin 16) (t : Fin cfg0.N) (ht : t.val / 4 = b.val)
include ht

theorem blk0 (a k) : iblk (F := Ideal) m c 0 t (ix3 0 a k) = m ((c : Thread nD τ).loc main_arg0) (ix3 b a k) := by
  blk_ext! [iblk, V, idx t]
theorem blk1 (a k) : iblk (F := Ideal) m c 1 t (ix3 0 k a) = m ((c : Thread nD τ).loc main_arg0) (ix3 b a k) := by
  blk_ext! [iblk, V, idx t]
theorem blk2 (a k) : iblk (F := Ideal) m c 2 t (ix3 0 a k) = m ((c : Thread nD τ).loc main_arg1) (ix3 b a k) := by
  blk_ext! [iblk, V, idx t]
omit ht
theorem blk3 (a k) : iblk (F := Ideal) m c 3 t (ix2 a k) = m ((c : Thread nD τ).loc main_arg2) (ix2 a k) := by
  blk_ext! [iblk, V, idx t]
theorem blk4 (a) : iblk (F := Ideal) m c 4 t (ix2 a 0) = m ((c : Thread nD τ).loc main_arg3) (ix1 a) := by
  blk_ext! [iblk, V, idx t]
theorem blk5 (a) : iblk (F := Ideal) m c 5 t (ix2 a 0) = m ((c : Thread nD τ).loc main_arg4) (ix1 a) := by
  blk_ext! [iblk, V, idx t]
end

section
variable (m : (ℓ : Loc nD τ sig) → Buf (Elt Ideal) ℓ) (c : Dev nD)

/-- The query column number `j` of tile `t`. -/
def qcol (t : ℕ) (j : Fin 128) : Fin 512 := ⟨128 * (t % 4) + j.val, by have := j.isLt; omega⟩

/-- Coordinate `a` of point `k` of batch entry `b`. -/
def crd (b : Fin 16) (a : Fin 3) (k : Fin 512) : EReal := m ((c : Thread nD τ).loc main_arg0) (ix3 b a k)

/-- The squared distances from query `q` of batch entry `b` to every key, not below zero. -/
def dist (b : Fin 16) (q : Fin 512) : Fin 512 → EReal :=
  Knn.dist (fun a k => m ((c : Thread nD τ).loc main_arg0) (ix3 b a k)) (fun a => m ((c : Thread nD τ).loc main_arg0) (ix3 b a q))

/-- The product of query `q`'s `r`-th neighbour at output channel `i`. -/
def prod (b : Fin 16) (i : Fin 64) (q : Fin 512) (r : ℕ) : EReal :=
  Knn.edge (fun k : Fin 64 => m ((c : Thread nD τ).loc main_arg2) (ix2 i ⟨k.val, by omega⟩))
    (fun k => m ((c : Thread nD τ).loc main_arg2) (ix2 i ⟨64 + k.val, by omega⟩))
    (fun a k => m ((c : Thread nD τ).loc main_arg1) (ix3 b a k)) (fun a => m ((c : Thread nD τ).loc main_arg1) (ix3 b a q))
    (Knn.sel (dist m c b q) r)

theorem pt_div (b : Fin 16) (t : ℕ) (ht : t < 4) : (pt (4 * b.val + t)).val / 4 = b.val := by
  show (4 * b.val + t) % 64 / 4 = b.val
  have := b.isLt
  omega

/-- The distances a point starts from. -/
theorem enter_d (b : Fin 16) (t : ℕ) (ht : t < 4) (sm sq : Vec Ideal S64x128 .f32) (k : Fin 512) (j : Fin 128) :
    (enter (grid0.coords (pt (4 * b.val + t))) (iblk m c 0 (pt (4 * b.val + t))) (norms m c (4 * b.val + t)) sm sq).d (ix2 k j) =
      dist m c b (qcol t j) k := by
  have hb := b.isLt
  have e1 : norms m c (4 * b.val + t) (ix2 k 0) = ∑ a : Fin 3, crd m c b a k * crd m c b a k := by
    unfold norms
    have hd : (pt (4 * ((4 * b.val + t) / 4))).val / 4 = b.val := by
      have := pt_div b 0 (by decide)
      rwa [show 4 * ((4 * b.val + t) / 4) = 4 * b.val + 0 from by omega]
    pointwise [k0_pay23]
    simp only [blk1 m c b _ hd]
    rfl
  have e2 : qcol t j = ⟨128 * ((4 * b.val + t) % 4) + j.val, by have := j.isLt; omega⟩ := by
    apply Fin.ext; show 128 * (t % 4) + j.val = 128 * ((4 * b.val + t) % 4) + j.val; omega
  unfold enter
  dsimp only
  pointwise [k0_pay28]
  simp only [e1, qCoord_at, blk0 m c b _ (pt_div b t ht), ← e2]
  rfl

/-- A point's products are those of its queries. -/
theorem prodOf_eq (b : Fin 16) (t : ℕ) (ht : t < 4) (sm sq : Vec Ideal S64x128 .f32) (i : Fin 64) (j : Fin 128) (r : ℕ) :
    prodOf (k0_pay26 (iblk m c 2 (pt (4 * b.val + t)))) (k0_pay27 (qFeat (grid0.coords (pt (4 * b.val + t))) (iblk m c 2 (pt (4 * b.val + t)))))
      (iblk m c 3 (pt (4 * b.val + t)))
      (enter (grid0.coords (pt (4 * b.val + t))) (iblk m c 0 (pt (4 * b.val + t))) (norms m c (4 * b.val + t)) sm sq).d i j r =
      prod m c b i (qcol t j) r := by
  have e2 : qcol t j = ⟨128 * ((4 * b.val + t) % 4) + j.val, by have := j.isLt; omega⟩ := by
    apply Fin.ext; show 128 * (t % 4) + j.val = 128 * ((4 * b.val + t) % 4) + j.val; omega
  unfold prodOf prod
  simp only [enter_d m c b t ht]
  simp only [blk3]
  have h26 : ∀ a k, k0_pay26 (F := Ideal) (iblk m c 2 (pt (4 * b.val + t))) (ix2 a k) = m ((c : Thread nD τ).loc main_arg1) (ix3 b a k) := fun a k => by
    pointwise [k0_pay26]
    exact blk2 m c b _ (pt_div b t ht) a k
  have h27 : ∀ a, k0_pay27 (F := Ideal) (qFeat (grid0.coords (pt (4 * b.val + t))) (iblk m c 2 (pt (4 * b.val + t)))) (ix2 a j) =
      m ((c : Thread nD τ).loc main_arg1) (ix3 b a (qcol t j)) := fun a => by
    pointwise [k0_pay27]
    rw [qFeat_at, e2]
    exact blk2 m c b _ (pt_div b t ht) a _
  simp only [h26, h27]

/-- The state after a point, from the sums before it. -/
theorem leave_at (b : Fin 16) (t : ℕ) (ht : t < 4) (sm sq : Vec Ideal S64x128 .f32) (i : Fin 64) (j : Fin 128) :
    let s := leave (grid0.coords (pt (4 * b.val + t))) (iblk m c 0 (pt (4 * b.val + t))) (iblk m c 2 (pt (4 * b.val + t)))
      (iblk m c 3 (pt (4 * b.val + t))) (norms m c (4 * b.val + t)) sm sq
    s.mx (ix2 i j) = (Finset.range 16).fold max ⊥ (prod m c b i (qcol t j))
    ∧ s.mn (ix2 i j) = (Finset.range 16).fold min ⊤ (prod m c b i (qcol t j))
    ∧ s.sm (ix2 i j) = sm (ix2 i j) + ∑ r ∈ Finset.range 16, prod m c b i (qcol t j) r
    ∧ s.sq (ix2 i j) = sq (ix2 i j) + ∑ r ∈ Finset.range 16, prod m c b i (qcol t j) r * prod m c b i (qcol t j) r := by
  intro s
  have hp := funext (prodOf_eq m c b t ht sm sq i j)
  refine ⟨?_, ?_, ?_, ?_⟩
  · show (lstate _ _ _ _ _ 16).mx _ = _
    rw [lstate_mx, hp]
    congr 1
  · show (lstate _ _ _ _ _ 16).mn _ = _
    rw [lstate_mn, hp]
    congr 1
  · show (lstate _ _ _ _ _ 16).sm _ = _
    rw [lstate_sm, hp]
    rfl
  · show (lstate _ _ _ _ _ 16).sq _ = _
    rw [lstate_sq, hp]
    rfl

/-- The state after tile `t`: its own extrema, and the sums over the tiles so far. -/
theorem left_at (b : Fin 16) (t : ℕ) (ht : t < 4) (i : Fin 64) (j : Fin 128) :
    (left m c (4 * b.val + t)).mx (ix2 i j) = (Finset.range 16).fold max ⊥ (prod m c b i (qcol t j))
    ∧ (left m c (4 * b.val + t)).mn (ix2 i j) = (Finset.range 16).fold min ⊤ (prod m c b i (qcol t j))
    ∧ (left m c (4 * b.val + t)).sm (ix2 i j) = ∑ t' ∈ Finset.range (t + 1), ∑ r ∈ Finset.range 16, prod m c b i (qcol t' j) r
    ∧ (left m c (4 * b.val + t)).sq (ix2 i j) =
      ∑ t' ∈ Finset.range (t + 1), ∑ r ∈ Finset.range 16, prod m c b i (qcol t' j) r * prod m c b i (qcol t' j) r := by
  induction t with
  | zero =>
    rw [left_first m c (4 * b.val + 0) (by omega)]
    obtain ⟨h1, h2, h3, h4⟩ := leave_at m c b 0 ht (k0_pay24 (F := Ideal)) (k0_pay25 (F := Ideal)) i j
    refine ⟨h1, h2, h3.trans ?_, h4.trans ?_⟩
    · rw [Finset.sum_range_one]
      pointwise [k0_pay24]
    · rw [Finset.sum_range_one]
      pointwise [k0_pay25]
  | succ t ih =>
    obtain ⟨-, -, i3, i4⟩ := ih (by omega)
    obtain ⟨h1, h2, h3, h4⟩ := leave_at m c b (t + 1) ht (left m c (4 * b.val + t)).sm (left m c (4 * b.val + t)).sq i j
    have e : left m c (4 * b.val + (t + 1)) = _ := left_next m c (4 * b.val + t) (by omega)
    rw [e]
    refine ⟨h1, h2, h3.trans ?_, h4.trans ?_⟩
    · rw [i3, Finset.sum_range_succ _ (t + 1)]
    · rw [i4, Finset.sum_range_succ _ (t + 1)]
end

end Cert.StageCIdeal.Hand

end
-- ==== Proof.Knn.Norm.lean ====
module

public import proofs.«01_k».proof.Proof.Knn.Select
public import Idealize.ShloMosaic.PureOps.Ideal.Laws

@[expose] public section

noncomputable section

namespace Cert.Knn

open Idealize.ShloMosaic

/-! # Group normalisation, the leaky step and the maximum over the neighbours, on reals -/

/-- The leaky step with slope `a`. -/
def leaky (a x : EReal) : EReal := if 0 ≤ x then x else a * x

/-- The kernel's result at one entry: from the group's sum `S` and sum of squares `Q` over `N` entries, the entry's maximum and minimum. -/
def fused (N e a S Q g b mx mn : EReal) : EReal :=
  leaky a ((if 0 ≤ Ideal.div g (Ideal.sqrt (Ideal.div Q N - Ideal.div S N * Ideal.div S N + e)) then mx else mn) *
      Ideal.div g (Ideal.sqrt (Ideal.div Q N - Ideal.div S N * Ideal.div S N + e)) +
    (b - Ideal.div S N * Ideal.div g (Ideal.sqrt (Ideal.div Q N - Ideal.div S N * Ideal.div S N + e))))

/-- The reference's entry before its leaky step, from the group's mean and variance. -/
def normed (e mean var g b x : EReal) : EReal := Ideal.div (x - mean) (Ideal.sqrt (var + e)) * g + b

/-- A running maximum is an entry that is at least every other. -/
theorem fold_max_eq {ι : Type} (s : Finset ι) (f : ι → EReal) (k : ι) (hk : k ∈ s) (h : ∀ j ∈ s, f j ≤ f k) : s.fold max ⊥ f = f k := by
  apply le_antisymm
  · exact (Finset.fold_max_le _).mpr ⟨bot_le, h⟩
  · exact (Finset.le_fold_max _).mpr (Or.inr ⟨k, hk, le_refl _⟩)

theorem fold_min_eq {ι : Type} (s : Finset ι) (f : ι → EReal) (k : ι) (hk : k ∈ s) (h : ∀ j ∈ s, f k ≤ f j) : s.fold min ⊤ f = f k := by
  apply le_antisymm
  · exact (Finset.fold_min_le _).mpr (Or.inr ⟨k, hk, le_refl _⟩)
  · exact (Finset.le_fold_min _).mpr ⟨le_top, h⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_real (x y : ℝ) (h : y ≠ 0) : Ideal.div (x : EReal) (y : EReal) = ((x / y : ℝ) : EReal) := by
  rw [Ideal.div_coe h, ← EReal.coe_mul, mul_one_div]

theorem sqrt_real (x : ℝ) (h : 0 ≤ x) : Ideal.sqrt (x : EReal) = ((Real.sqrt x : ℝ) : EReal) := by
  rw [Ideal.sqrt_coe, if_neg (not_lt.mpr h)]

/-- The leaky step on reals. -/
def leakyR (a x : ℝ) : ℝ := if 0 ≤ x then x else a * x

theorem leaky_real (a x : ℝ) : leaky (a : EReal) (x : EReal) = ((leakyR a x : ℝ) : EReal) := by
  unfold leaky leakyR
  by_cases h : 0 ≤ x
  · rw [if_pos h, if_pos (by exact_mod_cast h)]
  · rw [if_neg h, if_neg (by exact_mod_cast h), EReal.coe_mul]

theorem leakyR_mono {a : ℝ} (h : 0 ≤ a) : Monotone (leakyR a) := by
  intro x y hxy
  unfold leakyR
  split <;> split
  · exact hxy
  · next h1 h2 => exact absurd (le_trans h1 hxy) h2
  · next h1 h2 => exact le_trans (mul_nonpos_of_nonneg_of_nonpos h (not_le.mp h1).le) h2
  · exact mul_le_mul_of_nonneg_left hxy h

/-- The mean of the squares less the square of the mean is the mean of the squared deviations. -/
theorem variance {ι : Type} [Fintype ι] (x : ι → ℝ) (N : ℝ) (hN : N ≠ 0) (hc : (Fintype.card ι : ℝ) = N) :
    (∑ i, (x i - (∑ j, x j) / N) * (x i - (∑ j, x j) / N)) / N = (∑ i, x i * x i) / N - (∑ j, x j) / N * ((∑ j, x j) / N) := by
  have h : ∑ i, (x i - (∑ j, x j) / N) * (x i - (∑ j, x j) / N) =
      ∑ i, x i * x i - 2 * ((∑ j, x j) / N) * ∑ j, x j + N * ((∑ j, x j) / N * ((∑ j, x j) / N)) := by
    have hs : N * ((∑ j, x j) / N * ((∑ j, x j) / N)) = ∑ _i : ι, (∑ j, x j) / N * ((∑ j, x j) / N) := by
      rw [Finset.sum_const, nsmul_eq_mul, Finset.card_univ, hc]
    rw [hs, Finset.mul_sum, ← Finset.sum_sub_distrib, ← Finset.sum_add_distrib]
    exact Finset.sum_congr rfl fun i _ => by ring
  rw [h]
  field_simp
  ring

/-- The fused form from sums, maximum and minimum is the maximum over the neighbours of the normalised, leaky entries. -/
theorem fused_eq {ι : Type} [Fintype ι] {k : ℕ} (hk : 0 < k) (x : ι → ℝ) (N e a : ℝ) (hN : 0 < N) (hc : (Fintype.card ι : ℝ) = N) (he : 0 < e)
    (ha : 0 ≤ a) (g b : ℝ) (y : ℕ → ℝ) (S Q V : EReal) (hS : S = ∑ i, (x i : EReal)) (hQ : Q = ∑ i, (x i : EReal) * (x i : EReal))
    (hV : V = ∑ i, ((x i : EReal) - Ideal.div S N) * ((x i : EReal) - Ideal.div S N)) :
    fused N e a S Q g b ((Finset.range k).fold max ⊥ fun r => (y r : EReal)) ((Finset.range k).fold min ⊤ fun r => (y r : EReal)) =
      (Finset.range k).fold max ⊥ fun r => leaky a (normed e (Ideal.div S N) (Ideal.div V N) g b (y r)) := by
  have hN' : N ≠ 0 := hN.ne'
  have hS' : Ideal.div S N = (((∑ i, x i) / N : ℝ) : EReal) := by
    rw [hS, ← coe_sum, div_real _ _ hN']
  have hQ' : Ideal.div Q N = (((∑ i, x i * x i) / N : ℝ) : EReal) := by
    rw [hQ, ← div_real _ _ hN', coe_sum]
    rfl
  have hV' : Ideal.div V N = (((∑ i, (x i - (∑ j, x j) / N) * (x i - (∑ j, x j) / N)) / N : ℝ) : EReal) := by
    rw [hV, ← div_real _ _ hN', coe_sum]
    simp only [hS']
    rfl
  have hv := variance x N hN' hc
  have hvp : 0 ≤ (∑ i, (x i - (∑ j, x j) / N) * (x i - (∑ j, x j) / N)) / N :=
    div_nonneg (Finset.sum_nonneg fun i _ => mul_self_nonneg _) hN.le
  obtain ⟨r₁, hr₁, hmax⟩ := Finset.exists_max_image (Finset.range k) y ⟨0, Finset.mem_range.mpr hk⟩
  obtain ⟨r₀, hr₀, hmin⟩ := Finset.exists_min_image (Finset.range k) y ⟨0, Finset.mem_range.mpr hk⟩
  rw [fold_max_eq _ _ r₁ hr₁ fun j hj => EReal.coe_le_coe_iff.mpr (hmax j hj),
    fold_min_eq _ _ r₀ hr₀ fun j hj => EReal.coe_le_coe_iff.mpr (hmin j hj)]
  rw [hv] at hvp hV'
  unfold fused normed
  rw [hS', hQ', hV']
  generalize (∑ i, x i * x i) / N = A at *
  generalize (∑ i, x i) / N = μ at *
  have hs : 0 < Real.sqrt (A - μ * μ + e) := Real.sqrt_pos.mpr (by linarith)
  have hsq : Ideal.sqrt ((A : EReal) - (μ : EReal) * (μ : EReal) + (e : EReal)) = ((Real.sqrt (A - μ * μ + e) : ℝ) : EReal) := by
    rw [← sqrt_real _ (by linarith)]
    rfl
  have hsq' : Ideal.sqrt (((A - μ * μ : ℝ) : EReal) + (e : EReal)) = ((Real.sqrt (A - μ * μ + e) : ℝ) : EReal) := by
    rw [← sqrt_real _ (by linarith)]
    rfl
  rw [hsq, hsq']
  generalize Real.sqrt (A - μ * μ + e) = t at *
  rw [div_real _ _ hs.ne']
  have hR : ∀ z : ℝ, leaky (a : EReal) (Ideal.div ((z : EReal) - (μ : EReal)) (t : EReal) * (g : EReal) + (b : EReal)) =
      ((leakyR a (z * (g / t) + (b - μ * (g / t))) : ℝ) : EReal) := fun z => by
    rw [← EReal.coe_sub, div_real _ _ hs.ne', ← EReal.coe_mul, ← EReal.coe_add, leaky_real]
    congr 2
    ring
  have hL : ∀ z : ℝ, leaky (a : EReal) ((z : EReal) * ((g / t : ℝ) : EReal) + ((b : EReal) - (μ : EReal) * ((g / t : ℝ) : EReal))) =
      ((leakyR a (z * (g / t) + (b - μ * (g / t))) : ℝ) : EReal) := fun z => by
    rw [← EReal.coe_mul, ← EReal.coe_mul, ← EReal.coe_sub, ← EReal.coe_add, leaky_real]
  simp only [hR]
  by_cases hg : 0 ≤ g / t
  · rw [if_pos (by exact_mod_cast hg), hL]
    refine (fold_max_eq _ (fun j => ((leakyR a (y j * (g / t) + (b - μ * (g / t))) : ℝ) : EReal)) r₁ hr₁ fun j hj =>
      EReal.coe_le_coe_iff.mpr (leakyR_mono ha ?_)).symm
    have := mul_le_mul_of_nonneg_right (hmax j hj) hg
    linarith
  · rw [if_neg (by exact_mod_cast hg), hL]
    refine (fold_max_eq _ (fun j => ((leakyR a (y j * (g / t) + (b - μ * (g / t))) : ℝ) : EReal)) r₀ hr₀ fun j hj =>
      EReal.coe_le_coe_iff.mpr (leakyR_mono ha ?_)).symm
    have := mul_le_mul_of_nonpos_right (hmin j hj) (not_le.mp hg).le
    linarith

/-- A sum over `A * B` positions, tile by tile. -/
theorem sum_tiles {M : Type} [AddCommMonoid M] (A B : ℕ) (f : Fin (A * B) → M) :
    ∑ q, f q = ∑ t : Fin A, ∑ j : Fin B, f ⟨B * t.val + j.val, by
      have h1 := t.isLt
      have h2 := j.isLt
      calc B * t.val + j.val < B * t.val + B := by omega
        _ = B * (t.val + 1) := by ring
        _ ≤ B * A := Nat.mul_le_mul_left B h1
        _ = A * B := by ring⟩ := by
  rw [← Fintype.sum_prod_type', ← Equiv.sum_comp finProdFinEquiv]
  refine Finset.sum_congr rfl fun p _ => congrArg f (Fin.ext ?_)
  show p.2.val + B * p.1.val = B * p.1.val + p.2.val
  exact Nat.add_comm _ _

/-- A sum against the indicator of a group of `C` channels is the sum over the group. -/
theorem sum_group (G C : ℕ) (hC : 0 < C) (f : Fin (G * C) → EReal) (o : ℕ) (ho : o / C < G) :
    ∑ x : Fin (G * C), (if o / C = x.val / C then (1 : EReal) else 0) * f x = ∑ j : Fin C, f ⟨C * (o / C) + j.val, by
      have h2 := j.isLt
      calc C * (o / C) + j.val < C * (o / C) + C := by omega
        _ = C * (o / C + 1) := by ring
        _ ≤ C * G := Nat.mul_le_mul_left C ho
        _ = G * C := by ring⟩ := by
  rw [sum_tiles, Finset.sum_eq_single ⟨o / C, ho⟩]
  · refine Finset.sum_congr rfl fun j _ => ?_
    have : (C * (o / C) + j.val) / C = o / C := by
      rw [Nat.mul_add_div hC, Nat.div_eq_of_lt j.isLt, Nat.add_zero]
    show (if o / C = (C * (o / C) + j.val) / C then (1 : EReal) else 0) * _ = _
    rw [if_pos this.symm, one_mul]
  · intro t _ ht
    refine Finset.sum_eq_zero fun j _ => ?_
    have : (C * t.val + j.val) / C = t.val := by
      rw [Nat.mul_add_div hC, Nat.div_eq_of_lt j.isLt, Nat.add_zero]
    show (if o / C = (C * t.val + j.val) / C then (1 : EReal) else 0) * _ = _
    rw [this, if_neg fun e => ht (Fin.ext e.symm), zero_mul]
  · intro h; exact absurd (Finset.mem_univ _) h

end Cert.Knn

end
-- ==== Proof.Knn.Layer.lean ====
module

public import proofs.«01_k».proof.Proof.Knn.Select
public import proofs.«01_k».proof.Proof.Knn.Norm

@[expose] public section

noncomputable section

namespace Cert.Knn

open Idealize.ShloMosaic

/-! # One layer: the fused normalisation over tiles and groups equals the plain one

An extended real is called real here when it is the image of a real number. -/

/-- The value is neither infinity. -/
def IsReal (x : EReal) : Prop := ∃ r : ℝ, x = r

theorem IsReal.coe (r : ℝ) : IsReal r := ⟨r, rfl⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.max_zero {x : EReal} : IsReal x → IsReal (max x 0)
  | ⟨a, ha⟩ => ⟨max a 0, by rw [ha]; exact (EReal.coe_strictMono.monotone.map_max).symm⟩
theorem IsReal.sum {ι : Type} {s : Finset ι} {f : ι → EReal} (h : ∀ i, IsReal (f i)) : IsReal (∑ i ∈ s, f i) := by
  choose g hg using h
  exact ⟨∑ i ∈ s, g i, by simp only [hg]; exact (coe_sum s g).symm⟩
theorem IsReal.ne_top {x : EReal} : IsReal x → x ≠ ⊤
  | ⟨a, ha⟩ => by rw [ha]; exact EReal.coe_ne_top a

/-- The word `2.0`. -/
theorem two_word : Ideal.ofBits .f32 1073741824#32 = ((2 : ℝ) : EReal) := by
  simp [Ideal.ofBits, Ideal.ieee, -EReal.coe_mul]; norm_num

/-- Distances between real points are real. -/
theorem dist_real {n : ℕ} {p : Fin 3 → Fin n → EReal} {q : Fin 3 → EReal} (hp : ∀ a k, IsReal (p a k)) (hq : ∀ a, IsReal (q a)) (k : Fin n) :
    IsReal (dist p q k) := by
  unfold dist
  rw [two_word]
  exact ((((IsReal.sum fun a => (hp a k).mul (hp a k)).add (IsReal.sum fun a => (hq a).mul (hq a))).sub
    ((IsReal.coe 2).mul (IsReal.sum fun a => (hp a k).mul (hq a))))).max_zero

theorem dist_nonneg {n : ℕ} (p : Fin 3 → Fin n → EReal) (q : Fin 3 → EReal) (k : Fin n) : 0 ≤ dist p q k := le_max_right _ _

/-- The product of an edge feature with real weights and features is real. -/
theorem edge_real {C n : ℕ} {wa wb : Fin C → EReal} {f : Fin C → Fin n → EReal} {q : Fin C → EReal} (ha : ∀ c, IsReal (wa c))
    (hb : ∀ c, IsReal (wb c)) (hf : ∀ c k, IsReal (f c k)) (hq : ∀ c, IsReal (q c)) (k : Fin n) : IsReal (edge wa wb f q k) :=
  (IsReal.sum fun c => (ha c).mul ((hf c k).sub (hq c))).add (IsReal.sum fun c => (hb c).mul (hq c))

/-- Channel number `x` of the group that output channel `o` lies in. -/
def member {G C : ℕ} (o : Fin (G * C)) (x : Fin C) : Fin (G * C) := ⟨C * (o.val / C) + x.val, by
  have h1 := x.isLt
  have ho : o.val / C < G := Nat.div_lt_of_lt_mul (by have := o.isLt; rwa [Nat.mul_comm C G])
  calc C * (o.val / C) + x.val < C * (o.val / C) + C := by omega
    _ = C * (o.val / C + 1) := by ring
    _ ≤ C * G := Nat.mul_le_mul_left _ ho
    _ = G * C := Nat.mul_comm _ _⟩

/-- Query number `j` of tile `t`. -/
def tileAt {T : ℕ} (t : Fin T) (j : Fin 128) : Fin (T * 128) := ⟨128 * t.val + j.val, by have := t.isLt; have := j.isLt; omega⟩

/-- The sum over a group of channels, in the kernel's order: tiles and neighbours first, then columns, then channels. -/
def tiledSum {G C T : ℕ} (f : Fin (G * C) → Fin (T * 128) → ℕ → EReal) (o : Fin (G * C)) : EReal :=
  ∑ x : Fin (G * C), (if o.val / C = x.val / C then (1 : EReal) else 0) * ∑ j : Fin 128, ∑ t : Fin T, ∑ r ∈ Finset.range 16, f x (tileAt t j) r

/-- The same sum in the reference's order. -/
def plainSum {G C Q : ℕ} (f : Fin (G * C) → Fin Q → ℕ → EReal) (o : Fin (G * C)) : EReal :=
  ∑ x : Fin C, ∑ y : Fin Q, ∑ r : Fin 16, f (member o x) y r.val

theorem tiledSum_eq {G C T : ℕ} (hC : 0 < C) (f : Fin (G * C) → Fin (T * 128) → ℕ → EReal) (o : Fin (G * C)) :
    tiledSum f o = plainSum f o := by
  have ho : o.val / C < G := Nat.div_lt_of_lt_mul (by have := o.isLt; rwa [Nat.mul_comm C G])
  unfold tiledSum plainSum
  rw [sum_group G C hC _ o ho]
  refine Finset.sum_congr rfl fun x _ => ?_
  rw [sum_tiles T 128, Finset.sum_comm]
  refine Finset.sum_congr rfl fun t _ => Finset.sum_congr rfl fun j _ => ?_
  exact (Finset.sum_range _)

/-- The kernel's fused normalisation, activation and maximum, over groups and tiles, is the reference's. -/
theorem layer_eq {G C T : ℕ} (hC : 0 < C) (P : Fin (G * C) → Fin (T * 128) → ℕ → EReal) (hP : ∀ o q r, IsReal (P o q r))
    (o : Fin (G * C)) (q : Fin (T * 128)) (N e a : ℝ) (hN : 0 < N) (hc : ((C * (T * 128) * 16 : ℕ) : ℝ) = N) (he : 0 < e)
    (ha : 0 ≤ a) (g b : EReal) (hg : IsReal g) (hb : IsReal b) :
    fused N e a (tiledSum P o) (tiledSum (fun x y r => P x y r * P x y r) o)
      g b ((Finset.range 16).fold max ⊥ (P o q)) ((Finset.range 16).fold min ⊤ (P o q))
    = (Finset.univ : Finset (Fin 16)).fold max ⊥ fun r => leaky a (normed e (Ideal.div (plainSum P o) N) (Ideal.div
        (plainSum (fun x y r => (P x y r - Ideal.div (plainSum P o) N) * (P x y r - Ideal.div (plainSum P o) N)) o) N) g b (P o q r.val)) := by
  choose p hp using hP
  obtain ⟨g, rfl⟩ := hg
  obtain ⟨b, rfl⟩ := hb
  rw [tiledSum_eq hC, tiledSum_eq hC]
  obtain rfl : P = fun o q r => (p o q r : EReal) := by funext o q r; exact hp o q r
  have hcard : (Fintype.card (Fin C × Fin (T * 128) × Fin 16) : ℝ) = N := by
    rw [← hc]
    simp [Fintype.card_prod, mul_assoc]
  have h3 : ∀ f : Fin (G * C) → Fin (T * 128) → ℕ → EReal, plainSum f o = ∑ i : Fin C × Fin (T * 128) × Fin 16, f (member o i.1) i.2.1 i.2.2.val := fun f => by
    unfold plainSum
    rw [Fintype.sum_prod_type]
    exact Finset.sum_congr rfl fun x _ => by rw [Fintype.sum_prod_type]
  refine (fused_eq (k := 16) (by norm_num) (fun i : Fin C × Fin (T * 128) × Fin 16 => p (member o i.1) i.2.1 i.2.2.val) N e a hN hcard he ha g b
    (p o q) _ _ _ (h3 _) (h3 _)
    (h3 fun x y r => (p x y r - Ideal.div (plainSum (fun o q r => (p o q r : EReal)) o) N) * (p x y r - Ideal.div (plainSum (fun o q r => (p o q r : EReal)) o) N))).trans ?_
  rw [show Finset.range 16 = (Finset.univ : Finset (Fin 16)).map Fin.valEmbedding by decide, Finset.fold_map]
  rfl

end Cert.Knn

end
-- ==== Proof.StageC.Out.lean ====
module

public import proofs.«01_k».proof.Proof.StageC.Vals
public import proofs.«01_k».proof.Proof.Knn.Layer

@[expose] public section

set_option maxRecDepth 16384

noncomputable section

namespace Cert.StageCIdeal.Hand
open Idealize.ShloMosaic.TcCoe

open Cert.StageCIdeal.Gen
open Idealize.ShloMosaic

/-- The stored value at an index, of the two tables, the accumulated sums and the two parameter columns. -/
theorem result_at (sm sq : Vec Ideal S64x128 .f32) (x4 x5 : Vec Ideal S64x1 .f32) (mb nb : Vec Ideal S64x512 .f32) (i : Fin 64) (j : Fin 512)
    (N e a : ℝ) (hN : Ideal.ofBits .f32 1207959552#32 = (N : EReal)) (he : Ideal.ofBits .f32 925353388#32 = (e : EReal))
    (ha : Ideal.ofBits .f32 1045220557#32 = (a : EReal)) :
    result (F := Ideal) sm sq x4 x5 mb nb (ix3 0 i j) =
      Knn.fused N e a (∑ x : Fin 64, (if i.val / 16 = x.val / 16 then (1 : EReal) else 0) * ∑ y : Fin 128, sm (ix2 x y))
        (∑ x : Fin 64, (if i.val / 16 = x.val / 16 then (1 : EReal) else 0) * ∑ y : Fin 128, sq (ix2 x y))
        (x4 (ix2 i 0)) (x5 (ix2 i 0)) (mb (ix2 i j)) (nb (ix2 i j)) := by
  unfold result
  pointwise [k0_pay7, k0_pay22, k0_pay21, k0_pay20, k0_pay19, k0_pay13, k0_pay14]
  have hw : ∀ x : Fin 64, k0_pay18 (F := Ideal) k0_pay15 (iota .tc S64x64 32 [1] iota_S64x64_d1_w32) 16#32 k0_pay16 k0_pay17 (Scalar.extui (Scalar.cmpi .sgt 16#32 0#32)) (ix2 i x) =
      if i.val / 16 = x.val / 16 then (1 : EReal) else 0 := group_word i
  simp only [hw, hN, he, ha]
  rfl

theorem out_at (m : (ℓ : Loc nD τ sig) → Buf (Elt Ideal) ℓ) (c : Dev nD) (b : Fin 16) (i : Fin 64) (q : Fin 512)
    (N e a : ℝ) (hN : Ideal.ofBits .f32 1207959552#32 = (N : EReal)) (he : Ideal.ofBits .f32 925353388#32 = (e : EReal))
    (ha : Ideal.ofBits .f32 1045220557#32 = (a : EReal)) :
    outBlk m c (4 * b.val + 3) (ix3 0 i q) =
      Knn.fused N e a (Knn.tiledSum (G := 4) (C := 16) (T := 4) (prod m c b) i) (Knn.tiledSum (G := 4) (C := 16) (T := 4) (fun x y r => prod m c b x y r * prod m c b x y r) i)
        (m ((c : Thread nD τ).loc main_arg3) (ix1 i)) (m ((c : Thread nD τ).loc main_arg4) (ix1 i))
        ((Finset.range 16).fold max ⊥ (prod m c b i q)) ((Finset.range 16).fold min ⊤ (prod m c b i q)) := by
  have hq := q.isLt
  have hb := b.isLt
  have hcol : qcol (q.val / 128) ⟨q.val % 128, by omega⟩ = q := by apply Fin.ext; show 128 * (q.val / 128 % 4) + q.val % 128 = q.val; omega
  have hmx : maxTab m c (4 * b.val + 3) (ix2 i q) = (Finset.range 16).fold max ⊥ (prod m c b i q) := by
    have h := (left_at m c b (q.val / 128) (by omega) i ⟨q.val % 128, by omega⟩).1
    rw [hcol] at h
    rw [← h, show 4 * b.val + q.val / 128 = 4 * ((4 * b.val + 3) / 4) + q.val / 128 by omega]
    unfold maxTab
    pointwise [k0_pay5]
    exact congrArg _ (ix2_eq_valueIdx _ _).symm
  have hmn : minTab m c (4 * b.val + 3) (ix2 i q) = (Finset.range 16).fold min ⊤ (prod m c b i q) := by
    have h := (left_at m c b (q.val / 128) (by omega) i ⟨q.val % 128, by omega⟩).2.1
    rw [hcol] at h
    rw [← h, show 4 * b.val + q.val / 128 = 4 * ((4 * b.val + 3) / 4) + q.val / 128 by omega]
    unfold minTab
    pointwise [k0_pay6]
    exact congrArg _ (ix2_eq_valueIdx _ _).symm
  unfold outBlk
  rw [result_at _ _ _ _ _ _ i q N e a hN he ha, hmx, hmn, blk4, blk5]
  have hs := fun x y => (left_at m c b 3 (by omega) x y).2.2
  simp only [fun x y => (hs x y).1, fun x y => (hs x y).2]
  unfold Knn.tiledSum
  simp only [Finset.sum_range (n := 4), Finset.sum_range (n := 3 + 1)]
  have ht : ∀ (t : Fin 4) (y : Fin 128), qcol t.val y = Knn.tileAt (T := 4) t y := fun t y => by
    apply Fin.ext; show 128 * (t.val % 4) + y.val = 128 * t.val + y.val; have := t.isLt; omega
  simp only [ht]

end Cert.StageCIdeal.Hand

end
-- ==== Proof.Knn.Host.lean ====
module

public import proofs.«01_k».proof.Proof.Knn.Select
public import Idealize.ShloMosaic.PureOps.Ideal.Laws

@[expose] public section

noncomputable section

namespace Cert.Knn

open Idealize.ShloMosaic

/-! # The reference's top-k and its take of rows, at an index -/

/-- The negated root decreases as the distance grows. -/
theorem neg_sqrt_lt {x y : EReal} (hx : 0 ≤ x) (hy : 0 ≤ y) : -Ideal.sqrt x < -Ideal.sqrt y ↔ y < x := by
  rw [EReal.neg_lt_neg_iff]
  induction x using EReal.rec with
  | bot => exact absurd hx (by simp)
  | top =>
    induction y using EReal.rec with
    | bot => exact absurd hy (by simp)
    | top => simp
    | coe y =>
      have hy' : 0 ≤ y := by exact_mod_cast hy
      rw [Ideal.sqrt_top, Ideal.sqrt_coe, if_neg (not_lt.mpr hy')]
      simp
  | coe x =>
    have hx' : 0 ≤ x := by exact_mod_cast hx
    rw [Ideal.sqrt_coe, if_neg (not_lt.mpr hx')]
    induction y using EReal.rec with
    | bot => exact absurd hy (by simp)
    | top => simp
    | coe y =>
      have hy' : 0 ≤ y := by exact_mod_cast hy
      rw [Ideal.sqrt_coe, if_neg (not_lt.mpr hy'), EReal.coe_lt_coe_iff, EReal.coe_lt_coe_iff]
      exact Real.sqrt_lt_sqrt_iff hy'

/-- The `r`-th index of a top-k of negated roots of distances is the `r`-th nearest position. -/
theorem topK_sel {B Q n k : ℕ} [NeZero n] (hk : k ≤ n) (x : (⟨3, ![B, Q, n]⟩ : Shape).Idx → Ideal .f32)
    (h : (⟨3, ![B, Q, n]⟩ : Shape).Slices (fun _ => 0) ⟨3, ![B, Q, k]⟩) (d : Fin n → EReal) (b : Fin B) (q : Fin Q)
    (hx : ∀ j, x (ix3 b q j) = -Ideal.sqrt (d j)) (hd : ∀ j, d j ≠ ⊤) (h0 : ∀ j, 0 ≤ d j) (r : Fin k) :
    (Host.topK ⟨3, ![B, Q, k]⟩ 2 (FloatOps.cmpfTotal .gt) x h).2 (ix3 b q r) = BitVec.ofNat 32 (sel d r.val).val := by
  have hs := sortedFrom_sel hk d (fun j => -Ideal.sqrt (d j)) hd (fun i j => neg_sqrt_lt (h0 i) (h0 j))
    (fun k k' => FloatOps.cmpfTotal (F := Ideal) (φ := .f32) .gt (-Ideal.sqrt (d k)) (-Ideal.sqrt (d k')) == 1#1)
    (fun i j => by
      rw [Ideal.cmpfTotal_def]
      show (BitVec.ofBool (decide (_ < _)) == 1#1) = true ↔ _
      rw [beq_iff_eq]
      by_cases hlt : -Ideal.sqrt (d j) < -Ideal.sqrt (d i)
      · simp [hlt]
      · simp [hlt]) r
  rw [← hs]
  simp only [← hx]
  have hal : ∀ j : Fin n, Shape.Idx.along (s := ⟨3, ![B, Q, n]⟩) (ix3 b q (r.castLE hk)) 2 j = ix3 b q j := by
    intro j
    funext e
    fin_cases e <;> rfl
  have hix : (fun e => ⟨0 + ((ix3 b q r : (⟨3, ![B, Q, k]⟩ : Shape).Idx) (e.cast rfl)).val, by
      have := h.2 e; have := ((ix3 b q r : (⟨3, ![B, Q, k]⟩ : Shape).Idx) (e.cast rfl)).isLt; omega⟩ :
      (⟨3, ![B, Q, n]⟩ : Shape).Idx) = ix3 b q (r.castLE hk) := by
    funext e
    apply Fin.ext
    fin_cases e <;> exact Nat.zero_add _
  unfold Host.topK Host.sort2 extractStridedSlice
  dsimp only
  rw [hix]
  rw [dif_pos (show 2 < 3 by decide)]
  dsimp only
  rw [dif_pos (show 2 < 3 by decide)]
  unfold iotaInDim
  exact congrArg (fun B : Fin n → Fin n → Bool => BitVec.ofNat 32 (sortedFrom B (r.castLE hk)).val)
    (funext fun i => funext fun j => by
      exact congrArg₂ (fun u v => FloatOps.cmpfTotal (F := Ideal) (φ := .f32) .gt (x u) (x v) == 1#1) (hal i) (hal j))

/-- A batched take of rows reads the row its index names, kept inside the table. -/
theorem gather_row {B Q n k C : ℕ} {α : Type} (d : GatherDims ⟨3, ![B, n, C]⟩ ⟨4, ![B, Q, k, 1]⟩ ⟨4, ![B, Q, k, C]⟩)
    (h1 : d.offsetDims = [3]) (h2 : d.collapsedSliceDims = [1]) (h3 : d.operandBatchingDims = [0])
    (h4 : d.startIndicesBatchingDims = [0]) (h5 : d.startIndexMap = [1]) (h6 : d.indexVectorDim = 3)
    (h7 : d.sliceSizes = ![1, 1, C])
    (x : (⟨3, ![B, n, C]⟩ : Shape).Idx → α) (idx : IVec ⟨4, ![B, Q, k, 1]⟩ 32) (b : Fin B) (q : Fin Q) (r : Fin k) (c : Fin C)
    (a : Fin n) (ha : idx (ix4 b q r 0) = BitVec.ofNat 32 a.val) (hn : n < 2 ^ 31) :
    Host.gather d x idx (ix4 b q r c) = x (ix3 b a c) := by
  obtain ⟨o, cs, ob, sb, sm, iv, ss, wf⟩ := d
  subst h1 h2 h3 h4 h5 h6 h7
  unfold Host.gather
  congr 1
  funext e
  apply Fin.ext
  have hsi : ∀ z : Fin 1, GatherDims.siIdx (s := ⟨3, ![B, n, C]⟩) (si := ⟨4, ![B, Q, k, 1]⟩) (t := ⟨4, ![B, Q, k, C]⟩)
      ⟨[3], [1], [0], [0], [1], 3, ![1, 1, C], wf⟩ (ix4 b q r c) z = ix4 b q r 0 := by
    intro z
    funext e
    apply Fin.ext
    fin_cases e
    · rfl
    · rfl
    · rfl
    · exact Nat.lt_one_iff.mp z.isLt
  fin_cases e
  · simp [GatherDims.operandIdx, GatherDims.batchCoord, GatherDims.offCoord, GatherDims.start, GatherDims.sKept, Shape.kept]
    rfl
  · simp [GatherDims.operandIdx, GatherDims.batchCoord, GatherDims.offCoord, GatherDims.start, hsi, ha, GatherDims.sKept, Shape.kept]
    have := a.isLt
    rw [BitVec.toInt_ofNat', Int.bmod_eq_of_le (by omega) (by omega)]
    omega
  · simp [GatherDims.operandIdx, GatherDims.batchCoord, GatherDims.offCoord, GatherDims.start, GatherDims.sKept, Shape.kept]

/-- An index in range is not moved by the wrap of negative ones. -/
theorem wrap_index (a : ℕ) (h : a < 2 ^ 31) (w : BitVec 32) :
    Scalar.select (IntOp.cmpi .slt (BitVec.ofNat 32 a) 0#32) w (BitVec.ofNat 32 a) = BitVec.ofNat 32 a := by
  unfold Scalar.select IntOp.cmpi
  rw [if_neg]
  simp only [BitVec.slt, BitVec.toInt_ofNat', Int.bmod_eq_of_le (show -(((2 ^ 32 : ℕ) : ℤ) / 2) ≤ (a : ℤ) by omega) (by omega)]
  simp [show ¬ ((a : ℤ) < 0) by omega]

end Cert.Knn

end
-- ==== Proof.StageC.Ref.lean ====
module

public import proofs.«01_k».proof.Proof.Gen.RefCIdeal.Read
public import proofs.«01_k».proof.Proof.Knn.Host
public import proofs.«01_k».proof.Proof.Knn.Norm
public import proofs.«01_k».proof.Proof.Knn.Words
public import proofs.«01_k».proof.Proof.Gen.Pre_finite
public import Idealize.ShloMosaic.Lib.Pointwise
public import Idealize.ShloMosaic.Lib.Pipeline.ValueKit
public import Idealize.ShloMosaic.Lib.Quiescent

@[expose] public section

set_option maxRecDepth 16384

noncomputable section

namespace Cert.RefCIdeal.Hand

open Cert.RefCIdeal Cert.RefCIdeal.Read Cert.RefCIdeal.Gen
open Idealize.ShloMosaic Idealize.SL.Sem

variable (x0 : (⟨S16x3x512, .f32⟩ : BufTy).Contents (Elt Ideal)) (x1 : (⟨S16x64x512, .f32⟩ : BufTy).Contents (Elt Ideal))
  (x2 : (⟨S64x128, .f32⟩ : BufTy).Contents (Elt Ideal)) (x3 x4 : (⟨S64, .f32⟩ : BufTy).Contents (Elt Ideal))

/-- The squared distances from query `q` of batch entry `b` to every point, not below zero. -/
def dist (b : Fin 16) (q : Fin 512) : Fin 512 → EReal := Knn.dist (fun a k => x0 (ix3 b a k)) (fun a => x0 (ix3 b a q))

/-- The sort key is the negated distance. -/
theorem key_at (b q k) : val_main_v19 (F := Ideal) x0 (ix3 b q k) = -Ideal.sqrt (dist x0 b q k) := by
  pointwise [val_main_v19,val_main_v18,val_main_v17,val_main_v16,val_main_v15,val_main_v14,val_main_v13,val_main_v12,val_main_v11,val_main_v10,val_main_v9,val_main_v8,val_main_v7,val_main_v6,val_main_v5,val_main_v4,val_main_v3,val_main_v2,val_main_v1,val_main_v0,val_main_cst,val_main_cst_0,val_main_cst_1,val_main_cst_2]
  rfl

theorem index_at (b q) (r : Fin 16) (hd : ∀ j, dist x0 b q j ≠ ⊤) :
    val_main_indices (F := Ideal) x0 (ix3 b q r) = BitVec.ofNat 32 (Knn.sel (dist x0 b q) r.val).val :=
  Knn.topK_sel (by decide) _ _ (dist x0 b q) b q (key_at x0 b q) hd (fun j => le_max_right _ _) r

theorem start_at (b q) (r : Fin 16) (hd : ∀ j, dist x0 b q j ≠ ⊤) :
    val_main_v26 (F := Ideal) x0 (ix4 b q r 0) = BitVec.ofNat 32 (Knn.sel (dist x0 b q) r.val).val := by
  have h := (Knn.sel (dist x0 b q) r.val).isLt
  pointwise [val_main_v26, val_main_v25, val_main_v24,val_main_v23, val_main_v22, val_main_v21, val_main_c, val_main_c_3]
  rw [index_at x0 b q r hd]
  exact Knn.wrap_index _ (by omega) _

theorem take_at (b q) (r : Fin 16) (k) (hd : ∀ j, dist x0 b q j ≠ ⊤) :
    val_main_v27 (F := Ideal) x0 x1 (ix4 b q r k) = x1 (ix3 b k (Knn.sel (dist x0 b q) r.val)) := by
  unfold val_main_v27
  rw [Knn.gather_row _ rfl rfl rfl rfl rfl rfl rfl _ _ b q r k _ (start_at x0 b q r hd) (by norm_num)]
  pointwise [val_main_v20]

def prod (b : Fin 16) (o : Fin 64) (q : Fin 512) (r : ℕ) : EReal :=
  Knn.edge (fun k : Fin 64 => x2 (ix2 o ⟨k.val, by omega⟩)) (fun k => x2 (ix2 o ⟨64 + k.val, by omega⟩))
    (fun a k => x1 (ix3 b a k)) (fun a => x1 (ix3 b a q)) (Knn.sel (dist x0 b q) r)

theorem prod_at (b o q) (r : Fin 16) (hd : ∀ j, dist x0 b q j ≠ ⊤) :
    val_main_v34 (F := Ideal) x0 x1 x2 (ix4 b o q r) = prod x0 x1 x2 b o q r.val := by
  pointwise [val_main_v34,val_main_v33,val_main_v32,val_main_v31,val_main_v30,val_main_v29,val_main_v28]
  simp only [take_at x0 x1 b q r _ hd]
  unfold prod Knn.edge
  refine congrArg₂ (· + ·) (Finset.sum_congr rfl fun k _ => mul_comm _ _) (Finset.sum_congr rfl fun k _ => mul_comm _ _)

theorem count_word : Ideal.ofBits .f32 1207959552#32 = ((131072 : ℝ) : EReal) := by
  simp [Ideal.ofBits, Ideal.ieee, -EReal.coe_mul]; norm_num

/-- The sum of the products over the group of output channel `o`. -/
def total (b : Fin 16) (g : Fin 4) : EReal := ∑ x : Fin 16, ∑ y : Fin 512, ∑ r : Fin 16, prod x0 x1 x2 b ⟨16 * g.val + x.val, by omega⟩ y r.val

theorem mean_at (b g) (hd : ∀ q j, dist x0 b q j ≠ ⊤) :
    val_main_v39 (F := Ideal) x0 x1 x2 (ix5 b g 0 0 0) = Ideal.div (total x0 x1 x2 b g) ((131072 : ℝ) : EReal) := by
  rw [← count_word]
  pointwise [val_main_v39,val_main_v38,val_main_v37,val_main_v36,val_main_cst_5,val_main_cst_4,val_main_v35]
  simp only [prod_at x0 x1 x2 b _ _ _ (hd _)]
  unfold total
  simp only [Nat.mul_comm 16]

theorem var_at (b g) (hd : ∀ q j, dist x0 b q j ≠ ⊤) :
    val_main_v40 (F := Ideal) x0 x1 x2 (ix5 b g 0 0 0) = Ideal.div
      (∑ x : Fin 16, ∑ y : Fin 512, ∑ r : Fin 16,
        (prod x0 x1 x2 b ⟨16 * g.val + x.val, by omega⟩ y r.val - Ideal.div (total x0 x1 x2 b g) ((131072 : ℝ) : EReal)) *
        (prod x0 x1 x2 b ⟨16 * g.val + x.val, by omega⟩ y r.val - Ideal.div (total x0 x1 x2 b g) ((131072 : ℝ) : EReal))) ((131072 : ℝ) : EReal) := by
  pointwise [val_main_v40,val_main_call0_v0, val_main_call0_v1, val_main_call0_cst_0, val_main_call0_v2, val_main_call0_v3, val_main_call0_v4, val_main_call0_v5, val_main_call0_v6, val_main_call0_v7, val_main_call0_cst_1, val_main_call0_v8, val_main_call0_cst_2, val_main_call0_v9, val_main_call0_v10, val_main_call0_v11, val_main_call0_v12, val_main_call0_cst_3, val_main_call0_v13, val_main_call0_cst_4, val_main_call0_call0_v0, val_main_call0_call0_v1,val_main_call0_cst,val_main_c_6,val_main_v35]
  simp only [prod_at x0 x1 x2 b _ _ _ (hd _)]
  rw [Knn.zero_word, count_word, sub_zero, if_pos (by exact_mod_cast (by norm_num : (0 : ℝ) < 131072))]
  unfold total
  simp only [Nat.mul_comm 16]

theorem out_at (b o q) (hd : ∀ q j, dist x0 b q j ≠ ⊤) (e a : ℝ) (he : Ideal.ofBits .f32 925353388#32 = (e : EReal))
    (ha : Ideal.ofBits .f32 1045220557#32 = (a : EReal)) :
    val_main_v60 (F := Ideal) x0 x1 x2 x3 x4 (ix3 b o q) = (Finset.univ : Finset (Fin 16)).fold max ⊥ fun r =>
      Knn.leaky a (Knn.normed e (val_main_v39 (F := Ideal) x0 x1 x2 (ix5 b ⟨o.val / 16, by omega⟩ 0 0 0))
        (val_main_v40 (F := Ideal) x0 x1 x2 (ix5 b ⟨o.val / 16, by omega⟩ 0 0 0)) (x3 (ix1 o)) (x4 (ix1 o)) (prod x0 x1 x2 b o q r.val)) := by
  pointwise [val_main_v60, val_main_v59,val_main_v58,val_main_v57,val_main_v56,val_main_v55,val_main_v54,val_main_v53,val_main_v52,val_main_v51,val_main_v50,val_main_v49,val_main_v48,val_main_v47,val_main_v46,val_main_v45,val_main_v44,val_main_v43,val_main_v42,val_main_v41,val_main_cst_7,val_main_cst_8,val_main_cst_9,val_main_cst_10,val_main_v35]
  simp only [prod_at x0 x1 x2 b _ _ _ (hd _), Knn.bot_word, he, ha]
  rfl

/-- The reference's run: its result is the last value of its chain, at the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60) = val_main_v60 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v60_eq (StableHlo.launchContents m c)), (h c).2⟩) (Cert.RefCIdeal.Value.run m ρ)

/-- The reference's frame; it declares no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2, sem_eq_zero_of_no_sems (by decide) r.2⟩) (Cert.RefCIdeal.Value.run m ρ)

end Cert.RefCIdeal.Hand

end
-- ==== Proof.Knn.Finite.lean ====
module

public import proofs.«01_k».proof.Proof.Knn.Layer
public import Idealize.ShloMosaic.Lib.ReduceAll
public import Idealize.ShloMosaic.Lib.Pointwise
public import Idealize.ShloMosaic.Lib.WordCmp

@[expose] public section

noncomputable section

namespace Cert.Knn

open Idealize.ShloMosaic

/-! # The precondition, read element by element -/

theorem real_of_bit (x : Ideal .f32) (h : FloatOps.cmpf (F := Ideal) (φ := .f32) .olt (FloatOps.absf x) (Ideal.ofBits .f32 2139095040#32) = 1#1) : IsReal x := by
  have ht : Ideal.ofBits .f32 2139095040#32 = ⊤ := by simp [Ideal.ofBits, Ideal.ieee]
  rw [ht] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

/-- An array whose magnitudes all compare below infinity holds real numbers only. -/
theorem real_of_all {s : Shape} {axes : List (Fin s.rank)} {t u : Shape} [Subsingleton t.Idx] (x : FVec Ideal s .f32) (init : u.Idx → BitVec 1)
    (hb : (⟨0, ![]⟩ : Shape).BroadcastsInDim s (![] : Fin 0 → Fin s.rank)) (hr : s.ReducesTo axes t) (hu : 0 < u.numel) (j : t.Idx)
    (h : Host.reduce IntOp.andi (cmpf .olt (Host.absf x) (broadcastInDim s ![] hb (constant ⟨0, ![]⟩ .f32 2139095040#32))) init hr hu j = 1#1) (i : s.Idx) :
    IsReal (x i) := by
  have := Host.reduce_andi_all _ init hr hu j h i
  exact real_of_bit _ this

/-- A word that compares from zero up to below `n` is one of the `n` positions. -/
theorem position_of_bits {n : ℕ} (hn : n < 2 ^ 31) (w : BitVec 32) (h0 : IntOp.cmpi .sge w 0#32 = 1#1)
    (h1 : IntOp.cmpi .slt w (BitVec.ofNat 32 n) = 1#1) : ∃ k : Fin n, w = BitVec.ofNat 32 k.val := by
  rw [WordCmp.cmpi_sge_eq] at h0
  rw [WordCmp.cmpi_slt_eq] at h1
  have h0 : (0#32).toInt ≤ w.toInt := by by_contra h; rw [decide_eq_false h] at h0; exact absurd h0 (by decide)
  have h1 : w.toInt < (BitVec.ofNat 32 n).toInt := by by_contra h; rw [decide_eq_false h] at h1; exact absurd h1 (by decide)
  have e0 : (0#32).toInt = 0 := rfl
  have e1 : (BitVec.ofNat 32 n).toInt = n := by
    rw [BitVec.toInt_eq_toNat_of_lt] <;> rw [BitVec.toNat_ofNat, Nat.mod_eq_of_lt (by omega)]
    omega
  have h2 := w.isLt
  have h3 : w.toInt = w.toNat := by
    have h4 := BitVec.toInt_eq_toNat_cond w
    split at h4 <;> omega
  exact ⟨⟨w.toNat, by omega⟩, by simp⟩

/-- An array of words that all compare from zero up to below `n` holds positions only. -/
theorem positions_of_all {s : Shape} {axes : List (Fin s.rank)} {t u : Shape} [Subsingleton t.Idx] {n : ℕ} (hn : n < 2 ^ 31) (x : IVec s 32)
    (init : u.Idx → BitVec 1) (hb : (⟨0, ![]⟩ : Shape).BroadcastsInDim s (![] : Fin 0 → Fin s.rank)) (hr : s.ReducesTo axes t) (hu : 0 < u.numel) (j : t.Idx)
    (h0 : Host.reduce IntOp.andi (cmpi .sge x (broadcastInDim s ![] hb (constantI ⟨0, ![]⟩ 32 0#32))) init hr hu j = 1#1)
    (h1 : Host.reduce IntOp.andi (cmpi .slt x (broadcastInDim s ![] hb (constantI ⟨0, ![]⟩ 32 (BitVec.ofNat 32 n)))) init hr hu j = 1#1) (i : s.Idx) :
    ∃ k : Fin n, x i = BitVec.ofNat 32 k.val :=
  position_of_bits hn _ (Host.reduce_andi_all _ init hr hu j h0 i) (Host.reduce_andi_all _ init hr hu j h1 i)

end Cert.Knn

end
-- ==== Proof.StageC.Equal.lean ====
module

public import proofs.«01_k».proof.Defs
public import proofs.«01_k».proof.Proof.Gen.Pre_finite
public import proofs.«01_k».proof.Proof.StageC.Out
public import proofs.«01_k».proof.Proof.StageC.Ref
public import proofs.«01_k».proof.Proof.Knn.Finite
public import Idealize.ShloMosaic.Lib.Claim

@[expose] public section

set_option maxRecDepth 16384

noncomputable section

namespace Cert.StageCIdeal.Hand
open Idealize.ShloMosaic.TcCoe

open Cert.StageCIdeal.Gen
open Idealize.ShloMosaic Idealize.SL.Sem

/-! # The kernel's array is the reference's -/

variable (m : (ℓ : Loc nD τ sig) → Buf (Elt Ideal) ℓ) (c : Dev nD)

/-- Under the precondition every element of every argument is a real number. -/
theorem reals (h : Cert.Pre_StageCIdeal_finite m) :
    (∀ i, Knn.IsReal (m ((c : Thread nD τ).loc main_arg0) i)) ∧ (∀ i, Knn.IsReal (m ((c : Thread nD τ).loc main_arg1) i))
    ∧ (∀ i, Knn.IsReal (m ((c : Thread nD τ).loc main_arg2) i)) ∧ (∀ i, Knn.IsReal (m ((c : Thread nD τ).loc main_arg3) i))
    ∧ (∀ i, Knn.IsReal (m ((c : Thread nD τ).loc main_arg4) i)) := by
  haveI : Subsingleton (⟨0, ![]⟩ : Shape).Idx := ⟨fun a b => funext fun e => Fin.elim0 e⟩
  obtain ⟨h1, h5⟩ := IntOp.andi_eq_one.1 (congrFun (h c) fun a => (show Fin 0 from a).elim0)
  obtain ⟨h1, h4⟩ := IntOp.andi_eq_one.1 h1
  obtain ⟨h1, h3⟩ := IntOp.andi_eq_one.1 h1
  obtain ⟨h1, h2⟩ := IntOp.andi_eq_one.1 h1
  exact ⟨Knn.real_of_all _ _ _ _ _ _ h1, Knn.real_of_all _ _ _ _ _ _ h2, Knn.real_of_all _ _ _ _ _ _ h3, Knn.real_of_all _ _ _ _ _ _ h4,
    Knn.real_of_all _ _ _ _ _ _ h5⟩

/-- The kernel's output array. -/
theorem array_eq (G : Buf (Elt Ideal) ((c : Thread nD τ).loc main_v3))
    (hG : ∀ (b : Fin 16) (i : Fin 64) (q : Fin 512), outBlk m c (4 * b.val + 3) (ix3 0 i q) = G (ix3 b i q)) :
    (dats m 0 c).arrAt 6 cfg0.N = G := by
  refine (dats m 0 c).arrAt_eq_of_covers 6 _ (by decide +kernel) fun t hf y => ?_
  blk_simp
  rw [after0_6]
  have h3 : t.val % 4 = 3 := (by decide +kernel : ∀ t : Fin cfg0.N, (cfg0.win 6).flush t = true → t.val % 4 = 3) t hf
  have ht : t.val < 64 := t.isLt
  have hy : y = ix3 0 (y 1) (y 2) := by
    funext e
    fin_cases e
    · exact Subsingleton.elim (α := Fin 1) _ _
    · rfl
    · rfl
  have he : (win0_6.blk t).view.emb y = ix3 ⟨t.val / 4, by omega⟩ (y 1) (y 2) := by
    funext e
    apply Fin.ext
    fin_cases e
    · blk_simp [idx t]
      rfl
    · blk_simp [idx t]
      rfl
    · blk_simp [idx t]
      rfl
  refine Eq.trans ?_ ((hG ⟨t.val / 4, by omega⟩ (y 1) (y 2)).trans (congrArg G he.symm))
  rw [show 4 * (⟨t.val / 4, by omega⟩ : Fin 16).val + 3 = t.val from by show 4 * (t.val / 4) + 3 = t.val; omega]
  exact congrArg _ hy

/-- The two programs' results agree element by element. -/
theorem value_eq (h : Cert.Pre_StageCIdeal_finite m) (b : Fin 16) (i : Fin 64) (q : Fin 512) :
    outBlk m c (4 * b.val + 3) (ix3 0 i q) = Cert.RefCIdeal.Read.val_main_v60 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (ix3 b i q) := by
  obtain ⟨r0, r1, r2, r3, r4⟩ := reals m c h
  obtain ⟨e, he0, he⟩ := Knn.eps_word
  obtain ⟨a, ha0, ha⟩ := Knn.slope_word
  have hd : ∀ q k, Knn.IsReal (dist m c b q k) := fun q k => Knn.dist_real (fun a k => r0 _) (fun a => r0 _) k
  have hd' : ∀ q k, Cert.RefCIdeal.Hand.dist (m ((c : Thread nD τ).loc main_arg0)) b q k ≠ ⊤ := fun q k => (hd q k).ne_top
  have hp : ∀ o q r, Knn.IsReal (prod m c b o q r) := fun o q r =>
    Knn.edge_real (fun c => r2 _) (fun c => r2 _) (fun c k => r1 _) (fun c => r1 _) _
  rw [out_at m c b i q 131072 e a Cert.RefCIdeal.Hand.count_word he ha, Cert.RefCIdeal.Hand.out_at _ _ _ _ _ b i q hd' e a he ha,
    Cert.RefCIdeal.Hand.mean_at _ _ _ b _ hd', Cert.RefCIdeal.Hand.var_at _ _ _ b _ hd']
  exact Knn.layer_eq (G := 4) (C := 16) (T := 4) (by norm_num) (prod m c b) hp i q 131072 e a (by norm_num) (by norm_num) he0 ha0 _ _ (r3 _) (r4 _)

/-- The call and its reference, from memories agreeing on the arguments, end with equal results. -/
theorem algebraic : Cert.algebraic_StageCIdeal_RefCIdeal_pre_finite := by
  pair_intro
  · run_from Cert.StageCIdeal.Hand.run_main m g
  · refine (θ_run Cert.RefCIdeal.defs _ _).mono (fun r h c => ⟨(h c).1.trans ?_, (h c).2⟩) (Cert.RefCIdeal.Hand.run m' g')
    obtain ⟨e0, e1, e2, e3, e4⟩ := hagree c
    rw [e0, e1, e2, e3, e4]
    exact (array_eq m c _ (value_eq m c hpre)).symm

end Cert.StageCIdeal.Hand

end
-- ==== Proof.StageD.Loop.lean ====
module

public import proofs.«01_k».proof.Proof.Gen.StageDIdeal.Loops
public import proofs.«01_k».proof.Proof.Knn.Carry
public import Idealize.ShloMosaic.Lib.Pipeline.FrameBody
public import Idealize.ShloMosaic.Lib.Pipeline.Value

@[expose] public section

set_option maxRecDepth 8192

noncomputable section

namespace Cert.StageDIdeal.Hand

open Cert.StageDIdeal.Gen
open Cert.Knn (writes_full readAt_full off2 entry steps lread lput lcont lcont_succ carried_open carried_next)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # The neighbour loop of one grid point, by values -/

/-- What the loop carries in scratch. -/
abbrev LState (F : FTy → Type) : Type := Knn.LState F S512x128 S128x128

/-- One neighbour taken: features `v6`, indices `v8`, query features `v17`, weights `w`. -/
def lstep (v6 : FVec F S64x512 .f32) (v8 : IVec S512x128 32) (v17 : FVec F S64x128 .f32)
    (w : Vec F S128x128 .f32) (s : LState F) : LState F where
  d := k0_pay10 v8 s.d
  mx := k0_pay12 v6 v8 v17 s.d w s.mx
  mn := k0_pay13 v6 v8 v17 s.d w s.mn
  sm := k0_pay4 (k0_pay11 v6 v8 v17 s.d w) s.sm
  sq := k0_pay5 (k0_pay11 v6 v8 v17 s.d w) s.sq

/-- The state after `k` neighbours. -/
abbrev lstate (v6 : FVec F S64x512 .f32) (v8 : IVec S512x128 32) (v17 : FVec F S64x128 .f32)
    (w : Vec F S128x128 .f32) (s : LState F) (k : ℕ) : LState F := steps (lstep v6 v8 v17 w) s k

section Trip

variable (𝒱 : Variants) (c : Dev nD) (bd : Option 𝒱.V) (i : grid0.Coords)
  (arg2 : Memref sig .tc .vmem S1x3x512 .f32) (harg2 : arg2.IsWhole)
  (arg3 : Memref sig .tc .vmem S1x512x3 .f32) (harg3 : arg3.IsWhole)
  (arg4 : Memref sig .tc .vmem S1x64x512 .f32) (harg4 : arg4.IsWhole)
  (arg5 : Memref sig .tc .vmem S1x1x128 .i32) (harg5 : arg5.IsWhole)
  (arg6 : Memref sig .tc .vmem S128x128 .f32) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S1x128x128 .f32) (harg9 : arg9.IsWhole)
  (arg10 : Memref sig .tc .vmem S1x3x128 .f32) (harg10 : arg10.IsWhole)
  (arg11 : Memref sig .tc .vmem S512x128 .f32) (harg11 : arg11.IsWhole)
  (arg12 : Memref sig .tc .vmem S512x1 .f32) (harg12 : arg12.IsWhole)
  (arg13 : Memref sig .tc .vmem S128x128 .f32) (harg13 : arg13.IsWhole)
  (arg14 : Memref sig .tc .vmem S128x128 .f32) (harg14 : arg14.IsWhole)
  (arg15 : Memref sig .tc .vmem S128x128 .f32) (harg15 : arg15.IsWhole)
  (arg16 : Memref sig .tc .vmem S128x128 .f32) (harg16 : arg16.IsWhole)
  (arg17 : Memref sig .tc .vmem S128x128 .f32) (harg17 : arg17.IsWhole)
  (arg18 : Memref sig .tc .vmem S128x128 .f32) (harg18 : arg18.IsWhole)
  (v6 : FVec F S64x512 .f32) (v8 : IVec S512x128 32) (v17 : FVec F S64x128 .f32)

/-- An array whole, at contents `f`. -/
abbrev own {S : Shape} (a : Memref sig .tc .vmem S .f32) (f : BufTy.Contents (Elt F) a.view.ty) :
    sProp (MT nD τ sig Unit (Elt F) ℕ (UR sig nD τ) ℕ) :=
  iprop((a.view.loc (c : Thread nD τ) ↦[a.view.set]{fullShare} f))

/-- What one trip touches: the weights read at `X` and the five scratch arrays at `f·`. -/
abbrev held (X : BufTy.Contents (Elt F) arg6.view.ty)
    (f11 : BufTy.Contents (Elt F) arg11.view.ty) (f15 : BufTy.Contents (Elt F) arg15.view.ty)
    (f16 : BufTy.Contents (Elt F) arg16.view.ty) (f17 : BufTy.Contents (Elt F) arg17.view.ty)
    (f18 : BufTy.Contents (Elt F) arg18.view.ty) : sProp (MT nD τ sig Unit (Elt F) ℕ (UR sig nD τ) ℕ) :=
  iprop((arg6.view.loc (c : Thread nD τ) ↦[arg6.view.set]{fullShare} X)
    ∗ (arg11.view.loc (c : Thread nD τ) ↦[arg11.view.set]{fullShare} f11)
    ∗ (arg15.view.loc (c : Thread nD τ) ↦[arg15.view.set]{fullShare} f15)
    ∗ (arg16.view.loc (c : Thread nD τ) ↦[arg16.view.set]{fullShare} f16)
    ∗ (arg17.view.loc (c : Thread nD τ) ↦[arg17.view.set]{fullShare} f17)
    ∗ (arg18.view.loc (c : Thread nD τ) ↦[arg18.view.set]{fullShare} f18))

/-- One trip of the loop: the scratch it finds at `f·` it leaves at the next state of what it read. -/
theorem trip (X : BufTy.Contents (Elt F) arg6.view.ty)
    (k : Fin k0_t1_loop.trips) (E : Set ℕ)
    (f11 : BufTy.Contents (Elt F) arg11.view.ty) (f15 : BufTy.Contents (Elt F) arg15.view.ty)
    (f16 : BufTy.Contents (Elt F) arg16.view.ty) (f17 : BufTy.Contents (Elt F) arg17.view.ty)
    (f18 : BufTy.Contents (Elt F) arg18.view.ty) :
    held (F := F) c arg6 arg11 arg15 arg16 arg17 arg18 X f11 f15 f16 f17 f18
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 k PUnit.unit)
          (fun _ => held (F := F) c arg6 arg11 arg15 arg16 arg17 arg18 X
            (harg11.unread (lstep v6 v8 v17 (arg6.view.read (Elt F) X) ⟨arg11.view.read (Elt F) f11, arg15.view.read (Elt F) f15,
              arg16.view.read (Elt F) f16, arg17.view.read (Elt F) f17, arg18.view.read (Elt F) f18⟩).d) (harg15.unread (lstep v6 v8 v17 (arg6.view.read (Elt F) X) ⟨arg11.view.read (Elt F) f11, arg15.view.read (Elt F) f15,
              arg16.view.read (Elt F) f16, arg17.view.read (Elt F) f17, arg18.view.read (Elt F) f18⟩).mx)
            (harg16.unread (lstep v6 v8 v17 (arg6.view.read (Elt F) X) ⟨arg11.view.read (Elt F) f11, arg15.view.read (Elt F) f15,
              arg16.view.read (Elt F) f16, arg17.view.read (Elt F) f17, arg18.view.read (Elt F) f18⟩).mn) (harg17.unread (lstep v6 v8 v17 (arg6.view.read (Elt F) X) ⟨arg11.view.read (Elt F) f11, arg15.view.read (Elt F) f15,
              arg16.view.read (Elt F) f16, arg17.view.read (Elt F) f17, arg18.view.read (Elt F) f18⟩).sm)
            (harg18.unread (lstep v6 v8 v17 (arg6.view.read (Elt F) X) ⟨arg11.view.read (Elt F) f11, arg15.view.read (Elt F) f15,
              arg16.view.read (Elt F) f16, arg17.view.read (Elt F) f17, arg18.view.read (Elt F) f18⟩).sq)) := by
  have hk : k.val < 16 := Nat.lt_of_lt_of_le k.isLt k0_t1_abs.2.1
  unfold k0_t1_body
  iintro ⟨HR_arg6, HW_arg11, HW_arg15, HW_arg16, HW_arg17, HW_arg18⟩
  sl_exec
  sl_step
  unfold trip.sl.r trip.sl.r_1
  rw [writes_full harg11 _ off2, writes_full harg15 _ off2, writes_full harg16 _ off2, writes_full harg17 _ off2,
    writes_full harg18 _ off2]
  simp only [readAt_full (S := S512x128) _ _ off2, readAt_full (S := S128x128) _ _ off2]
  unfold lstep
  sl_close

set_option warn.classDefReducibility false in
/-- The loop by its values: after `k` trips the five scratch arrays hold the state after `k` steps. -/
@[sl_loop] def loopVal (E : Set ℕ) (X : BufTy.Contents (Elt F) arg6.view.ty)
    (g11 : BufTy.Contents (Elt F) arg11.view.ty) (g15 : BufTy.Contents (Elt F) arg15.view.ty)
    (g16 : BufTy.Contents (Elt F) arg16.view.ty) (g17 : BufTy.Contents (Elt F) arg17.view.ty)
    (g18 : BufTy.Contents (Elt F) arg18.view.ty) :
    Cert.StageDIdeal.Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 where
  inv k _ := iprop((arg6.view.loc (c : Thread nD τ) ↦[arg6.view.set]{fullShare} X)
    ∗ (∃ f, (arg11.view.loc (c : Thread nD τ) ↦[arg11.view.set]{fullShare} f) ∗ ⌜f = entry g11 k
      (lcont arg11 harg11 arg15 harg15 arg16 harg16 arg17 harg17 arg18 harg18 (lstep v6 v8 v17 (arg6.view.read (Elt F) X)) (g11, g15, g16, g17, g18) k).1⌝)
    ∗ (∃ f, (arg15.view.loc (c : Thread nD τ) ↦[arg15.view.set]{fullShare} f) ∗ ⌜f = entry g15 k
      (lcont arg11 harg11 arg15 harg15 arg16 harg16 arg17 harg17 arg18 harg18 (lstep v6 v8 v17 (arg6.view.read (Elt F) X)) (g11, g15, g16, g17, g18) k).2.1⌝)
    ∗ (∃ f, (arg16.view.loc (c : Thread nD τ) ↦[arg16.view.set]{fullShare} f) ∗ ⌜f = entry g16 k
      (lcont arg11 harg11 arg15 harg15 arg16 harg16 arg17 harg17 arg18 harg18 (lstep v6 v8 v17 (arg6.view.read (Elt F) X)) (g11, g15, g16, g17, g18) k).2.2.1⌝)
    ∗ (∃ f, (arg17.view.loc (c : Thread nD τ) ↦[arg17.view.set]{fullShare} f) ∗ ⌜f = entry g17 k
      (lcont arg11 harg11 arg15 harg15 arg16 harg16 arg17 harg17 arg18 harg18 (lstep v6 v8 v17 (arg6.view.read (Elt F) X)) (g11, g15, g16, g17, g18) k).2.2.2.1⌝)
    ∗ (∃ f, (arg18.view.loc (c : Thread nD τ) ↦[arg18.view.set]{fullShare} f) ∗ ⌜f = entry g18 k
      (lcont arg11 harg11 arg15 harg15 arg16 harg16 arg17 harg17 arg18 harg18 (lstep v6 v8 v17 (arg6.view.read (Elt F) X)) (g11, g15, g16, g17, g18) k).2.2.2.2⌝))
  step k acc := by
    refine (carried_open (own (F := F) c arg6 X) (own c arg11) (own c arg15) (own c arg16) (own c arg17) (own c arg18)
      (g11, g15, g16, g17, g18) _ _ (by rintro h; rw [h]; rfl)).trans
      ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 X k E _ _ _ _ _).trans (wp_mono _ _ _ (fun _ => ?_)))
    exact carried_next (own (F := F) c arg6 X) (own c arg11) (own c arg15) (own c arg16) (own c arg17) (own c arg18) (g11, g15, g16, g17, g18)
      (lcont arg11 harg11 arg15 harg15 arg16 harg16 arg17 harg17 arg18 harg18 (lstep v6 v8 v17 (arg6.view.read (Elt F) X)) (g11, g15, g16, g17, g18) (k + 1)) k

/-- After the loop the five scratch arrays hold the state after sixteen steps. -/
instance loopExit (E : Set ℕ) (X : BufTy.Contents (Elt F) arg6.view.ty)
    (g11 : BufTy.Contents (Elt F) arg11.view.ty) (g15 : BufTy.Contents (Elt F) arg15.view.ty)
    (g16 : BufTy.Contents (Elt F) arg16.view.ty) (g17 : BufTy.Contents (Elt F) arg17.view.ty)
    (g18 : BufTy.Contents (Elt F) arg18.view.ty) :
    LoopExit (loopVal (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 E X g11 g15 g16 g17 g18) where
  post _ := iprop((arg6.view.loc (c : Thread nD τ) ↦[arg6.view.set]{fullShare} X)
    ∗ (arg11.view.loc (c : Thread nD τ) ↦[arg11.view.set]{fullShare} harg11.unread (lstate v6 v8 v17 (arg6.view.read (Elt F) X)
      (lread arg11 arg15 arg16 arg17 arg18 (g11, g15, g16, g17, g18)) 16).d)
    ∗ (arg15.view.loc (c : Thread nD τ) ↦[arg15.view.set]{fullShare} harg15.unread (lstate v6 v8 v17 (arg6.view.read (Elt F) X)
      (lread arg11 arg15 arg16 arg17 arg18 (g11, g15, g16, g17, g18)) 16).mx)
    ∗ (arg16.view.loc (c : Thread nD τ) ↦[arg16.view.set]{fullShare} harg16.unread (lstate v6 v8 v17 (arg6.view.read (Elt F) X)
      (lread arg11 arg15 arg16 arg17 arg18 (g11, g15, g16, g17, g18)) 16).mn)
    ∗ (arg17.view.loc (c : Thread nD τ) ↦[arg17.view.set]{fullShare} harg17.unread (lstate v6 v8 v17 (arg6.view.read (Elt F) X)
      (lread arg11 arg15 arg16 arg17 arg18 (g11, g15, g16, g17, g18)) 16).sm)
    ∗ (arg18.view.loc (c : Thread nD τ) ↦[arg18.view.set]{fullShare} harg18.unread (lstate v6 v8 v17 (arg6.view.read (Elt F) X)
      (lread arg11 arg15 arg16 arg17 arg18 (g11, g15, g16, g17, g18)) 16).sq))
  exit acc := by
    have ht : Scf.trips k0_t1_loop.lb k0_t1_loop.ub k0_t1_loop.st = 15 + 1 := by decide
    unfold loopVal
    dsimp only
    rw [ht]
    have e := lcont_succ arg11 harg11 arg15 harg15 arg16 harg16 arg17 harg17 arg18 harg18 (lstep v6 v8 v17 (arg6.view.read (Elt F) X)) (g11, g15, g16, g17, g18) 15
    rw [e]
    exact carried_open (own (F := F) c arg6 X) (own c arg11) (own c arg15) (own c arg16) (own c arg17) (own c arg18) (g11, g15, g16, g17, g18) _ _ (fun h => absurd h (by decide))

end Trip

end Cert.StageDIdeal.Hand

end
-- ==== Proof.StageD.Point.lean ====
module

public import proofs.«01_k».proof.Proof.StageD.Loop
public import proofs.«01_k».proof.Proof.Gen.StageDIdeal.Points
public import Idealize.ShloMosaic.Lib.WritesUnit
public import Idealize.ShloMosaic.Lib.ValueIdxCore

@[expose] public section

set_option maxRecDepth 8192

noncomputable section

namespace Cert.StageDIdeal.Hand

open Cert.StageDIdeal.Gen
open Cert.Knn (writes_full off2 off3 entry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # One grid point's run, by values: a point is a whole batch entry -/

/-- The point is the first of its batch entry. -/
abbrev isFirst (i : grid0.Coords) : Prop :=
  (Scalar.cmpi .ne (Scalar.extui (Scalar.cmpi .eq (BitVec.ofNat 32 (i 1).val) 0#32)) 0#32) = 1#1

/-- The point is the last of its batch entry. -/
abbrev isLast (i : grid0.Coords) : Prop := k0_cond2 i = 1#1

/-- The row number at each entry of the distance table. -/
def rowIx : IVec S512x128 32 := iota .tc S512x128 32 [0] iota_S512x128_d0_w32

/-- The loop's state when the point enters it, from the coordinates, their transpose and the sampled indices. -/
def enter (x0 : Vec F S1x3x512 .f32) (x1 : Vec F S1x512x3 .f32) (x3 : Vec F S1x1x128 .i32) : LState F :=
  ⟨k0_pay1 (k0_pay33 x0 x3 (k0_pay25 x1)), k0_pay2, k0_pay3, k0_pay26, k0_pay27⟩

/-- The loop's state when the point leaves it. -/
def leave (x0 : Vec F S1x3x512 .f32) (x1 : Vec F S1x512x3 .f32) (x2 : Vec F S1x64x512 .f32) (x3 : Vec F S1x1x128 .i32)
    (x4 : Vec F S128x128 .f32) : LState F :=
  lstate (k0_pay28 x2) rowIx (k0_pay31 x2 x3) x4 (enter x0 x1 x3) 16

/-- The features stored, from the sums, the two parameter columns, the maxima and the minima. -/
def result (s : LState F) (x5 x6 : Vec F S128x1 .f32) : Vec F S1x128x128 .f32 :=
  k0_pay8
    (k0_pay22 (k0_pay14 s.sm) (k0_pay15 s.sq) k0_pay16 (iota .tc S128x128 32 [1] iota_S128x128_d1_w32) 32#32 k0_pay17 k0_pay18 1#32 x5 x6)
    (k0_pay23 (k0_pay14 s.sm) (k0_pay15 s.sq) k0_pay16 (iota .tc S128x128 32 [1] iota_S128x128_d1_w32) 32#32 k0_pay17 k0_pay18 1#32 x5 (k0_pay6 s.mx) (k0_pay7 s.mn))

/-- The point's columns start at zero: one point covers them all. -/
theorem offIdx : ∀ i : grid0.Coords, k0_off1 i = fun _ => 0 := by decide +kernel

/-- Likewise in the tables. -/
theorem offTab : ∀ i : grid0.Coords, k0_off2 i = fun _ => 0 := by decide +kernel

variable (c : Dev nD) (i : grid0.Coords)
  (arg2 : Memref sig .tc .vmem S1x3x512 .f32) (harg2 : arg2.IsWhole)
  (arg3 : Memref sig .tc .vmem S1x512x3 .f32) (harg3 : arg3.IsWhole)
  (arg4 : Memref sig .tc .vmem S1x64x512 .f32) (harg4 : arg4.IsWhole)
  (arg5 : Memref sig .tc .vmem S1x1x128 .i32) (harg5 : arg5.IsWhole)
  (arg6 : Memref sig .tc .vmem S128x128 .f32) (harg6 : arg6.IsWhole)
  (arg7 : Memref sig .tc .vmem S128x1 .f32) (harg7 : arg7.IsWhole)
  (arg8 : Memref sig .tc .vmem S128x1 .f32) (harg8 : arg8.IsWhole)
  (arg9 : Memref sig .tc .vmem S1x128x128 .f32) (harg9 : arg9.IsWhole)
  (arg10 : Memref sig .tc .vmem S1x3x128 .f32) (harg10 : arg10.IsWhole)
  (arg11 : Memref sig .tc .vmem S512x128 .f32) (harg11 : arg11.IsWhole)
  (arg12 : Memref sig .tc .vmem S512x1 .f32) (harg12 : arg12.IsWhole)
  (arg13 : Memref sig .tc .vmem S128x128 .f32) (harg13 : arg13.IsWhole)
  (arg14 : Memref sig .tc .vmem S128x128 .f32) (harg14 : arg14.IsWhole)
  (arg15 : Memref sig .tc .vmem S128x128 .f32) (harg15 : arg15.IsWhole)
  (arg16 : Memref sig .tc .vmem S128x128 .f32) (harg16 : arg16.IsWhole)
  (arg17 : Memref sig .tc .vmem S128x128 .f32) (harg17 : arg17.IsWhole)
  (arg18 : Memref sig .tc .vmem S128x128 .f32) (harg18 : arg18.IsWhole)

local notation "𝕄" => MT nD τ sig Unit (Elt F) ℕ (UR sig nD τ) ℕ

/-- The resources of a point: its seven input windows at their contents, the output windows at `y0` and `y1`, the scratch at anything. -/
abbrev Res (x0 : Vec F S1x3x512 .f32) (x1 : Vec F S1x512x3 .f32) (x2 : Vec F S1x64x512 .f32) (x3 : Vec F S1x1x128 .i32) (x4 : Vec F S128x128 .f32) (x5 : Vec F S128x1 .f32) (x6 : Vec F S128x1 .f32) (y0 : Vec F S1x128x128 .f32) (y1 : Vec F S1x3x128 .f32) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare y0 ∗ owns (c : Thread nD τ) arg10 fullShare y1
    ∗ (∃ d, owns (c : Thread nD τ) arg11 fullShare d)
    ∗ (∃ d, owns (c : Thread nD τ) arg12 fullShare d)
    ∗ (∃ d, owns (c : Thread nD τ) arg13 fullShare d)
    ∗ (∃ d, owns (c : Thread nD τ) arg14 fullShare d)
    ∗ (∃ d, owns (c : Thread nD τ) arg15 fullShare d)
    ∗ (∃ d, owns (c : Thread nD τ) arg16 fullShare d)
    ∗ (∃ d, owns (c : Thread nD τ) arg17 fullShare d)
    ∗ (∃ d, owns (c : Thread nD τ) arg18 fullShare d))

set_option maxHeartbeats 3200000 in
/-- A point's run: it writes the features of its batch entry and the coordinates of its sampled points. -/
theorem runPoint (hc0 : isFirst i) (hc1 : isLast i)
    (x0 : Vec F S1x3x512 .f32) (x1 : Vec F S1x512x3 .f32) (x2 : Vec F S1x64x512 .f32) (x3 : Vec F S1x1x128 .i32) (x4 : Vec F S128x128 .f32) (x5 : Vec F S128x1 .f32) (x6 : Vec F S128x1 .f32) (y0 : Vec F S1x128x128 .f32) (y1 : Vec F S1x3x128 .f32) (E : Set ℕ) (K : PUnit → sProp 𝕄) :
    iprop(Res c arg2 arg3 arg4 arg5 arg6 arg7 arg8 arg9 arg10 arg11 arg12 arg13 arg14 arg15 arg16 arg17 arg18 x0 x1 x2 x3 x4 x5 x6 y0 y1
        ∗ (Res c arg2 arg3 arg4 arg5 arg6 arg7 arg8 arg9 arg10 arg11 arg12 arg13 arg14 arg15 arg16 arg17 arg18 x0 x1 x2 x3 x4 x5 x6 (result (leave x0 x1 x2 x3 x4) x5 x6) (k0_pay32 x0 x3) -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_body_eq_skeleton]; unfold cc0_body_skel
  simp only [k0_part4_eq_skeleton, k0_part2_eq_skeleton, k0_part3_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  sl_exec (disch := first | sl_exact hc0 | sl_exact hc1)
  sl_step
  have r9 := harg9.read_unread (Val := Elt F) (result (leave x0 x1 x2 x3 x4) x5 x6)
  have r10 := harg10.read_unread (Val := Elt F) (k0_pay32 x0 x3)
  unfold result leave enter rowIx at r9
  unfold runPoint.sl.r_6 runPoint.sl.r_5 runPoint.sl.r_3 runPoint.sl.r_4 runPoint.sl.v90 runPoint.sl.v59 runPoint.sl.v62 runPoint.sl.v138 runPoint.sl.v139 runPoint.sl.HS2_1 runPoint.sl.HS3_1 runPoint.sl.v46 runPoint.sl.v51 runPoint.sl.HS0_1 runPoint.sl.r_2 runPoint.sl.v25 runPoint.sl.HS1_1 runPoint.sl.HS4_1 runPoint.sl.HS5_1 runPoint.sl.HS6_1 runPoint.sl.HS7_1 runPoint.sl.H8_1 runPoint.sl.r runPoint.sl.r_1 runPoint.sl.v8
  simp only [leave, enter, rowIx, Knn.lread, result,
    View.readCov_unit_zero (S := S512x1) arg12.view off2, View.readAt_eq_ld,
    View.ld_unit_zero (S := S512x1) off2, View.ld_unit_zero (S := S128x128) off2, View.ld_unit_zero (S := S512x128) off2,
    View.ld_unit_zero (S := S128x1) off2, View.ld_unit_zero (S := S1x1x128) (offIdx i), View.ld_unit_zero (S := S128x128) (offTab i),
    View.ld_unit_zero (S := S1x3x512) off3, View.ld_unit_zero (S := S1x512x3) off3, View.ld_unit_zero (S := S1x64x512) off3,
    writes_full (S := S512x128) harg11 _ off2, writes_full (S := S512x1) harg12 _ off2,
    writes_full (S := S128x128) harg13 _ (offTab i), writes_full (S := S128x128) harg14 _ (offTab i),
    writes_full (S := S128x128) harg15 _ off2, writes_full (S := S128x128) harg16 _ off2,
    writes_full (S := S128x128) harg17 _ off2, writes_full (S := S128x128) harg18 _ off2,
    writes_full (S := S1x128x128) harg9 _ off3, writes_full (S := S1x3x128) harg10 _ off3, Memref.IsWhole.read_unread]
  iapply Hk
  sl_close

end Cert.StageDIdeal.Hand

end
-- ==== Proof.StageD.Run.lean ====
module

public import proofs.«01_k».proof.Proof.StageD.Point
public import proofs.«01_k».proof.Proof.Gen.StageDIdeal.Frame.Runs
public import Idealize.ShloMosaic.Lib.Pipeline.FrameBody
public import Idealize.ShloMosaic.Lib.WordCmp
public import Idealize.ShloMosaic.Lib.Claim

@[expose] public section

set_option maxRecDepth 16384

noncomputable section

namespace Cert.StageDIdeal.Hand

open Cert.StageDIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run over the grid: what every point leaves, and the frame -/

/-- Every point is its batch entry's first. -/
theorem first_all : ∀ t : Fin cfg0.N, isFirst (grid0.coords t) :=
  (by decide +kernel : ∀ t : Fin grid0.N, isFirst (grid0.coords t))

/-- And its last. -/
theorem last_all : ∀ t : Fin cfg0.N, isLast (grid0.coords t) :=
  (by decide +kernel : ∀ t : Fin grid0.N, isLast (grid0.coords t))

/-- The loop state point `t` leaves. -/
def left (c : Dev nD) (t : Fin cfg0.N) : LState F := leave (iblk m c 0 t) (iblk m c 1 t) (iblk m c 2 t) (iblk m c 3 t) (iblk m c 4 t)

/-- The features point `t` stores. -/
def featBlk (c : Dev nD) (t : Fin cfg0.N) : Vec F S1x128x128 .f32 := result (left m c t) (iblk m c 5 t) (iblk m c 6 t)

/-- The coordinates point `t` stores. -/
def coordBlk (c : Dev nD) (t : Fin cfg0.N) : Vec F S1x3x128 .f32 := k0_pay32 (iblk m c 0 t) (iblk m c 3 t)

theorem live7 : ∀ t : Fin cfg0.N, cfg0.idle 7 (grid0.coords t) = false := by decide +kernel
theorem live8 : ∀ t : Fin cfg0.N, cfg0.idle 8 (grid0.coords t) = false := by decide +kernel

abbrev ms0_0 (t : Fin cfg0.N) : Memref sig .tc .vmem S1x3x512 .f32 := win0_0.stage (cfg0.slots t 0)
abbrev ms0_1 (t : Fin cfg0.N) : Memref sig .tc .vmem S1x512x3 .f32 := win0_1.stage (cfg0.slots t 1)
abbrev ms0_2 (t : Fin cfg0.N) : Memref sig .tc .vmem S1x64x512 .f32 := win0_2.stage (cfg0.slots t 2)
abbrev ms0_3 (t : Fin cfg0.N) : Memref sig .tc .vmem S1x1x128 .i32 := win0_3.stage (cfg0.slots t 3)
abbrev ms0_4 (t : Fin cfg0.N) : Memref sig .tc .vmem S128x128 .f32 := win0_4.stage (cfg0.slots t 4)
abbrev ms0_5 (t : Fin cfg0.N) : Memref sig .tc .vmem S128x1 .f32 := win0_5.stage (cfg0.slots t 5)
abbrev ms0_6 (t : Fin cfg0.N) : Memref sig .tc .vmem S128x1 .f32 := win0_6.stage (cfg0.slots t 6)
abbrev ms0_7 (t : Fin cfg0.N) : Memref sig .tc .vmem S1x128x128 .f32 := win0_7.stage (cfg0.slots t 7)
abbrev ms0_8 (t : Fin cfg0.N) : Memref sig .tc .vmem S1x3x128 .f32 := win0_8.stage (cfg0.slots t 8)
abbrev scM0_0 : Memref sig .tc .vmem S512x128 .f32 := Memref.whole cc0_scratch0
abbrev scM0_1 : Memref sig .tc .vmem S512x1 .f32 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x128 .f32 := Memref.whole cc0_scratch4
abbrev scM0_5 : Memref sig .tc .vmem S128x128 .f32 := Memref.whole cc0_scratch5
abbrev scM0_6 : Memref sig .tc .vmem S128x128 .f32 := Memref.whole cc0_scratch6
abbrev scM0_7 : Memref sig .tc .vmem S128x128 .f32 := Memref.whole cc0_scratch7

/-- The launch's scratch, array by array. -/
theorem scratch_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The proof data of the pipeline on core `c`: each input's buffer at its block, the outputs' at what the point stores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => featBlk m c t
    | ⟨8, _⟩ => coordBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = featBlk m c t := by dsimp only [dats]
theorem after0_8 (c : Dev nD) (t : Fin cfg0.N) : (dats m 0 c).after 8 t = coordBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 1600000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, scratch_eq]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl,
    show (dats m 0 c).leavesExact 4 t = owns (c : Thread nD τ) (ms0_4 t) fullShare (iblk m c 4 t) from rfl,
    show (dats m 0 c).leavesExact 5 t = owns (c : Thread nD τ) (ms0_5 t) fullShare (iblk m c 5 t) from rfl,
    show (dats m 0 c).leavesExact 6 t = owns (c : Thread nD τ) (ms0_6 t) fullShare (iblk m c 6 t) from rfl,
    show (dats m 0 c).leavesExact 7 t = owns (c : Thread nD τ) (ms0_7 t) fullShare (featBlk m c t) from by
      unfold Dat.leavesExact; rw [live7, after0_7],
    show (dats m 0 c).leavesExact 8 t = owns (c : Thread nD τ) (ms0_8 t) fullShare (coordBlk m c t) from by
      unfold Dat.leavesExact; rw [live8, after0_8]]
  unfold bodyAt0
  iintro ⟨⟨⟨⟨%e0, HS0⟩, ⟨%e1, HS1⟩, ⟨%e2, HS2⟩, ⟨%e3, HS3⟩, ⟨%e4, HS4⟩, ⟨%e5, HS5⟩, ⟨%e6, HS6⟩, ⟨%e7, HS7⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (runPoint c (grid0.coords t) _ _ _ _ _ _ _ _ _ _ _ _ _ _ _ _ _ _ _ _ _ _ _ _ _ _ _ _ _ _ _ _ _ _ (first_all t) (last_all t) (iblk m c 0 t) (iblk m c 1 t) (iblk m c 2 t) (iblk m c 3 t) (iblk m c 4 t) (iblk m c 5 t) (iblk m c 6 t) ((dats m 0 c).before 7 t d7) ((dats m 0 c).before 8 t d8) Set.univ _)
  isplitr [Hg Ho]
  · unfold Res
    sl_close
  unfold Res
  iintro ⟨H0, H1, H2, H3, H4, H5, H6, H7, H8, ⟨%u0, HS0⟩, ⟨%u1, HS1⟩, ⟨%u2, HS2⟩, ⟨%u3, HS3⟩, ⟨%u4, HS4⟩, ⟨%u5, HS5⟩, ⟨%u6, HS6⟩, ⟨%u7, HS7⟩⟩
  isplitl [Hg HS0 HS1 HS2 HS3 HS4 HS5 HS6 HS7]
  · isplitr [Hg]
    · sl_close
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := Idealize.SL.BI.Entails.refl _

/-! ## The run and the frame -/

set_option backward.isDefEq.respectTransparency.types false in
/-- The launch: every final state has the arrays the proof data names, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: termination, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.StageDIdeal.Hand

end
-- ==== Proof.StageD.Plain.lean ====
module

public import proofs.«01_k».proof.StageD
public import proofs.«01_k».proof.Proof.Gen.StageD
public import proofs.«01_k».proof.Proof.StageD.Run

@[expose] public section

set_option maxRecDepth 8192

noncomputable section

/-! # The frame of the printed kernel, from the frame of the idealized one -/

namespace Cert.StageD.Hand

open Idealize.ShloMosaic Idealize.ShloMosaic.TcCoe Idealize.SL Idealize.SL.Sem

variable {F : FTy → Type} [FloatOps F]

/-- A named constant read as the word it is printed from. -/
abbrev plainly : Named F where
  named _ _ {_} w := Scalar.ofBits _ w

/-- The two kernel bodies are one, a named constant being read as its word. -/
theorem body_eq : @Cert.StageD.cc0_body F _ _ = @Cert.StageDIdeal.cc0_body F _ plainly _ := by
  funext i a1 h1 a2 h2 a3 h3 a4 h4 a5 h5 a6 h6 a7 h7 a8 h8 a9 h9 a10 h10 a11 h11 a12 h12 a13 h13 a14 h14 a15 h15 a16 h16 a17 h17
  rfl

/-- So are the two body tables. -/
theorem table_eq : (Cert.StageD.defs₀ (F := F)) = @Cert.StageDIdeal.defs₀ F _ plainly _ := by
  unfold Cert.StageD.defs₀ Cert.StageDIdeal.defs₀
  congr 1
  funext l x
  match l, x with
  | 0, (t, s) => rfl

/-- And the two programs' definitions. -/
theorem defs_eq : (Cert.StageD.defs (F := F)) = @Cert.StageDIdeal.defs F _ plainly _ := by
  unfold Cert.StageD.defs Cert.StageDIdeal.defs
  rw [table_eq]
  rfl

variable (m : (ℓ : Loc Cert.StageD.nD Cert.StageD.τ Cert.StageD.sig) → Buf (Elt F) ℓ) (ρ : Dev Cert.StageD.nD → PrngReg)

/-- The frame of the printed kernel: termination, the arguments unchanged, every counter at zero. -/
theorem frame : θ_run Cert.StageD.defs (onTc (τ := Cert.StageD.τ) (Cert.StageD.main (F := F))) ⟨m, fun _ => 0, ρ⟩ (fun r => (∀ c : Dev Cert.StageD.nD,
      r.2.mem ((c.tc : Thread Cert.StageD.nD Cert.StageD.τ).loc Cert.StageD.main_arg0) = m ((c.tc : Thread Cert.StageD.nD Cert.StageD.τ).loc Cert.StageD.main_arg0)
      ∧ r.2.mem ((c.tc : Thread Cert.StageD.nD Cert.StageD.τ).loc Cert.StageD.main_arg1) = m ((c.tc : Thread Cert.StageD.nD Cert.StageD.τ).loc Cert.StageD.main_arg1)
      ∧ r.2.mem ((c.tc : Thread Cert.StageD.nD Cert.StageD.τ).loc Cert.StageD.main_arg2) = m ((c.tc : Thread Cert.StageD.nD Cert.StageD.τ).loc Cert.StageD.main_arg2)
      ∧ r.2.mem ((c.tc : Thread Cert.StageD.nD Cert.StageD.τ).loc Cert.StageD.main_arg3) = m ((c.tc : Thread Cert.StageD.nD Cert.StageD.τ).loc Cert.StageD.main_arg3)
      ∧ r.2.mem ((c.tc : Thread Cert.StageD.nD Cert.StageD.τ).loc Cert.StageD.main_arg4) = m ((c.tc : Thread Cert.StageD.nD Cert.StageD.τ).loc Cert.StageD.main_arg4)
      ∧ r.2.mem ((c.tc : Thread Cert.StageD.nD Cert.StageD.τ).loc Cert.StageD.main_arg5) = m ((c.tc : Thread Cert.StageD.nD Cert.StageD.τ).loc Cert.StageD.main_arg5))
      ∧ r.2.sem = fun _ => 0) := by
  rw [defs_eq]
  exact @Cert.StageDIdeal.Hand.frame F _ plainly m ρ

end Cert.StageD.Hand
end
-- ==== Proof.StageD.Vals.lean ====
module

public import proofs.«01_k».proof.Proof.StageD.Run
public import proofs.«01_k».proof.Proof.Knn.Trace
public import proofs.«01_k».proof.Proof.Knn.Words
public import Idealize.ShloMosaic.Lib.Pointwise
public import Idealize.ShloMosaic.Lib.Pipeline.ValueKit

@[expose] public section

set_option maxRecDepth 16384

noncomputable section

namespace Cert.StageDIdeal.Hand
open Idealize.ShloMosaic.TcCoe

open Cert.StageDIdeal.Gen
open Idealize.ShloMosaic

theorem rowIx_at (i : Fin 512) (j : Fin 128) : rowIx (ix2 i j) = BitVec.ofNat 32 i.val := by
  unfold rowIx
  pointwise

theorem mask_named : (Named.named (F := Ideal) κ "mask" (φ := .f32) 1900671690#32) = ⊤ := rfl
theorem floor_named : (Named.named (F := Ideal) κ "floor" (φ := .f32) 4048155338#32) = ⊥ := rfl

/-- The mask of a round is set at the first place of the least entry of each column. -/
theorem hit (d : Vec Ideal S512x128 .f32) (i : Fin 512) (j : Fin 128) :
    k0_pay9 (F := Ideal) rowIx d (ix2 i j) = if i = Knn.least (fun k : Fin 512 => d (ix2 k j)) then 1#1 else 0#1 := by
  pointwise [k0_pay9]
  simp only [Knn.inf_word, rowIx_at, Knn.fold_min]
  rw [Knn.fold_least (by norm_num) (fun k => d (ix2 k j))]
  exact Knn.same_word (by norm_num) _ _

/-- Marking puts the least entry of each column at `⊤` and leaves the others. -/
theorem open_at (d : Vec Ideal S512x128 .f32) (i : Fin 512) (j : Fin 128) :
    k0_pay10 (F := Ideal) rowIx d (ix2 i j) = if i = Knn.least (fun k : Fin 512 => d (ix2 k j)) then ⊤ else d (ix2 i j) := by
  pointwise [k0_pay10]
  rw [hit, mask_named]
  split <;> rfl

/-- The round's product is taken at the marked neighbour. -/
theorem prod_at (v6 : FVec Ideal S64x512 .f32) (v14 : FVec Ideal S64x128 .f32) (d : Vec Ideal S512x128 .f32) (w : Vec Ideal S128x128 .f32) (i : Fin 128) (j : Fin 128) :
    k0_pay11 v6 rowIx v14 d w (ix2 i j) =
      Knn.edge (fun c : Fin 64 => w (ix2 i ⟨c.val, by omega⟩)) (fun c => w (ix2 i ⟨64 + c.val, by omega⟩)) (fun c k => v6 (ix2 c k))
        (fun c => v14 (ix2 c j)) (Knn.least (fun k : Fin 512 => d (ix2 k j))) := by
  pointwise [k0_pay11]
  simp only [hit, Knn.truth_word, Knn.sum_indicator]
  rfl

/-- The product of the `r`-th neighbour of query `j` at output channel `i`, from the loop's inputs. -/
def prodOf (v6 : FVec Ideal S64x512 .f32) (v14 : FVec Ideal S64x128 .f32) (w : Vec Ideal S128x128 .f32) (d : Vec Ideal S512x128 .f32)
    (i : Fin 128) (j : Fin 128) (r : ℕ) : EReal :=
  Knn.edge (fun c : Fin 64 => w (ix2 i ⟨c.val, by omega⟩)) (fun c => w (ix2 i ⟨64 + c.val, by omega⟩)) (fun c k => v6 (ix2 c k))
    (fun c => v14 (ix2 c j)) (Knn.sel (fun k : Fin 512 => d (ix2 k j)) r)

section
variable (v6 : FVec Ideal S64x512 .f32) (v14 : FVec Ideal S64x128 .f32) (w : Vec Ideal S128x128 .f32) (s : LState Ideal)

/-- The distances still open after `k` neighbours. -/
theorem lstate_d (k : ℕ) (i : Fin 512) (j : Fin 128) :
    (lstate v6 rowIx v14 w s k).d (ix2 i j) = Knn.rest (fun k' : Fin 512 => s.d (ix2 k' j)) k i := by
  refine congrFun (Knn.rest_of_step (fun k i => (lstate v6 rowIx v14 w s k).d (ix2 i j)) (fun k i => ?_) k) i
  show (lstate v6 rowIx v14 w s (k + 1)).d (ix2 i j) = _
  rw [show lstate v6 rowIx v14 w s (k + 1) = lstep v6 rowIx v14 w (lstate v6 rowIx v14 w s k) from rfl]
  unfold lstep
  dsimp only
  rw [open_at]

/-- The product of a round. -/
theorem lstate_prod (k : ℕ) (i : Fin 128) (j : Fin 128) :
    k0_pay11 v6 rowIx v14 (lstate v6 rowIx v14 w s k).d w (ix2 i j) = prodOf v6 v14 w s.d i j k := by
  rw [prod_at]
  simp only [lstate_d]
  rfl

/-- The largest product so far. -/
theorem lstate_mx (k : ℕ) (i : Fin 128) (j : Fin 128) :
    (lstate v6 rowIx v14 w s k).mx (ix2 i j) = (Finset.range k).fold max (s.mx (ix2 i j)) (prodOf v6 v14 w s.d i j) := by
  refine Knn.max_of_step (fun k => (lstate v6 rowIx v14 w s k).mx (ix2 i j)) _ (fun k => ?_) k
  show k0_pay12 (F := Ideal) _ _ _ _ _ _ (ix2 i j) = _
  pointwise [k0_pay12]
  rw [lstate_prod]

/-- The least product so far. -/
theorem lstate_mn (k : ℕ) (i : Fin 128) (j : Fin 128) :
    (lstate v6 rowIx v14 w s k).mn (ix2 i j) = (Finset.range k).fold min (s.mn (ix2 i j)) (prodOf v6 v14 w s.d i j) := by
  refine Knn.min_of_step (fun k => (lstate v6 rowIx v14 w s k).mn (ix2 i j)) _ (fun k => ?_) k
  show k0_pay13 (F := Ideal) _ _ _ _ _ _ (ix2 i j) = _
  pointwise [k0_pay13]
  rw [lstate_prod]

/-- The sum of the products so far. -/
theorem lstate_sm (k : ℕ) (i : Fin 128) (j : Fin 128) :
    (lstate v6 rowIx v14 w s k).sm (ix2 i j) = s.sm (ix2 i j) + ∑ r ∈ Finset.range k, prodOf v6 v14 w s.d i j r := by
  refine Knn.sum_of_step (fun k => (lstate v6 rowIx v14 w s k).sm (ix2 i j)) _ (fun k => ?_) k
  show k0_pay4 (F := Ideal) _ _ (ix2 i j) = _
  pointwise [k0_pay4]
  rw [lstate_prod]

/-- The sum of their squares so far. -/
theorem lstate_sq (k : ℕ) (i : Fin 128) (j : Fin 128) :
    (lstate v6 rowIx v14 w s k).sq (ix2 i j) =
      s.sq (ix2 i j) + ∑ r ∈ Finset.range k, prodOf v6 v14 w s.d i j r * prodOf v6 v14 w s.d i j r := by
  refine Knn.sum_of_step (fun k => (lstate v6 rowIx v14 w s k).sq (ix2 i j)) _ (fun k => ?_) k
  show k0_pay5 (F := Ideal) _ _ (ix2 i j) = _
  pointwise [k0_pay5]
  rw [lstate_prod]
end

/-- The group matrix has a one where two channels lie in one group. -/
theorem group_word : ∀ i j : Fin 128, k0_pay19 (F := Ideal) k0_pay16 (iota .tc S128x128 32 [1] iota_S128x128_d1_w32) 32#32 k0_pay17 k0_pay18
      1#32 (ix2 i j) = if i.val / 32 = j.val / 32 then (1 : EReal) else 0 := by
  intro i j
  pointwise [k0_pay19,k0_pay16,k0_pay17,k0_pay18]
  rw [← Knn.truth_word]
  congr 2
  revert i j
  decide +kernel

/-- The selection matrix of the sampled indices has a one where the row is the index. -/
theorem hot_at (x3 : Vec Ideal S1x1x128 .i32) (j : Fin 128) (q : Fin 512) (h : x3 (ix3 0 0 j) = BitVec.ofNat 32 q.val) (k : Fin 512) :
    k0_pay29 (F := Ideal) x3 (ix2 k j) = if k = q then (1 : EReal) else 0 := by
  pointwise [k0_pay29]
  rw [h, ← Knn.truth_word (k = q)]
  congr 2
  exact Knn.same_word (by norm_num) k q

/-- The product with the selection matrix gathers the sampled coordinates. -/
theorem qCoord_at (x0 : Vec Ideal S1x3x512 .f32) (x3 : Vec Ideal S1x1x128 .i32) (j : Fin 128) (q : Fin 512)
    (h : x3 (ix3 0 0 j) = BitVec.ofNat 32 q.val) (a : Fin 3) : k0_pay30 (F := Ideal) x0 x3 (ix2 a j) = x0 (ix3 0 a q) := by
  pointwise [k0_pay30, k0_pay24]
  simp only [hot_at x3 j q h, Knn.sum_indicator]

/-- And the sampled features. -/
theorem qFeat_at (x2 : Vec Ideal S1x64x512 .f32) (x3 : Vec Ideal S1x1x128 .i32) (j : Fin 128) (q : Fin 512)
    (h : x3 (ix3 0 0 j) = BitVec.ofNat 32 q.val) (a : Fin 64) : k0_pay31 (F := Ideal) x2 x3 (ix2 a j) = x2 (ix3 0 a q) := by
  pointwise [k0_pay31, k0_pay28]
  simp only [hot_at x3 j q h, Knn.sum_indicator]

/-- Where each window lies at a point. -/
theorem idx : ∀ t : Fin cfg0.N, win0_0.index t = ![t.val, 0, 0] ∧ win0_1.index t = ![t.val, 0, 0] ∧ win0_2.index t = ![t.val, 0, 0]
    ∧ win0_3.index t = ![t.val, 0, 0] ∧ win0_4.index t = ![0, 0] ∧ win0_5.index t = ![0, 0] ∧ win0_6.index t = ![0, 0]
    ∧ win0_7.index t = ![t.val, 0, 0] ∧ win0_8.index t = ![t.val, 0, 0] :=
  (by decide +kernel : ∀ t : Fin grid0.N, _)

section
variable (m : (ℓ : Loc nD τ sig) → Buf (Elt Ideal) ℓ) (c : Dev nD) (b : Fin 16) (t : Fin cfg0.N) (ht : t.val = b.val)
include ht

theorem blk0 (a k) : iblk (F := Ideal) m c 0 t (ix3 0 a k) = m ((c : Thread nD τ).loc main_arg0) (ix3 b a k) := by
  blk_ext! [iblk, V, idx t]
theorem blk1 (a k) : iblk (F := Ideal) m c 1 t (ix3 0 k a) = m ((c : Thread nD τ).loc main_arg0) (ix3 b a k) := by
  blk_ext! [iblk, V, idx t]
theorem blk2 (a k) : iblk (F := Ideal) m c 2 t (ix3 0 a k) = m ((c : Thread nD τ).loc main_arg1) (ix3 b a k) := by
  blk_ext! [iblk, V, idx t]
theorem blk3 (j) : iblk (F := Ideal) m c 3 t (ix3 0 0 j) = m ((c : Thread nD τ).loc main_arg2) (ix2 j b) := by
  blk_ext! [iblk, V, idx t]
omit ht
theorem blk4 (a k) : iblk (F := Ideal) m c 4 t (ix2 a k) = m ((c : Thread nD τ).loc main_arg3) (ix2 a k) := by
  blk_ext! [iblk, V, idx t]
theorem blk5 (a) : iblk (F := Ideal) m c 5 t (ix2 a 0) = m ((c : Thread nD τ).loc main_arg4) (ix1 a) := by
  blk_ext! [iblk, V, idx t]
theorem blk6 (a) : iblk (F := Ideal) m c 6 t (ix2 a 0) = m ((c : Thread nD τ).loc main_arg5) (ix1 a) := by
  blk_ext! [iblk, V, idx t]
end

section
variable (m : (ℓ : Loc nD τ sig) → Buf (Elt Ideal) ℓ) (c : Dev nD) (s : Fin 16 → Fin 128 → Fin 512)

/-- The sampled indices are the positions `s`. -/
def Picks : Prop := ∀ b j, m ((c : Thread nD τ).loc main_arg2) (ix2 j b) = BitVec.ofNat 32 (s b j).val

/-- The squared distances from sampled point `q` of batch entry `b` to every key, not below zero. -/
def dist (b : Fin 16) (q : Fin 128) : Fin 512 → EReal :=
  Knn.dist (fun a k => m ((c : Thread nD τ).loc main_arg0) (ix3 b a k)) (fun a => m ((c : Thread nD τ).loc main_arg0) (ix3 b a (s b q)))

/-- The product of sampled point `q`'s `r`-th neighbour at output channel `i`. -/
def prod (b : Fin 16) (i : Fin 128) (q : Fin 128) (r : ℕ) : EReal :=
  Knn.edge (fun k : Fin 64 => m ((c : Thread nD τ).loc main_arg3) (ix2 i ⟨k.val, by omega⟩))
    (fun k => m ((c : Thread nD τ).loc main_arg3) (ix2 i ⟨64 + k.val, by omega⟩))
    (fun a k => m ((c : Thread nD τ).loc main_arg1) (ix3 b a k)) (fun a => m ((c : Thread nD τ).loc main_arg1) (ix3 b a (s b q)))
    (Knn.sel (dist m c s b q) r)

variable {m c s} (hs : Picks m c s) (b : Fin 16) (t : Fin cfg0.N) (ht : t.val = b.val)
include hs ht

/-- The index block at a point holds the batch entry's positions. -/
theorem pick_at (j : Fin 128) : iblk (F := Ideal) m c 3 t (ix3 0 0 j) = BitVec.ofNat 32 (s b j).val :=
  (blk3 m c b t ht j).trans (hs b j)

/-- The distances a point starts from. -/
theorem enter_d (k : Fin 512) (j : Fin 128) :
    (enter (F := Ideal) (iblk m c 0 t) (iblk m c 1 t) (iblk m c 3 t)).d (ix2 k j) = dist m c s b j k := by
  unfold enter
  dsimp only
  pointwise [k0_pay1, k0_pay33, k0_pay24, k0_pay25]
  simp only [qCoord_at _ _ j _ (pick_at hs b t ht j), blk0 m c b t ht, blk1 m c b t ht]
  rfl

/-- A point's products are those of its queries. -/
theorem prodOf_eq (i : Fin 128) (j : Fin 128) (r : ℕ) :
    prodOf (k0_pay28 (iblk m c 2 t)) (k0_pay31 (iblk m c 2 t) (iblk m c 3 t)) (iblk m c 4 t)
      (enter (F := Ideal) (iblk m c 0 t) (iblk m c 1 t) (iblk m c 3 t)).d i j r = prod m c s b i j r := by
  unfold prodOf prod
  simp only [enter_d hs b t ht, blk4]
  have h28 : ∀ a k, k0_pay28 (F := Ideal) (iblk m c 2 t) (ix2 a k) = m ((c : Thread nD τ).loc main_arg1) (ix3 b a k) := fun a k => by
    pointwise [k0_pay28]
    exact blk2 m c b t ht a k
  simp only [h28, qFeat_at _ _ j _ (pick_at hs b t ht j), blk2 m c b t ht]

/-- The state a point leaves: the largest and the least product over the neighbours, their sum and the sum of their squares. -/
theorem left_at (i : Fin 128) (j : Fin 128) :
    (left m c t).mx (ix2 i j) = (Finset.range 16).fold max ⊥ (prod m c s b i j)
    ∧ (left m c t).mn (ix2 i j) = (Finset.range 16).fold min ⊤ (prod m c s b i j)
    ∧ (left m c t).sm (ix2 i j) = ∑ r ∈ Finset.range 16, prod m c s b i j r
    ∧ (left m c t).sq (ix2 i j) = ∑ r ∈ Finset.range 16, prod m c s b i j r * prod m c s b i j r := by
  have hp := funext (prodOf_eq hs b t ht i j)
  refine ⟨?_, ?_, ?_, ?_⟩
  · show (lstate _ _ _ _ _ 16).mx _ = _
    rw [lstate_mx, hp]
    congr 1
  · show (lstate _ _ _ _ _ 16).mn _ = _
    rw [lstate_mn, hp]
    congr 1
  · show (lstate _ _ _ _ _ 16).sm _ = _
    rw [lstate_sm, hp]
    unfold enter
    pointwise [k0_pay26]
  · show (lstate _ _ _ _ _ 16).sq _ = _
    rw [lstate_sq, hp]
    unfold enter
    pointwise [k0_pay27]

/-- The coordinates stored at a point are the sampled ones. -/
theorem coord_at (a : Fin 3) (j : Fin 128) :
    coordBlk (F := Ideal) m c t (ix3 0 a j) = m ((c : Thread nD τ).loc main_arg0) (ix3 b a (s b j)) := by
  unfold coordBlk
  pointwise [k0_pay32]
  rw [qCoord_at _ _ j _ (pick_at hs b t ht j), blk0 m c b t ht]
end

end Cert.StageDIdeal.Hand

end
-- ==== Proof.StageD.Out.lean ====
module

public import proofs.«01_k».proof.Proof.StageD.Vals
public import proofs.«01_k».proof.Proof.Knn.Layer

@[expose] public section

set_option maxRecDepth 16384

noncomputable section

namespace Cert.StageDIdeal.Hand
open Idealize.ShloMosaic.TcCoe

open Cert.StageDIdeal.Gen
open Idealize.ShloMosaic

/-- The stored value at an index, of the loop's state and the two parameter columns. -/
theorem result_at (s : LState Ideal) (x5 x6 : Vec Ideal S128x1 .f32) (i : Fin 128) (j : Fin 128)
    (N e a : ℝ) (hN : Ideal.ofBits .f32 1199570944#32 = (N : EReal)) (he : Ideal.ofBits .f32 925353388#32 = (e : EReal))
    (ha : Ideal.ofBits .f32 1045220557#32 = (a : EReal)) :
    result (F := Ideal) s x5 x6 (ix3 0 i j) =
      Knn.fused N e a (∑ x : Fin 128, (if i.val / 32 = x.val / 32 then (1 : EReal) else 0) * ∑ y : Fin 128, s.sm (ix2 x y))
        (∑ x : Fin 128, (if i.val / 32 = x.val / 32 then (1 : EReal) else 0) * ∑ y : Fin 128, s.sq (ix2 x y))
        (x5 (ix2 i 0)) (x6 (ix2 i 0)) (s.mx (ix2 i j)) (s.mn (ix2 i j)) := by
  unfold result
  pointwise [k0_pay8, k0_pay23, k0_pay22, k0_pay21, k0_pay20, k0_pay14, k0_pay15, k0_pay6, k0_pay7]
  have hw : ∀ x : Fin 128, k0_pay19 (F := Ideal) k0_pay16 (iota .tc S128x128 32 [1] iota_S128x128_d1_w32) 32#32 k0_pay17 k0_pay18 1#32 (ix2 i x) =
      if i.val / 32 = x.val / 32 then (1 : EReal) else 0 := group_word i
  simp only [hw, hN, he, ha]
  rfl

/-- The features stored at a point, over the whole batch entry. -/
theorem out_at {m : (ℓ : Loc nD τ sig) → Buf (Elt Ideal) ℓ} {c : Dev nD} {s : Fin 16 → Fin 128 → Fin 512} (hs : Picks m c s)
    (b : Fin 16) (t : Fin cfg0.N) (ht : t.val = b.val) (i : Fin 128) (q : Fin 128)
    (N e a : ℝ) (hN : Ideal.ofBits .f32 1199570944#32 = (N : EReal)) (he : Ideal.ofBits .f32 925353388#32 = (e : EReal))
    (ha : Ideal.ofBits .f32 1045220557#32 = (a : EReal)) :
    featBlk m c t (ix3 0 i q) =
      Knn.fused N e a (Knn.tiledSum (G := 4) (C := 32) (T := 1) (prod m c s b) i)
        (Knn.tiledSum (G := 4) (C := 32) (T := 1) (fun x y r => prod m c s b x y r * prod m c s b x y r) i)
        (m ((c : Thread nD τ).loc main_arg4) (ix1 i)) (m ((c : Thread nD τ).loc main_arg5) (ix1 i))
        ((Finset.range 16).fold max ⊥ (prod m c s b i q)) ((Finset.range 16).fold min ⊤ (prod m c s b i q)) := by
  unfold featBlk
  have hl := fun x y => left_at hs b t ht x y
  rw [result_at _ _ _ i q N e a hN he ha, (hl i q).1, (hl i q).2.1, blk5, blk6]
  simp only [fun x y => (hl x y).2.2.1, fun x y => (hl x y).2.2.2]
  unfold Knn.tiledSum
  have hz : ∀ y : Fin 128, Knn.tileAt (T := 1) 0 y = y := fun y => by
    apply Fin.ext; show 128 * 0 + y.val = y.val; omega
  simp only [Fin.sum_univ_one, hz]

end Cert.StageDIdeal.Hand

end
-- ==== Proof.Knn.Take.lean ====
module

public import proofs.«01_k».proof.Proof.Knn.Host

@[expose] public section

noncomputable section

namespace Cert.Knn

open Idealize.ShloMosaic

/-- A batched take of one row per query reads the row its index names. -/
theorem gather_single {B Q n C : ℕ} {α : Type} (d : GatherDims ⟨3, ![B, n, C]⟩ ⟨3, ![B, Q, 1]⟩ ⟨3, ![B, Q, C]⟩)
    (h1 : d.offsetDims = [2]) (h2 : d.collapsedSliceDims = [1]) (h3 : d.operandBatchingDims = [0])
    (h4 : d.startIndicesBatchingDims = [0]) (h5 : d.startIndexMap = [1]) (h6 : d.indexVectorDim = 2)
    (h7 : d.sliceSizes = ![1, 1, C])
    (x : (⟨3, ![B, n, C]⟩ : Shape).Idx → α) (idx : IVec ⟨3, ![B, Q, 1]⟩ 32) (b : Fin B) (q : Fin Q) (c : Fin C)
    (a : Fin n) (ha : idx (ix3 b q 0) = BitVec.ofNat 32 a.val) (hn : n < 2 ^ 31) :
    Host.gather d x idx (ix3 b q c) = x (ix3 b a c) := by
  obtain ⟨o, cs, ob, sb, sm, iv, ss, wf⟩ := d
  subst h1 h2 h3 h4 h5 h6 h7
  unfold Host.gather
  congr 1
  funext e
  apply Fin.ext
  have hsi : ∀ z : Fin 1, GatherDims.siIdx (s := ⟨3, ![B, n, C]⟩) (si := ⟨3, ![B, Q, 1]⟩) (t := ⟨3, ![B, Q, C]⟩)
      ⟨[2], [1], [0], [0], [1], 2, ![1, 1, C], wf⟩ (ix3 b q c) z = ix3 b q 0 := by
    intro z
    funext e
    apply Fin.ext
    fin_cases e
    · rfl
    · rfl
    · exact Nat.lt_one_iff.mp z.isLt
  fin_cases e
  · simp [GatherDims.operandIdx, GatherDims.batchCoord, GatherDims.offCoord, GatherDims.start, GatherDims.sKept, Shape.kept]
    rfl
  · simp [GatherDims.operandIdx, GatherDims.batchCoord, GatherDims.offCoord, GatherDims.start, hsi, ha, GatherDims.sKept, Shape.kept]
    have := a.isLt
    rw [BitVec.toInt_ofNat', Int.bmod_eq_of_le (by omega) (by omega)]
    omega
  · simp [GatherDims.operandIdx, GatherDims.batchCoord, GatherDims.offCoord, GatherDims.start, GatherDims.sKept, Shape.kept]

end Cert.Knn

end
-- ==== Proof.StageD.Ref.lean ====
module

public import proofs.«01_k».proof.Proof.Gen.RefDIdeal.Read
public import proofs.«01_k».proof.Proof.Knn.Take
public import proofs.«01_k».proof.Proof.Knn.Norm
public import proofs.«01_k».proof.Proof.Knn.Words
public import proofs.«01_k».proof.Proof.Gen.Pre_finite_in_range
public import Idealize.ShloMosaic.Lib.Pointwise
public import Idealize.ShloMosaic.Lib.Pipeline.ValueKit
public import Idealize.ShloMosaic.Lib.Quiescent

@[expose] public section

set_option maxRecDepth 16384

noncomputable section

namespace Cert.RefDIdeal.Hand

open Cert.RefDIdeal Cert.RefDIdeal.Read Cert.RefDIdeal.Gen
open Idealize.ShloMosaic Idealize.SL.Sem

variable (x0 : (⟨S16x3x512, .f32⟩ : BufTy).Contents (Elt Ideal)) (x1 : (⟨S16x64x512, .f32⟩ : BufTy).Contents (Elt Ideal))
  (x2 : (⟨S128x16, .i32⟩ : BufTy).Contents (Elt Ideal)) (x3 : (⟨S128x128, .f32⟩ : BufTy).Contents (Elt Ideal))
  (x4 x5 : (⟨S128, .f32⟩ : BufTy).Contents (Elt Ideal)) (s : Fin 16 → Fin 128 → Fin 512)

/-- The sampled indices are the positions `s`. -/
def Picks : Prop := ∀ b j, x2 (ix2 j b) = BitVec.ofNat 32 (s b j).val

/-- The squared distances from sampled point `q` of batch entry `b` to every point, not below zero. -/
def dist (b : Fin 16) (q : Fin 128) : Fin 512 → EReal := Knn.dist (fun a k => x0 (ix3 b a k)) (fun a => x0 (ix3 b a (s b q)))

/-- The product of sampled point `q`'s `r`-th neighbour at output channel `o`. -/
def prod (b : Fin 16) (o : Fin 128) (q : Fin 128) (r : ℕ) : EReal :=
  Knn.edge (fun k : Fin 64 => x3 (ix2 o ⟨k.val, by omega⟩)) (fun k => x3 (ix2 o ⟨64 + k.val, by omega⟩))
    (fun a k => x1 (ix3 b a k)) (fun a => x1 (ix3 b a (s b q))) (Knn.sel (dist x0 s b q) r)

variable {x2 s} (hs : Picks x2 s)
include hs

theorem pick_at (b q) : val_main_call0_v7 (F := Ideal) x2 (ix3 b q 0) = BitVec.ofNat 32 (s b q).val := by
  have h := (s b q).isLt
  pointwise [val_main_call0_v7, val_main_call0_v6, val_main_call0_v5, val_main_call0_v4, val_main_call0_v3, val_main_call0_v2, val_main_v0, val_main_call0_c, val_main_call0_c_0]
  rw [hs b q]
  exact Knn.wrap_index _ (by omega) _

theorem rows_at (b q k) : val_main_call0_v9 (F := Ideal) x0 x1 x2 (ix3 b k q) = val_main_call0_v0 (F := Ideal) x0 x1 (ix3 b k (s b q)) := by
  pointwise [val_main_call0_v9]
  unfold val_main_call0_v8
  rw [Knn.gather_single _ rfl rfl rfl rfl rfl rfl rfl _ _ b q k _ (pick_at hs b q) (by norm_num)]
  pointwise [val_main_call0_v1]

/-- The coordinates taken are the sampled points'. -/
theorem coord_at (b a q) : val_main_v1_0 (F := Ideal) x0 x1 x2 (ix3 b a q) = x0 (ix3 b a (s b q)) := by
  pointwise [val_main_v1_0]
  rw [rows_at x0 x1 hs]
  pointwise [val_main_call0_v0]

/-- And the features. -/
theorem feat_at (b k q) : val_main_v1_1 (F := Ideal) x0 x1 x2 (ix3 b k q) = x1 (ix3 b k (s b q)) := by
  pointwise [val_main_v1_1]
  rw [rows_at x0 x1 hs]
  pointwise [val_main_call0_v0]

/-- The sort key is the negated distance. -/
theorem key_at (b q k) : val_main_v21 (F := Ideal) x0 x1 x2 (ix3 b q k) = -Ideal.sqrt (dist x0 s b q k) := by
  pointwise [val_main_v21,val_main_v20,val_main_v19,val_main_v18,val_main_v17,val_main_v16,val_main_v15,val_main_v14,val_main_v13,val_main_v12,val_main_v11,val_main_v10,val_main_v9,val_main_v8,val_main_v7,val_main_v6,val_main_v5,val_main_v4,val_main_v3,val_main_v2,val_main_cst,val_main_cst_0,val_main_cst_1,val_main_cst_2]
  simp only [coord_at x0 x1 hs]
  rfl

theorem index_at (b q) (r : Fin 16) (hd : ∀ j, dist x0 s b q j ≠ ⊤) :
    val_main_indices (F := Ideal) x0 x1 x2 (ix3 b q r) = BitVec.ofNat 32 (Knn.sel (dist x0 s b q) r.val).val :=
  Knn.topK_sel (by decide) _ _ (dist x0 s b q) b q (key_at x0 x1 hs b q) hd (fun j => le_max_right _ _) r

theorem start_at (b q) (r : Fin 16) (hd : ∀ j, dist x0 s b q j ≠ ⊤) :
    val_main_v28 (F := Ideal) x0 x1 x2 (ix4 b q r 0) = BitVec.ofNat 32 (Knn.sel (dist x0 s b q) r.val).val := by
  have h := (Knn.sel (dist x0 s b q) r.val).isLt
  pointwise [val_main_v28,val_main_v27,val_main_v26,val_main_v25,val_main_v24,val_main_v23, val_main_c, val_main_c_3]
  rw [index_at x0 x1 hs b q r hd]
  exact Knn.wrap_index _ (by omega) _

theorem take_at (b q) (r : Fin 16) (k) (hd : ∀ j, dist x0 s b q j ≠ ⊤) :
    val_main_v29 (F := Ideal) x0 x1 x2 (ix4 b q r k) = x1 (ix3 b k (Knn.sel (dist x0 s b q) r.val)) := by
  unfold val_main_v29
  rw [Knn.gather_row _ rfl rfl rfl rfl rfl rfl rfl _ _ b q r k _ (start_at x0 x1 hs b q r hd) (by norm_num)]
  pointwise [val_main_v22]

theorem prod_at (b o q) (r : Fin 16) (hd : ∀ j, dist x0 s b q j ≠ ⊤) :
    val_main_v36 (F := Ideal) x0 x1 x2 x3 (ix4 b o q r) = prod x0 x1 x3 s b o q r.val := by
  pointwise [val_main_v36,val_main_v35,val_main_v34,val_main_v33,val_main_v32,val_main_v31,val_main_v30]
  simp only [take_at x0 x1 hs b q r _ hd, feat_at x0 x1 hs]
  unfold prod Knn.edge
  refine congrArg₂ (· + ·) (Finset.sum_congr rfl fun k _ => mul_comm _ _) (Finset.sum_congr rfl fun k _ => mul_comm _ _)

omit hs
omit hs in
theorem count_word : Ideal.ofBits .f32 1199570944#32 = ((65536 : ℝ) : EReal) := by
  simp [Ideal.ofBits, Ideal.ieee, -EReal.coe_mul]; norm_num

variable (s) in
/-- The sum of the products over the group of output channel `o`. -/
def total (b : Fin 16) (g : Fin 4) : EReal := ∑ x : Fin 32, ∑ y : Fin 128, ∑ r : Fin 16, prod x0 x1 x3 s b ⟨32 * g.val + x.val, by omega⟩ y r.val

include hs

theorem mean_at (b g) (hd : ∀ q j, dist x0 s b q j ≠ ⊤) :
    val_main_v41 (F := Ideal) x0 x1 x2 x3 (ix5 b g 0 0 0) = Ideal.div (total x0 x1 x3 s b g) ((65536 : ℝ) : EReal) := by
  rw [← count_word]
  pointwise [val_main_v41,val_main_v40,val_main_v39,val_main_v38,val_main_cst_5,val_main_cst_4,val_main_v37]
  simp only [prod_at x0 x1 x3 hs b _ _ _ (hd _)]
  unfold total
  simp only [Nat.mul_comm 32]

theorem var_at (b g) (hd : ∀ q j, dist x0 s b q j ≠ ⊤) :
    val_main_v42 (F := Ideal) x0 x1 x2 x3 (ix5 b g 0 0 0) = Ideal.div
      (∑ x : Fin 32, ∑ y : Fin 128, ∑ r : Fin 16,
        (prod x0 x1 x3 s b ⟨32 * g.val + x.val, by omega⟩ y r.val - Ideal.div (total x0 x1 x3 s b g) ((65536 : ℝ) : EReal)) *
        (prod x0 x1 x3 s b ⟨32 * g.val + x.val, by omega⟩ y r.val - Ideal.div (total x0 x1 x3 s b g) ((65536 : ℝ) : EReal))) ((65536 : ℝ) : EReal) := by
  pointwise [val_main_v42,val_main_call1_v0, val_main_call1_v1, val_main_call1_cst_0, val_main_call1_v2, val_main_call1_v3, val_main_call1_v4, val_main_call1_v5, val_main_call1_v6, val_main_call1_v7, val_main_call1_cst_1, val_main_call1_v8, val_main_call1_cst_2, val_main_call1_v9, val_main_call1_v10, val_main_call1_v11, val_main_call1_v12, val_main_call1_cst_3, val_main_call1_v13, val_main_call1_cst_4, val_main_call1_call0_v0, val_main_call1_call0_v1,val_main_call1_cst,val_main_c_6,val_main_v37]
  simp only [prod_at x0 x1 x3 hs b _ _ _ (hd _)]
  rw [Knn.zero_word, count_word, sub_zero, if_pos (by exact_mod_cast (by norm_num : (0 : ℝ) < 65536))]
  unfold total
  simp only [Nat.mul_comm 32]

theorem out_at (b o q) (hd : ∀ q j, dist x0 s b q j ≠ ⊤) (e a : ℝ) (he : Ideal.ofBits .f32 925353388#32 = (e : EReal))
    (ha : Ideal.ofBits .f32 1045220557#32 = (a : EReal)) :
    val_main_v62 (F := Ideal) x0 x1 x2 x3 x4 x5 (ix3 b o q) = (Finset.univ : Finset (Fin 16)).fold max ⊥ fun r =>
      Knn.leaky a (Knn.normed e (val_main_v41 (F := Ideal) x0 x1 x2 x3 (ix5 b ⟨o.val / 32, by omega⟩ 0 0 0))
        (val_main_v42 (F := Ideal) x0 x1 x2 x3 (ix5 b ⟨o.val / 32, by omega⟩ 0 0 0)) (x4 (ix1 o)) (x5 (ix1 o)) (prod x0 x1 x3 s b o q r.val)) := by
  pointwise [val_main_v62, val_main_v61,val_main_v60,val_main_v59,val_main_v58,val_main_v57,val_main_v56,val_main_v55,val_main_v54,val_main_v53,val_main_v52,val_main_v51,val_main_v50,val_main_v49,val_main_v48,val_main_v47,val_main_v46,val_main_v45,val_main_v44,val_main_v43,val_main_cst_7,val_main_cst_8,val_main_cst_9,val_main_cst_10,val_main_v37]
  simp only [prod_at x0 x1 x3 hs b _ _ _ (hd _), Knn.bot_word, he, ha]
  rfl

omit hs

/-- The reference's run: its results are the taken coordinates and the last value of its chain, at the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = val_main_v1_0 (F := Ideal) (m ((c.tc : Thread nD τ).loc main_arg0)) (m ((c.tc : Thread nD τ).loc main_arg1))
        (m ((c.tc : Thread nD τ).loc main_arg2))
      ∧ r.2.mem ((c.tc : Thread nD τ).loc main_v62) = val_main_v62 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v1_0_eq (StableHlo.launchContents m c)),
    (h c).2.1.trans (val_main_v62_eq (StableHlo.launchContents m c)), (h c).2.2⟩) (Cert.RefDIdeal.Value.run m ρ)

/-- The reference's frame; it declares no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2, sem_eq_zero_of_no_sems (by decide) r.2⟩) (Cert.RefDIdeal.Value.run m ρ)

end Cert.RefDIdeal.Hand

end
-- ==== Proof.StageD.Equal.lean ====
module

public import proofs.«01_k».proof.Defs
public import proofs.«01_k».proof.Proof.Gen.Pre_finite_in_range
public import proofs.«01_k».proof.Proof.StageD.Out
public import proofs.«01_k».proof.Proof.StageD.Ref
public import proofs.«01_k».proof.Proof.Knn.Finite
public import Idealize.ShloMosaic.Lib.Claim

@[expose] public section

set_option maxRecDepth 16384

noncomputable section

namespace Cert.StageDIdeal.Hand
open Idealize.ShloMosaic.TcCoe

open Cert.StageDIdeal.Gen
open Idealize.ShloMosaic Idealize.SL.Sem

/-! # The kernel's array is the reference's -/

variable (m : (ℓ : Loc nD τ sig) → Buf (Elt Ideal) ℓ) (c : Dev nD)

/-- Under the precondition every element of every argument but the sampled indices is a real number, and the sampled indices are positions. -/
theorem reals (h : Cert.Pre_StageDIdeal_finite_in_range m) :
    (∀ i, Knn.IsReal (m ((c : Thread nD τ).loc main_arg0) i)) ∧ (∀ i, Knn.IsReal (m ((c : Thread nD τ).loc main_arg1) i))
    ∧ (∃ s, Picks m c s) ∧ (∀ i, Knn.IsReal (m ((c : Thread nD τ).loc main_arg3) i))
    ∧ (∀ i, Knn.IsReal (m ((c : Thread nD τ).loc main_arg4) i)) ∧ (∀ i, Knn.IsReal (m ((c : Thread nD τ).loc main_arg5) i)) := by
  haveI : Subsingleton (⟨0, ![]⟩ : Shape).Idx := ⟨fun a b => funext fun e => Fin.elim0 e⟩
  obtain ⟨h1, h7⟩ := IntOp.andi_eq_one.1 (congrFun (h c) fun a => (show Fin 0 from a).elim0)
  obtain ⟨h1, h6⟩ := IntOp.andi_eq_one.1 h1
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  choose s hs using Knn.positions_of_all (n := 512) (by norm_num) _ _ _ _ _ _ h3 h4
  exact ⟨Knn.real_of_all _ _ _ _ _ _ h1, Knn.real_of_all _ _ _ _ _ _ h2, ⟨fun b j => s (ix2 j b), fun b j => hs (ix2 j b)⟩,
    Knn.real_of_all _ _ _ _ _ _ h5, Knn.real_of_all _ _ _ _ _ _ h6, Knn.real_of_all _ _ _ _ _ _ h7⟩

/-- The kernel's feature array. -/
theorem feat_array (G : Buf (Elt Ideal) ((c : Thread nD τ).loc main_v5_0))
    (hG : ∀ (b : Fin 16) (t : Fin cfg0.N) (_ : t.val = b.val) (i : Fin 128) (q : Fin 128), featBlk m c t (ix3 0 i q) = G (ix3 b i q)) :
    (dats m 0 c).arrAt 7 cfg0.N = G := by
  refine (dats m 0 c).arrAt_eq_of_covers 7 _ (by decide +kernel) fun t hf y => ?_
  blk_simp
  rw [after0_7]
  have ht : t.val < 16 := t.isLt
  have hy : y = ix3 0 (y 1) (y 2) := by
    funext e
    fin_cases e
    · exact Subsingleton.elim (α := Fin 1) _ _
    · rfl
    · rfl
  have he : (win0_7.blk t).view.emb y = ix3 ⟨t.val, ht⟩ (y 1) (y 2) := by
    funext e
    apply Fin.ext
    fin_cases e
    · blk_simp [idx t]
      rfl
    · blk_simp [idx t]
      rfl
    · blk_simp [idx t]
      rfl
  exact (congrArg _ hy).trans ((hG ⟨t.val, ht⟩ t rfl (y 1) (y 2)).trans (congrArg G he.symm))

/-- The kernel's coordinate array. -/
theorem coord_array (G : Buf (Elt Ideal) ((c : Thread nD τ).loc main_v5_1))
    (hG : ∀ (b : Fin 16) (t : Fin cfg0.N) (_ : t.val = b.val) (i : Fin 3) (q : Fin 128), coordBlk m c t (ix3 0 i q) = G (ix3 b i q)) :
    (dats m 0 c).arrAt 8 cfg0.N = G := by
  refine (dats m 0 c).arrAt_eq_of_covers 8 _ (by decide +kernel) fun t hf y => ?_
  blk_simp
  rw [after0_8]
  have ht : t.val < 16 := t.isLt
  have hy : y = ix3 0 (y 1) (y 2) := by
    funext e
    fin_cases e
    · exact Subsingleton.elim (α := Fin 1) _ _
    · rfl
    · rfl
  have he : (win0_8.blk t).view.emb y = ix3 ⟨t.val, ht⟩ (y 1) (y 2) := by
    funext e
    apply Fin.ext
    fin_cases e
    · blk_simp [idx t]
      rfl
    · blk_simp [idx t]
      rfl
    · blk_simp [idx t]
      rfl
  exact (congrArg _ hy).trans ((hG ⟨t.val, ht⟩ t rfl (y 1) (y 2)).trans (congrArg G he.symm))

/-- The two programs' coordinates agree element by element. -/
theorem coord_eq (h : Cert.Pre_StageDIdeal_finite_in_range m) (b : Fin 16) (t : Fin cfg0.N) (ht : t.val = b.val) (i : Fin 3) (q : Fin 128) :
    coordBlk m c t (ix3 0 i q) = Cert.RefDIdeal.Read.val_main_v1_0 (F := Ideal) (m ((c : Thread nD τ).loc main_arg0))
      (m ((c : Thread nD τ).loc main_arg1)) (m ((c : Thread nD τ).loc main_arg2)) (ix3 b i q) := by
  obtain ⟨_, _, ⟨s, hs⟩, _⟩ := reals m c h
  rw [coord_at hs b t ht, Cert.RefDIdeal.Hand.coord_at _ _ hs b i q]

/-- The two programs' features agree element by element. -/
theorem value_eq (h : Cert.Pre_StageDIdeal_finite_in_range m) (b : Fin 16) (t : Fin cfg0.N) (ht : t.val = b.val) (i : Fin 128) (q : Fin 128) :
    featBlk m c t (ix3 0 i q) = Cert.RefDIdeal.Read.val_main_v62 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (ix3 b i q) := by
  obtain ⟨r0, r1, ⟨s, hs⟩, r3, r4, r5⟩ := reals m c h
  obtain ⟨e, he0, he⟩ := Knn.eps_word
  obtain ⟨a, ha0, ha⟩ := Knn.slope_word
  have hd : ∀ q k, Knn.IsReal (dist m c s b q k) := fun q k => Knn.dist_real (fun a k => r0 _) (fun a => r0 _) k
  have hd' : ∀ q k, Cert.RefDIdeal.Hand.dist (m ((c : Thread nD τ).loc main_arg0)) s b q k ≠ ⊤ := fun q k => (hd q k).ne_top
  have hp : ∀ o q r, Knn.IsReal (prod m c s b o q r) := fun o q r =>
    Knn.edge_real (fun c => r3 _) (fun c => r3 _) (fun c k => r1 _) (fun c => r1 _) _
  rw [out_at hs b t ht i q 65536 e a Cert.RefDIdeal.Hand.count_word he ha, Cert.RefDIdeal.Hand.out_at _ _ _ _ _ hs b i q hd' e a he ha,
    Cert.RefDIdeal.Hand.mean_at _ _ _ hs b _ hd', Cert.RefDIdeal.Hand.var_at _ _ _ hs b _ hd']
  exact Knn.layer_eq (G := 4) (C := 32) (T := 1) (by norm_num) (prod m c s b) hp i q 65536 e a (by norm_num) (by norm_num) he0 ha0 _ _ (r4 _) (r5 _)

/-- The call and its reference, from memories agreeing on the arguments, end with equal results. -/
theorem algebraic : Cert.algebraic_StageDIdeal_RefDIdeal_pre_finite_in_range := by
  pair_intro
  · run_from Cert.StageDIdeal.Hand.run_main m g
  · refine (θ_run Cert.RefDIdeal.defs _ _).mono (fun r h c => ⟨(h c).1.trans ?_, (h c).2.1.trans ?_, (h c).2.2⟩) (Cert.RefDIdeal.Hand.run m' g')
    · obtain ⟨e0, e1, e2, e3, e4, e5⟩ := hagree c
      rw [e0, e1, e2]
      exact (coord_array m c _ (coord_eq m c hpre)).symm
    · obtain ⟨e0, e1, e2, e3, e4, e5⟩ := hagree c
      rw [e0, e1, e2, e3, e4, e5]
      exact (feat_array m c _ (value_eq m c hpre)).symm

end Cert.StageDIdeal.Hand

end
-- ==== Proof.StageB.Loop.lean ====
module

public import proofs.«01_k».proof.Proof.Gen.StageBIdeal.Loops
public import proofs.«01_k».proof.Proof.Knn.Carry
public import Idealize.ShloMosaic.Lib.Pipeline.FrameBody
public import Idealize.ShloMosaic.Lib.Pipeline.Value

@[expose] public section

set_option maxRecDepth 8192

noncomputable section

namespace Cert.StageBIdeal.Hand

open Cert.StageBIdeal.Gen
open Cert.Knn (writes_full readAt_full off2 entry steps lread lput lcont lcont_succ carried_open carried_next)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # The neighbour loop of one grid point, by values -/

/-- What the loop carries in scratch. -/
abbrev LState (F : FTy → Type) : Type := Knn.LState F S2048x128 S64x128

/-- One neighbour taken: features `v6`, indices `v8`, query features `v17`, weights `w`. -/
def lstep (v6 : FVec F S32x2048 .f32) (v8 : IVec S2048x128 32) (v17 : FVec F S32x128 .f32)
    (w : Vec F S64x64 .f32) (s : LState F) : LState F where
  d := k0_pay10 v8 s.d
  mx := k0_pay12 v6 v8 v17 s.d w s.mx
  mn := k0_pay13 v6 v8 v17 s.d w s.mn
  sm := k0_pay4 (k0_pay11 v6 v8 v17 s.d w) s.sm
  sq := k0_pay5 (k0_pay11 v6 v8 v17 s.d w) s.sq

/-- The state after `k` neighbours. -/
abbrev lstate (v6 : FVec F S32x2048 .f32) (v8 : IVec S2048x128 32) (v17 : FVec F S32x128 .f32)
    (w : Vec F S64x64 .f32) (s : LState F) (k : ℕ) : LState F := steps (lstep v6 v8 v17 w) s k

section Trip

variable (𝒱 : Variants) (c : Dev nD) (bd : Option 𝒱.V) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S1x32x2048 .f32) (harg4 : arg4.IsWhole)
  (arg5 : Memref sig .tc .vmem S1x1x512 .i32) (harg5 : arg5.IsWhole)
  (arg6 : Memref sig .tc .vmem S64x64 .f32) (harg6 : arg6.IsWhole)
  (arg7 : Memref sig .tc .vmem S64x1 .f32) (harg7 : arg7.IsWhole)
  (arg8 : Memref sig .tc .vmem S64x1 .f32) (harg8 : arg8.IsWhole)
  (arg9 : Memref sig .tc .vmem S1x64x512 .f32) (harg9 : arg9.IsWhole)
  (arg10 : Memref sig .tc .vmem S1x3x128 .f32) (harg10 : arg10.IsWhole)
  (arg11 : Memref sig .tc .vmem S2048x128 .f32) (harg11 : arg11.IsWhole)
  (arg12 : Memref sig .tc .vmem S2048x1 .f32) (harg12 : arg12.IsWhole)
  (arg13 : Memref sig .tc .vmem S64x512 .f32) (harg13 : arg13.IsWhole)
  (arg14 : Memref sig .tc .vmem S64x512 .f32) (harg14 : arg14.IsWhole)
  (arg15 : Memref sig .tc .vmem S64x128 .f32) (harg15 : arg15.IsWhole)
  (arg16 : Memref sig .tc .vmem S64x128 .f32) (harg16 : arg16.IsWhole)
  (arg17 : Memref sig .tc .vmem S64x128 .f32) (harg17 : arg17.IsWhole)
  (arg18 : Memref sig .tc .vmem S64x128 .f32) (harg18 : arg18.IsWhole)
  (v6 : FVec F S32x2048 .f32) (v8 : IVec S2048x128 32) (v17 : FVec F S32x128 .f32)

/-- An array whole, at contents `f`. -/
abbrev own {S : Shape} (a : Memref sig .tc .vmem S .f32) (f : BufTy.Contents (Elt F) a.view.ty) :
    sProp (MT nD τ sig Unit (Elt F) ℕ (UR sig nD τ) ℕ) :=
  iprop((a.view.loc (c : Thread nD τ) ↦[a.view.set]{fullShare} f))

/-- What one trip touches: the weights read at `X` and the five scratch arrays at `f·`. -/
abbrev held (X : BufTy.Contents (Elt F) arg6.view.ty)
    (f11 : BufTy.Contents (Elt F) arg11.view.ty) (f15 : BufTy.Contents (Elt F) arg15.view.ty)
    (f16 : BufTy.Contents (Elt F) arg16.view.ty) (f17 : BufTy.Contents (Elt F) arg17.view.ty)
    (f18 : BufTy.Contents (Elt F) arg18.view.ty) : sProp (MT nD τ sig Unit (Elt F) ℕ (UR sig nD τ) ℕ) :=
  iprop((arg6.view.loc (c : Thread nD τ) ↦[arg6.view.set]{fullShare} X)
    ∗ (arg11.view.loc (c : Thread nD τ) ↦[arg11.view.set]{fullShare} f11)
    ∗ (arg15.view.loc (c : Thread nD τ) ↦[arg15.view.set]{fullShare} f15)
    ∗ (arg16.view.loc (c : Thread nD τ) ↦[arg16.view.set]{fullShare} f16)
    ∗ (arg17.view.loc (c : Thread nD τ) ↦[arg17.view.set]{fullShare} f17)
    ∗ (arg18.view.loc (c : Thread nD τ) ↦[arg18.view.set]{fullShare} f18))

/-- One trip of the loop: the scratch it finds at `f·` it leaves at the next state of what it read. -/
theorem trip (X : BufTy.Contents (Elt F) arg6.view.ty)
    (k : Fin k0_t1_loop.trips) (E : Set ℕ)
    (f11 : BufTy.Contents (Elt F) arg11.view.ty) (f15 : BufTy.Contents (Elt F) arg15.view.ty)
    (f16 : BufTy.Contents (Elt F) arg16.view.ty) (f17 : BufTy.Contents (Elt F) arg17.view.ty)
    (f18 : BufTy.Contents (Elt F) arg18.view.ty) :
    held (F := F) c arg6 arg11 arg15 arg16 arg17 arg18 X f11 f15 f16 f17 f18
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 k PUnit.unit)
          (fun _ => held (F := F) c arg6 arg11 arg15 arg16 arg17 arg18 X
            (harg11.unread (lstep v6 v8 v17 (arg6.view.read (Elt F) X) ⟨arg11.view.read (Elt F) f11, arg15.view.read (Elt F) f15,
              arg16.view.read (Elt F) f16, arg17.view.read (Elt F) f17, arg18.view.read (Elt F) f18⟩).d) (harg15.unread (lstep v6 v8 v17 (arg6.view.read (Elt F) X) ⟨arg11.view.read (Elt F) f11, arg15.view.read (Elt F) f15,
              arg16.view.read (Elt F) f16, arg17.view.read (Elt F) f17, arg18.view.read (Elt F) f18⟩).mx)
            (harg16.unread (lstep v6 v8 v17 (arg6.view.read (Elt F) X) ⟨arg11.view.read (Elt F) f11, arg15.view.read (Elt F) f15,
              arg16.view.read (Elt F) f16, arg17.view.read (Elt F) f17, arg18.view.read (Elt F) f18⟩).mn) (harg17.unread (lstep v6 v8 v17 (arg6.view.read (Elt F) X) ⟨arg11.view.read (Elt F) f11, arg15.view.read (Elt F) f15,
              arg16.view.read (Elt F) f16, arg17.view.read (Elt F) f17, arg18.view.read (Elt F) f18⟩).sm)
            (harg18.unread (lstep v6 v8 v17 (arg6.view.read (Elt F) X) ⟨arg11.view.read (Elt F) f11, arg15.view.read (Elt F) f15,
              arg16.view.read (Elt F) f16, arg17.view.read (Elt F) f17, arg18.view.read (Elt F) f18⟩).sq)) := by
  have hk : k.val < 16 := Nat.lt_of_lt_of_le k.isLt k0_t1_abs.2.1
  unfold k0_t1_body
  iintro ⟨HR_arg6, HW_arg11, HW_arg15, HW_arg16, HW_arg17, HW_arg18⟩
  sl_exec
  sl_step
  unfold trip.sl.r trip.sl.r_1
  rw [writes_full harg11 _ off2, writes_full harg15 _ off2, writes_full harg16 _ off2, writes_full harg17 _ off2,
    writes_full harg18 _ off2]
  simp only [readAt_full (S := S2048x128) _ _ off2, readAt_full (S := S64x128) _ _ off2, readAt_full (S := S64x64) _ _ off2]
  unfold lstep
  sl_close

set_option warn.classDefReducibility false in
/-- The loop by its values: after `k` trips the five scratch arrays hold the state after `k` steps. -/
@[sl_loop] def loopVal (E : Set ℕ) (X : BufTy.Contents (Elt F) arg6.view.ty)
    (g11 : BufTy.Contents (Elt F) arg11.view.ty) (g15 : BufTy.Contents (Elt F) arg15.view.ty)
    (g16 : BufTy.Contents (Elt F) arg16.view.ty) (g17 : BufTy.Contents (Elt F) arg17.view.ty)
    (g18 : BufTy.Contents (Elt F) arg18.view.ty) :
    Cert.StageBIdeal.Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 where
  inv k _ := iprop((arg6.view.loc (c : Thread nD τ) ↦[arg6.view.set]{fullShare} X)
    ∗ (∃ f, (arg11.view.loc (c : Thread nD τ) ↦[arg11.view.set]{fullShare} f) ∗ ⌜f = entry g11 k
      (lcont arg11 harg11 arg15 harg15 arg16 harg16 arg17 harg17 arg18 harg18 (lstep v6 v8 v17 (arg6.view.read (Elt F) X)) (g11, g15, g16, g17, g18) k).1⌝)
    ∗ (∃ f, (arg15.view.loc (c : Thread nD τ) ↦[arg15.view.set]{fullShare} f) ∗ ⌜f = entry g15 k
      (lcont arg11 harg11 arg15 harg15 arg16 harg16 arg17 harg17 arg18 harg18 (lstep v6 v8 v17 (arg6.view.read (Elt F) X)) (g11, g15, g16, g17, g18) k).2.1⌝)
    ∗ (∃ f, (arg16.view.loc (c : Thread nD τ) ↦[arg16.view.set]{fullShare} f) ∗ ⌜f = entry g16 k
      (lcont arg11 harg11 arg15 harg15 arg16 harg16 arg17 harg17 arg18 harg18 (lstep v6 v8 v17 (arg6.view.read (Elt F) X)) (g11, g15, g16, g17, g18) k).2.2.1⌝)
    ∗ (∃ f, (arg17.view.loc (c : Thread nD τ) ↦[arg17.view.set]{fullShare} f) ∗ ⌜f = entry g17 k
      (lcont arg11 harg11 arg15 harg15 arg16 harg16 arg17 harg17 arg18 harg18 (lstep v6 v8 v17 (arg6.view.read (Elt F) X)) (g11, g15, g16, g17, g18) k).2.2.2.1⌝)
    ∗ (∃ f, (arg18.view.loc (c : Thread nD τ) ↦[arg18.view.set]{fullShare} f) ∗ ⌜f = entry g18 k
      (lcont arg11 harg11 arg15 harg15 arg16 harg16 arg17 harg17 arg18 harg18 (lstep v6 v8 v17 (arg6.view.read (Elt F) X)) (g11, g15, g16, g17, g18) k).2.2.2.2⌝))
  step k acc := by
    refine (carried_open (own (F := F) c arg6 X) (own c arg11) (own c arg15) (own c arg16) (own c arg17) (own c arg18)
      (g11, g15, g16, g17, g18) _ _ (by rintro h; rw [h]; rfl)).trans
      ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 X k E _ _ _ _ _).trans (wp_mono _ _ _ (fun _ => ?_)))
    exact carried_next (own (F := F) c arg6 X) (own c arg11) (own c arg15) (own c arg16) (own c arg17) (own c arg18) (g11, g15, g16, g17, g18)
      (lcont arg11 harg11 arg15 harg15 arg16 harg16 arg17 harg17 arg18 harg18 (lstep v6 v8 v17 (arg6.view.read (Elt F) X)) (g11, g15, g16, g17, g18) (k + 1)) k

/-- After the loop the five scratch arrays hold the state after sixteen steps. -/
instance loopExit (E : Set ℕ) (X : BufTy.Contents (Elt F) arg6.view.ty)
    (g11 : BufTy.Contents (Elt F) arg11.view.ty) (g15 : BufTy.Contents (Elt F) arg15.view.ty)
    (g16 : BufTy.Contents (Elt F) arg16.view.ty) (g17 : BufTy.Contents (Elt F) arg17.view.ty)
    (g18 : BufTy.Contents (Elt F) arg18.view.ty) :
    LoopExit (loopVal (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v6 v8 v17 E X g11 g15 g16 g17 g18) where
  post _ := iprop((arg6.view.loc (c : Thread nD τ) ↦[arg6.view.set]{fullShare} X)
    ∗ (arg11.view.loc (c : Thread nD τ) ↦[arg11.view.set]{fullShare} harg11.unread (lstate v6 v8 v17 (arg6.view.read (Elt F) X)
      (lread arg11 arg15 arg16 arg17 arg18 (g11, g15, g16, g17, g18)) 16).d)
    ∗ (arg15.view.loc (c : Thread nD τ) ↦[arg15.view.set]{fullShare} harg15.unread (lstate v6 v8 v17 (arg6.view.read (Elt F) X)
      (lread arg11 arg15 arg16 arg17 arg18 (g11, g15, g16, g17, g18)) 16).mx)
    ∗ (arg16.view.loc (c : Thread nD τ) ↦[arg16.view.set]{fullShare} harg16.unread (lstate v6 v8 v17 (arg6.view.read (Elt F) X)
      (lread arg11 arg15 arg16 arg17 arg18 (g11, g15, g16, g17, g18)) 16).mn)
    ∗ (arg17.view.loc (c : Thread nD τ) ↦[arg17.view.set]{fullShare} harg17.unread (lstate v6 v8 v17 (arg6.view.read (Elt F) X)
      (lread arg11 arg15 arg16 arg17 arg18 (g11, g15, g16, g17, g18)) 16).sm)
    ∗ (arg18.view.loc (c : Thread nD τ) ↦[arg18.view.set]{fullShare} harg18.unread (lstate v6 v8 v17 (arg6.view.read (Elt F) X)
      (lread arg11 arg15 arg16 arg17 arg18 (g11, g15, g16, g17, g18)) 16).sq))
  exit acc := by
    have ht : Scf.trips k0_t1_loop.lb k0_t1_loop.ub k0_t1_loop.st = 15 + 1 := by decide
    unfold loopVal
    dsimp only
    rw [ht]
    have e := lcont_succ arg11 harg11 arg15 harg15 arg16 harg16 arg17 harg17 arg18 harg18 (lstep v6 v8 v17 (arg6.view.read (Elt F) X)) (g11, g15, g16, g17, g18) 15
    rw [e]
    exact carried_open (own (F := F) c arg6 X) (own c arg11) (own c arg15) (own c arg16) (own c arg17) (own c arg18) (g11, g15, g16, g17, g18) _ _ (fun h => absurd h (by decide))

end Trip

end Cert.StageBIdeal.Hand

end
-- ==== Proof.StageB.Point.lean ====
module

public import proofs.«01_k».proof.Proof.StageB.Loop
public import proofs.«01_k».proof.Proof.Gen.StageBIdeal.Points
public import Idealize.ShloMosaic.Lib.WritesUnit
public import Idealize.ShloMosaic.Lib.ValueIdxCore

@[expose] public section

set_option maxRecDepth 8192

noncomputable section

namespace Cert.StageBIdeal.Hand

open Cert.StageBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # One grid point's run, by values -/

/-- The point is the first of its batch entry. -/
abbrev isFirst (i : grid0.Coords) : Prop :=
  (Scalar.cmpi .ne (Scalar.extui (Scalar.cmpi .eq (BitVec.ofNat 32 (i 1).val) 0#32)) 0#32) = 1#1

/-- The point is the last of its batch entry. -/
abbrev isLast (i : grid0.Coords) : Prop := k0_cond2 i = 1#1

/-- The row number at each entry of the distance table. -/
def rowIx : IVec S2048x128 32 := iota .tc S2048x128 32 [0] iota_S2048x128_d0_w32

/-- The point's sampled indices. -/
def qIdx (i : grid0.Coords) (x3 : Vec F S1x1x512 .i32) : Vec F S1x1x128 .i32 :=
  View.ld x3 (Rect.unit (s := S1x1x512) (k0_off1 i) S1x1x128.size (k0_off1_inb i))

/-- The loop's state when the point enters it, from the key norms and the running sums. -/
def enter (i : grid0.Coords) (x0 : Vec F S1x3x2048 .f32) (x3 : Vec F S1x1x512 .i32) (ksq : Vec F S2048x1 .f32) (sm sq : Vec F S64x128 .f32) : LState F :=
  ⟨k0_pay1 (k0_pay33 x0 (qIdx i x3) ksq), k0_pay2, k0_pay3, sm, sq⟩

/-- The loop's state when the point leaves it. -/
def leave (i : grid0.Coords) (x0 : Vec F S1x3x2048 .f32) (x2 : Vec F S1x32x2048 .f32) (x3 : Vec F S1x1x512 .i32) (x4 : Vec F S64x64 .f32)
    (ksq : Vec F S2048x1 .f32) (sm sq : Vec F S64x128 .f32) : LState F :=
  lstate (k0_pay28 x2) rowIx (k0_pay31 x2 (qIdx i x3)) x4 (enter i x0 x3 ksq sm sq) 16

/-- The coordinates the point stores: those of its sampled points. -/
def taken (i : grid0.Coords) (x0 : Vec F S1x3x2048 .f32) (x3 : Vec F S1x1x512 .i32) : Vec F S1x3x128 .f32 := k0_pay32 x0 (qIdx i x3)

/-- The table `x` with the point's 128 columns replaced by `v`. -/
def put (i : grid0.Coords) (x : Vec F S64x512 .f32) (v : Vec F S64x128 .f32) : Vec F S64x512 .f32 := fun y =>
  if h : 128 * (i 1).val ≤ (y 1).val ∧ (y 1).val < 128 * (i 1).val + 128 then
    v (ValueIdx.ix2 (y 0) ⟨(y 1).val - 128 * (i 1).val, by omega⟩)
  else x y

/-- The batch entry's features from its sums and its tables of maxima and minima. -/
def result (sm sq : Vec F S64x128 .f32) (x5 x6 : Vec F S64x1 .f32) (mb nb : Vec F S64x512 .f32) : Vec F S1x64x512 .f32 :=
  k0_pay8
    (k0_pay22 (k0_pay14 sm) (k0_pay15 sq) k0_pay16 (iota .tc S64x64 32 [1] iota_S64x64_d1_w32) 16#32 k0_pay17 k0_pay18 (Scalar.extui (Scalar.cmpi .sgt 16#32 0#32)) x5 x6)
    (k0_pay23 (k0_pay14 sm) (k0_pay15 sq) k0_pay16 (iota .tc S64x64 32 [1] iota_S64x64_d1_w32) 16#32 k0_pay17 k0_pay18 (Scalar.extui (Scalar.cmpi .sgt 16#32 0#32)) x5 mb nb)

/-- A store of the point's columns leaves the table with them replaced. -/
theorem read_put (i : grid0.Coords) {mr : Memref sig .tc .vmem S64x512 .f32} (h : mr.IsWhole) (x : Vec F S64x512 .f32)
    (v : Vec F S64x128 .f32) :
    mr.view.read (Elt F) (mr.view.writes (Elt F) (h.unread x)
      [⟨Rect.unit (s := S64x512) (k0_off2 i) S64x128.size (k0_off2_inb i), v⟩]) = put i x v := by
  have ho := k0_off2_eq i
  have e0 : (k0_off2 i) 0 = 0 := by rw [ho]; rfl
  have e1 : (k0_off2 i) 1 = 128 * (i 1).val := by rw [ho]; rfl
  funext y
  unfold put
  split
  · next hy =>
    refine View.read_writes_cons_unit_of_mem mr.view _ (k0_off2_inb i) v []
      y (ValueIdx.ix2 (n0 := 64) (n1 := 128) (y 0) ⟨(y 1).val - 128 * (i 1).val, by omega⟩) ho fun a => ?_
    fin_cases a
    · exact (Nat.zero_add _).symm
    · show (y 1).val = 128 * (i 1).val + ((y 1).val - 128 * (i 1).val)
      omega
  · next hy =>
    rw [View.read_writes_cons_unit_of_not_mem _ _ (k0_off2_inb i) v [] y ho 1 ?_]
    · exact congrFun (h.read_unread x) y
    · show (y 1).val < 128 * (i 1).val ∨ 128 * (i 1).val + 128 ≤ (y 1).val
      omega

end Cert.StageBIdeal.Hand

end
-- ==== Proof.StageB.RunA.lean ====
module

public import proofs.«01_k».proof.Proof.StageB.Point
public import proofs.«01_k».proof.Proof.Gen.StageBIdeal.Points
public import Idealize.ShloMosaic.Lib.WritesUnit
public import Idealize.ShloMosaic.Lib.ValueIdxCore

@[expose] public section

set_option maxRecDepth 8192

noncomputable section

namespace Cert.StageBIdeal.Hand

open Cert.StageBIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S1x32x2048 .f32) (harg4 : arg4.IsWhole)
  (arg5 : Memref sig .tc .vmem S1x1x512 .i32) (harg5 : arg5.IsWhole)
  (arg6 : Memref sig .tc .vmem S64x64 .f32) (harg6 : arg6.IsWhole)
  (arg7 : Memref sig .tc .vmem S64x1 .f32) (harg7 : arg7.IsWhole)
  (arg8 : Memref sig .tc .vmem S64x1 .f32) (harg8 : arg8.IsWhole)
  (arg9 : Memref sig .tc .vmem S1x64x512 .f32) (harg9 : arg9.IsWhole)
  (arg10 : Memref sig .tc .vmem S1x3x128 .f32) (harg10 : arg10.IsWhole)
  (arg11 : Memref sig .tc .vmem S2048x128 .f32) (harg11 : arg11.IsWhole)
  (arg12 : Memref sig .tc .vmem S2048x1 .f32) (harg12 : arg12.IsWhole)
  (arg13 : Memref sig .tc .vmem S64x512 .f32) (harg13 : arg13.IsWhole)
  (arg14 : Memref sig .tc .vmem S64x512 .f32) (harg14 : arg14.IsWhole)
  (arg15 : Memref sig .tc .vmem S64x128 .f32) (harg15 : arg15.IsWhole)
  (arg16 : Memref sig .tc .vmem S64x128 .f32) (harg16 : arg16.IsWhole)
  (arg17 : Memref sig .tc .vmem S64x128 .f32) (harg17 : arg17.IsWhole)
  (arg18 : Memref sig .tc .vmem S64x128 .f32) (harg18 : arg18.IsWhole)

local notation "𝕄" => MT nD τ sig Unit (Elt F) ℕ (UR sig nD τ) ℕ

/-- The resources of a point: its seven input windows at their contents, the output windows at `y0` and `y1`, the scratch. -/
abbrev Res (x0 : Vec F S1x3x2048 .f32) (x1 : Vec F S1x2048x3 .f32) (x2 : Vec F S1x32x2048 .f32) (x3 : Vec F S1x1x512 .i32) (x4 : Vec F S64x64 .f32) (x5 : Vec F S64x1 .f32) (x6 : Vec F S64x1 .f32)
    (y0 : Vec F S1x64x512 .f32) (y1 : Vec F S1x3x128 .f32) (ksq : Vec F S2048x1 .f32)
    (mb nb : Vec F S64x512 .f32) (sm sq : Vec F S64x128 .f32) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare y0 ∗ owns (c : Thread nD τ) arg10 fullShare y1
    ∗ (∃ d, owns (c : Thread nD τ) arg11 fullShare d)
    ∗ owns (c : Thread nD τ) arg12 fullShare ksq ∗ owns (c : Thread nD τ) arg13 fullShare mb
    ∗ owns (c : Thread nD τ) arg14 fullShare nb ∗ (∃ d, owns (c : Thread nD τ) arg15 fullShare d)
    ∗ (∃ d, owns (c : Thread nD τ) arg16 fullShare d) ∗ owns (c : Thread nD τ) arg17 fullShare sm
    ∗ owns (c : Thread nD τ) arg18 fullShare sq)

set_option maxHeartbeats 3200000 in
/-- A batch entry's first point: the key norms and the sums start afresh. -/
theorem runA (hc0 : isFirst i) (hc1 : ¬isLast i)
    (x0 : Vec F S1x3x2048 .f32) (x1 : Vec F S1x2048x3 .f32) (x2 : Vec F S1x32x2048 .f32) (x3 : Vec F S1x1x512 .i32) (x4 : Vec F S64x64 .f32) (x5 : Vec F S64x1 .f32) (x6 : Vec F S64x1 .f32)
    (y0 : Vec F S1x64x512 .f32) (y1 : Vec F S1x3x128 .f32) (ksq : Vec F S2048x1 .f32)
    (mb nb : Vec F S64x512 .f32) (sm sq : Vec F S64x128 .f32) (E : Set ℕ) (K : PUnit → sProp 𝕄) :
    iprop(Res c arg2 arg3 arg4 arg5 arg6 arg7 arg8 arg9 arg10 arg11 arg12 arg13 arg14 arg15 arg16 arg17 arg18 x0 x1 x2 x3 x4 x5 x6 y0 y1 ksq mb nb sm sq
        ∗ (Res c arg2 arg3 arg4 arg5 arg6 arg7 arg8 arg9 arg10 arg11 arg12 arg13 arg14 arg15 arg16 arg17 arg18 x0 x1 x2 x3 x4 x5 x6 y0 (taken i x0 x3)
          (k0_pay25 x1) (put i mb (k0_pay6 (leave i x0 x2 x3 x4 (k0_pay25 x1) k0_pay26 k0_pay27).mx)) (put i nb (k0_pay7 (leave i x0 x2 x3 x4 (k0_pay25 x1) k0_pay26 k0_pay27).mn))
          (leave i x0 x2 x3 x4 (k0_pay25 x1) k0_pay26 k0_pay27).sm (leave i x0 x2 x3 x4 (k0_pay25 x1) k0_pay26 k0_pay27).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_body_eq_skeleton]; unfold cc0_body_skel
  simp only [k0_part4_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%ds0, %fs0, -, HS0⟩, ⟨%fs1, %hfs1, HS1⟩, ⟨%fs2, %hfs2, HS2⟩, ⟨%fs3, %hfs3, HS3⟩,
    ⟨%ds4, %fs4, -, HS4⟩, ⟨%ds5, %fs5, -, HS5⟩, ⟨%fs6, %hfs6, HS6⟩, ⟨%fs7, %hfs7, HS7⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg12.eq_unread hfs1; obtain rfl := harg13.eq_unread hfs2; obtain rfl := harg14.eq_unread hfs3
  obtain rfl := harg17.eq_unread hfs6; obtain rfl := harg18.eq_unread hfs7
  sl_exec (disch := first | sl_exact hc0 | sl_exact hc1)
  sl_step
  have r13 := read_put i harg13 mb (k0_pay6 (leave i x0 x2 x3 x4 (k0_pay25 x1) k0_pay26 k0_pay27).mx)
  have r14 := read_put i harg14 nb (k0_pay7 (leave i x0 x2 x3 x4 (k0_pay25 x1) k0_pay26 k0_pay27).mn)
  have r12 := harg12.read_unread (Val := Elt F) (k0_pay25 x1)
  have r17 := harg17.read_unread (Val := Elt F) (leave i x0 x2 x3 x4 (k0_pay25 x1) k0_pay26 k0_pay27).sm
  have r18 := harg18.read_unread (Val := Elt F) (leave i x0 x2 x3 x4 (k0_pay25 x1) k0_pay26 k0_pay27).sq
  have r10 := harg10.read_unread (Val := Elt F) (taken i x0 x3)
  unfold leave enter rowIx qIdx at r13 r14 r17 r18
  unfold taken qIdx at r10
  unfold runA.sl.v46 runA.sl.v51 runA.sl.HS0_1 runA.sl.r_2 runA.sl.v25 runA.sl.HS1_1 runA.sl.HS4_1 runA.sl.HS5_1 runA.sl.HS6_1 runA.sl.HS7_1 runA.sl.H8_1 runA.sl.r runA.sl.r_1 runA.sl.v8
  simp only [leave, enter, rowIx, qIdx, taken, Knn.lread,
    View.readCov_unit_zero (S := S2048x1) arg12.view off2, View.readAt_eq_ld,
    View.ld_unit_zero (S := S2048x1) off2, View.ld_unit_zero (S := S64x128) off2, View.ld_unit_zero (S := S2048x128) off2,
    View.ld_unit_zero (S := S64x64) off2, View.ld_unit_zero (S := S64x512) off2, View.ld_unit_zero (S := S64x1) off2,
    View.ld_unit_zero (S := S1x3x2048) off3, View.ld_unit_zero (S := S1x2048x3) off3, View.ld_unit_zero (S := S1x32x2048) off3,
    writes_full (S := S2048x128) harg11 _ off2, writes_full (S := S2048x1) harg12 _ off2,
    writes_full (S := S64x128) harg15 _ off2, writes_full (S := S64x128) harg16 _ off2,
    writes_full (S := S64x128) harg17 _ off2, writes_full (S := S64x128) harg18 _ off2,
    writes_full (S := S1x3x128) harg10 _ off3,
    read_put i harg13, read_put i harg14, Memref.IsWhole.read_unread]
  iapply Hk
  sl_close

end Cert.StageBIdeal.Hand

end
-- ==== Proof.StageB.RunC.lean ====
module

public import proofs.«01_k».proof.Proof.StageB.RunA
public import proofs.«01_k».proof.Proof.Gen.StageBIdeal.Points
public import Idealize.ShloMosaic.Lib.WritesUnit
public import Idealize.ShloMosaic.Lib.ValueIdxCore

@[expose] public section

set_option maxRecDepth 8192

noncomputable section

namespace Cert.StageBIdeal.Hand

open Cert.StageBIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S1x32x2048 .f32) (harg4 : arg4.IsWhole)
  (arg5 : Memref sig .tc .vmem S1x1x512 .i32) (harg5 : arg5.IsWhole)
  (arg6 : Memref sig .tc .vmem S64x64 .f32) (harg6 : arg6.IsWhole)
  (arg7 : Memref sig .tc .vmem S64x1 .f32) (harg7 : arg7.IsWhole)
  (arg8 : Memref sig .tc .vmem S64x1 .f32) (harg8 : arg8.IsWhole)
  (arg9 : Memref sig .tc .vmem S1x64x512 .f32) (harg9 : arg9.IsWhole)
  (arg10 : Memref sig .tc .vmem S1x3x128 .f32) (harg10 : arg10.IsWhole)
  (arg11 : Memref sig .tc .vmem S2048x128 .f32) (harg11 : arg11.IsWhole)
  (arg12 : Memref sig .tc .vmem S2048x1 .f32) (harg12 : arg12.IsWhole)
  (arg13 : Memref sig .tc .vmem S64x512 .f32) (harg13 : arg13.IsWhole)
  (arg14 : Memref sig .tc .vmem S64x512 .f32) (harg14 : arg14.IsWhole)
  (arg15 : Memref sig .tc .vmem S64x128 .f32) (harg15 : arg15.IsWhole)
  (arg16 : Memref sig .tc .vmem S64x128 .f32) (harg16 : arg16.IsWhole)
  (arg17 : Memref sig .tc .vmem S64x128 .f32) (harg17 : arg17.IsWhole)
  (arg18 : Memref sig .tc .vmem S64x128 .f32) (harg18 : arg18.IsWhole)

local notation "𝕄" => MT nD τ sig Unit (Elt F) ℕ (UR sig nD τ) ℕ

set_option maxHeartbeats 3200000 in
/-- A batch entry's last point: it writes the entry's features. -/
theorem runC (hc0 : ¬isFirst i) (hc1 : isLast i)
    (x0 : Vec F S1x3x2048 .f32) (x1 : Vec F S1x2048x3 .f32) (x2 : Vec F S1x32x2048 .f32) (x3 : Vec F S1x1x512 .i32) (x4 : Vec F S64x64 .f32) (x5 : Vec F S64x1 .f32) (x6 : Vec F S64x1 .f32)
    (y0 : Vec F S1x64x512 .f32) (y1 : Vec F S1x3x128 .f32) (ksq : Vec F S2048x1 .f32)
    (mb nb : Vec F S64x512 .f32) (sm sq : Vec F S64x128 .f32) (E : Set ℕ) (K : PUnit → sProp 𝕄) :
    iprop(Res c arg2 arg3 arg4 arg5 arg6 arg7 arg8 arg9 arg10 arg11 arg12 arg13 arg14 arg15 arg16 arg17 arg18 x0 x1 x2 x3 x4 x5 x6 y0 y1 ksq mb nb sm sq
        ∗ (Res c arg2 arg3 arg4 arg5 arg6 arg7 arg8 arg9 arg10 arg11 arg12 arg13 arg14 arg15 arg16 arg17 arg18 x0 x1 x2 x3 x4 x5 x6 (result (leave i x0 x2 x3 x4 ksq sm sq).sm (leave i x0 x2 x3 x4 ksq sm sq).sq x5 x6 (put i mb (k0_pay6 (leave i x0 x2 x3 x4 ksq sm sq).mx)) (put i nb (k0_pay7 (leave i x0 x2 x3 x4 ksq sm sq).mn))) (taken i x0 x3)
          ksq (put i mb (k0_pay6 (leave i x0 x2 x3 x4 ksq sm sq).mx)) (put i nb (k0_pay7 (leave i x0 x2 x3 x4 ksq sm sq).mn))
          (leave i x0 x2 x3 x4 ksq sm sq).sm (leave i x0 x2 x3 x4 ksq sm sq).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_body_eq_skeleton]; unfold cc0_body_skel
  simp only [k0_part4_eq_skeleton, k0_part2_eq_skeleton, k0_part3_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%ds0, %fs0, -, HS0⟩, ⟨%fs1, %hfs1, HS1⟩, ⟨%fs2, %hfs2, HS2⟩, ⟨%fs3, %hfs3, HS3⟩,
    ⟨%ds4, %fs4, -, HS4⟩, ⟨%ds5, %fs5, -, HS5⟩, ⟨%fs6, %hfs6, HS6⟩, ⟨%fs7, %hfs7, HS7⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg12.eq_unread hfs1; obtain rfl := harg13.eq_unread hfs2; obtain rfl := harg14.eq_unread hfs3
  obtain rfl := harg17.eq_unread hfs6; obtain rfl := harg18.eq_unread hfs7
  sl_exec (disch := first | sl_exact hc0 | sl_exact hc1)
  sl_step
  have r13 := read_put i harg13 mb (k0_pay6 (leave i x0 x2 x3 x4 ksq sm sq).mx)
  have r14 := read_put i harg14 nb (k0_pay7 (leave i x0 x2 x3 x4 ksq sm sq).mn)
  have r12 := harg12.read_unread (Val := Elt F) ksq
  have r17 := harg17.read_unread (Val := Elt F) (leave i x0 x2 x3 x4 ksq sm sq).sm
  have r18 := harg18.read_unread (Val := Elt F) (leave i x0 x2 x3 x4 ksq sm sq).sq
  have r10 := harg10.read_unread (Val := Elt F) (taken i x0 x3)
  have r9 := harg9.read_unread (Val := Elt F) (result (leave i x0 x2 x3 x4 ksq sm sq).sm (leave i x0 x2 x3 x4 ksq sm sq).sq x5 x6 (put i mb (k0_pay6 (leave i x0 x2 x3 x4 ksq sm sq).mx)) (put i nb (k0_pay7 (leave i x0 x2 x3 x4 ksq sm sq).mn)))
  unfold leave enter rowIx qIdx at r13 r14 r17 r18 r9
  unfold taken qIdx at r10
  unfold runC.sl.r_6 runC.sl.r_5 runC.sl.r_3 runC.sl.r_4 runC.sl.v90 runC.sl.v59 runC.sl.v62 runC.sl.v138 runC.sl.v139 runC.sl.HS2_1 runC.sl.HS3_1 runC.sl.v46 runC.sl.v51 runC.sl.HS0_1 runC.sl.r_2 runC.sl.HS4_1 runC.sl.HS5_1 runC.sl.H8_1 runC.sl.r runC.sl.r_1 runC.sl.v8
  simp only [leave, enter, rowIx, qIdx, taken, Knn.lread,
    View.readCov_unit_zero (S := S2048x1) arg12.view off2, View.readAt_eq_ld,
    View.ld_unit_zero (S := S2048x1) off2, View.ld_unit_zero (S := S64x128) off2, View.ld_unit_zero (S := S2048x128) off2,
    View.ld_unit_zero (S := S64x64) off2, View.ld_unit_zero (S := S64x512) off2, View.ld_unit_zero (S := S64x1) off2,
    View.ld_unit_zero (S := S1x3x2048) off3, View.ld_unit_zero (S := S1x2048x3) off3, View.ld_unit_zero (S := S1x32x2048) off3,
    writes_full (S := S2048x128) harg11 _ off2, writes_full (S := S2048x1) harg12 _ off2,
    writes_full (S := S64x128) harg15 _ off2, writes_full (S := S64x128) harg16 _ off2,
    writes_full (S := S64x128) harg17 _ off2, writes_full (S := S64x128) harg18 _ off2,
    writes_full (S := S1x3x128) harg10 _ off3,
    read_put i harg13, read_put i harg14, Memref.IsWhole.read_unread, writes_full (S := S1x64x512) harg9 _ off3, result]
  iapply Hk
  sl_close

end Cert.StageBIdeal.Hand

end
-- ==== Proof.StageB.RunB.lean ====
module

public import proofs.«01_k».proof.Proof.StageB.RunA
public import proofs.«01_k».proof.Proof.Gen.StageBIdeal.Points
public import Idealize.ShloMosaic.Lib.WritesUnit
public import Idealize.ShloMosaic.Lib.ValueIdxCore

@[expose] public section

set_option maxRecDepth 8192

noncomputable section

namespace Cert.StageBIdeal.Hand

open Cert.StageBIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S1x32x2048 .f32) (harg4 : arg4.IsWhole)
  (arg5 : Memref sig .tc .vmem S1x1x512 .i32) (harg5 : arg5.IsWhole)
  (arg6 : Memref sig .tc .vmem S64x64 .f32) (harg6 : arg6.IsWhole)
  (arg7 : Memref sig .tc .vmem S64x1 .f32) (harg7 : arg7.IsWhole)
  (arg8 : Memref sig .tc .vmem S64x1 .f32) (harg8 : arg8.IsWhole)
  (arg9 : Memref sig .tc .vmem S1x64x512 .f32) (harg9 : arg9.IsWhole)
  (arg10 : Memref sig .tc .vmem S1x3x128 .f32) (harg10 : arg10.IsWhole)
  (arg11 : Memref sig .tc .vmem S2048x128 .f32) (harg11 : arg11.IsWhole)
  (arg12 : Memref sig .tc .vmem S2048x1 .f32) (harg12 : arg12.IsWhole)
  (arg13 : Memref sig .tc .vmem S64x512 .f32) (harg13 : arg13.IsWhole)
  (arg14 : Memref sig .tc .vmem S64x512 .f32) (harg14 : arg14.IsWhole)
  (arg15 : Memref sig .tc .vmem S64x128 .f32) (harg15 : arg15.IsWhole)
  (arg16 : Memref sig .tc .vmem S64x128 .f32) (harg16 : arg16.IsWhole)
  (arg17 : Memref sig .tc .vmem S64x128 .f32) (harg17 : arg17.IsWhole)
  (arg18 : Memref sig .tc .vmem S64x128 .f32) (harg18 : arg18.IsWhole)

local notation "𝕄" => MT nD τ sig Unit (Elt F) ℕ (UR sig nD τ) ℕ

set_option maxHeartbeats 3200000 in
/-- A middle point of a batch entry. -/
theorem runB (hc0 : ¬isFirst i) (hc1 : ¬isLast i)
    (x0 : Vec F S1x3x2048 .f32) (x1 : Vec F S1x2048x3 .f32) (x2 : Vec F S1x32x2048 .f32) (x3 : Vec F S1x1x512 .i32) (x4 : Vec F S64x64 .f32) (x5 : Vec F S64x1 .f32) (x6 : Vec F S64x1 .f32)
    (y0 : Vec F S1x64x512 .f32) (y1 : Vec F S1x3x128 .f32) (ksq : Vec F S2048x1 .f32)
    (mb nb : Vec F S64x512 .f32) (sm sq : Vec F S64x128 .f32) (E : Set ℕ) (K : PUnit → sProp 𝕄) :
    iprop(Res c arg2 arg3 arg4 arg5 arg6 arg7 arg8 arg9 arg10 arg11 arg12 arg13 arg14 arg15 arg16 arg17 arg18 x0 x1 x2 x3 x4 x5 x6 y0 y1 ksq mb nb sm sq
        ∗ (Res c arg2 arg3 arg4 arg5 arg6 arg7 arg8 arg9 arg10 arg11 arg12 arg13 arg14 arg15 arg16 arg17 arg18 x0 x1 x2 x3 x4 x5 x6 y0 (taken i x0 x3)
          ksq (put i mb (k0_pay6 (leave i x0 x2 x3 x4 ksq sm sq).mx)) (put i nb (k0_pay7 (leave i x0 x2 x3 x4 ksq sm sq).mn))
          (leave i x0 x2 x3 x4 ksq sm sq).sm (leave i x0 x2 x3 x4 ksq sm sq).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_body_eq_skeleton]; unfold cc0_body_skel
  simp only [k0_part4_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%ds0, %fs0, -, HS0⟩, ⟨%fs1, %hfs1, HS1⟩, ⟨%fs2, %hfs2, HS2⟩, ⟨%fs3, %hfs3, HS3⟩,
    ⟨%ds4, %fs4, -, HS4⟩, ⟨%ds5, %fs5, -, HS5⟩, ⟨%fs6, %hfs6, HS6⟩, ⟨%fs7, %hfs7, HS7⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  obtain rfl := harg12.eq_unread hfs1; obtain rfl := harg13.eq_unread hfs2; obtain rfl := harg14.eq_unread hfs3
  obtain rfl := harg17.eq_unread hfs6; obtain rfl := harg18.eq_unread hfs7
  sl_exec (disch := first | sl_exact hc0 | sl_exact hc1)
  sl_step
  have r13 := read_put i harg13 mb (k0_pay6 (leave i x0 x2 x3 x4 ksq sm sq).mx)
  have r14 := read_put i harg14 nb (k0_pay7 (leave i x0 x2 x3 x4 ksq sm sq).mn)
  have r12 := harg12.read_unread (Val := Elt F) ksq
  have r17 := harg17.read_unread (Val := Elt F) (leave i x0 x2 x3 x4 ksq sm sq).sm
  have r18 := harg18.read_unread (Val := Elt F) (leave i x0 x2 x3 x4 ksq sm sq).sq
  have r10 := harg10.read_unread (Val := Elt F) (taken i x0 x3)
  unfold leave enter rowIx qIdx at r13 r14 r17 r18
  unfold taken qIdx at r10
  unfold runB.sl.v46 runB.sl.v51 runB.sl.HS0_1 runB.sl.r_2 runB.sl.HS4_1 runB.sl.HS5_1 runB.sl.H8_1 runB.sl.r runB.sl.r_1 runB.sl.v8
  simp only [leave, enter, rowIx, qIdx, taken, Knn.lread,
    View.readCov_unit_zero (S := S2048x1) arg12.view off2, View.readAt_eq_ld,
    View.ld_unit_zero (S := S2048x1) off2, View.ld_unit_zero (S := S64x128) off2, View.ld_unit_zero (S := S2048x128) off2,
    View.ld_unit_zero (S := S64x64) off2, View.ld_unit_zero (S := S64x512) off2, View.ld_unit_zero (S := S64x1) off2,
    View.ld_unit_zero (S := S1x3x2048) off3, View.ld_unit_zero (S := S1x2048x3) off3, View.ld_unit_zero (S := S1x32x2048) off3,
    writes_full (S := S2048x128) harg11 _ off2, writes_full (S := S2048x1) harg12 _ off2,
    writes_full (S := S64x128) harg15 _ off2, writes_full (S := S64x128) harg16 _ off2,
    writes_full (S := S64x128) harg17 _ off2, writes_full (S := S64x128) harg18 _ off2,
    writes_full (S := S1x3x128) harg10 _ off3,
    read_put i harg13, read_put i harg14, Memref.IsWhole.read_unread]
  iapply Hk
  sl_close

end Cert.StageBIdeal.Hand

end
-- ==== Proof.StageB.Run.lean ====
module

public import proofs.«01_k».proof.Proof.StageB.RunC
public import proofs.«01_k».proof.Proof.StageB.RunB
public import proofs.«01_k».proof.Proof.Gen.StageBIdeal.Frame
public import Idealize.ShloMosaic.Lib.Pipeline.FrameBody
public import Idealize.ShloMosaic.Lib.WordCmp
public import Idealize.ShloMosaic.Lib.Claim

@[expose] public section

set_option maxRecDepth 16384

noncomputable section

namespace Cert.StageBIdeal.Hand

open Cert.StageBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run over the grid: what every point leaves, and the frame -/

/-- Grid point number `n`. -/
def pt (n : ℕ) : Fin cfg0.N := ⟨n % 64, by rw [show cfg0.N = 64 from N_0]; exact Nat.mod_lt _ (by decide)⟩

theorem pt_val (t : Fin cfg0.N) : pt t.val = t :=
  Fin.ext (Nat.mod_eq_of_lt (lt_of_lt_of_eq t.isLt (show cfg0.N = 64 from N_0)))

/-- The key norms in force at point `n`: those its batch entry's first point stored. -/
def norms (c : Dev nD) (n : ℕ) : Vec F S2048x1 .f32 := k0_pay25 (iblk m c 1 (pt (4 * (n / 4))))

/-- The loop state point `n` leaves. -/
def left (c : Dev nD) : ℕ → LState F
  | 0 => leave (grid0.coords (pt 0)) (iblk m c 0 (pt 0)) (iblk m c 2 (pt 0)) (iblk m c 3 (pt 0)) (iblk m c 4 (pt 0)) (norms m c 0) k0_pay26 k0_pay27
  | n + 1 =>
    if (n + 1) % 4 = 0 then
      leave (grid0.coords (pt (n + 1))) (iblk m c 0 (pt (n + 1))) (iblk m c 2 (pt (n + 1))) (iblk m c 3 (pt (n + 1))) (iblk m c 4 (pt (n + 1)))
        (norms m c (n + 1)) k0_pay26 k0_pay27
    else
      leave (grid0.coords (pt (n + 1))) (iblk m c 0 (pt (n + 1))) (iblk m c 2 (pt (n + 1))) (iblk m c 3 (pt (n + 1))) (iblk m c 4 (pt (n + 1)))
        (norms m c (n + 1)) (left c n).sm (left c n).sq

/-- A first point starts its sums at zero. -/
theorem left_first (c : Dev nD) (n : ℕ) (h : n % 4 = 0) :
    left m c n = leave (grid0.coords (pt n)) (iblk m c 0 (pt n)) (iblk m c 2 (pt n)) (iblk m c 3 (pt n)) (iblk m c 4 (pt n)) (norms m c n) k0_pay26 k0_pay27 := by
  cases n with
  | zero => rfl
  | succ n => exact if_pos h

/-- Another point adds to the sums of the point before. -/
theorem left_next (c : Dev nD) (n : ℕ) (h : ¬(n + 1) % 4 = 0) :
    left m c (n + 1) = leave (grid0.coords (pt (n + 1))) (iblk m c 0 (pt (n + 1))) (iblk m c 2 (pt (n + 1))) (iblk m c 3 (pt (n + 1))) (iblk m c 4 (pt (n + 1)))
      (norms m c (n + 1)) (left m c n).sm (left m c n).sq := if_neg h

/-- The batch entry's table of maxima: at each column, what that column's point leaves. -/
def maxTab (c : Dev nD) (n : ℕ) : Vec F S64x512 .f32 := fun y =>
  k0_pay6 (left m c (4 * (n / 4) + (y 1).val / 128)).mx (ValueIdx.ix2 (y 0) ⟨(y 1).val % 128, Nat.mod_lt _ (by decide)⟩)

/-- The batch entry's table of minima. -/
def minTab (c : Dev nD) (n : ℕ) : Vec F S64x512 .f32 := fun y =>
  k0_pay7 (left m c (4 * (n / 4) + (y 1).val / 128)).mn (ValueIdx.ix2 (y 0) ⟨(y 1).val % 128, Nat.mod_lt _ (by decide)⟩)

/-- The table `a` agrees with `b` on the columns written up to point `n`. -/
def Agree (n : ℕ) (a b : Vec F S64x512 .f32) : Prop := ∀ y : S64x512.Idx, (y 1).val < 128 * (n % 4 + 1) → a y = b y

theorem coord1 (n : ℕ) : (grid0.coords (pt n) 1).val = n % 4 := by
  have e1 : (grid0.coords (pt n) 1).val = (pt n).val / 1 % 4 := Pipeline.Grid.coords_val (pt n) 1 (by decide) rfl
  rw [e1]; show n % 64 / 1 % 4 = n % 4; omega

/-- The columns point `n` puts agree, when they are the table's, and those before agree already. -/
theorem agree_put (n : ℕ) (a b : Vec F S64x512 .f32) (v : Vec F S64x128 .f32)
    (hb : ∀ y : S64x512.Idx, (y 1).val / 128 = n % 4 → b y = v (ValueIdx.ix2 (y 0) ⟨(y 1).val % 128, Nat.mod_lt _ (by decide)⟩))
    (ha : ∀ y : S64x512.Idx, (y 1).val < 128 * (n % 4) → a y = b y) :
    Agree n (put (grid0.coords (pt n)) a v) b := by
  intro y hy
  have e := coord1 n
  unfold put
  split
  · next h =>
    rw [e] at h
    rw [hb y (by omega)]
    have : (⟨(y 1).val - 128 * (grid0.coords (pt n) 1).val, by omega⟩ : Fin 128) = ⟨(y 1).val % 128, Nat.mod_lt _ (by decide)⟩ := by
      apply Fin.ext; show (y 1).val - 128 * (grid0.coords (pt n) 1).val = (y 1).val % 128; omega
    rw [this]
  · next h => rw [e] at h; exact ha y (by omega)

theorem maxTab_put (c : Dev nD) (n : ℕ) (y : S64x512.Idx) (hy : (y 1).val / 128 = n % 4) :
    maxTab m c n y = k0_pay6 (left m c n).mx (ValueIdx.ix2 (y 0) ⟨(y 1).val % 128, Nat.mod_lt _ (by decide)⟩) := by
  unfold maxTab; rw [hy, Nat.div_add_mod]

theorem minTab_put (c : Dev nD) (n : ℕ) (y : S64x512.Idx) (hy : (y 1).val / 128 = n % 4) :
    minTab m c n y = k0_pay7 (left m c n).mn (ValueIdx.ix2 (y 0) ⟨(y 1).val % 128, Nat.mod_lt _ (by decide)⟩) := by
  unfold minTab; rw [hy, Nat.div_add_mod]

theorem maxTab_prev (c : Dev nD) (n : ℕ) (h : ¬(n + 1) % 4 = 0) : maxTab m c (n + 1) = maxTab m c n := by
  unfold maxTab; rw [show (n + 1) / 4 = n / 4 from by omega]

theorem minTab_prev (c : Dev nD) (n : ℕ) (h : ¬(n + 1) % 4 = 0) : minTab m c (n + 1) = minTab m c n := by
  unfold minTab; rw [show (n + 1) / 4 = n / 4 from by omega]

theorem norms_prev (c : Dev nD) (n : ℕ) (h : ¬(n + 1) % 4 = 0) : norms m c (n + 1) = norms m c n := by
  unfold norms; rw [show (n + 1) / 4 = n / 4 from by omega]

/-- After a last point the whole table agrees. -/
theorem agree_last (n : ℕ) (h : n % 4 = 3) (a b : Vec F S64x512 .f32) (hab : Agree n a b) : a = b := by
  funext y
  have : (y 1).val < 512 := (y 1).isLt
  exact hab y (by omega)

/-- The result block a last point stores. -/
def outBlk (c : Dev nD) (n : ℕ) : Vec F S1x64x512 .f32 :=
  result (left m c n).sm (left m c n).sq (iblk m c 5 (pt n)) (iblk m c 6 (pt n)) (maxTab m c n) (minTab m c n)

/-- The coordinates point `t` stores. -/
def coordBlk (c : Dev nD) (t : Fin cfg0.N) : Vec F S1x3x128 .f32 := taken (grid0.coords t) (iblk m c 0 t) (iblk m c 3 t)

/-! ## The branch conditions at a point, and where the output window is idle -/

theorem hcond0_0 : ∀ t : Fin cfg0.N, isFirst (grid0.coords t) ↔ t.val % 4 = 0 :=
  (fun t => by
    have ht : t.val < 64 := Nat.lt_of_lt_of_eq t.isLt N_0
    have e1 : (grid0.coords t 1).val = t.val / 1 % 4 := Pipeline.Grid.coords_val t 1 (by decide) rfl
    simp only [isFirst, e1]
    word_cmp
   : ∀ t : Fin grid0.N, isFirst (grid0.coords t) ↔ t.val % 4 = 0)

theorem hcond0_1 : ∀ t : Fin cfg0.N, isLast (grid0.coords t) ↔ t.val % 4 = 3 :=
  (fun t => by
    have ht : t.val < 64 := Nat.lt_of_lt_of_eq t.isLt N_0
    have e1 : (grid0.coords t 1).val = t.val / 1 % 4 := Pipeline.Grid.coords_val t 1 (by decide) rfl
    simp only [isLast, k0_cond2, e1]
    word_cmp
   : ∀ t : Fin grid0.N, isLast (grid0.coords t) ↔ t.val % 4 = 3)

theorem idleOff : ∀ t : Fin cfg0.N, ¬isLast (grid0.coords t) → cfg0.idle 7 (grid0.coords t) = true := by decide +kernel
theorem noFlushOff : ∀ t : Fin cfg0.N, ¬isLast (grid0.coords t) → (cfg0.win 7).flush t = false := by decide +kernel
theorem liveLast : ∀ t : Fin cfg0.N, isLast (grid0.coords t) → cfg0.idle 7 (grid0.coords t) = false := by decide +kernel

theorem live8 : ∀ t : Fin cfg0.N, cfg0.idle 8 (grid0.coords t) = false := by decide +kernel

abbrev ms0_0 (t : Fin cfg0.N) : Memref sig .tc .vmem S1x3x2048 .f32 := win0_0.stage (cfg0.slots t 0)
abbrev ms0_1 (t : Fin cfg0.N) : Memref sig .tc .vmem S1x2048x3 .f32 := win0_1.stage (cfg0.slots t 1)
abbrev ms0_2 (t : Fin cfg0.N) : Memref sig .tc .vmem S1x32x2048 .f32 := win0_2.stage (cfg0.slots t 2)
abbrev ms0_3 (t : Fin cfg0.N) : Memref sig .tc .vmem S1x1x512 .i32 := win0_3.stage (cfg0.slots t 3)
abbrev ms0_4 (t : Fin cfg0.N) : Memref sig .tc .vmem S64x64 .f32 := win0_4.stage (cfg0.slots t 4)
abbrev ms0_5 (t : Fin cfg0.N) : Memref sig .tc .vmem S64x1 .f32 := win0_5.stage (cfg0.slots t 5)
abbrev ms0_6 (t : Fin cfg0.N) : Memref sig .tc .vmem S64x1 .f32 := win0_6.stage (cfg0.slots t 6)
abbrev ms0_7 (t : Fin cfg0.N) : Memref sig .tc .vmem S1x64x512 .f32 := win0_7.stage (cfg0.slots t 7)
abbrev ms0_8 (t : Fin cfg0.N) : Memref sig .tc .vmem S1x3x128 .f32 := win0_8.stage (cfg0.slots t 8)
abbrev scM0_0 : Memref sig .tc .vmem S2048x128 .f32 := Memref.whole cc0_scratch0
abbrev scM0_1 : Memref sig .tc .vmem S2048x1 .f32 := Memref.whole cc0_scratch1
abbrev scM0_2 : Memref sig .tc .vmem S64x512 .f32 := Memref.whole cc0_scratch2
abbrev scM0_3 : Memref sig .tc .vmem S64x512 .f32 := Memref.whole cc0_scratch3
abbrev scM0_4 : Memref sig .tc .vmem S64x128 .f32 := Memref.whole cc0_scratch4
abbrev scM0_5 : Memref sig .tc .vmem S64x128 .f32 := Memref.whole cc0_scratch5
abbrev scM0_6 : Memref sig .tc .vmem S64x128 .f32 := Memref.whole cc0_scratch6
abbrev scM0_7 : Memref sig .tc .vmem S64x128 .f32 := Memref.whole cc0_scratch7

/-! ## The invariant -/

/-- The scratch at given key norms, tables and sums, the rest at anything. -/
def Scr (c : Dev nD) (ksq : Vec F S2048x1 .f32) (mb nb : Vec F S64x512 .f32) (sm sq : Vec F S64x128 .f32) : sProp 𝕄 :=
  iprop((∃ d, owns (c : Thread nD τ) scM0_0 fullShare d) ∗ owns (c : Thread nD τ) scM0_1 fullShare ksq
    ∗ owns (c : Thread nD τ) scM0_2 fullShare mb ∗ owns (c : Thread nD τ) scM0_3 fullShare nb
    ∗ (∃ d, owns (c : Thread nD τ) scM0_4 fullShare d) ∗ (∃ d, owns (c : Thread nD τ) scM0_5 fullShare d)
    ∗ owns (c : Thread nD τ) scM0_6 fullShare sm ∗ owns (c : Thread nD τ) scM0_7 fullShare sq
    ∗ (∃ r, prngReg c r))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r)) := by
  unfold Pipeline.ΦA; rw [scopedRest0_eq]; simp only [scM0_0, scM0_1, scM0_2, scM0_3, scM0_4, scM0_5, scM0_6, scM0_7, owns_whole]; try rfl

/-- The launch's scratch is the scratch at something, -/
theorem scr_of_PhiA (c : Dev nD) :
    (Pipeline.ΦA spec0 c : sProp 𝕄) ⊢ iprop(∃ ksq mb nb sm sq, Scr (F := F) c ksq mb nb sm sq) := by
  rw [PhiA0_eq]; unfold Scr
  iintro ⟨⟨⟨%z0, HS0⟩, ⟨%a, HS1⟩, ⟨%b, HS2⟩, ⟨%e, HS3⟩, ⟨%z4, HS4⟩, ⟨%z5, HS5⟩, ⟨%f, HS6⟩, ⟨%g, HS7⟩⟩, ⟨%r, Hg⟩⟩
  iexists a; iexists b; iexists e; iexists f; iexists g
  sl_close

/-- and the scratch at anything is the launch's. -/
theorem PhiA_of_scr (c : Dev nD) (ksq : Vec F S2048x1 .f32) (mb nb : Vec F S64x512 .f32) (sm sq : Vec F S64x128 .f32) :
    Scr c ksq mb nb sm sq ⊢ (Pipeline.ΦA spec0 c : sProp 𝕄) := by
  rw [PhiA0_eq]; unfold Scr
  iintro ⟨HS0, HS1, HS2, HS3, HS4, HS5, HS6, HS7, Hg⟩
  isplitr [Hg]
  · isplitl [HS0]; · iexact HS0
    isplitl [HS1]; · iexists _; iexact HS1
    isplitl [HS2]; · iexists _; iexact HS2
    isplitl [HS3]; · iexists _; iexact HS3
    isplitl [HS4]; · iexact HS4
    isplitl [HS5]; · iexact HS5
    isplitl [HS6]; · iexists _; iexact HS6
    iexists _; iexact HS7
  iexact Hg

/-- The region invariant: before the first point the launch's scratch; after point `n` the key norms and sums at what
    the point left, the tables agreeing with the batch entry's on the columns written so far. -/
def PhiS (c : Dev nD) : ℕ → sProp 𝕄
  | 0 => Pipeline.ΦA spec0 c
  | n + 1 => iprop(∃ mb nb, ⌜Agree n mb (maxTab m c n) ∧ Agree n nb (minTab m c n)⌝
      ∗ Scr c (norms m c n) mb nb (left m c n).sm (left m c n).sq)

theorem PhiS_succ (c : Dev nD) (n : ℕ) :
    PhiS m c (n + 1) = iprop(∃ mb nb, ⌜Agree n mb (maxTab m c n) ∧ Agree n nb (minTab m c n)⌝
      ∗ Scr c (norms m c n) mb nb (left m c n).sm (left m c n).sq) := rfl

/-- At any point the invariant holds the scratch at something. -/
theorem PhiS_any (c : Dev nD) (n : ℕ) : PhiS m c n ⊢ iprop(∃ ksq mb nb sm sq, Scr (F := F) c ksq mb nb sm sq) := by
  cases n with
  | zero => exact scr_of_PhiA c
  | succ n =>
    rw [PhiS_succ]
    iintro ⟨%mb, %nb, -, H⟩
    iexists _; iexists mb; iexists nb; iexists _; iexists _
    iexact H

/-- The proof data of the pipeline on core `c`: each input's buffer at its block, the outputs' at the result block and at the point's coordinates. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t.val
    | ⟨8, _⟩ => coordBlk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t.val := by dsimp only [dats]
theorem after0_8 (c : Dev nD) (t : Fin cfg0.N) : (dats m 0 c).after 8 t = coordBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- A point's seven input windows at their blocks. -/
def Ins (c : Dev nD) (t : Fin cfg0.N) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t)
    ∗ owns (c : Thread nD τ) (ms0_4 t) fullShare (iblk m c 4 t) ∗ owns (c : Thread nD τ) (ms0_5 t) fullShare (iblk m c 5 t)
    ∗ owns (c : Thread nD τ) (ms0_6 t) fullShare (iblk m c 6 t))

set_option maxHeartbeats 1600000 in
/-- A first point's triple: the scratch at anything before, at the point's own contents after. -/
theorem soundA (c : Dev nD) (t : Fin cfg0.N) (h0 : t.val % 4 = 0) (x7 : Vec F S1x64x512 .f32) (x8 : Vec F S1x3x128 .f32)
    (ksq : Vec F S2048x1 .f32) (mb nb : Vec F S64x512 .f32) (sm sq : Vec F S64x128 .f32) :
    iprop(Ins m c t ∗ owns (c : Thread nD τ) (ms0_7 t) fullShare x7 ∗ owns (c : Thread nD τ) (ms0_8 t) fullShare x8 ∗ Scr c ksq mb nb sm sq)
      ⊢ wp frame (wpE (defs₀ (F := F)) Variants.none c none) Set.univ (bodyAt0 t)
        (fun _ => iprop(Ins m c t ∗ owns (c : Thread nD τ) (ms0_7 t) fullShare x7 ∗ owns (c : Thread nD τ) (ms0_8 t) fullShare (coordBlk m c t)
          ∗ PhiS m c (t.val + 1))) := by
  have hc0 := (hcond0_0 t).mpr h0
  have hc1 : ¬isLast (grid0.coords t) := fun h => by have := (hcond0_1 t).mp h; omega
  have hl := left_first m c t.val h0
  have hn : norms m c t.val = k0_pay25 (iblk m c 1 t) := by
    unfold norms; rw [show 4 * (t.val / 4) = t.val from by omega, pt_val]
  have g1 := agree_put t.val mb (maxTab m c t.val) (k0_pay6 (left m c t.val).mx) (maxTab_put m c t.val) (fun y hy => by omega)
  have g2 := agree_put t.val nb (minTab m c t.val) (k0_pay7 (left m c t.val).mn) (minTab_put m c t.val) (fun y hy => by omega)
  rw [pt_val] at hl g1 g2
  rw [PhiS_succ]
  unfold Ins bodyAt0 Scr coordBlk
  iintro ⟨⟨H0, H1, H2, H3, H4, H5, H6⟩, H7, H8, ⟨%z0, HS0⟩, HS1, HS2, HS3, ⟨%z4, HS4⟩, ⟨%z5, HS5⟩, HS6, HS7, ⟨%r, Hg⟩⟩
  iapply (runA c (grid0.coords t) _ _ _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) x7 x8 ksq mb nb sm sq Set.univ _)
  isplitr [Hg]
  · unfold Res
    sl_close
  unfold Res
  rw [← hn, ← hl]
  iintro ⟨H0, H1, H2, H3, H4, H5, H6, H7, H8, ⟨%y0, HS0⟩, HS1, HS2, HS3, ⟨%y4, HS4⟩, ⟨%y5, HS5⟩, HS6, HS7⟩
  isplitl [H0 H1 H2 H3 H4 H5 H6]; · sl_close
  isplitl [H7]; · iexact H7
  isplitl [H8]; · iexact H8
  iexists _; iexists _
  isplitr; · ipureintro; exact ⟨g1, g2⟩
  sl_close

set_option maxHeartbeats 1600000 in
/-- A middle point's triple: the sums and tables extended. -/
theorem soundB (c : Dev nD) (t : Fin cfg0.N) (n : ℕ) (hn : t.val = n + 1) (h0 : ¬(n + 1) % 4 = 0) (h3 : ¬(n + 1) % 4 = 3) (x7 : Vec F S1x64x512 .f32) (x8 : Vec F S1x3x128 .f32) :
    iprop(Ins m c t ∗ owns (c : Thread nD τ) (ms0_7 t) fullShare x7 ∗ owns (c : Thread nD τ) (ms0_8 t) fullShare x8 ∗ PhiS m c (n + 1))
      ⊢ wp frame (wpE (defs₀ (F := F)) Variants.none c none) Set.univ (bodyAt0 t)
        (fun _ => iprop(Ins m c t ∗ owns (c : Thread nD τ) (ms0_7 t) fullShare x7 ∗ owns (c : Thread nD τ) (ms0_8 t) fullShare (coordBlk m c t)
          ∗ PhiS m c (n + 2))) := by
  have hc0 : ¬isFirst (grid0.coords t) := fun h => by have := (hcond0_0 t).mp h; omega
  have hc1 : ¬isLast (grid0.coords t) := fun h => by have := (hcond0_1 t).mp h; omega
  have hpt : pt (n + 1) = t := by rw [← hn]; exact pt_val t
  have hl := left_next m c n h0
  have hk := norms_prev m c n h0
  rw [PhiS_succ, PhiS_succ]
  iintro ⟨HI, H7, H8, ⟨%mb, %nb, %hab, HS⟩⟩
  have g1 := agree_put (n + 1) mb (maxTab m c (n + 1)) (k0_pay6 (left m c (n + 1)).mx) (maxTab_put m c (n + 1))
    (fun y hy => by rw [maxTab_prev m c n h0]; exact hab.1 y (by omega))
  have g2 := agree_put (n + 1) nb (minTab m c (n + 1)) (k0_pay7 (left m c (n + 1)).mn) (minTab_put m c (n + 1))
    (fun y hy => by rw [minTab_prev m c n h0]; exact hab.2 y (by omega))
  rw [hpt, hk] at hl
  rw [hpt] at g1 g2
  unfold Ins bodyAt0 Scr coordBlk
  icases HI with ⟨H0, H1, H2, H3, H4, H5, H6⟩
  icases HS with ⟨⟨%z0, HS0⟩, HS1, HS2, HS3, ⟨%z4, HS4⟩, ⟨%z5, HS5⟩, HS6, HS7, ⟨%r, Hg⟩⟩
  iapply (runB c (grid0.coords t) _ _ _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) x7 x8 (norms m c n) mb nb (left m c n).sm (left m c n).sq Set.univ _)
  isplitr [Hg]
  · unfold Res
    sl_close
  unfold Res
  rw [← hl, ← hk]
  iintro ⟨H0, H1, H2, H3, H4, H5, H6, H7, H8, ⟨%y0, HS0⟩, HS1, HS2, HS3, ⟨%y4, HS4⟩, ⟨%y5, HS5⟩, HS6, HS7⟩
  isplitl [H0 H1 H2 H3 H4 H5 H6]; · sl_close
  isplitl [H7]; · iexact H7
  isplitl [H8]; · iexact H8
  iexists _; iexists _
  isplitr; · ipureintro; exact ⟨g1, g2⟩
  sl_close

set_option maxHeartbeats 1600000 in
/-- A last point's triple: the sums and tables extended, and the result block stored. -/
theorem soundC (c : Dev nD) (t : Fin cfg0.N) (n : ℕ) (hn : t.val = n + 1) (h0 : ¬(n + 1) % 4 = 0) (h3 : (n + 1) % 4 = 3) (x7 : Vec F S1x64x512 .f32) (x8 : Vec F S1x3x128 .f32) :
    iprop(Ins m c t ∗ owns (c : Thread nD τ) (ms0_7 t) fullShare x7 ∗ owns (c : Thread nD τ) (ms0_8 t) fullShare x8 ∗ PhiS m c (n + 1))
      ⊢ wp frame (wpE (defs₀ (F := F)) Variants.none c none) Set.univ (bodyAt0 t)
        (fun _ => iprop(Ins m c t ∗ owns (c : Thread nD τ) (ms0_7 t) fullShare (outBlk m c (n + 1)) ∗ owns (c : Thread nD τ) (ms0_8 t) fullShare (coordBlk m c t)
          ∗ PhiS m c (n + 2))) := by
  have hc0 : ¬isFirst (grid0.coords t) := fun h => by have := (hcond0_0 t).mp h; omega
  have hc1 : isLast (grid0.coords t) := (hcond0_1 t).mpr (by omega)
  have hpt : pt (n + 1) = t := by rw [← hn]; exact pt_val t
  have hl := left_next m c n h0
  have hk := norms_prev m c n h0
  rw [PhiS_succ, PhiS_succ]
  iintro ⟨HI, H7, H8, ⟨%mb, %nb, %hab, HS⟩⟩
  have g1 := agree_put (n + 1) mb (maxTab m c (n + 1)) (k0_pay6 (left m c (n + 1)).mx) (maxTab_put m c (n + 1))
    (fun y hy => by rw [maxTab_prev m c n h0]; exact hab.1 y (by omega))
  have g2 := agree_put (n + 1) nb (minTab m c (n + 1)) (k0_pay7 (left m c (n + 1)).mn) (minTab_put m c (n + 1))
    (fun y hy => by rw [minTab_prev m c n h0]; exact hab.2 y (by omega))
  have ho : result (left m c (n + 1)).sm (left m c (n + 1)).sq (iblk m c 5 t) (iblk m c 6 t)
      (put (grid0.coords t) mb (k0_pay6 (left m c (n + 1)).mx)) (put (grid0.coords t) nb (k0_pay7 (left m c (n + 1)).mn)) = outBlk m c (n + 1) := by
    unfold outBlk
    rw [hpt, ← agree_last (n + 1) h3 _ _ g1, ← agree_last (n + 1) h3 _ _ g2, hpt]
  rw [hpt, hk] at hl
  rw [hpt] at g1 g2
  unfold Ins bodyAt0 Scr coordBlk
  icases HI with ⟨H0, H1, H2, H3, H4, H5, H6⟩
  icases HS with ⟨⟨%z0, HS0⟩, HS1, HS2, HS3, ⟨%z4, HS4⟩, ⟨%z5, HS5⟩, HS6, HS7, ⟨%r, Hg⟩⟩
  iapply (runC c (grid0.coords t) _ _ _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) x7 x8 (norms m c n) mb nb (left m c n).sm (left m c n).sq Set.univ _)
  isplitr [Hg]
  · unfold Res
    sl_close
  unfold Res
  rw [← hl, ho, ← hk]
  iintro ⟨H0, H1, H2, H3, H4, H5, H6, H7, H8, ⟨%y0, HS0⟩, HS1, HS2, HS3, ⟨%y4, HS4⟩, ⟨%y5, HS5⟩, HS6, HS7⟩
  isplitl [H0 H1 H2 H3 H4 H5 H6]; · sl_close
  isplitl [H7]; · iexact H7
  isplitl [H8]; · iexact H8
  iexists _; iexists _
  isplitr; · ipureintro; exact ⟨g1, g2⟩
  sl_close

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- What the body returns, from the input windows, the output windows and the invariant. -/
theorem post_of (c : Dev nD) (t : Fin cfg0.N) :
    iprop(PhiS m c (t.val + 1) ∗ (dats m 0 c).owesAt () t.castSucc ∗ Ins m c t ∗ (dats m 0 c).leavesExact 7 t
      ∗ owns (c : Thread nD τ) (ms0_8 t) fullShare (coordBlk m c t)) ⊢ bodyPost m c t := by
  unfold bodyPost Ins
  rw [show (dats m 0 c).Φ t.succ = PhiS m c (t.val + 1) from rfl, show (dats m 0 c).owesAt () t.succ = (dats m 0 c).owesAt () t.castSucc from rfl]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl,
    show (dats m 0 c).leavesExact 4 t = owns (c : Thread nD τ) (ms0_4 t) fullShare (iblk m c 4 t) from rfl,
    show (dats m 0 c).leavesExact 5 t = owns (c : Thread nD τ) (ms0_5 t) fullShare (iblk m c 5 t) from rfl,
    show (dats m 0 c).leavesExact 6 t = owns (c : Thread nD τ) (ms0_6 t) fullShare (iblk m c 6 t) from rfl,
    show (dats m 0 c).leavesExact 8 t = owns (c : Thread nD τ) (ms0_8 t) fullShare (coordBlk m c t) from by
      unfold Dat.leavesExact; rw [live8, after0_8]]
  iintro ⟨HP, Ho, ⟨H0, H1, H2, H3, H4, H5, H6⟩, H7, H8⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- A point's triple over its windows and scratch gives the body's. -/
theorem body_of (c : Dev nD) (t : Fin cfg0.N) (x7 y7 : Vec F S1x64x512 .f32) (x8 : Vec F S1x3x128 .f32) (P : sProp 𝕄)
    (hk : iprop(Ins m c t ∗ owns (c : Thread nD τ) (ms0_7 t) fullShare x7 ∗ owns (c : Thread nD τ) (ms0_8 t) fullShare x8 ∗ P)
      ⊢ wp frame (wpE (defs₀ (F := F)) Variants.none c none) Set.univ (bodyAt0 t)
        (fun _ => iprop(Ins m c t ∗ owns (c : Thread nD τ) (ms0_7 t) fullShare y7 ∗ owns (c : Thread nD τ) (ms0_8 t) fullShare (coordBlk m c t) ∗ PhiS m c (t.val + 1))))
    (hq : owns (c : Thread nD τ) (ms0_7 t) fullShare y7 ⊢ (dats m 0 c).leavesExact 7 t) :
    iprop((dats m 0 c).owesAt () t.castSucc ∗ (Ins m c t ∗ owns (c : Thread nD τ) (ms0_7 t) fullShare x7 ∗ owns (c : Thread nD τ) (ms0_8 t) fullShare x8 ∗ P))
      ⊢ wp frame (wpE (defs₀ (F := F)) Variants.none c none) Set.univ (bodyAt0 t) (fun _ => bodyPost m c t) := by
  refine ((sep_mono_right hk).trans (wp_frame_l _ _ _)).trans (wp_mono _ _ _ fun _ => ?_)
  refine .trans ?_ (post_of m c t)
  iintro ⟨Ho, HI, H7, H8, HP⟩
  isplitl [HP]; · iexact HP
  isplitl [Ho]; · iexact Ho
  isplitl [HI]; · iexact HI
  isplitl [H7]; · iapply hq; iexact H7
  iexact H8

/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  have hb := body_of m c t
  unfold bodyPre
  simp only [before0_0, before0_1, before0_2, before0_3, before0_4, before0_5, before0_6]
  rw [show (dats m 0 c).Φ t.castSucc = PhiS m c t.val from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h3 : t.val % 4 = 3
  · obtain ⟨n, hn⟩ : ∃ n, t.val = n + 1 := ⟨t.val - 1, by omega⟩
    have hlive := liveLast t ((hcond0_1 t).mpr h3)
    have hq : owns (c : Thread nD τ) (ms0_7 t) fullShare (outBlk m c (n + 1)) ⊢ (dats m 0 c).leavesExact 7 t := by
      unfold Dat.leavesExact; rw [hlive, after0_7, hn]; try exact .rfl
    iapply (hb ((dats m 0 c).before 7 t d7) _ ((dats m 0 c).before 8 t d8) _ (by rw [hn]; exact soundC m c t n hn (by omega) (by omega) _ _) hq)
    rw [hn]; unfold Ins
    isplitl [Ho]; · iexact Ho
    isplitr [H7 H8 HP]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    isplitl [H8]; · iexact H8
    iexact HP
  · have hc1 : ¬isLast (grid0.coords t) := fun h => h3 ((hcond0_1 t).mp h)
    have hq : owns (c : Thread nD τ) (ms0_7 t) fullShare ((dats m 0 c).before 7 t d7) ⊢ (dats m 0 c).leavesExact 7 t := by
      rw [Dat.leavesExact_idle (dats m 0 c) 7 t (idleOff t hc1) (noFlushOff t hc1)]
      iintro H; iexists _; iexact H
    by_cases h0 : t.val % 4 = 0
    · ihave HP := (PhiS_any m c t.val) $$ HP
      icases HP with ⟨%ksq, %mb, %nb, %sm, %sq, HP⟩
      iapply (hb ((dats m 0 c).before 7 t d7) _ ((dats m 0 c).before 8 t d8) _ (soundA m c t h0 _ _ ksq mb nb sm sq) hq)
      unfold Ins
      isplitl [Ho]; · iexact Ho
      isplitr [H7 H8 HP]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [H8]; · iexact H8
      iexact HP
    · obtain ⟨n, hn⟩ : ∃ n, t.val = n + 1 := ⟨t.val - 1, by omega⟩
      iapply (hb ((dats m 0 c).before 7 t d7) _ ((dats m 0 c).before 8 t d8) _ (by rw [hn]; exact soundB m c t n hn (by omega) (by omega) _ _) hq)
      rw [hn]; unfold Ins
      isplitl [Ho]; · iexact Ho
      isplitr [H7 H8 HP]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      isplitl [H8]; · iexact H8
      iexact HP

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl]
  refine (PhiS_any m c _).trans ?_
  iintro ⟨%ksq, %mb, %nb, %sm, %sq, H⟩
  iapply (PhiA_of_scr c ksq mb nb sm sq)
  iexact H

/-! ## The run and the frame -/

set_option backward.isDefEq.respectTransparency.types false in
/-- The launch: every final state has the arrays the proof data names, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: termination, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.StageBIdeal.Hand

end
-- ==== Proof.StageB.Plain.lean ====
module

public import proofs.«01_k».proof.StageB
public import proofs.«01_k».proof.Proof.Gen.StageB
public import proofs.«01_k».proof.Proof.StageB.Run

@[expose] public section

set_option maxRecDepth 8192

noncomputable section

/-! # The frame of the printed kernel, from the frame of the idealized one -/

namespace Cert.StageB.Hand

open Idealize.ShloMosaic Idealize.ShloMosaic.TcCoe Idealize.SL Idealize.SL.Sem

variable {F : FTy → Type} [FloatOps F]

/-- A named constant read as the word it is printed from. -/
abbrev plainly : Named F where
  named _ _ {_} w := Scalar.ofBits _ w

/-- The two kernel bodies are one, a named constant being read as its word. -/
theorem body_eq : @Cert.StageB.cc0_body F _ _ = @Cert.StageBIdeal.cc0_body F _ plainly _ := by
  funext i a1 h1 a2 h2 a3 h3 a4 h4 a5 h5 a6 h6 a7 h7 a8 h8 a9 h9 a10 h10 a11 h11 a12 h12 a13 h13 a14 h14 a15 h15 a16 h16 a17 h17
  rfl

/-- So are the two body tables. -/
theorem table_eq : (Cert.StageB.defs₀ (F := F)) = @Cert.StageBIdeal.defs₀ F _ plainly _ := by
  unfold Cert.StageB.defs₀ Cert.StageBIdeal.defs₀
  congr 1
  funext l x
  match l, x with
  | 0, (t, s) => rfl

/-- And the two programs' definitions. -/
theorem defs_eq : (Cert.StageB.defs (F := F)) = @Cert.StageBIdeal.defs F _ plainly _ := by
  unfold Cert.StageB.defs Cert.StageBIdeal.defs
  rw [table_eq]
  rfl

variable (m : (ℓ : Loc Cert.StageB.nD Cert.StageB.τ Cert.StageB.sig) → Buf (Elt F) ℓ) (ρ : Dev Cert.StageB.nD → PrngReg)

/-- The frame of the printed kernel: termination, the arguments unchanged, every counter at zero. -/
theorem frame : θ_run Cert.StageB.defs (onTc (τ := Cert.StageB.τ) (Cert.StageB.main (F := F))) ⟨m, fun _ => 0, ρ⟩ (fun r => (∀ c : Dev Cert.StageB.nD,
      r.2.mem ((c.tc : Thread Cert.StageB.nD Cert.StageB.τ).loc Cert.StageB.main_arg0) = m ((c.tc : Thread Cert.StageB.nD Cert.StageB.τ).loc Cert.StageB.main_arg0)
      ∧ r.2.mem ((c.tc : Thread Cert.StageB.nD Cert.StageB.τ).loc Cert.StageB.main_arg1) = m ((c.tc : Thread Cert.StageB.nD Cert.StageB.τ).loc Cert.StageB.main_arg1)
      ∧ r.2.mem ((c.tc : Thread Cert.StageB.nD Cert.StageB.τ).loc Cert.StageB.main_arg2) = m ((c.tc : Thread Cert.StageB.nD Cert.StageB.τ).loc Cert.StageB.main_arg2)
      ∧ r.2.mem ((c.tc : Thread Cert.StageB.nD Cert.StageB.τ).loc Cert.StageB.main_arg3) = m ((c.tc : Thread Cert.StageB.nD Cert.StageB.τ).loc Cert.StageB.main_arg3)
      ∧ r.2.mem ((c.tc : Thread Cert.StageB.nD Cert.StageB.τ).loc Cert.StageB.main_arg4) = m ((c.tc : Thread Cert.StageB.nD Cert.StageB.τ).loc Cert.StageB.main_arg4)
      ∧ r.2.mem ((c.tc : Thread Cert.StageB.nD Cert.StageB.τ).loc Cert.StageB.main_arg5) = m ((c.tc : Thread Cert.StageB.nD Cert.StageB.τ).loc Cert.StageB.main_arg5))
      ∧ r.2.sem = fun _ => 0) := by
  rw [defs_eq]
  exact @Cert.StageBIdeal.Hand.frame F _ plainly m ρ

end Cert.StageB.Hand
end
-- ==== Proof.StageB.Vals.lean ====
module

public import proofs.«01_k».proof.Proof.StageB.Run
public import proofs.«01_k».proof.Proof.Knn.Trace
public import proofs.«01_k».proof.Proof.Knn.Words
public import Idealize.ShloMosaic.Lib.Pointwise
public import Idealize.ShloMosaic.Lib.Pipeline.ValueKit

@[expose] public section

set_option maxRecDepth 16384

noncomputable section

namespace Cert.StageBIdeal.Hand
open Idealize.ShloMosaic.TcCoe

open Cert.StageBIdeal.Gen
open Idealize.ShloMosaic

theorem rowIx_at (i : Fin 2048) (j : Fin 128) : rowIx (ix2 i j) = BitVec.ofNat 32 i.val := by
  unfold rowIx
  pointwise

theorem mask_named : (Named.named (F := Ideal) κ "mask" (φ := .f32) 1900671690#32) = ⊤ := rfl
theorem floor_named : (Named.named (F := Ideal) κ "floor" (φ := .f32) 4048155338#32) = ⊥ := rfl

/-- The mask of a round is set at the first place of the least entry of each column. -/
theorem hit (d : Vec Ideal S2048x128 .f32) (i : Fin 2048) (j : Fin 128) :
    k0_pay9 (F := Ideal) rowIx d (ix2 i j) = if i = Knn.least (fun k : Fin 2048 => d (ix2 k j)) then 1#1 else 0#1 := by
  pointwise [k0_pay9]
  simp only [Knn.inf_word, rowIx_at, Knn.fold_min]
  rw [Knn.fold_least (by norm_num) (fun k => d (ix2 k j))]
  exact Knn.same_word (by norm_num) _ _

/-- Marking puts the least entry of each column at `⊤` and leaves the others. -/
theorem open_at (d : Vec Ideal S2048x128 .f32) (i : Fin 2048) (j : Fin 128) :
    k0_pay10 (F := Ideal) rowIx d (ix2 i j) = if i = Knn.least (fun k : Fin 2048 => d (ix2 k j)) then ⊤ else d (ix2 i j) := by
  pointwise [k0_pay10]
  rw [hit, mask_named]
  split <;> rfl

/-- The round's product is taken at the marked neighbour. -/
theorem prod_at (v6 : FVec Ideal S32x2048 .f32) (v14 : FVec Ideal S32x128 .f32) (d : Vec Ideal S2048x128 .f32) (w : Vec Ideal S64x64 .f32) (i : Fin 64) (j : Fin 128) :
    k0_pay11 v6 rowIx v14 d w (ix2 i j) =
      Knn.edge (fun c : Fin 32 => w (ix2 i ⟨c.val, by omega⟩)) (fun c => w (ix2 i ⟨32 + c.val, by omega⟩)) (fun c k => v6 (ix2 c k))
        (fun c => v14 (ix2 c j)) (Knn.least (fun k : Fin 2048 => d (ix2 k j))) := by
  pointwise [k0_pay11]
  simp only [hit, Knn.truth_word, Knn.sum_indicator]
  rfl

/-- The product of the `r`-th neighbour of query `j` at output channel `i`, from the loop's inputs. -/
def prodOf (v6 : FVec Ideal S32x2048 .f32) (v14 : FVec Ideal S32x128 .f32) (w : Vec Ideal S64x64 .f32) (d : Vec Ideal S2048x128 .f32)
    (i : Fin 64) (j : Fin 128) (r : ℕ) : EReal :=
  Knn.edge (fun c : Fin 32 => w (ix2 i ⟨c.val, by omega⟩)) (fun c => w (ix2 i ⟨32 + c.val, by omega⟩)) (fun c k => v6 (ix2 c k))
    (fun c => v14 (ix2 c j)) (Knn.sel (fun k : Fin 2048 => d (ix2 k j)) r)

section
variable (v6 : FVec Ideal S32x2048 .f32) (v14 : FVec Ideal S32x128 .f32) (w : Vec Ideal S64x64 .f32) (s : LState Ideal)

/-- The distances still open after `k` neighbours. -/
theorem lstate_d (k : ℕ) (i : Fin 2048) (j : Fin 128) :
    (lstate v6 rowIx v14 w s k).d (ix2 i j) = Knn.rest (fun k' : Fin 2048 => s.d (ix2 k' j)) k i := by
  refine congrFun (Knn.rest_of_step (fun k i => (lstate v6 rowIx v14 w s k).d (ix2 i j)) (fun k i => ?_) k) i
  show (lstate v6 rowIx v14 w s (k + 1)).d (ix2 i j) = _
  rw [show lstate v6 rowIx v14 w s (k + 1) = lstep v6 rowIx v14 w (lstate v6 rowIx v14 w s k) from rfl]
  unfold lstep
  dsimp only
  rw [open_at]

/-- The product of a round. -/
theorem lstate_prod (k : ℕ) (i : Fin 64) (j : Fin 128) :
    k0_pay11 v6 rowIx v14 (lstate v6 rowIx v14 w s k).d w (ix2 i j) = prodOf v6 v14 w s.d i j k := by
  rw [prod_at]
  simp only [lstate_d]
  rfl

/-- The largest product so far. -/
theorem lstate_mx (k : ℕ) (i : Fin 64) (j : Fin 128) :
    (lstate v6 rowIx v14 w s k).mx (ix2 i j) = (Finset.range k).fold max (s.mx (ix2 i j)) (prodOf v6 v14 w s.d i j) := by
  refine Knn.max_of_step (fun k => (lstate v6 rowIx v14 w s k).mx (ix2 i j)) _ (fun k => ?_) k
  show k0_pay12 (F := Ideal) _ _ _ _ _ _ (ix2 i j) = _
  pointwise [k0_pay12]
  rw [lstate_prod]

/-- The least product so far. -/
theorem lstate_mn (k : ℕ) (i : Fin 64) (j : Fin 128) :
    (lstate v6 rowIx v14 w s k).mn (ix2 i j) = (Finset.range k).fold min (s.mn (ix2 i j)) (prodOf v6 v14 w s.d i j) := by
  refine Knn.min_of_step (fun k => (lstate v6 rowIx v14 w s k).mn (ix2 i j)) _ (fun k => ?_) k
  show k0_pay13 (F := Ideal) _ _ _ _ _ _ (ix2 i j) = _
  pointwise [k0_pay13]
  rw [lstate_prod]

/-- The sum of the products so far. -/
theorem lstate_sm (k : ℕ) (i : Fin 64) (j : Fin 128) :
    (lstate v6 rowIx v14 w s k).sm (ix2 i j) = s.sm (ix2 i j) + ∑ r ∈ Finset.range k, prodOf v6 v14 w s.d i j r := by
  refine Knn.sum_of_step (fun k => (lstate v6 rowIx v14 w s k).sm (ix2 i j)) _ (fun k => ?_) k
  show k0_pay4 (F := Ideal) _ _ (ix2 i j) = _
  pointwise [k0_pay4]
  rw [lstate_prod]

/-- The sum of their squares so far. -/
theorem lstate_sq (k : ℕ) (i : Fin 64) (j : Fin 128) :
    (lstate v6 rowIx v14 w s k).sq (ix2 i j) =
      s.sq (ix2 i j) + ∑ r ∈ Finset.range k, prodOf v6 v14 w s.d i j r * prodOf v6 v14 w s.d i j r := by
  refine Knn.sum_of_step (fun k => (lstate v6 rowIx v14 w s k).sq (ix2 i j)) _ (fun k => ?_) k
  show k0_pay5 (F := Ideal) _ _ (ix2 i j) = _
  pointwise [k0_pay5]
  rw [lstate_prod]
end

/-- The group matrix has a one where two channels lie in one group. -/
theorem group_word : ∀ i j : Fin 64, k0_pay19 (F := Ideal) k0_pay16 (iota .tc S64x64 32 [1] iota_S64x64_d1_w32) 16#32 k0_pay17 k0_pay18
      (Scalar.extui (Scalar.cmpi .sgt 16#32 0#32)) (ix2 i j) = if i.val / 16 = j.val / 16 then (1 : EReal) else 0 := by
  intro i j
  pointwise [k0_pay19,k0_pay16,k0_pay17,k0_pay18]
  rw [← Knn.truth_word]
  congr 2
  revert i j
  decide +kernel

/-- The selection matrix of the sampled indices has a one where the row is the index. -/
theorem hot_at (x3 : Vec Ideal S1x1x128 .i32) (j : Fin 128) (q : Fin 2048) (h : x3 (ix3 0 0 j) = BitVec.ofNat 32 q.val) (k : Fin 2048) :
    k0_pay29 (F := Ideal) x3 (ix2 k j) = if k = q then (1 : EReal) else 0 := by
  pointwise [k0_pay29]
  rw [h, ← Knn.truth_word (k = q)]
  congr 2
  exact Knn.same_word (by norm_num) k q

/-- The product with the selection matrix gathers the sampled coordinates. -/
theorem qCoord_at (x0 : Vec Ideal S1x3x2048 .f32) (x3 : Vec Ideal S1x1x128 .i32) (j : Fin 128) (q : Fin 2048)
    (h : x3 (ix3 0 0 j) = BitVec.ofNat 32 q.val) (a : Fin 3) : k0_pay30 (F := Ideal) x0 x3 (ix2 a j) = x0 (ix3 0 a q) := by
  pointwise [k0_pay30, k0_pay24]
  simp only [hot_at x3 j q h, Knn.sum_indicator]

/-- And the sampled features. -/
theorem qFeat_at (x2 : Vec Ideal S1x32x2048 .f32) (x3 : Vec Ideal S1x1x128 .i32) (j : Fin 128) (q : Fin 2048)
    (h : x3 (ix3 0 0 j) = BitVec.ofNat 32 q.val) (a : Fin 32) : k0_pay31 (F := Ideal) x2 x3 (ix2 a j) = x2 (ix3 0 a q) := by
  pointwise [k0_pay31, k0_pay28]
  simp only [hot_at x3 j q h, Knn.sum_indicator]

/-- The point's slice of the index row. -/
theorem slice_at (n : ℕ) (j : Fin 128) (x : Vec Ideal S1x1x512 .i32) :
    qIdx (F := Ideal) (grid0.coords (pt n)) x (ix3 0 0 j) = x (ix3 0 0 ⟨128 * (n % 4) + j.val, by have := j.isLt; omega⟩) := by
  have e0 : ∀ a, k0_off1 (grid0.coords (pt n)) a = ![0, 0, 128 * (n % 4)] a := fun a => by rw [k0_off1_eq, coord1]
  have e2 : k0_off1 (grid0.coords (pt n)) 2 = 128 * (n % 4) := e0 2
  unfold qIdx
  pointwise
  congr 2
  apply Fin.ext; show k0_off1 (grid0.coords (pt n)) 2 + j.val = 128 * (n % 4) + j.val; omega

/-- Where each window lies at a point. -/
theorem idx : ∀ t : Fin cfg0.N, win0_0.index t = ![t.val / 4, 0, 0] ∧ win0_1.index t = ![t.val / 4, 0, 0] ∧ win0_2.index t = ![t.val / 4, 0, 0]
    ∧ win0_3.index t = ![t.val / 4, 0, 0] ∧ win0_4.index t = ![0, 0] ∧ win0_5.index t = ![0, 0] ∧ win0_6.index t = ![0, 0]
    ∧ win0_7.index t = ![t.val / 4, 0, 0] ∧ win0_8.index t = ![t.val / 4, 0, t.val % 4] :=
  (by decide +kernel : ∀ t : Fin grid0.N, _)

section
variable (m : (ℓ : Loc nD τ sig) → Buf (Elt Ideal) ℓ) (c : Dev nD) (b : Fin 16) (t : Fin cfg0.N) (ht : t.val / 4 = b.val)
include ht

theorem blk0 (a k) : iblk (F := Ideal) m c 0 t (ix3 0 a k) = m ((c : Thread nD τ).loc main_arg0) (ix3 b a k) := by
  blk_ext! [iblk, V, idx t]
theorem blk1 (a k) : iblk (F := Ideal) m c 1 t (ix3 0 k a) = m ((c : Thread nD τ).loc main_arg0) (ix3 b a k) := by
  blk_ext! [iblk, V, idx t]
theorem blk2 (a k) : iblk (F := Ideal) m c 2 t (ix3 0 a k) = m ((c : Thread nD τ).loc main_arg1) (ix3 b a k) := by
  blk_ext! [iblk, V, idx t]
theorem blk3 (j) : iblk (F := Ideal) m c 3 t (ix3 0 0 j) = m ((c : Thread nD τ).loc main_arg2) (ix2 j b) := by
  blk_ext! [iblk, V, idx t]
omit ht
theorem blk4 (a k) : iblk (F := Ideal) m c 4 t (ix2 a k) = m ((c : Thread nD τ).loc main_arg3) (ix2 a k) := by
  blk_ext! [iblk, V, idx t]
theorem blk5 (a) : iblk (F := Ideal) m c 5 t (ix2 a 0) = m ((c : Thread nD τ).loc main_arg4) (ix1 a) := by
  blk_ext! [iblk, V, idx t]
theorem blk6 (a) : iblk (F := Ideal) m c 6 t (ix2 a 0) = m ((c : Thread nD τ).loc main_arg5) (ix1 a) := by
  blk_ext! [iblk, V, idx t]
end

/-- The sampled point number `j` of tile `t`. -/
def qcol (t : ℕ) (j : Fin 128) : Fin 512 := ⟨128 * (t % 4) + j.val, by have := j.isLt; omega⟩

theorem pt_div (b : Fin 16) (t : ℕ) (ht : t < 4) : (pt (4 * b.val + t)).val / 4 = b.val := by
  show (4 * b.val + t) % 64 / 4 = b.val
  have := b.isLt
  omega

section
variable (m : (ℓ : Loc nD τ sig) → Buf (Elt Ideal) ℓ) (c : Dev nD) (s : Fin 16 → Fin 512 → Fin 2048)

/-- The sampled indices are the positions `s`. -/
def Picks : Prop := ∀ b j, m ((c : Thread nD τ).loc main_arg2) (ix2 j b) = BitVec.ofNat 32 (s b j).val

/-- Coordinate `a` of point `k` of batch entry `b`. -/
def crd (b : Fin 16) (a : Fin 3) (k : Fin 2048) : EReal := m ((c : Thread nD τ).loc main_arg0) (ix3 b a k)

/-- The squared distances from sampled point `q` of batch entry `b` to every key, not below zero. -/
def dist (b : Fin 16) (q : Fin 512) : Fin 2048 → EReal :=
  Knn.dist (fun a k => m ((c : Thread nD τ).loc main_arg0) (ix3 b a k)) (fun a => m ((c : Thread nD τ).loc main_arg0) (ix3 b a (s b q)))

/-- The product of sampled point `q`'s `r`-th neighbour at output channel `i`. -/
def prod (b : Fin 16) (i : Fin 64) (q : Fin 512) (r : ℕ) : EReal :=
  Knn.edge (fun k : Fin 32 => m ((c : Thread nD τ).loc main_arg3) (ix2 i ⟨k.val, by omega⟩))
    (fun k => m ((c : Thread nD τ).loc main_arg3) (ix2 i ⟨32 + k.val, by omega⟩))
    (fun a k => m ((c : Thread nD τ).loc main_arg1) (ix3 b a k)) (fun a => m ((c : Thread nD τ).loc main_arg1) (ix3 b a (s b q)))
    (Knn.sel (dist m c s b q) r)

variable {m c s} (hs : Picks m c s)

/-- The key norms at a point are the batch entry's. -/
theorem norms_at (b : Fin 16) (t : ℕ) (ht : t < 4) (k : Fin 2048) :
    norms m c (4 * b.val + t) (ix2 k 0) = ∑ a : Fin 3, crd m c b a k * crd m c b a k := by
  unfold norms
  have hd : (pt (4 * ((4 * b.val + t) / 4))).val / 4 = b.val := by
    have := pt_div b 0 (by decide)
    rwa [show 4 * ((4 * b.val + t) / 4) = 4 * b.val + 0 from by omega]
  pointwise [k0_pay25]
  simp only [blk1 m c b _ hd]
  rfl

include hs

/-- The index slice at a point holds its sampled positions. -/
theorem pick_at (b : Fin 16) (t : ℕ) (ht : t < 4) (j : Fin 128) :
    qIdx (grid0.coords (pt (4 * b.val + t))) (iblk (F := Ideal) m c 3 (pt (4 * b.val + t))) (ix3 0 0 j) = BitVec.ofNat 32 (s b (qcol t j)).val := by
  have e2 : qcol t j = ⟨128 * ((4 * b.val + t) % 4) + j.val, by have := j.isLt; omega⟩ := by
    apply Fin.ext; show 128 * (t % 4) + j.val = 128 * ((4 * b.val + t) % 4) + j.val; omega
  rw [slice_at, ← e2]
  exact (blk3 m c b _ (pt_div b t ht) _).trans (hs b _)

/-- The distances a point starts from. -/
theorem enter_d (b : Fin 16) (t : ℕ) (ht : t < 4) (sm sq : Vec Ideal S64x128 .f32) (k : Fin 2048) (j : Fin 128) :
    (enter (grid0.coords (pt (4 * b.val + t))) (iblk m c 0 (pt (4 * b.val + t))) (iblk m c 3 (pt (4 * b.val + t))) (norms m c (4 * b.val + t)) sm sq).d (ix2 k j) =
      dist m c s b (qcol t j) k := by
  unfold enter
  dsimp only
  pointwise [k0_pay1, k0_pay33, k0_pay24]
  simp only [norms_at b t ht, qCoord_at _ _ j _ (pick_at hs b t ht j), blk0 m c b _ (pt_div b t ht)]
  rfl

/-- A point's products are those of its queries. -/
theorem prodOf_eq (b : Fin 16) (t : ℕ) (ht : t < 4) (sm sq : Vec Ideal S64x128 .f32) (i : Fin 64) (j : Fin 128) (r : ℕ) :
    prodOf (k0_pay28 (iblk m c 2 (pt (4 * b.val + t))))
      (k0_pay31 (iblk m c 2 (pt (4 * b.val + t))) (qIdx (grid0.coords (pt (4 * b.val + t))) (iblk m c 3 (pt (4 * b.val + t)))))
      (iblk m c 4 (pt (4 * b.val + t)))
      (enter (grid0.coords (pt (4 * b.val + t))) (iblk m c 0 (pt (4 * b.val + t))) (iblk m c 3 (pt (4 * b.val + t))) (norms m c (4 * b.val + t)) sm sq).d i j r =
      prod m c s b i (qcol t j) r := by
  unfold prodOf prod
  simp only [enter_d hs b t ht, blk4]
  have h28 : ∀ a k, k0_pay28 (F := Ideal) (iblk m c 2 (pt (4 * b.val + t))) (ix2 a k) = m ((c : Thread nD τ).loc main_arg1) (ix3 b a k) := fun a k => by
    pointwise [k0_pay28]
    exact blk2 m c b _ (pt_div b t ht) a k
  simp only [h28, qFeat_at _ _ j _ (pick_at hs b t ht j), blk2 m c b _ (pt_div b t ht)]

/-- A point's loop: the largest and the least product over the neighbours; their sum and the sum of their squares added to those before. -/
theorem leave_at (b : Fin 16) (t : ℕ) (ht : t < 4) (sm sq : Vec Ideal S64x128 .f32) (i : Fin 64) (j : Fin 128) :
    let l := leave (grid0.coords (pt (4 * b.val + t))) (iblk m c 0 (pt (4 * b.val + t))) (iblk m c 2 (pt (4 * b.val + t)))
      (iblk m c 3 (pt (4 * b.val + t))) (iblk m c 4 (pt (4 * b.val + t))) (norms m c (4 * b.val + t)) sm sq
    l.mx (ix2 i j) = (Finset.range 16).fold max ⊥ (prod m c s b i (qcol t j))
    ∧ l.mn (ix2 i j) = (Finset.range 16).fold min ⊤ (prod m c s b i (qcol t j))
    ∧ l.sm (ix2 i j) = sm (ix2 i j) + ∑ r ∈ Finset.range 16, prod m c s b i (qcol t j) r
    ∧ l.sq (ix2 i j) = sq (ix2 i j) + ∑ r ∈ Finset.range 16, prod m c s b i (qcol t j) r * prod m c s b i (qcol t j) r := by
  intro l
  have hp := funext (prodOf_eq hs b t ht sm sq i j)
  refine ⟨?_, ?_, ?_, ?_⟩
  · show (lstate _ _ _ _ _ 16).mx _ = _
    rw [lstate_mx, hp]
    congr 1
  · show (lstate _ _ _ _ _ 16).mn _ = _
    rw [lstate_mn, hp]
    congr 1
  · show (lstate _ _ _ _ _ 16).sm _ = _
    rw [lstate_sm, hp]
    rfl
  · show (lstate _ _ _ _ _ 16).sq _ = _
    rw [lstate_sq, hp]
    rfl

/-- The state a point leaves, its sums being over the batch entry's tiles so far. -/
theorem left_at (b : Fin 16) (t : ℕ) (ht : t < 4) (i : Fin 64) (j : Fin 128) :
    (left m c (4 * b.val + t)).mx (ix2 i j) = (Finset.range 16).fold max ⊥ (prod m c s b i (qcol t j))
    ∧ (left m c (4 * b.val + t)).mn (ix2 i j) = (Finset.range 16).fold min ⊤ (prod m c s b i (qcol t j))
    ∧ (left m c (4 * b.val + t)).sm (ix2 i j) = ∑ t' ∈ Finset.range (t + 1), ∑ r ∈ Finset.range 16, prod m c s b i (qcol t' j) r
    ∧ (left m c (4 * b.val + t)).sq (ix2 i j) =
      ∑ t' ∈ Finset.range (t + 1), ∑ r ∈ Finset.range 16, prod m c s b i (qcol t' j) r * prod m c s b i (qcol t' j) r := by
  induction t with
  | zero =>
    rw [left_first m c (4 * b.val + 0) (by omega)]
    obtain ⟨h1, h2, h3, h4⟩ := leave_at hs b 0 ht (k0_pay26 (F := Ideal)) (k0_pay27 (F := Ideal)) i j
    refine ⟨h1, h2, h3.trans ?_, h4.trans ?_⟩
    · rw [Finset.sum_range_one]
      pointwise [k0_pay26]
    · rw [Finset.sum_range_one]
      pointwise [k0_pay27]
  | succ t ih =>
    obtain ⟨-, -, i3, i4⟩ := ih (by omega)
    obtain ⟨h1, h2, h3, h4⟩ := leave_at hs b (t + 1) ht (left m c (4 * b.val + t)).sm (left m c (4 * b.val + t)).sq i j
    have e : left m c (4 * b.val + (t + 1)) = _ := left_next m c (4 * b.val + t) (by omega)
    rw [e]
    refine ⟨h1, h2, h3.trans ?_, h4.trans ?_⟩
    · rw [i3, Finset.sum_range_succ _ (t + 1)]
    · rw [i4, Finset.sum_range_succ _ (t + 1)]

/-- The coordinates stored at a point are the sampled ones. -/
theorem coord_at (b : Fin 16) (t : ℕ) (ht : t < 4) (a : Fin 3) (j : Fin 128) :
    coordBlk (F := Ideal) m c (pt (4 * b.val + t)) (ix3 0 a j) = m ((c : Thread nD τ).loc main_arg0) (ix3 b a (s b (qcol t j))) := by
  unfold coordBlk taken
  pointwise [k0_pay32]
  rw [qCoord_at _ _ j _ (pick_at hs b t ht j), blk0 m c b _ (pt_div b t ht)]
end

end Cert.StageBIdeal.Hand

end
-- ==== Proof.StageB.Out.lean ====
module

public import proofs.«01_k».proof.Proof.StageB.Vals
public import proofs.«01_k».proof.Proof.Knn.Layer

@[expose] public section

set_option maxRecDepth 16384

noncomputable section

namespace Cert.StageBIdeal.Hand
open Idealize.ShloMosaic.TcCoe

open Cert.StageBIdeal.Gen
open Idealize.ShloMosaic

/-- The stored value at an index, of the two tables, the accumulated sums and the two parameter columns. -/
theorem result_at (sm sq : Vec Ideal S64x128 .f32) (x5 x6 : Vec Ideal S64x1 .f32) (mb nb : Vec Ideal S64x512 .f32) (i : Fin 64) (j : Fin 512)
    (N e a : ℝ) (hN : Ideal.ofBits .f32 1207959552#32 = (N : EReal)) (he : Ideal.ofBits .f32 925353388#32 = (e : EReal))
    (ha : Ideal.ofBits .f32 1045220557#32 = (a : EReal)) :
    result (F := Ideal) sm sq x5 x6 mb nb (ix3 0 i j) =
      Knn.fused N e a (∑ x : Fin 64, (if i.val / 16 = x.val / 16 then (1 : EReal) else 0) * ∑ y : Fin 128, sm (ix2 x y))
        (∑ x : Fin 64, (if i.val / 16 = x.val / 16 then (1 : EReal) else 0) * ∑ y : Fin 128, sq (ix2 x y))
        (x5 (ix2 i 0)) (x6 (ix2 i 0)) (mb (ix2 i j)) (nb (ix2 i j)) := by
  unfold result
  pointwise [k0_pay8, k0_pay23, k0_pay22, k0_pay21, k0_pay20, k0_pay14, k0_pay15]
  have hw : ∀ x : Fin 64, k0_pay19 (F := Ideal) k0_pay16 (iota .tc S64x64 32 [1] iota_S64x64_d1_w32) 16#32 k0_pay17 k0_pay18 (Scalar.extui (Scalar.cmpi .sgt 16#32 0#32)) (ix2 i x) =
      if i.val / 16 = x.val / 16 then (1 : EReal) else 0 := group_word i
  simp only [hw, hN, he, ha]
  rfl

/-- The features stored at a batch entry's last point. -/
theorem out_at {m : (ℓ : Loc nD τ sig) → Buf (Elt Ideal) ℓ} {c : Dev nD} {s : Fin 16 → Fin 512 → Fin 2048} (hs : Picks m c s) (b : Fin 16) (i : Fin 64) (q : Fin 512)
    (N e a : ℝ) (hN : Ideal.ofBits .f32 1207959552#32 = (N : EReal)) (he : Ideal.ofBits .f32 925353388#32 = (e : EReal))
    (ha : Ideal.ofBits .f32 1045220557#32 = (a : EReal)) :
    outBlk m c (4 * b.val + 3) (ix3 0 i q) =
      Knn.fused N e a (Knn.tiledSum (G := 4) (C := 16) (T := 4) (prod m c s b) i) (Knn.tiledSum (G := 4) (C := 16) (T := 4) (fun x y r => prod m c s b x y r * prod m c s b x y r) i)
        (m ((c : Thread nD τ).loc main_arg4) (ix1 i)) (m ((c : Thread nD τ).loc main_arg5) (ix1 i))
        ((Finset.range 16).fold max ⊥ (prod m c s b i q)) ((Finset.range 16).fold min ⊤ (prod m c s b i q)) := by
  have hq := q.isLt
  have hb := b.isLt
  have hcol : qcol (q.val / 128) ⟨q.val % 128, by omega⟩ = q := by apply Fin.ext; show 128 * (q.val / 128 % 4) + q.val % 128 = q.val; omega
  have hmx : maxTab m c (4 * b.val + 3) (ix2 i q) = (Finset.range 16).fold max ⊥ (prod m c s b i q) := by
    have h := (left_at hs b (q.val / 128) (by omega) i ⟨q.val % 128, by omega⟩).1
    rw [hcol] at h
    rw [← h, show 4 * b.val + q.val / 128 = 4 * ((4 * b.val + 3) / 4) + q.val / 128 by omega]
    unfold maxTab
    pointwise [k0_pay6]
    exact congrArg _ (ix2_eq_valueIdx _ _).symm
  have hmn : minTab m c (4 * b.val + 3) (ix2 i q) = (Finset.range 16).fold min ⊤ (prod m c s b i q) := by
    have h := (left_at hs b (q.val / 128) (by omega) i ⟨q.val % 128, by omega⟩).2.1
    rw [hcol] at h
    rw [← h, show 4 * b.val + q.val / 128 = 4 * ((4 * b.val + 3) / 4) + q.val / 128 by omega]
    unfold minTab
    pointwise [k0_pay7]
    exact congrArg _ (ix2_eq_valueIdx _ _).symm
  unfold outBlk
  rw [result_at _ _ _ _ _ _ i q N e a hN he ha, hmx, hmn, blk5, blk6]
  have hl := fun x y => (left_at hs b 3 (by omega) x y).2.2
  simp only [fun x y => (hl x y).1, fun x y => (hl x y).2]
  unfold Knn.tiledSum
  simp only [Finset.sum_range (n := 4), Finset.sum_range (n := 3 + 1)]
  have ht : ∀ (t : Fin 4) (y : Fin 128), qcol t.val y = Knn.tileAt (T := 4) t y := fun t y => by
    apply Fin.ext; show 128 * (t.val % 4) + y.val = 128 * t.val + y.val; have := t.isLt; omega
  simp only [ht]

end Cert.StageBIdeal.Hand

end
-- ==== Proof.StageB.Ref.lean ====
module

public import proofs.«01_k».proof.Proof.Gen.RefBIdeal.Read
public import proofs.«01_k».proof.Proof.Knn.Take
public import proofs.«01_k».proof.Proof.Knn.Norm
public import proofs.«01_k».proof.Proof.Knn.Words
public import proofs.«01_k».proof.Proof.Gen.Pre_finite_in_range2
public import Idealize.ShloMosaic.Lib.Pointwise
public import Idealize.ShloMosaic.Lib.Pipeline.ValueKit
public import Idealize.ShloMosaic.Lib.Quiescent

@[expose] public section

set_option maxRecDepth 16384

noncomputable section

namespace Cert.RefBIdeal.Hand

open Cert.RefBIdeal Cert.RefBIdeal.Read Cert.RefBIdeal.Gen
open Idealize.ShloMosaic Idealize.SL.Sem

variable (x0 : (⟨S16x3x2048, .f32⟩ : BufTy).Contents (Elt Ideal)) (x1 : (⟨S16x32x2048, .f32⟩ : BufTy).Contents (Elt Ideal))
  (x2 : (⟨S512x16, .i32⟩ : BufTy).Contents (Elt Ideal)) (x3 : (⟨S64x64, .f32⟩ : BufTy).Contents (Elt Ideal))
  (x4 x5 : (⟨S64, .f32⟩ : BufTy).Contents (Elt Ideal)) (s : Fin 16 → Fin 512 → Fin 2048)

/-- The sampled indices are the positions `s`. -/
def Picks : Prop := ∀ b j, x2 (ix2 j b) = BitVec.ofNat 32 (s b j).val

/-- The squared distances from sampled point `q` of batch entry `b` to every point, not below zero. -/
def dist (b : Fin 16) (q : Fin 512) : Fin 2048 → EReal := Knn.dist (fun a k => x0 (ix3 b a k)) (fun a => x0 (ix3 b a (s b q)))

/-- The product of sampled point `q`'s `r`-th neighbour at output channel `o`. -/
def prod (b : Fin 16) (o : Fin 64) (q : Fin 512) (r : ℕ) : EReal :=
  Knn.edge (fun k : Fin 32 => x3 (ix2 o ⟨k.val, by omega⟩)) (fun k => x3 (ix2 o ⟨32 + k.val, by omega⟩))
    (fun a k => x1 (ix3 b a k)) (fun a => x1 (ix3 b a (s b q))) (Knn.sel (dist x0 s b q) r)

variable {x2 s} (hs : Picks x2 s)
include hs

theorem pick_at (b q) : val_main_call0_v7 (F := Ideal) x2 (ix3 b q 0) = BitVec.ofNat 32 (s b q).val := by
  have h := (s b q).isLt
  pointwise [val_main_call0_v7, val_main_call0_v6, val_main_call0_v5, val_main_call0_v4, val_main_call0_v3, val_main_call0_v2, val_main_v0, val_main_call0_c, val_main_call0_c_0]
  rw [hs b q]
  exact Knn.wrap_index _ (by omega) _

theorem rows_at (b q k) : val_main_call0_v9 (F := Ideal) x0 x1 x2 (ix3 b k q) = val_main_call0_v0 (F := Ideal) x0 x1 (ix3 b k (s b q)) := by
  pointwise [val_main_call0_v9]
  unfold val_main_call0_v8
  rw [Knn.gather_single _ rfl rfl rfl rfl rfl rfl rfl _ _ b q k _ (pick_at hs b q) (by norm_num)]
  pointwise [val_main_call0_v1]

/-- The coordinates taken are the sampled points'. -/
theorem coord_at (b a q) : val_main_v1_0 (F := Ideal) x0 x1 x2 (ix3 b a q) = x0 (ix3 b a (s b q)) := by
  pointwise [val_main_v1_0]
  rw [rows_at x0 x1 hs]
  pointwise [val_main_call0_v0]

/-- And the features. -/
theorem feat_at (b k q) : val_main_v1_1 (F := Ideal) x0 x1 x2 (ix3 b k q) = x1 (ix3 b k (s b q)) := by
  pointwise [val_main_v1_1]
  rw [rows_at x0 x1 hs]
  pointwise [val_main_call0_v0]

/-- The sort key is the negated distance. -/
theorem key_at (b q k) : val_main_v21 (F := Ideal) x0 x1 x2 (ix3 b q k) = -Ideal.sqrt (dist x0 s b q k) := by
  pointwise [val_main_v21,val_main_v20,val_main_v19,val_main_v18,val_main_v17,val_main_v16,val_main_v15,val_main_v14,val_main_v13,val_main_v12,val_main_v11,val_main_v10,val_main_v9,val_main_v8,val_main_v7,val_main_v6,val_main_v5,val_main_v4,val_main_v3,val_main_v2,val_main_cst,val_main_cst_0,val_main_cst_1,val_main_cst_2]
  simp only [coord_at x0 x1 hs]
  rfl

theorem index_at (b q) (r : Fin 16) (hd : ∀ j, dist x0 s b q j ≠ ⊤) :
    val_main_indices (F := Ideal) x0 x1 x2 (ix3 b q r) = BitVec.ofNat 32 (Knn.sel (dist x0 s b q) r.val).val :=
  Knn.topK_sel (by decide) _ _ (dist x0 s b q) b q (key_at x0 x1 hs b q) hd (fun j => le_max_right _ _) r

theorem start_at (b q) (r : Fin 16) (hd : ∀ j, dist x0 s b q j ≠ ⊤) :
    val_main_v28 (F := Ideal) x0 x1 x2 (ix4 b q r 0) = BitVec.ofNat 32 (Knn.sel (dist x0 s b q) r.val).val := by
  have h := (Knn.sel (dist x0 s b q) r.val).isLt
  pointwise [val_main_v28,val_main_v27,val_main_v26,val_main_v25,val_main_v24,val_main_v23, val_main_c, val_main_c_3]
  rw [index_at x0 x1 hs b q r hd]
  exact Knn.wrap_index _ (by omega) _

theorem take_at (b q) (r : Fin 16) (k) (hd : ∀ j, dist x0 s b q j ≠ ⊤) :
    val_main_v29 (F := Ideal) x0 x1 x2 (ix4 b q r k) = x1 (ix3 b k (Knn.sel (dist x0 s b q) r.val)) := by
  unfold val_main_v29
  rw [Knn.gather_row _ rfl rfl rfl rfl rfl rfl rfl _ _ b q r k _ (start_at x0 x1 hs b q r hd) (by norm_num)]
  pointwise [val_main_v22]

theorem prod_at (b o q) (r : Fin 16) (hd : ∀ j, dist x0 s b q j ≠ ⊤) :
    val_main_v36 (F := Ideal) x0 x1 x2 x3 (ix4 b o q r) = prod x0 x1 x3 s b o q r.val := by
  pointwise [val_main_v36,val_main_v35,val_main_v34,val_main_v33,val_main_v32,val_main_v31,val_main_v30]
  simp only [take_at x0 x1 hs b q r _ hd, feat_at x0 x1 hs]
  unfold prod Knn.edge
  refine congrArg₂ (· + ·) (Finset.sum_congr rfl fun k _ => mul_comm _ _) (Finset.sum_congr rfl fun k _ => mul_comm _ _)

omit hs
omit hs in
theorem count_word : Ideal.ofBits .f32 1207959552#32 = ((131072 : ℝ) : EReal) := by
  simp [Ideal.ofBits, Ideal.ieee, -EReal.coe_mul]; norm_num

variable (s) in
/-- The sum of the products over the group of output channel `o`. -/
def total (b : Fin 16) (g : Fin 4) : EReal := ∑ x : Fin 16, ∑ y : Fin 512, ∑ r : Fin 16, prod x0 x1 x3 s b ⟨16 * g.val + x.val, by omega⟩ y r.val

include hs

theorem mean_at (b g) (hd : ∀ q j, dist x0 s b q j ≠ ⊤) :
    val_main_v41 (F := Ideal) x0 x1 x2 x3 (ix5 b g 0 0 0) = Ideal.div (total x0 x1 x3 s b g) ((131072 : ℝ) : EReal) := by
  rw [← count_word]
  pointwise [val_main_v41,val_main_v40,val_main_v39,val_main_v38,val_main_cst_5,val_main_cst_4,val_main_v37]
  simp only [prod_at x0 x1 x3 hs b _ _ _ (hd _)]
  unfold total
  simp only [Nat.mul_comm 16]

theorem var_at (b g) (hd : ∀ q j, dist x0 s b q j ≠ ⊤) :
    val_main_v42 (F := Ideal) x0 x1 x2 x3 (ix5 b g 0 0 0) = Ideal.div
      (∑ x : Fin 16, ∑ y : Fin 512, ∑ r : Fin 16,
        (prod x0 x1 x3 s b ⟨16 * g.val + x.val, by omega⟩ y r.val - Ideal.div (total x0 x1 x3 s b g) ((131072 : ℝ) : EReal)) *
        (prod x0 x1 x3 s b ⟨16 * g.val + x.val, by omega⟩ y r.val - Ideal.div (total x0 x1 x3 s b g) ((131072 : ℝ) : EReal))) ((131072 : ℝ) : EReal) := by
  pointwise [val_main_v42,val_main_call1_v0, val_main_call1_v1, val_main_call1_cst_0, val_main_call1_v2, val_main_call1_v3, val_main_call1_v4, val_main_call1_v5, val_main_call1_v6, val_main_call1_v7, val_main_call1_cst_1, val_main_call1_v8, val_main_call1_cst_2, val_main_call1_v9, val_main_call1_v10, val_main_call1_v11, val_main_call1_v12, val_main_call1_cst_3, val_main_call1_v13, val_main_call1_cst_4, val_main_call1_call0_v0, val_main_call1_call0_v1,val_main_call1_cst,val_main_c_6,val_main_v37]
  simp only [prod_at x0 x1 x3 hs b _ _ _ (hd _)]
  rw [Knn.zero_word, count_word, sub_zero, if_pos (by exact_mod_cast (by norm_num : (0 : ℝ) < 131072))]
  unfold total
  simp only [Nat.mul_comm 16]

theorem out_at (b o q) (hd : ∀ q j, dist x0 s b q j ≠ ⊤) (e a : ℝ) (he : Ideal.ofBits .f32 925353388#32 = (e : EReal))
    (ha : Ideal.ofBits .f32 1045220557#32 = (a : EReal)) :
    val_main_v62 (F := Ideal) x0 x1 x2 x3 x4 x5 (ix3 b o q) = (Finset.univ : Finset (Fin 16)).fold max ⊥ fun r =>
      Knn.leaky a (Knn.normed e (val_main_v41 (F := Ideal) x0 x1 x2 x3 (ix5 b ⟨o.val / 16, by omega⟩ 0 0 0))
        (val_main_v42 (F := Ideal) x0 x1 x2 x3 (ix5 b ⟨o.val / 16, by omega⟩ 0 0 0)) (x4 (ix1 o)) (x5 (ix1 o)) (prod x0 x1 x3 s b o q r.val)) := by
  pointwise [val_main_v62, val_main_v61,val_main_v60,val_main_v59,val_main_v58,val_main_v57,val_main_v56,val_main_v55,val_main_v54,val_main_v53,val_main_v52,val_main_v51,val_main_v50,val_main_v49,val_main_v48,val_main_v47,val_main_v46,val_main_v45,val_main_v44,val_main_v43,val_main_cst_7,val_main_cst_8,val_main_cst_9,val_main_cst_10,val_main_v37]
  simp only [prod_at x0 x1 x3 hs b _ _ _ (hd _), Knn.bot_word, he, ha]
  rfl

omit hs

/-- The reference's run: its results are the taken coordinates and the last value of its chain, at the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = val_main_v1_0 (F := Ideal) (m ((c.tc : Thread nD τ).loc main_arg0)) (m ((c.tc : Thread nD τ).loc main_arg1))
        (m ((c.tc : Thread nD τ).loc main_arg2))
      ∧ r.2.mem ((c.tc : Thread nD τ).loc main_v62) = val_main_v62 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v1_0_eq (StableHlo.launchContents m c)),
    (h c).2.1.trans (val_main_v62_eq (StableHlo.launchContents m c)), (h c).2.2⟩) (Cert.RefBIdeal.Value.run m ρ)

/-- The reference's frame; it declares no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2.2, sem_eq_zero_of_no_sems (by decide) r.2⟩) (Cert.RefBIdeal.Value.run m ρ)

end Cert.RefBIdeal.Hand

end
-- ==== Proof.StageB.Equal.lean ====
module

public import proofs.«01_k».proof.Defs
public import proofs.«01_k».proof.Proof.Gen.Pre_finite_in_range2
public import proofs.«01_k».proof.Proof.StageB.Out
public import proofs.«01_k».proof.Proof.StageB.Ref
public import proofs.«01_k».proof.Proof.Knn.Finite
public import Idealize.ShloMosaic.Lib.Claim

@[expose] public section

set_option maxRecDepth 16384

noncomputable section

namespace Cert.StageBIdeal.Hand
open Idealize.ShloMosaic.TcCoe

open Cert.StageBIdeal.Gen
open Idealize.ShloMosaic Idealize.SL.Sem

/-! # The kernel's array is the reference's -/

variable (m : (ℓ : Loc nD τ sig) → Buf (Elt Ideal) ℓ) (c : Dev nD)

/-- Under the precondition every element of every argument but the sampled indices is a real number, and the sampled indices are positions. -/
theorem reals (h : Cert.Pre_StageBIdeal_finite_in_range2 m) :
    (∀ i, Knn.IsReal (m ((c : Thread nD τ).loc main_arg0) i)) ∧ (∀ i, Knn.IsReal (m ((c : Thread nD τ).loc main_arg1) i))
    ∧ (∃ s, Picks m c s) ∧ (∀ i, Knn.IsReal (m ((c : Thread nD τ).loc main_arg3) i))
    ∧ (∀ i, Knn.IsReal (m ((c : Thread nD τ).loc main_arg4) i)) ∧ (∀ i, Knn.IsReal (m ((c : Thread nD τ).loc main_arg5) i)) := by
  haveI : Subsingleton (⟨0, ![]⟩ : Shape).Idx := ⟨fun a b => funext fun e => Fin.elim0 e⟩
  obtain ⟨h1, h7⟩ := IntOp.andi_eq_one.1 (congrFun (h c) fun a => (show Fin 0 from a).elim0)
  obtain ⟨h1, h6⟩ := IntOp.andi_eq_one.1 h1
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  choose s hs using Knn.positions_of_all (n := 2048) (by norm_num) _ _ _ _ _ _ h3 h4
  exact ⟨Knn.real_of_all _ _ _ _ _ _ h1, Knn.real_of_all _ _ _ _ _ _ h2, ⟨fun b j => s (ix2 j b), fun b j => hs (ix2 j b)⟩,
    Knn.real_of_all _ _ _ _ _ _ h5, Knn.real_of_all _ _ _ _ _ _ h6, Knn.real_of_all _ _ _ _ _ _ h7⟩

/-- The kernel's feature array. -/
theorem feat_array (G : Buf (Elt Ideal) ((c : Thread nD τ).loc main_v5_0))
    (hG : ∀ (b : Fin 16) (i : Fin 64) (q : Fin 512), outBlk m c (4 * b.val + 3) (ix3 0 i q) = G (ix3 b i q)) :
    (dats m 0 c).arrAt 7 cfg0.N = G := by
  refine (dats m 0 c).arrAt_eq_of_covers 7 _ (by decide +kernel) fun t hf y => ?_
  blk_simp
  rw [after0_7]
  have h3 : t.val % 4 = 3 := (by decide +kernel : ∀ t : Fin cfg0.N, (cfg0.win 7).flush t = true → t.val % 4 = 3) t hf
  have ht : t.val < 64 := t.isLt
  have hy : y = ix3 0 (y 1) (y 2) := by
    funext e
    fin_cases e
    · exact Subsingleton.elim (α := Fin 1) _ _
    · rfl
    · rfl
  have he : (win0_7.blk t).view.emb y = ix3 ⟨t.val / 4, by omega⟩ (y 1) (y 2) := by
    funext e
    apply Fin.ext
    fin_cases e
    · blk_simp [idx t]
      rfl
    · blk_simp [idx t]
      rfl
    · blk_simp [idx t]
      rfl
  refine Eq.trans ?_ ((hG ⟨t.val / 4, by omega⟩ (y 1) (y 2)).trans (congrArg G he.symm))
  rw [show 4 * (⟨t.val / 4, by omega⟩ : Fin 16).val + 3 = t.val from by show 4 * (t.val / 4) + 3 = t.val; omega]
  exact congrArg _ hy

/-- The kernel's coordinate array. -/
theorem coord_array (G : Buf (Elt Ideal) ((c : Thread nD τ).loc main_v5_1))
    (hG : ∀ (b : Fin 16) (t : ℕ) (_ : t < 4) (i : Fin 3) (j : Fin 128), coordBlk m c (pt (4 * b.val + t)) (ix3 0 i j) = G (ix3 b i (qcol t j))) :
    (dats m 0 c).arrAt 8 cfg0.N = G := by
  refine (dats m 0 c).arrAt_eq_of_covers 8 _ (by decide +kernel) fun t hf y => ?_
  blk_simp
  rw [after0_8]
  have ht : t.val < 64 := t.isLt
  have hy : y = ix3 0 (y 1) (y 2) := by
    funext e
    fin_cases e
    · exact Subsingleton.elim (α := Fin 1) _ _
    · rfl
    · rfl
  have he : (win0_8.blk t).view.emb y = ix3 ⟨t.val / 4, by omega⟩ (y 1) (qcol (t.val % 4) (y 2)) := by
    funext e
    apply Fin.ext
    fin_cases e
    · blk_simp [idx t]
      rfl
    · blk_simp [idx t]
      rfl
    · blk_simp [idx t]
      show _ = 128 * (t.val % 4 % 4) + (y 2).val
      rw [Nat.mod_mod, Nat.mul_comm 128]
      rfl
  refine Eq.trans ?_ ((hG ⟨t.val / 4, by omega⟩ (t.val % 4) (by omega) (y 1) (y 2)).trans (congrArg G he.symm))
  rw [show pt (4 * (⟨t.val / 4, by omega⟩ : Fin 16).val + t.val % 4) = t from by
    rw [show 4 * (⟨t.val / 4, by omega⟩ : Fin 16).val + t.val % 4 = t.val from by show 4 * (t.val / 4) + t.val % 4 = t.val; omega, pt_val]]
  exact congrArg _ hy

/-- The two programs' coordinates agree element by element. -/
theorem coord_eq (h : Cert.Pre_StageBIdeal_finite_in_range2 m) (b : Fin 16) (t : ℕ) (ht : t < 4) (i : Fin 3) (j : Fin 128) :
    coordBlk m c (pt (4 * b.val + t)) (ix3 0 i j) = Cert.RefBIdeal.Read.val_main_v1_0 (F := Ideal) (m ((c : Thread nD τ).loc main_arg0))
      (m ((c : Thread nD τ).loc main_arg1)) (m ((c : Thread nD τ).loc main_arg2)) (ix3 b i (qcol t j)) := by
  obtain ⟨_, _, ⟨s, hs⟩, _⟩ := reals m c h
  rw [coord_at hs b t ht, Cert.RefBIdeal.Hand.coord_at _ _ hs b i _]

/-- The two programs' features agree element by element. -/
theorem value_eq (h : Cert.Pre_StageBIdeal_finite_in_range2 m) (b : Fin 16) (i : Fin 64) (q : Fin 512) :
    outBlk m c (4 * b.val + 3) (ix3 0 i q) = Cert.RefBIdeal.Read.val_main_v62 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (ix3 b i q) := by
  obtain ⟨r0, r1, ⟨s, hs⟩, r3, r4, r5⟩ := reals m c h
  obtain ⟨e, he0, he⟩ := Knn.eps_word
  obtain ⟨a, ha0, ha⟩ := Knn.slope_word
  have hd : ∀ q k, Knn.IsReal (dist m c s b q k) := fun q k => Knn.dist_real (fun a k => r0 _) (fun a => r0 _) k
  have hd' : ∀ q k, Cert.RefBIdeal.Hand.dist (m ((c : Thread nD τ).loc main_arg0)) s b q k ≠ ⊤ := fun q k => (hd q k).ne_top
  have hp : ∀ o q r, Knn.IsReal (prod m c s b o q r) := fun o q r =>
    Knn.edge_real (fun c => r3 _) (fun c => r3 _) (fun c k => r1 _) (fun c => r1 _) _
  rw [out_at hs b i q 131072 e a Cert.RefBIdeal.Hand.count_word he ha, Cert.RefBIdeal.Hand.out_at _ _ _ _ _ hs b i q hd' e a he ha,
    Cert.RefBIdeal.Hand.mean_at _ _ _ hs b _ hd', Cert.RefBIdeal.Hand.var_at _ _ _ hs b _ hd']
  exact Knn.layer_eq (G := 4) (C := 16) (T := 4) (by norm_num) (prod m c s b) hp i q 131072 e a (by norm_num) (by norm_num) he0 ha0 _ _ (r4 _) (r5 _)

/-- The call and its reference, from memories agreeing on the arguments, end with equal results. -/
theorem algebraic : Cert.algebraic_StageBIdeal_RefBIdeal_pre_finite_in_range2 := by
  pair_intro
  · run_from Cert.StageBIdeal.Hand.run_main m g
  · refine (θ_run Cert.RefBIdeal.defs _ _).mono (fun r h c => ⟨(h c).1.trans ?_, (h c).2.1.trans ?_, (h c).2.2⟩) (Cert.RefBIdeal.Hand.run m' g')
    · obtain ⟨e0, e1, e2, e3, e4, e5⟩ := hagree c
      rw [e0, e1, e2]
      exact (coord_array m c _ (coord_eq m c hpre)).symm
    · obtain ⟨e0, e1, e2, e3, e4, e5⟩ := hagree c
      rw [e0, e1, e2, e3, e4, e5]
      exact (feat_array m c _ (value_eq m c hpre)).symm

end Cert.StageBIdeal.Hand

end
-- ==== Proof.StageA.Loop.lean ====
module

public import proofs.«01_k».proof.Proof.Gen.StageAIdeal.Loops
public import proofs.«01_k».proof.Proof.Knn.Carry
public import Idealize.ShloMosaic.Lib.Pipeline.FrameBody
public import Idealize.ShloMosaic.Lib.Pipeline.Value

@[expose] public section

set_option maxRecDepth 8192

noncomputable section

namespace Cert.StageAIdeal.Hand

open Cert.StageAIdeal.Gen
open Cert.Knn (writes_full readAt_full off2 entry steps lread lput lcont lcont_succ carried_open carried_next)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # The neighbour loop of one grid point, by values -/

/-- What the loop carries in scratch. -/
abbrev LState (F : FTy → Type) : Type := Knn.LState F S2048x128 S32x128

/-- One neighbour taken: features `v5`, indices `v7`, query features `v12`, weights `w`. -/
def lstep (v5 : Vec F S8x2048 .f32) (v7 : IVec S2048x128 32) (v12 : Vec F S8x128 .f32)
    (w : Vec F S32x16 .f32) (s : LState F) : LState F where
  d := k0_pay8 v7 s.d
  mx := k0_pay10 v5 v7 v12 s.d w s.mx
  mn := k0_pay11 v5 v7 v12 s.d w s.mn
  sm := k0_pay2 (k0_pay9 v5 v7 v12 s.d w) s.sm
  sq := k0_pay3 (k0_pay9 v5 v7 v12 s.d w) s.sq

/-- The state after `k` neighbours. -/
abbrev lstate (v5 : Vec F S8x2048 .f32) (v7 : IVec S2048x128 32) (v12 : Vec F S8x128 .f32)
    (w : Vec F S32x16 .f32) (s : LState F) (k : ℕ) : LState F := steps (lstep v5 v7 v12 w) s k

section Trip

variable (𝒱 : Variants) (c : Dev nD) (bd : Option 𝒱.V) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S8x3 .f32) (harg4 : arg4.IsWhole)
  (arg5 : Memref sig .tc .vmem S8x1 .f32) (harg5 : arg5.IsWhole)
  (arg6 : Memref sig .tc .vmem S32x16 .f32) (harg6 : arg6.IsWhole)
  (arg7 : Memref sig .tc .vmem S32x1 .f32) (harg7 : arg7.IsWhole)
  (arg8 : Memref sig .tc .vmem S32x1 .f32) (harg8 : arg8.IsWhole)
  (arg9 : Memref sig .tc .vmem S1x32x2048 .f32) (harg9 : arg9.IsWhole)
  (arg10 : Memref sig .tc .vmem S2048x128 .f32) (harg10 : arg10.IsWhole)
  (arg11 : Memref sig .tc .vmem S2048x1 .f32) (harg11 : arg11.IsWhole)
  (arg12 : Memref sig .tc .vmem S8x2048 .f32) (harg12 : arg12.IsWhole)
  (arg13 : Memref sig .tc .vmem S32x2048 .f32) (harg13 : arg13.IsWhole)
  (arg14 : Memref sig .tc .vmem S32x2048 .f32) (harg14 : arg14.IsWhole)
  (arg15 : Memref sig .tc .vmem S32x128 .f32) (harg15 : arg15.IsWhole)
  (arg16 : Memref sig .tc .vmem S32x128 .f32) (harg16 : arg16.IsWhole)
  (arg17 : Memref sig .tc .vmem S32x128 .f32) (harg17 : arg17.IsWhole)
  (arg18 : Memref sig .tc .vmem S32x128 .f32) (harg18 : arg18.IsWhole)
  (v5 : Vec F S8x2048 .f32) (v7 : IVec S2048x128 32) (v12 : Vec F S8x128 .f32)

/-- An array whole, at contents `f`. -/
abbrev own {S : Shape} (a : Memref sig .tc .vmem S .f32) (f : BufTy.Contents (Elt F) a.view.ty) :
    sProp (MT nD τ sig Unit (Elt F) ℕ (UR sig nD τ) ℕ) :=
  iprop((a.view.loc (c : Thread nD τ) ↦[a.view.set]{fullShare} f))

/-- What one trip touches: the weights read at `X` and the five scratch arrays at `f·`. -/
abbrev held (X : BufTy.Contents (Elt F) arg6.view.ty)
    (f10 : BufTy.Contents (Elt F) arg10.view.ty) (f15 : BufTy.Contents (Elt F) arg15.view.ty)
    (f16 : BufTy.Contents (Elt F) arg16.view.ty) (f17 : BufTy.Contents (Elt F) arg17.view.ty)
    (f18 : BufTy.Contents (Elt F) arg18.view.ty) : sProp (MT nD τ sig Unit (Elt F) ℕ (UR sig nD τ) ℕ) :=
  iprop((arg6.view.loc (c : Thread nD τ) ↦[arg6.view.set]{fullShare} X)
    ∗ (arg10.view.loc (c : Thread nD τ) ↦[arg10.view.set]{fullShare} f10)
    ∗ (arg15.view.loc (c : Thread nD τ) ↦[arg15.view.set]{fullShare} f15)
    ∗ (arg16.view.loc (c : Thread nD τ) ↦[arg16.view.set]{fullShare} f16)
    ∗ (arg17.view.loc (c : Thread nD τ) ↦[arg17.view.set]{fullShare} f17)
    ∗ (arg18.view.loc (c : Thread nD τ) ↦[arg18.view.set]{fullShare} f18))

/-- One trip of the loop: the scratch it finds at `f·` it leaves at the next state of what it read. -/
theorem trip (X : BufTy.Contents (Elt F) arg6.view.ty)
    (k : Fin k0_t1_loop.trips) (E : Set ℕ)
    (f10 : BufTy.Contents (Elt F) arg10.view.ty) (f15 : BufTy.Contents (Elt F) arg15.view.ty)
    (f16 : BufTy.Contents (Elt F) arg16.view.ty) (f17 : BufTy.Contents (Elt F) arg17.view.ty)
    (f18 : BufTy.Contents (Elt F) arg18.view.ty) :
    held (F := F) c arg6 arg10 arg15 arg16 arg17 arg18 X f10 f15 f16 f17 f18
      ⊢ wp frame (wpE (defs₀ (F := F)) 𝒱 (c : Thread nD τ) bd) E
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5 v7 v12 k PUnit.unit)
          (fun _ => held (F := F) c arg6 arg10 arg15 arg16 arg17 arg18 X
            (harg10.unread (lstep v5 v7 v12 (arg6.view.read (Elt F) X) ⟨arg10.view.read (Elt F) f10, arg15.view.read (Elt F) f15,
              arg16.view.read (Elt F) f16, arg17.view.read (Elt F) f17, arg18.view.read (Elt F) f18⟩).d) (harg15.unread (lstep v5 v7 v12 (arg6.view.read (Elt F) X) ⟨arg10.view.read (Elt F) f10, arg15.view.read (Elt F) f15,
              arg16.view.read (Elt F) f16, arg17.view.read (Elt F) f17, arg18.view.read (Elt F) f18⟩).mx)
            (harg16.unread (lstep v5 v7 v12 (arg6.view.read (Elt F) X) ⟨arg10.view.read (Elt F) f10, arg15.view.read (Elt F) f15,
              arg16.view.read (Elt F) f16, arg17.view.read (Elt F) f17, arg18.view.read (Elt F) f18⟩).mn) (harg17.unread (lstep v5 v7 v12 (arg6.view.read (Elt F) X) ⟨arg10.view.read (Elt F) f10, arg15.view.read (Elt F) f15,
              arg16.view.read (Elt F) f16, arg17.view.read (Elt F) f17, arg18.view.read (Elt F) f18⟩).sm)
            (harg18.unread (lstep v5 v7 v12 (arg6.view.read (Elt F) X) ⟨arg10.view.read (Elt F) f10, arg15.view.read (Elt F) f15,
              arg16.view.read (Elt F) f16, arg17.view.read (Elt F) f17, arg18.view.read (Elt F) f18⟩).sq)) := by
  have hk : k.val < 16 := Nat.lt_of_lt_of_le k.isLt k0_t1_abs.2.1
  unfold k0_t1_body
  iintro ⟨HR_arg6, HW_arg10, HW_arg15, HW_arg16, HW_arg17, HW_arg18⟩
  sl_exec
  sl_step
  unfold trip.sl.r trip.sl.r_1
  rw [writes_full harg10 _ off2, writes_full harg15 _ off2, writes_full harg16 _ off2, writes_full harg17 _ off2,
    writes_full harg18 _ off2]
  simp only [readAt_full (S := S2048x128) _ _ off2, readAt_full (S := S32x128) _ _ off2,
    readAt_full (S := S32x16) _ _ off2]
  unfold lstep
  sl_close

set_option warn.classDefReducibility false in
/-- The loop by its values: after `k` trips the five scratch arrays hold the state after `k` steps. -/
@[sl_loop] def loopVal (E : Set ℕ) (X : BufTy.Contents (Elt F) arg6.view.ty)
    (g10 : BufTy.Contents (Elt F) arg10.view.ty) (g15 : BufTy.Contents (Elt F) arg15.view.ty)
    (g16 : BufTy.Contents (Elt F) arg16.view.ty) (g17 : BufTy.Contents (Elt F) arg17.view.ty)
    (g18 : BufTy.Contents (Elt F) arg18.view.ty) :
    Cert.StageAIdeal.Gen.LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5 v7 v12 where
  inv k _ := iprop((arg6.view.loc (c : Thread nD τ) ↦[arg6.view.set]{fullShare} X)
    ∗ (∃ f, (arg10.view.loc (c : Thread nD τ) ↦[arg10.view.set]{fullShare} f) ∗ ⌜f = entry g10 k
      (lcont arg10 harg10 arg15 harg15 arg16 harg16 arg17 harg17 arg18 harg18 (lstep v5 v7 v12 (arg6.view.read (Elt F) X)) (g10, g15, g16, g17, g18) k).1⌝)
    ∗ (∃ f, (arg15.view.loc (c : Thread nD τ) ↦[arg15.view.set]{fullShare} f) ∗ ⌜f = entry g15 k
      (lcont arg10 harg10 arg15 harg15 arg16 harg16 arg17 harg17 arg18 harg18 (lstep v5 v7 v12 (arg6.view.read (Elt F) X)) (g10, g15, g16, g17, g18) k).2.1⌝)
    ∗ (∃ f, (arg16.view.loc (c : Thread nD τ) ↦[arg16.view.set]{fullShare} f) ∗ ⌜f = entry g16 k
      (lcont arg10 harg10 arg15 harg15 arg16 harg16 arg17 harg17 arg18 harg18 (lstep v5 v7 v12 (arg6.view.read (Elt F) X)) (g10, g15, g16, g17, g18) k).2.2.1⌝)
    ∗ (∃ f, (arg17.view.loc (c : Thread nD τ) ↦[arg17.view.set]{fullShare} f) ∗ ⌜f = entry g17 k
      (lcont arg10 harg10 arg15 harg15 arg16 harg16 arg17 harg17 arg18 harg18 (lstep v5 v7 v12 (arg6.view.read (Elt F) X)) (g10, g15, g16, g17, g18) k).2.2.2.1⌝)
    ∗ (∃ f, (arg18.view.loc (c : Thread nD τ) ↦[arg18.view.set]{fullShare} f) ∗ ⌜f = entry g18 k
      (lcont arg10 harg10 arg15 harg15 arg16 harg16 arg17 harg17 arg18 harg18 (lstep v5 v7 v12 (arg6.view.read (Elt F) X)) (g10, g15, g16, g17, g18) k).2.2.2.2⌝))
  step k acc := by
    refine (carried_open (own (F := F) c arg6 X) (own c arg10) (own c arg15) (own c arg16) (own c arg17) (own c arg18)
      (g10, g15, g16, g17, g18) _ _ (by rintro h; rw [h]; rfl)).trans
      ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5 v7 v12 X k E _ _ _ _ _).trans (wp_mono _ _ _ (fun _ => ?_)))
    exact carried_next (own (F := F) c arg6 X) (own c arg10) (own c arg15) (own c arg16) (own c arg17) (own c arg18) (g10, g15, g16, g17, g18)
      (lcont arg10 harg10 arg15 harg15 arg16 harg16 arg17 harg17 arg18 harg18 (lstep v5 v7 v12 (arg6.view.read (Elt F) X)) (g10, g15, g16, g17, g18) (k + 1)) k

/-- After the loop the five scratch arrays hold the state after sixteen steps. -/
instance loopExit (E : Set ℕ) (X : BufTy.Contents (Elt F) arg6.view.ty)
    (g10 : BufTy.Contents (Elt F) arg10.view.ty) (g15 : BufTy.Contents (Elt F) arg15.view.ty)
    (g16 : BufTy.Contents (Elt F) arg16.view.ty) (g17 : BufTy.Contents (Elt F) arg17.view.ty)
    (g18 : BufTy.Contents (Elt F) arg18.view.ty) :
    LoopExit (loopVal (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v5 v7 v12 E X g10 g15 g16 g17 g18) where
  post _ := iprop((arg6.view.loc (c : Thread nD τ) ↦[arg6.view.set]{fullShare} X)
    ∗ (arg10.view.loc (c : Thread nD τ) ↦[arg10.view.set]{fullShare} harg10.unread (lstate v5 v7 v12 (arg6.view.read (Elt F) X)
      (lread arg10 arg15 arg16 arg17 arg18 (g10, g15, g16, g17, g18)) 16).d)
    ∗ (arg15.view.loc (c : Thread nD τ) ↦[arg15.view.set]{fullShare} harg15.unread (lstate v5 v7 v12 (arg6.view.read (Elt F) X)
      (lread arg10 arg15 arg16 arg17 arg18 (g10, g15, g16, g17, g18)) 16).mx)
    ∗ (arg16.view.loc (c : Thread nD τ) ↦[arg16.view.set]{fullShare} harg16.unread (lstate v5 v7 v12 (arg6.view.read (Elt F) X)
      (lread arg10 arg15 arg16 arg17 arg18 (g10, g15, g16, g17, g18)) 16).mn)
    ∗ (arg17.view.loc (c : Thread nD τ) ↦[arg17.view.set]{fullShare} harg17.unread (lstate v5 v7 v12 (arg6.view.read (Elt F) X)
      (lread arg10 arg15 arg16 arg17 arg18 (g10, g15, g16, g17, g18)) 16).sm)
    ∗ (arg18.view.loc (c : Thread nD τ) ↦[arg18.view.set]{fullShare} harg18.unread (lstate v5 v7 v12 (arg6.view.read (Elt F) X)
      (lread arg10 arg15 arg16 arg17 arg18 (g10, g15, g16, g17, g18)) 16).sq))
  exit acc := by
    have ht : Scf.trips k0_t1_loop.lb k0_t1_loop.ub k0_t1_loop.st = 15 + 1 := by decide
    unfold loopVal
    dsimp only
    rw [ht]
    have e := lcont_succ arg10 harg10 arg15 harg15 arg16 harg16 arg17 harg17 arg18 harg18 (lstep v5 v7 v12 (arg6.view.read (Elt F) X)) (g10, g15, g16, g17, g18) 15
    rw [e]
    exact carried_open (own (F := F) c arg6 X) (own c arg10) (own c arg15) (own c arg16) (own c arg17) (own c arg18) (g10, g15, g16, g17, g18) _ _ (fun h => absurd h (by decide))

end Trip

end Cert.StageAIdeal.Hand

end
-- ==== Proof.StageA.Point.lean ====
module

public import proofs.«01_k».proof.Proof.StageA.Loop
public import proofs.«01_k».proof.Proof.Gen.StageAIdeal.Points
public import Idealize.ShloMosaic.Lib.WritesUnit
public import Idealize.ShloMosaic.Lib.ValueIdxCore

@[expose] public section

set_option maxRecDepth 8192

noncomputable section

namespace Cert.StageAIdeal.Hand

open Cert.StageAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-! # One grid point's run, by values -/

/-- The point is the first of its batch entry. -/
abbrev isFirst (i : grid0.Coords) : Prop :=
  (Scalar.cmpi .ne (Scalar.extui (Scalar.cmpi .eq (BitVec.ofNat 32 (i 1).val) 0#32)) 0#32) = 1#1

/-- The point is the last of its batch entry. -/
abbrev isLast (i : grid0.Coords) : Prop := k0_cond2 i = 1#1

/-- The row number at each entry of the distance table. -/
def rowIx : IVec S2048x128 32 := iota .tc S2048x128 32 [0] iota_S2048x128_d0_w32

/-- The point's query coordinates. -/
def qCoord (i : grid0.Coords) (x0 : Vec F S1x3x2048 .f32) : Vec F S1x3x128 .f32 :=
  View.ld x0 (Rect.unit (s := S1x3x2048) (k0_off1 i) S1x3x128.size (k0_off1_inb i))

/-- The point's query features. -/
def qFeat (i : grid0.Coords) (fe : Vec F S8x2048 .f32) : Vec F S8x128 .f32 :=
  View.ld fe (Rect.unit (s := S8x2048) (k0_off2 i) S8x128.size (k0_off2_inb i))

/-- The loop's state when the point enters it, from the key norms and the running sums. -/
def enter (i : grid0.Coords) (x0 : Vec F S1x3x2048 .f32) (ksq : Vec F S2048x1 .f32) (sm sq : Vec F S32x128 .f32) : LState F :=
  ⟨k0_pay27 x0 (qCoord i x0) ksq, k0_pay28, k0_pay1, sm, sq⟩

/-- The loop's state when the point leaves it. -/
def leave (i : grid0.Coords) (x0 : Vec F S1x3x2048 .f32) (x4 : Vec F S32x16 .f32)
    (ksq : Vec F S2048x1 .f32) (fe : Vec F S8x2048 .f32) (sm sq : Vec F S32x128 .f32) : LState F :=
  lstate fe rowIx (qFeat i fe) x4 (enter i x0 ksq sm sq) 16

/-- The table `x` with the point's 128 columns replaced by `v`. -/
def put (i : grid0.Coords) (x : Vec F S32x2048 .f32) (v : Vec F S32x128 .f32) : Vec F S32x2048 .f32 := fun y =>
  if h : 128 * (i 1).val ≤ (y 1).val ∧ (y 1).val < 128 * (i 1).val + 128 then
    v (ValueIdx.ix2 (y 0) ⟨(y 1).val - 128 * (i 1).val, by omega⟩)
  else x y

/-- The batch entry's result from its sums and its tables of maxima and minima. -/
def result (sm sq : Vec F S32x128 .f32) (x5 x6 : Vec F S32x1 .f32) (mb nb : Vec F S32x2048 .f32) : Vec F S1x32x2048 .f32 :=
  k0_pay6
    (k0_pay20 (k0_pay12 sm) (k0_pay13 sq) k0_pay14 (iota .tc S32x32 32 [1] iota_S32x32_d1_w32) 8#32 k0_pay15 k0_pay16
      (Scalar.extui (Scalar.cmpi .sgt 8#32 0#32)) x5 x6)
    (k0_pay21 (k0_pay12 sm) (k0_pay13 sq) k0_pay14 (iota .tc S32x32 32 [1] iota_S32x32_d1_w32) 8#32 k0_pay15 k0_pay16
      (Scalar.extui (Scalar.cmpi .sgt 8#32 0#32)) x5 mb nb)

/-- A store of the point's columns leaves the table with them replaced. -/
theorem read_put (i : grid0.Coords) {mr : Memref sig .tc .vmem S32x2048 .f32} (h : mr.IsWhole) (x : Vec F S32x2048 .f32)
    (v : Vec F S32x128 .f32) :
    mr.view.read (Elt F) (mr.view.writes (Elt F) (h.unread x)
      [⟨Rect.unit (s := S32x2048) (k0_off3 i) S32x128.size (k0_off3_inb i), v⟩]) = put i x v := by
  have ho := k0_off3_eq i
  have e0 : (k0_off3 i) 0 = 0 := by rw [ho]; rfl
  have e1 : (k0_off3 i) 1 = 128 * (i 1).val := by rw [ho]; rfl
  funext y
  unfold put
  split
  · next hy =>
    refine View.read_writes_cons_unit_of_mem mr.view _ (k0_off3_inb i) v []
      y (ValueIdx.ix2 (n0 := 32) (n1 := 128) (y 0) ⟨(y 1).val - 128 * (i 1).val, by omega⟩) ho fun a => ?_
    fin_cases a
    · exact (Nat.zero_add _).symm
    · show (y 1).val = 128 * (i 1).val + ((y 1).val - 128 * (i 1).val)
      omega
  · next hy =>
    rw [View.read_writes_cons_unit_of_not_mem _ _ (k0_off3_inb i) v [] y ho 1 ?_]
    · exact congrFun (h.read_unread x) y
    · show (y 1).val < 128 * (i 1).val ∨ 128 * (i 1).val + 128 ≤ (y 1).val
      omega

end Cert.StageAIdeal.Hand

end
-- ==== Proof.StageA.RunA.lean ====
module

public import proofs.«01_k».proof.Proof.StageA.Point
public import proofs.«01_k».proof.Proof.Gen.StageAIdeal.Points
public import Idealize.ShloMosaic.Lib.WritesUnit
public import Idealize.ShloMosaic.Lib.ValueIdxCore

@[expose] public section

set_option maxRecDepth 8192

noncomputable section

namespace Cert.StageAIdeal.Hand

open Cert.StageAIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S8x3 .f32) (harg4 : arg4.IsWhole)
  (arg5 : Memref sig .tc .vmem S8x1 .f32) (harg5 : arg5.IsWhole)
  (arg6 : Memref sig .tc .vmem S32x16 .f32) (harg6 : arg6.IsWhole)
  (arg7 : Memref sig .tc .vmem S32x1 .f32) (harg7 : arg7.IsWhole)
  (arg8 : Memref sig .tc .vmem S32x1 .f32) (harg8 : arg8.IsWhole)
  (arg9 : Memref sig .tc .vmem S1x32x2048 .f32) (harg9 : arg9.IsWhole)
  (arg10 : Memref sig .tc .vmem S2048x128 .f32) (harg10 : arg10.IsWhole)
  (arg11 : Memref sig .tc .vmem S2048x1 .f32) (harg11 : arg11.IsWhole)
  (arg12 : Memref sig .tc .vmem S8x2048 .f32) (harg12 : arg12.IsWhole)
  (arg13 : Memref sig .tc .vmem S32x2048 .f32) (harg13 : arg13.IsWhole)
  (arg14 : Memref sig .tc .vmem S32x2048 .f32) (harg14 : arg14.IsWhole)
  (arg15 : Memref sig .tc .vmem S32x128 .f32) (harg15 : arg15.IsWhole)
  (arg16 : Memref sig .tc .vmem S32x128 .f32) (harg16 : arg16.IsWhole)
  (arg17 : Memref sig .tc .vmem S32x128 .f32) (harg17 : arg17.IsWhole)
  (arg18 : Memref sig .tc .vmem S32x128 .f32) (harg18 : arg18.IsWhole)

local notation "𝕄" => MT nD τ sig Unit (Elt F) ℕ (UR sig nD τ) ℕ

/-- The resources of a point: its seven input windows at their contents, the output window at `y`, the scratch. -/
abbrev Res (x0 : Vec F S1x3x2048 .f32) (x1 : Vec F S1x2048x3 .f32) (x2 : Vec F S8x3 .f32) (x3 : Vec F S8x1 .f32) (x4 : Vec F S32x16 .f32) (x5 : Vec F S32x1 .f32) (x6 : Vec F S32x1 .f32)
    (y : Vec F S1x32x2048 .f32) (ksq : Vec F S2048x1 .f32)
    (fe : Vec F S8x2048 .f32) (mb nb : Vec F S32x2048 .f32) (sm sq : Vec F S32x128 .f32) : sProp 𝕄 :=
  iprop(owns (c : Thread nD τ) arg2 fullShare x0
    ∗ owns (c : Thread nD τ) arg3 fullShare x1
    ∗ owns (c : Thread nD τ) arg4 fullShare x2
    ∗ owns (c : Thread nD τ) arg5 fullShare x3
    ∗ owns (c : Thread nD τ) arg6 fullShare x4
    ∗ owns (c : Thread nD τ) arg7 fullShare x5
    ∗ owns (c : Thread nD τ) arg8 fullShare x6
    ∗ owns (c : Thread nD τ) arg9 fullShare y
    ∗ (∃ d, owns (c : Thread nD τ) arg10 fullShare d)
    ∗ owns (c : Thread nD τ) arg11 fullShare ksq ∗ owns (c : Thread nD τ) arg12 fullShare fe
    ∗ owns (c : Thread nD τ) arg13 fullShare mb
    ∗ owns (c : Thread nD τ) arg14 fullShare nb ∗ (∃ d, owns (c : Thread nD τ) arg15 fullShare d)
    ∗ (∃ d, owns (c : Thread nD τ) arg16 fullShare d) ∗ owns (c : Thread nD τ) arg17 fullShare sm
    ∗ owns (c : Thread nD τ) arg18 fullShare sq)

set_option maxHeartbeats 3200000 in
/-- A batch entry's first point: the key norms, the features and the sums start afresh. -/
theorem runA (hc0 : isFirst i) (hc1 : ¬isLast i)
    (x0 : Vec F S1x3x2048 .f32) (x1 : Vec F S1x2048x3 .f32) (x2 : Vec F S8x3 .f32) (x3 : Vec F S8x1 .f32) (x4 : Vec F S32x16 .f32) (x5 : Vec F S32x1 .f32) (x6 : Vec F S32x1 .f32)
    (y : Vec F S1x32x2048 .f32) (ksq : Vec F S2048x1 .f32)
    (fe : Vec F S8x2048 .f32) (mb nb : Vec F S32x2048 .f32) (sm sq : Vec F S32x128 .f32) (E : Set ℕ) (K : PUnit → sProp 𝕄) :
    iprop(Res c arg2 arg3 arg4 arg5 arg6 arg7 arg8 arg9 arg10 arg11 arg12 arg13 arg14 arg15 arg16 arg17 arg18 x0 x1 x2 x3 x4 x5 x6 y ksq fe mb nb sm sq
        ∗ (Res c arg2 arg3 arg4 arg5 arg6 arg7 arg8 arg9 arg10 arg11 arg12 arg13 arg14 arg15 arg16 arg17 arg18 x0 x1 x2 x3 x4 x5 x6 y
          (k0_pay23 x1) (k0_pay26 x0 x2 x3) (put i mb (k0_pay4 (leave i x0 x4 (k0_pay23 x1) (k0_pay26 x0 x2 x3) k0_pay24 k0_pay25).mx)) (put i nb (k0_pay5 (leave i x0 x4 (k0_pay23 x1) (k0_pay26 x0 x2 x3) k0_pay24 k0_pay25).mn))
          (leave i x0 x4 (k0_pay23 x1) (k0_pay26 x0 x2 x3) k0_pay24 k0_pay25).sm (leave i x0 x4 (k0_pay23 x1) (k0_pay26 x0 x2 x3) k0_pay24 k0_pay25).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_body_eq_skeleton]; unfold cc0_body_skel
  simp only [k0_part4_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%ds0, %fs0, -, HS0⟩, ⟨%fs1, %hfs1, HS1⟩, ⟨%fs2, %hfs2, HS2⟩, ⟨%fs3, %hfs3, HS3⟩, ⟨%fs4, %hfs4, HS4⟩,
    ⟨%ds5, %fs5, -, HS5⟩, ⟨%ds6, %fs6, -, HS6⟩, ⟨%fs7, %hfs7, HS7⟩, ⟨%fs8, %hfs8, HS8⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg11.eq_unread hfs1; obtain rfl := harg12.eq_unread hfs2; obtain rfl := harg13.eq_unread hfs3
  obtain rfl := harg14.eq_unread hfs4
  obtain rfl := harg17.eq_unread hfs7; obtain rfl := harg18.eq_unread hfs8
  sl_exec (disch := first | sl_exact hc0 | sl_exact hc1)
  sl_step
  have r13 := read_put i harg13 mb (k0_pay4 (leave i x0 x4 (k0_pay23 x1) (k0_pay26 x0 x2 x3) k0_pay24 k0_pay25).mx)
  have r14 := read_put i harg14 nb (k0_pay5 (leave i x0 x4 (k0_pay23 x1) (k0_pay26 x0 x2 x3) k0_pay24 k0_pay25).mn)
  have r11 := harg11.read_unread (Val := Elt F) (k0_pay23 x1)
  have r12 := harg12.read_unread (Val := Elt F) (k0_pay26 x0 x2 x3)
  have r17 := harg17.read_unread (Val := Elt F) (leave i x0 x4 (k0_pay23 x1) (k0_pay26 x0 x2 x3) k0_pay24 k0_pay25).sm
  have r18 := harg18.read_unread (Val := Elt F) (leave i x0 x4 (k0_pay23 x1) (k0_pay26 x0 x2 x3) k0_pay24 k0_pay25).sq
  unfold leave enter rowIx qCoord qFeat at r13 r14 r17 r18
  unfold runA.sl.v38 runA.sl.v43 runA.sl.v5 runA.sl.v7 runA.sl.v12 runA.sl.HS2_1 runA.sl.HS0_1 runA.sl.v17 runA.sl.HS1_1 runA.sl.HS5_1 runA.sl.HS6_1 runA.sl.HS7_1 runA.sl.HS8_1
  simp only [leave, enter, rowIx, qCoord, qFeat, Knn.lread,
    View.readCov_unit_zero (S := S2048x1) arg11.view off2, View.readCov_unit_zero (S := S8x2048) arg12.view off2, View.readAt_eq_ld,
    View.ld_unit_zero (S := S2048x1) off2, View.ld_unit_zero (S := S32x128) off2, View.ld_unit_zero (S := S2048x128) off2,
    View.ld_unit_zero (S := S32x16) off2, View.ld_unit_zero (S := S32x2048) off2, View.ld_unit_zero (S := S32x1) off2,
    View.ld_unit_zero (S := S8x3) off2, View.ld_unit_zero (S := S8x1) off2, View.ld_unit_zero (S := S8x2048) off2,
    View.ld_unit_zero (S := S1x3x2048) off3, View.ld_unit_zero (S := S1x2048x3) off3,
    writes_full (S := S2048x128) harg10 _ off2, writes_full (S := S2048x1) harg11 _ off2, writes_full (S := S8x2048) harg12 _ off2,
    writes_full (S := S32x128) harg15 _ off2, writes_full (S := S32x128) harg16 _ off2,
    writes_full (S := S32x128) harg17 _ off2, writes_full (S := S32x128) harg18 _ off2,
    read_put i harg13, read_put i harg14, Memref.IsWhole.read_unread]
  iapply Hk
  sl_close

end Cert.StageAIdeal.Hand

end
-- ==== Proof.StageA.RunC.lean ====
module

public import proofs.«01_k».proof.Proof.StageA.RunA
public import proofs.«01_k».proof.Proof.Gen.StageAIdeal.Points
public import Idealize.ShloMosaic.Lib.WritesUnit
public import Idealize.ShloMosaic.Lib.ValueIdxCore

@[expose] public section

set_option maxRecDepth 8192

noncomputable section

namespace Cert.StageAIdeal.Hand

open Cert.StageAIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S8x3 .f32) (harg4 : arg4.IsWhole)
  (arg5 : Memref sig .tc .vmem S8x1 .f32) (harg5 : arg5.IsWhole)
  (arg6 : Memref sig .tc .vmem S32x16 .f32) (harg6 : arg6.IsWhole)
  (arg7 : Memref sig .tc .vmem S32x1 .f32) (harg7 : arg7.IsWhole)
  (arg8 : Memref sig .tc .vmem S32x1 .f32) (harg8 : arg8.IsWhole)
  (arg9 : Memref sig .tc .vmem S1x32x2048 .f32) (harg9 : arg9.IsWhole)
  (arg10 : Memref sig .tc .vmem S2048x128 .f32) (harg10 : arg10.IsWhole)
  (arg11 : Memref sig .tc .vmem S2048x1 .f32) (harg11 : arg11.IsWhole)
  (arg12 : Memref sig .tc .vmem S8x2048 .f32) (harg12 : arg12.IsWhole)
  (arg13 : Memref sig .tc .vmem S32x2048 .f32) (harg13 : arg13.IsWhole)
  (arg14 : Memref sig .tc .vmem S32x2048 .f32) (harg14 : arg14.IsWhole)
  (arg15 : Memref sig .tc .vmem S32x128 .f32) (harg15 : arg15.IsWhole)
  (arg16 : Memref sig .tc .vmem S32x128 .f32) (harg16 : arg16.IsWhole)
  (arg17 : Memref sig .tc .vmem S32x128 .f32) (harg17 : arg17.IsWhole)
  (arg18 : Memref sig .tc .vmem S32x128 .f32) (harg18 : arg18.IsWhole)

local notation "𝕄" => MT nD τ sig Unit (Elt F) ℕ (UR sig nD τ) ℕ

set_option maxHeartbeats 3200000 in
/-- A batch entry's last point: it writes the entry's result. -/
theorem runC (hc0 : ¬isFirst i) (hc1 : isLast i)
    (x0 : Vec F S1x3x2048 .f32) (x1 : Vec F S1x2048x3 .f32) (x2 : Vec F S8x3 .f32) (x3 : Vec F S8x1 .f32) (x4 : Vec F S32x16 .f32) (x5 : Vec F S32x1 .f32) (x6 : Vec F S32x1 .f32)
    (y : Vec F S1x32x2048 .f32) (ksq : Vec F S2048x1 .f32)
    (fe : Vec F S8x2048 .f32) (mb nb : Vec F S32x2048 .f32) (sm sq : Vec F S32x128 .f32) (E : Set ℕ) (K : PUnit → sProp 𝕄) :
    iprop(Res c arg2 arg3 arg4 arg5 arg6 arg7 arg8 arg9 arg10 arg11 arg12 arg13 arg14 arg15 arg16 arg17 arg18 x0 x1 x2 x3 x4 x5 x6 y ksq fe mb nb sm sq
        ∗ (Res c arg2 arg3 arg4 arg5 arg6 arg7 arg8 arg9 arg10 arg11 arg12 arg13 arg14 arg15 arg16 arg17 arg18 x0 x1 x2 x3 x4 x5 x6 (result (leave i x0 x4 ksq fe sm sq).sm (leave i x0 x4 ksq fe sm sq).sq x5 x6 (put i mb (k0_pay4 (leave i x0 x4 ksq fe sm sq).mx)) (put i nb (k0_pay5 (leave i x0 x4 ksq fe sm sq).mn)))
          ksq fe (put i mb (k0_pay4 (leave i x0 x4 ksq fe sm sq).mx)) (put i nb (k0_pay5 (leave i x0 x4 ksq fe sm sq).mn))
          (leave i x0 x4 ksq fe sm sq).sm (leave i x0 x4 ksq fe sm sq).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_body_eq_skeleton]; unfold cc0_body_skel
  simp only [k0_part4_eq_skeleton, k0_part2_eq_skeleton, k0_part3_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%ds0, %fs0, -, HS0⟩, ⟨%fs1, %hfs1, HS1⟩, ⟨%fs2, %hfs2, HS2⟩, ⟨%fs3, %hfs3, HS3⟩, ⟨%fs4, %hfs4, HS4⟩,
    ⟨%ds5, %fs5, -, HS5⟩, ⟨%ds6, %fs6, -, HS6⟩, ⟨%fs7, %hfs7, HS7⟩, ⟨%fs8, %hfs8, HS8⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg11.eq_unread hfs1; obtain rfl := harg12.eq_unread hfs2; obtain rfl := harg13.eq_unread hfs3
  obtain rfl := harg14.eq_unread hfs4
  obtain rfl := harg17.eq_unread hfs7; obtain rfl := harg18.eq_unread hfs8
  sl_exec (disch := first | sl_exact hc0 | sl_exact hc1)
  sl_step
  have r13 := read_put i harg13 mb (k0_pay4 (leave i x0 x4 ksq fe sm sq).mx)
  have r14 := read_put i harg14 nb (k0_pay5 (leave i x0 x4 ksq fe sm sq).mn)
  have r11 := harg11.read_unread (Val := Elt F) ksq
  have r12 := harg12.read_unread (Val := Elt F) fe
  have r17 := harg17.read_unread (Val := Elt F) (leave i x0 x4 ksq fe sm sq).sm
  have r18 := harg18.read_unread (Val := Elt F) (leave i x0 x4 ksq fe sm sq).sq
  have r9 := harg9.read_unread (Val := Elt F) (result (leave i x0 x4 ksq fe sm sq).sm (leave i x0 x4 ksq fe sm sq).sq x5 x6 (put i mb (k0_pay4 (leave i x0 x4 ksq fe sm sq).mx)) (put i nb (k0_pay5 (leave i x0 x4 ksq fe sm sq).mn)))
  unfold leave enter rowIx qCoord qFeat at r13 r14 r17 r18 r9
  unfold runC.sl.r_4 runC.sl.r_5 runC.sl.r_2 runC.sl.r_3 runC.sl.v82 runC.sl.v130 runC.sl.v131 runC.sl.HS3_1 runC.sl.HS4_1 runC.sl.v51 runC.sl.v54 runC.sl.v38 runC.sl.v43 runC.sl.HS0_1 runC.sl.HS5_1 runC.sl.HS6_1 runC.sl.r runC.sl.r_1 runC.sl.v7
  simp only [leave, enter, rowIx, qCoord, qFeat, Knn.lread,
    View.readCov_unit_zero (S := S2048x1) arg11.view off2, View.readCov_unit_zero (S := S8x2048) arg12.view off2, View.readAt_eq_ld,
    View.ld_unit_zero (S := S2048x1) off2, View.ld_unit_zero (S := S32x128) off2, View.ld_unit_zero (S := S2048x128) off2,
    View.ld_unit_zero (S := S32x16) off2, View.ld_unit_zero (S := S32x2048) off2, View.ld_unit_zero (S := S32x1) off2,
    View.ld_unit_zero (S := S8x3) off2, View.ld_unit_zero (S := S8x1) off2, View.ld_unit_zero (S := S8x2048) off2,
    View.ld_unit_zero (S := S1x3x2048) off3, View.ld_unit_zero (S := S1x2048x3) off3,
    writes_full (S := S2048x128) harg10 _ off2, writes_full (S := S2048x1) harg11 _ off2, writes_full (S := S8x2048) harg12 _ off2,
    writes_full (S := S32x128) harg15 _ off2, writes_full (S := S32x128) harg16 _ off2,
    writes_full (S := S32x128) harg17 _ off2, writes_full (S := S32x128) harg18 _ off2,
    read_put i harg13, read_put i harg14, Memref.IsWhole.read_unread, writes_full (S := S1x32x2048) harg9 _ off3, result]
  iapply Hk
  sl_close

end Cert.StageAIdeal.Hand

end
-- ==== Proof.StageA.RunB.lean ====
module

public import proofs.«01_k».proof.Proof.StageA.RunA
public import proofs.«01_k».proof.Proof.Gen.StageAIdeal.Points
public import Idealize.ShloMosaic.Lib.WritesUnit
public import Idealize.ShloMosaic.Lib.ValueIdxCore

@[expose] public section

set_option maxRecDepth 8192

noncomputable section

namespace Cert.StageAIdeal.Hand

open Cert.StageAIdeal.Gen
open Cert.Knn (writes_full off2 off3)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

variable (c : Dev nD) (i : grid0.Coords)
  (arg2 : Memref sig .tc .vmem S1x3x2048 .f32) (harg2 : arg2.IsWhole)
  (arg3 : Memref sig .tc .vmem S1x2048x3 .f32) (harg3 : arg3.IsWhole)
  (arg4 : Memref sig .tc .vmem S8x3 .f32) (harg4 : arg4.IsWhole)
  (arg5 : Memref sig .tc .vmem S8x1 .f32) (harg5 : arg5.IsWhole)
  (arg6 : Memref sig .tc .vmem S32x16 .f32) (harg6 : arg6.IsWhole)
  (arg7 : Memref sig .tc .vmem S32x1 .f32) (harg7 : arg7.IsWhole)
  (arg8 : Memref sig .tc .vmem S32x1 .f32) (harg8 : arg8.IsWhole)
  (arg9 : Memref sig .tc .vmem S1x32x2048 .f32) (harg9 : arg9.IsWhole)
  (arg10 : Memref sig .tc .vmem S2048x128 .f32) (harg10 : arg10.IsWhole)
  (arg11 : Memref sig .tc .vmem S2048x1 .f32) (harg11 : arg11.IsWhole)
  (arg12 : Memref sig .tc .vmem S8x2048 .f32) (harg12 : arg12.IsWhole)
  (arg13 : Memref sig .tc .vmem S32x2048 .f32) (harg13 : arg13.IsWhole)
  (arg14 : Memref sig .tc .vmem S32x2048 .f32) (harg14 : arg14.IsWhole)
  (arg15 : Memref sig .tc .vmem S32x128 .f32) (harg15 : arg15.IsWhole)
  (arg16 : Memref sig .tc .vmem S32x128 .f32) (harg16 : arg16.IsWhole)
  (arg17 : Memref sig .tc .vmem S32x128 .f32) (harg17 : arg17.IsWhole)
  (arg18 : Memref sig .tc .vmem S32x128 .f32) (harg18 : arg18.IsWhole)

local notation "𝕄" => MT nD τ sig Unit (Elt F) ℕ (UR sig nD τ) ℕ

set_option maxHeartbeats 3200000 in
/-- A middle point of a batch entry. -/
theorem runB (hc0 : ¬isFirst i) (hc1 : ¬isLast i)
    (x0 : Vec F S1x3x2048 .f32) (x1 : Vec F S1x2048x3 .f32) (x2 : Vec F S8x3 .f32) (x3 : Vec F S8x1 .f32) (x4 : Vec F S32x16 .f32) (x5 : Vec F S32x1 .f32) (x6 : Vec F S32x1 .f32)
    (y : Vec F S1x32x2048 .f32) (ksq : Vec F S2048x1 .f32)
    (fe : Vec F S8x2048 .f32) (mb nb : Vec F S32x2048 .f32) (sm sq : Vec F S32x128 .f32) (E : Set ℕ) (K : PUnit → sProp 𝕄) :
    iprop(Res c arg2 arg3 arg4 arg5 arg6 arg7 arg8 arg9 arg10 arg11 arg12 arg13 arg14 arg15 arg16 arg17 arg18 x0 x1 x2 x3 x4 x5 x6 y ksq fe mb nb sm sq
        ∗ (Res c arg2 arg3 arg4 arg5 arg6 arg7 arg8 arg9 arg10 arg11 arg12 arg13 arg14 arg15 arg16 arg17 arg18 x0 x1 x2 x3 x4 x5 x6 y
          ksq fe (put i mb (k0_pay4 (leave i x0 x4 ksq fe sm sq).mx)) (put i nb (k0_pay5 (leave i x0 x4 ksq fe sm sq).mn))
          (leave i x0 x4 ksq fe sm sq).sm (leave i x0 x4 ksq fe sm sq).sq -∗ K ⟨⟩))
      ⊢ wp frame (wpE (defs₀ (F := F)) Variants.none c none) E (cc0_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_body_eq_skeleton]; unfold cc0_body_skel
  simp only [k0_part4_eq_skeleton]
  unfold Res owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%ds0, %fs0, -, HS0⟩, ⟨%fs1, %hfs1, HS1⟩, ⟨%fs2, %hfs2, HS2⟩, ⟨%fs3, %hfs3, HS3⟩, ⟨%fs4, %hfs4, HS4⟩,
    ⟨%ds5, %fs5, -, HS5⟩, ⟨%ds6, %fs6, -, HS6⟩, ⟨%fs7, %hfs7, HS7⟩, ⟨%fs8, %hfs8, HS8⟩⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg11.eq_unread hfs1; obtain rfl := harg12.eq_unread hfs2; obtain rfl := harg13.eq_unread hfs3
  obtain rfl := harg14.eq_unread hfs4
  obtain rfl := harg17.eq_unread hfs7; obtain rfl := harg18.eq_unread hfs8
  sl_exec (disch := first | sl_exact hc0 | sl_exact hc1)
  sl_step
  have r13 := read_put i harg13 mb (k0_pay4 (leave i x0 x4 ksq fe sm sq).mx)
  have r14 := read_put i harg14 nb (k0_pay5 (leave i x0 x4 ksq fe sm sq).mn)
  have r11 := harg11.read_unread (Val := Elt F) ksq
  have r12 := harg12.read_unread (Val := Elt F) fe
  have r17 := harg17.read_unread (Val := Elt F) (leave i x0 x4 ksq fe sm sq).sm
  have r18 := harg18.read_unread (Val := Elt F) (leave i x0 x4 ksq fe sm sq).sq
  unfold leave enter rowIx qCoord qFeat at r13 r14 r17 r18
  unfold runB.sl.v38 runB.sl.v43 runB.sl.HS0_1 runB.sl.HS5_1 runB.sl.HS6_1 runB.sl.r runB.sl.r_1 runB.sl.v7
  simp only [leave, enter, rowIx, qCoord, qFeat, Knn.lread,
    View.readCov_unit_zero (S := S2048x1) arg11.view off2, View.readCov_unit_zero (S := S8x2048) arg12.view off2, View.readAt_eq_ld,
    View.ld_unit_zero (S := S2048x1) off2, View.ld_unit_zero (S := S32x128) off2, View.ld_unit_zero (S := S2048x128) off2,
    View.ld_unit_zero (S := S32x16) off2, View.ld_unit_zero (S := S32x2048) off2, View.ld_unit_zero (S := S32x1) off2,
    View.ld_unit_zero (S := S8x3) off2, View.ld_unit_zero (S := S8x1) off2, View.ld_unit_zero (S := S8x2048) off2,
    View.ld_unit_zero (S := S1x3x2048) off3, View.ld_unit_zero (S := S1x2048x3) off3,
    writes_full (S := S2048x128) harg10 _ off2, writes_full (S := S2048x1) harg11 _ off2, writes_full (S := S8x2048) harg12 _ off2,
    writes_full (S := S32x128) harg15 _ off2, writes_full (S := S32x128) harg16 _ off2,
    writes_full (S := S32x128) harg17 _ off2, writes_full (S := S32x128) harg18 _ off2,
    read_put i harg13, read_put i harg14, Memref.IsWhole.read_unread]
  iapply Hk
  sl_close

end Cert.StageAIdeal.Hand

end
-- ==== Proof.StageA.Run.lean ====
module

public import proofs.«01_k».proof.Proof.StageA.RunC
public import proofs.«01_k».proof.Proof.StageA.RunB
public import proofs.«01_k».proof.Proof.Gen.StageAIdeal.Frame
public import Idealize.ShloMosaic.Lib.Pipeline.FrameBody
public import Idealize.ShloMosaic.Lib.WordCmp
public import Idealize.ShloMosaic.Lib.Claim

@[expose] public section

set_option maxRecDepth 16384

noncomputable section

namespace Cert.StageAIdeal.Hand

open Cert.StageAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! # The run over the grid: what every point leaves, and the frame -/

/-- Grid point number `n`. -/
def pt (n : ℕ) : Fin cfg0.N := ⟨n % 256, by rw [show cfg0.N = 256 from N_0]; exact Nat.mod_lt _ (by decide)⟩

theorem pt_val (t : Fin cfg0.N) : pt t.val = t :=
  Fin.ext (Nat.mod_eq_of_lt (lt_of_lt_of_eq t.isLt (show cfg0.N = 256 from N_0)))

/-- The key norms in force at point `n`: those its batch entry's first point stored. -/
def norms (c : Dev nD) (n : ℕ) : Vec F S2048x1 .f32 := k0_pay23 (iblk m c 1 (pt (16 * (n / 16))))

/-- The features in force at point `n`: those its batch entry's first point stored. -/
def feats (c : Dev nD) (n : ℕ) : Vec F S8x2048 .f32 :=
  k0_pay26 (iblk m c 0 (pt (16 * (n / 16)))) (iblk m c 2 (pt (16 * (n / 16)))) (iblk m c 3 (pt (16 * (n / 16))))

/-- The loop state point `n` leaves. -/
def left (c : Dev nD) : ℕ → LState F
  | 0 => leave (grid0.coords (pt 0)) (iblk m c 0 (pt 0)) (iblk m c 4 (pt 0)) (norms m c 0) (feats m c 0) k0_pay24 k0_pay25
  | n + 1 =>
    if (n + 1) % 16 = 0 then
      leave (grid0.coords (pt (n + 1))) (iblk m c 0 (pt (n + 1))) (iblk m c 4 (pt (n + 1)))
        (norms m c (n + 1)) (feats m c (n + 1)) k0_pay24 k0_pay25
    else
      leave (grid0.coords (pt (n + 1))) (iblk m c 0 (pt (n + 1))) (iblk m c 4 (pt (n + 1)))
        (norms m c (n + 1)) (feats m c (n + 1)) (left c n).sm (left c n).sq

/-- A first point starts its sums at zero. -/
theorem left_first (c : Dev nD) (n : ℕ) (h : n % 16 = 0) :
    left m c n = leave (grid0.coords (pt n)) (iblk m c 0 (pt n)) (iblk m c 4 (pt n)) (norms m c n) (feats m c n) k0_pay24 k0_pay25 := by
  cases n with
  | zero => rfl
  | succ n => exact if_pos h

/-- Another point adds to the sums of the point before. -/
theorem left_next (c : Dev nD) (n : ℕ) (h : ¬(n + 1) % 16 = 0) :
    left m c (n + 1) = leave (grid0.coords (pt (n + 1))) (iblk m c 0 (pt (n + 1))) (iblk m c 4 (pt (n + 1)))
      (norms m c (n + 1)) (feats m c (n + 1)) (left m c n).sm (left m c n).sq := if_neg h

/-- The batch entry's table of maxima: at each column, what that column's point leaves. -/
def maxTab (c : Dev nD) (n : ℕ) : Vec F S32x2048 .f32 := fun y =>
  k0_pay4 (left m c (16 * (n / 16) + (y 1).val / 128)).mx (ValueIdx.ix2 (y 0) ⟨(y 1).val % 128, Nat.mod_lt _ (by decide)⟩)

/-- The batch entry's table of minima. -/
def minTab (c : Dev nD) (n : ℕ) : Vec F S32x2048 .f32 := fun y =>
  k0_pay5 (left m c (16 * (n / 16) + (y 1).val / 128)).mn (ValueIdx.ix2 (y 0) ⟨(y 1).val % 128, Nat.mod_lt _ (by decide)⟩)

/-- The table `a` agrees with `b` on the columns written up to point `n`. -/
def Agree (n : ℕ) (a b : Vec F S32x2048 .f32) : Prop := ∀ y : S32x2048.Idx, (y 1).val < 128 * (n % 16 + 1) → a y = b y

theorem coord1 (n : ℕ) : (grid0.coords (pt n) 1).val = n % 16 := by
  have e1 : (grid0.coords (pt n) 1).val = (pt n).val / 1 % 16 := Pipeline.Grid.coords_val (pt n) 1 (by decide) rfl
  rw [e1]; show n % 256 / 1 % 16 = n % 16; omega

/-- The columns point `n` puts agree, when they are the table's, and those before agree already. -/
theorem agree_put (n : ℕ) (a b : Vec F S32x2048 .f32) (v : Vec F S32x128 .f32)
    (hb : ∀ y : S32x2048.Idx, (y 1).val / 128 = n % 16 → b y = v (ValueIdx.ix2 (y 0) ⟨(y 1).val % 128, Nat.mod_lt _ (by decide)⟩))
    (ha : ∀ y : S32x2048.Idx, (y 1).val < 128 * (n % 16) → a y = b y) :
    Agree n (put (grid0.coords (pt n)) a v) b := by
  intro y hy
  have e := coord1 n
  unfold put
  split
  · next h =>
    rw [e] at h
    rw [hb y (by omega)]
    have : (⟨(y 1).val - 128 * (grid0.coords (pt n) 1).val, by omega⟩ : Fin 128) = ⟨(y 1).val % 128, Nat.mod_lt _ (by decide)⟩ := by
      apply Fin.ext; show (y 1).val - 128 * (grid0.coords (pt n) 1).val = (y 1).val % 128; omega
    rw [this]
  · next h => rw [e] at h; exact ha y (by omega)

theorem maxTab_put (c : Dev nD) (n : ℕ) (y : S32x2048.Idx) (hy : (y 1).val / 128 = n % 16) :
    maxTab m c n y = k0_pay4 (left m c n).mx (ValueIdx.ix2 (y 0) ⟨(y 1).val % 128, Nat.mod_lt _ (by decide)⟩) := by
  unfold maxTab; rw [hy, Nat.div_add_mod]

theorem minTab_put (c : Dev nD) (n : ℕ) (y : S32x2048.Idx) (hy : (y 1).val / 128 = n % 16) :
    minTab m c n y = k0_pay5 (left m c n).mn (ValueIdx.ix2 (y 0) ⟨(y 1).val % 128, Nat.mod_lt _ (by decide)⟩) := by
  unfold minTab; rw [hy, Nat.div_add_mod]

theorem maxTab_prev (c : Dev nD) (n : ℕ) (h : ¬(n + 1) % 16 = 0) : maxTab m c (n + 1) = maxTab m c n := by
  unfold maxTab; rw [show (n + 1) / 16 = n / 16 from by omega]

theorem minTab_prev (c : Dev nD) (n : ℕ) (h : ¬(n + 1) % 16 = 0) : minTab m c (n + 1) = minTab m c n := by
  unfold minTab; rw [show (n + 1) / 16 = n / 16 from by omega]

theorem norms_prev (c : Dev nD) (n : ℕ) (h : ¬(n + 1) % 16 = 0) : norms m c (n + 1) = norms m c n := by
  unfold norms; rw [show (n + 1) / 16 = n / 16 from by omega]

theorem feats_prev (c : Dev nD) (n : ℕ) (h : ¬(n + 1) % 16 = 0) : feats m c (n + 1) = feats m c n := by
  unfold feats; rw [show (n + 1) / 16 = n / 16 from by omega]

/-- After a last point the whole table agrees. -/
theorem agree_last (n : ℕ) (h : n % 16 = 15) (a b : Vec F S32x2048 .f32) (hab : Agree n a b) : a = b := by
  funext y
  have : (y 1).val < 2048 := (y 1).isLt
  exact hab y (by omega)

/-- The result block a last point stores. -/
def outBlk (c : Dev nD) (n : ℕ) : Vec F S1x32x2048 .f32 :=
  result (left m c n).sm (left m c n).sq (iblk m c 5 (pt n)) (iblk m c 6 (pt n)) (maxTab m c n) (minTab m c n)

/-! ## The branch conditions at a point, and where the output window is idle -/

theorem hcond0_0 : ∀ t : Fin cfg0.N, isFirst (grid0.coords t) ↔ t.val % 16 = 0 :=
  (fun t => by
    have ht : t.val < 256 := Nat.lt_of_lt_of_eq t.isLt N_0
    have e1 : (grid0.coords t 1).val = t.val / 1 % 16 := Pipeline.Grid.coords_val t 1 (by decide) rfl
    simp only [isFirst, e1]
    word_cmp
   : ∀ t : Fin grid0.N, isFirst (grid0.coords t) ↔ t.val % 16 = 0)

theorem hcond0_1 : ∀ t : Fin cfg0.N, isLast (grid0.coords t) ↔ t.val % 16 = 15 :=
  (fun t => by
    have ht : t.val < 256 := Nat.lt_of_lt_of_eq t.isLt N_0
    have e1 : (grid0.coords t 1).val = t.val / 1 % 16 := Pipeline.Grid.coords_val t 1 (by decide) rfl
    simp only [isLast, k0_cond2, e1]
    word_cmp
   : ∀ t : Fin grid0.N, isLast (grid0.coords t) ↔ t.val % 16 = 15)

theorem idleOff : ∀ t : Fin cfg0.N, ¬isLast (grid0.coords t) → cfg0.idle 7 (grid0.coords t) = true := by decide +kernel
theorem noFlushOff : ∀ t : Fin cfg0.N, ¬isLast (grid0.coords t) → (cfg0.win 7).flush t = false := by decide +kernel
theorem liveLast : ∀ t : Fin cfg0.N, isLast (grid0.coords t) → cfg0.idle 7 (grid0.coords t) = false := by decide +kernel

abbrev ms0_0 (t : Fin cfg0.N) : Memref sig .tc .vmem S1x3x2048 .f32 := win0_0.stage (cfg0.slots t 0)
abbrev ms0_1 (t : Fin cfg0.N) : Memref sig .tc .vmem S1x2048x3 .f32 := win0_1.stage (cfg0.slots t 1)
abbrev ms0_2 (t : Fin cfg0.N) : Memref sig .tc .vmem S8x3 .f32 := win0_2.stage (cfg0.slots t 2)
abbrev ms0_3 (t : Fin cfg0.N) : Memref sig .tc .vmem S8x1 .f32 := win0_3.stage (cfg0.slots t 3)
abbrev ms0_4 (t : Fin cfg0.N) : Memref sig .tc .vmem S32x16 .f32 := win0_4.stage (cfg0.slots t 4)
abbrev ms0_5 (t : Fin cfg0.N) : Memref sig .tc .vmem S32x1 .f32 := win0_5.stage (cfg0.slots t 5)
abbrev ms0_6 (t : Fin cfg0.N) : Memref sig .tc .vmem S32x1 .f32 := win0_6.stage (cfg0.slots t 6)
abbrev ms0_7 (t : Fin cfg0.N) : Memref sig .tc .vmem S1x32x2048 .f32 := win0_7.stage (cfg0.slots t 7)
abbrev scM0_0 : Memref sig .tc .vmem S2048x128 .f32 := Memref.whole cc0_scratch0
abbrev scM0_1 : Memref sig .tc .vmem S2048x1 .f32 := Memref.whole cc0_scratch1
abbrev scM0_2 : Memref sig .tc .vmem S8x2048 .f32 := Memref.whole cc0_scratch2
abbrev scM0_3 : Memref sig .tc .vmem S32x2048 .f32 := Memref.whole cc0_scratch3
abbrev scM0_4 : Memref sig .tc .vmem S32x2048 .f32 := Memref.whole cc0_scratch4
abbrev scM0_5 : Memref sig .tc .vmem S32x128 .f32 := Memref.whole cc0_scratch5
abbrev scM0_6 : Memref sig .tc .vmem S32x128 .f32 := Memref.whole cc0_scratch6
abbrev scM0_7 : Memref sig .tc .vmem S32x128 .f32 := Memref.whole cc0_scratch7
abbrev scM0_8 : Memref sig .tc .vmem S32x128 .f32 := Memref.whole cc0_scratch8

/-! ## The invariant -/

/-- The scratch at given key norms, features, tables and sums, the rest at anything. -/
def Scr (c : Dev nD) (ksq : Vec F S2048x1 .f32) (fe : Vec F S8x2048 .f32) (mb nb : Vec F S32x2048 .f32) (sm sq : Vec F S32x128 .f32) : sProp 𝕄 :=
  iprop((∃ d, owns (c : Thread nD τ) scM0_0 fullShare d) ∗ owns (c : Thread nD τ) scM0_1 fullShare ksq ∗ owns (c : Thread nD τ) scM0_2 fullShare fe
    ∗ owns (c : Thread nD τ) scM0_3 fullShare mb ∗ owns (c : Thread nD τ) scM0_4 fullShare nb
    ∗ (∃ d, owns (c : Thread nD τ) scM0_5 fullShare d) ∗ (∃ d, owns (c : Thread nD τ) scM0_6 fullShare d)
    ∗ owns (c : Thread nD τ) scM0_7 fullShare sm ∗ owns (c : Thread nD τ) scM0_8 fullShare sq
    ∗ (∃ r, prngReg c r))

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

/-- The launch's scratch is the scratch at something, -/
theorem scr_of_PhiA (c : Dev nD) :
    (Pipeline.ΦA spec0 c : sProp 𝕄) ⊢ iprop(∃ ksq fe mb nb sm sq, Scr (F := F) c ksq fe mb nb sm sq) := by
  rw [PhiA0_eq]; unfold Scr
  iintro ⟨⟨⟨%z0, HS0⟩, ⟨%a, HS1⟩, ⟨%x, HS2⟩, ⟨%b, HS3⟩, ⟨%e, HS4⟩, ⟨%z5, HS5⟩, ⟨%z6, HS6⟩, ⟨%f, HS7⟩, ⟨%g, HS8⟩⟩, ⟨%r, Hg⟩⟩
  iexists a; iexists x; iexists b; iexists e; iexists f; iexists g
  sl_close

/-- and the scratch at anything is the launch's. -/
theorem PhiA_of_scr (c : Dev nD) (ksq : Vec F S2048x1 .f32) (fe : Vec F S8x2048 .f32) (mb nb : Vec F S32x2048 .f32) (sm sq : Vec F S32x128 .f32) :
    Scr c ksq fe mb nb sm sq ⊢ (Pipeline.ΦA spec0 c : sProp 𝕄) := by
  rw [PhiA0_eq]; unfold Scr
  iintro ⟨HS0, HS1, HS2, HS3, HS4, HS5, HS6, HS7, HS8, Hg⟩
  isplitr [Hg]
  · isplitl [HS0]; · iexact HS0
    isplitl [HS1]; · iexists _; iexact HS1
    isplitl [HS2]; · iexists _; iexact HS2
    isplitl [HS3]; · iexists _; iexact HS3
    isplitl [HS4]; · iexists _; iexact HS4
    isplitl [HS5]; · iexact HS5
    isplitl [HS6]; · iexact HS6
    isplitl [HS7]; · iexists _; iexact HS7
    iexists _; iexact HS8
  iexact Hg

/-- The region invariant: before the first point the launch's scratch; after point `n` the key norms, features and sums at
    what the point left, the tables agreeing with the batch entry's on the columns written so far. -/
def PhiS (c : Dev nD) : ℕ → sProp 𝕄
  | 0 => Pipeline.ΦA spec0 c
  | n + 1 => iprop(∃ mb nb, ⌜Agree n mb (maxTab m c n) ∧ Agree n nb (minTab m c n)⌝
      ∗ Scr c (norms m c n) (feats m c n) mb nb (left m c n).sm (left m c n).sq)

theorem PhiS_succ (c : Dev nD) (n : ℕ) :
    PhiS m c (n + 1) = iprop(∃ mb nb, ⌜Agree n mb (maxTab m c n) ∧ Agree n nb (minTab m c n)⌝
      ∗ Scr c (norms m c n) (feats m c n) mb nb (left m c n).sm (left m c n).sq) := rfl

/-- At any point the invariant holds the scratch at something. -/
theorem PhiS_any (c : Dev nD) (n : ℕ) : PhiS m c n ⊢ iprop(∃ ksq fe mb nb sm sq, Scr (F := F) c ksq fe mb nb sm sq) := by
  cases n with
  | zero => exact scr_of_PhiA c
  | succ n =>
    rw [PhiS_succ]
    iintro ⟨%mb, %nb, -, H⟩
    iexists _; iexists _; iexists mb; iexists nb; iexists _; iexists _
    iexact H

/-- The proof data of the pipeline on core `c`: each input's buffer at its block, the output's at the result block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t.val
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- A point's seven input windows at their blocks. -/
def Ins (c : Dev nD) (t : Fin cfg0.N) : sProp 𝕄 :=
  iprop(owns (c : Thread nD τ) (ms0_0 t) fullShare (iblk m c 0 t) ∗ owns (c : Thread nD τ) (ms0_1 t) fullShare (iblk m c 1 t)
    ∗ owns (c : Thread nD τ) (ms0_2 t) fullShare (iblk m c 2 t) ∗ owns (c : Thread nD τ) (ms0_3 t) fullShare (iblk m c 3 t)
    ∗ owns (c : Thread nD τ) (ms0_4 t) fullShare (iblk m c 4 t) ∗ owns (c : Thread nD τ) (ms0_5 t) fullShare (iblk m c 5 t)
    ∗ owns (c : Thread nD τ) (ms0_6 t) fullShare (iblk m c 6 t))

set_option maxHeartbeats 1600000 in
/-- A first point's triple: the scratch at anything before, at the point's own contents after. -/
theorem soundA (c : Dev nD) (t : Fin cfg0.N) (h0 : t.val % 16 = 0) (x7 : Vec F S1x32x2048 .f32)
    (ksq : Vec F S2048x1 .f32) (fe : Vec F S8x2048 .f32) (mb nb : Vec F S32x2048 .f32) (sm sq : Vec F S32x128 .f32) :
    iprop(Ins m c t ∗ owns (c : Thread nD τ) (ms0_7 t) fullShare x7 ∗ Scr c ksq fe mb nb sm sq)
      ⊢ wp frame (wpE (defs₀ (F := F)) Variants.none c none) Set.univ (bodyAt0 t)
        (fun _ => iprop(Ins m c t ∗ owns (c : Thread nD τ) (ms0_7 t) fullShare x7 ∗ PhiS m c (t.val + 1))) := by
  have hc0 := (hcond0_0 t).mpr h0
  have hc1 : ¬isLast (grid0.coords t) := fun h => by have := (hcond0_1 t).mp h; omega
  have hl := left_first m c t.val h0
  have hn : norms m c t.val = k0_pay23 (iblk m c 1 t) := by
    unfold norms; rw [show 16 * (t.val / 16) = t.val from by omega, pt_val]
  have hf : feats m c t.val = k0_pay26 (iblk m c 0 t) (iblk m c 2 t) (iblk m c 3 t) := by
    unfold feats; rw [show 16 * (t.val / 16) = t.val from by omega, pt_val]
  have g1 := agree_put t.val mb (maxTab m c t.val) (k0_pay4 (left m c t.val).mx) (maxTab_put m c t.val) (fun y hy => by omega)
  have g2 := agree_put t.val nb (minTab m c t.val) (k0_pay5 (left m c t.val).mn) (minTab_put m c t.val) (fun y hy => by omega)
  rw [pt_val] at hl g1 g2
  rw [PhiS_succ]
  unfold Ins bodyAt0 Scr
  iintro ⟨⟨H0, H1, H2, H3, H4, H5, H6⟩, H7, ⟨%z0, HS0⟩, HS1, HS2, HS3, HS4, ⟨%z5, HS5⟩, ⟨%z6, HS6⟩, HS7, HS8, ⟨%r, Hg⟩⟩
  iapply (runA c (grid0.coords t) _ _ _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) x7 ksq fe mb nb sm sq Set.univ _)
  isplitr [Hg]
  · unfold Res
    sl_close
  unfold Res
  rw [← hn, ← hf, ← hl]
  iintro ⟨H0, H1, H2, H3, H4, H5, H6, H7, ⟨%y0, HS0⟩, HS1, HS2, HS3, HS4, ⟨%y5, HS5⟩, ⟨%y6, HS6⟩, HS7, HS8⟩
  isplitl [H0 H1 H2 H3 H4 H5 H6]; · sl_close
  isplitl [H7]; · iexact H7
  iexists _; iexists _
  isplitr; · ipureintro; exact ⟨g1, g2⟩
  sl_close

set_option maxHeartbeats 1600000 in
/-- A middle point's triple: the sums and tables extended. -/
theorem soundB (c : Dev nD) (t : Fin cfg0.N) (n : ℕ) (hn : t.val = n + 1) (h0 : ¬(n + 1) % 16 = 0) (h3 : ¬(n + 1) % 16 = 15) (x7 : Vec F S1x32x2048 .f32) :
    iprop(Ins m c t ∗ owns (c : Thread nD τ) (ms0_7 t) fullShare x7 ∗ PhiS m c (n + 1))
      ⊢ wp frame (wpE (defs₀ (F := F)) Variants.none c none) Set.univ (bodyAt0 t)
        (fun _ => iprop(Ins m c t ∗ owns (c : Thread nD τ) (ms0_7 t) fullShare x7 ∗ PhiS m c (n + 2))) := by
  have hc0 : ¬isFirst (grid0.coords t) := fun h => by have := (hcond0_0 t).mp h; omega
  have hc1 : ¬isLast (grid0.coords t) := fun h => by have := (hcond0_1 t).mp h; omega
  have hpt : pt (n + 1) = t := by rw [← hn]; exact pt_val t
  have hl := left_next m c n h0
  have hk := norms_prev m c n h0
  have hf := feats_prev m c n h0
  rw [PhiS_succ, PhiS_succ]
  iintro ⟨HI, H7, ⟨%mb, %nb, %hab, HS⟩⟩
  have g1 := agree_put (n + 1) mb (maxTab m c (n + 1)) (k0_pay4 (left m c (n + 1)).mx) (maxTab_put m c (n + 1))
    (fun y hy => by rw [maxTab_prev m c n h0]; exact hab.1 y (by omega))
  have g2 := agree_put (n + 1) nb (minTab m c (n + 1)) (k0_pay5 (left m c (n + 1)).mn) (minTab_put m c (n + 1))
    (fun y hy => by rw [minTab_prev m c n h0]; exact hab.2 y (by omega))
  rw [hpt, hk, hf] at hl
  rw [hpt] at g1 g2
  unfold Ins bodyAt0 Scr
  icases HI with ⟨H0, H1, H2, H3, H4, H5, H6⟩
  icases HS with ⟨⟨%z0, HS0⟩, HS1, HS2, HS3, HS4, ⟨%z5, HS5⟩, ⟨%z6, HS6⟩, HS7, HS8, ⟨%r, Hg⟩⟩
  iapply (runB c (grid0.coords t) _ _ _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) x7 (norms m c n) (feats m c n) mb nb (left m c n).sm (left m c n).sq Set.univ _)
  isplitr [Hg]
  · unfold Res
    sl_close
  unfold Res
  rw [← hl, ← hk, ← hf]
  iintro ⟨H0, H1, H2, H3, H4, H5, H6, H7, ⟨%y0, HS0⟩, HS1, HS2, HS3, HS4, ⟨%y5, HS5⟩, ⟨%y6, HS6⟩, HS7, HS8⟩
  isplitl [H0 H1 H2 H3 H4 H5 H6]; · sl_close
  isplitl [H7]; · iexact H7
  iexists _; iexists _
  isplitr; · ipureintro; exact ⟨g1, g2⟩
  sl_close

set_option maxHeartbeats 1600000 in
/-- A last point's triple: the sums and tables extended, and the result block stored. -/
theorem soundC (c : Dev nD) (t : Fin cfg0.N) (n : ℕ) (hn : t.val = n + 1) (h0 : ¬(n + 1) % 16 = 0) (h3 : (n + 1) % 16 = 15) (x7 : Vec F S1x32x2048 .f32) :
    iprop(Ins m c t ∗ owns (c : Thread nD τ) (ms0_7 t) fullShare x7 ∗ PhiS m c (n + 1))
      ⊢ wp frame (wpE (defs₀ (F := F)) Variants.none c none) Set.univ (bodyAt0 t)
        (fun _ => iprop(Ins m c t ∗ owns (c : Thread nD τ) (ms0_7 t) fullShare (outBlk m c (n + 1)) ∗ PhiS m c (n + 2))) := by
  have hc0 : ¬isFirst (grid0.coords t) := fun h => by have := (hcond0_0 t).mp h; omega
  have hc1 : isLast (grid0.coords t) := (hcond0_1 t).mpr (by omega)
  have hpt : pt (n + 1) = t := by rw [← hn]; exact pt_val t
  have hl := left_next m c n h0
  have hk := norms_prev m c n h0
  have hf := feats_prev m c n h0
  rw [PhiS_succ, PhiS_succ]
  iintro ⟨HI, H7, ⟨%mb, %nb, %hab, HS⟩⟩
  have g1 := agree_put (n + 1) mb (maxTab m c (n + 1)) (k0_pay4 (left m c (n + 1)).mx) (maxTab_put m c (n + 1))
    (fun y hy => by rw [maxTab_prev m c n h0]; exact hab.1 y (by omega))
  have g2 := agree_put (n + 1) nb (minTab m c (n + 1)) (k0_pay5 (left m c (n + 1)).mn) (minTab_put m c (n + 1))
    (fun y hy => by rw [minTab_prev m c n h0]; exact hab.2 y (by omega))
  have ho : result (left m c (n + 1)).sm (left m c (n + 1)).sq (iblk m c 5 t) (iblk m c 6 t)
      (put (grid0.coords t) mb (k0_pay4 (left m c (n + 1)).mx)) (put (grid0.coords t) nb (k0_pay5 (left m c (n + 1)).mn)) = outBlk m c (n + 1) := by
    unfold outBlk
    rw [hpt, ← agree_last (n + 1) h3 _ _ g1, ← agree_last (n + 1) h3 _ _ g2, hpt]
  rw [hpt, hk, hf] at hl
  rw [hpt] at g1 g2
  unfold Ins bodyAt0 Scr
  icases HI with ⟨H0, H1, H2, H3, H4, H5, H6⟩
  icases HS with ⟨⟨%z0, HS0⟩, HS1, HS2, HS3, HS4, ⟨%z5, HS5⟩, ⟨%z6, HS6⟩, HS7, HS8, ⟨%r, Hg⟩⟩
  iapply (runC c (grid0.coords t) _ _ _ _ _ _ _ _ _ _ _ _ _ _ _ _ _ _ _ _ _ _ _ _ _ _ _ _ _ _ _ _ _ _ hc0 hc1 (iblk m c 0 t) (iblk m c 1 t) (iblk m c 2 t) (iblk m c 3 t) (iblk m c 4 t) (iblk m c 5 t) (iblk m c 6 t) x7 (norms m c n) (feats m c n) mb nb (left m c n).sm (left m c n).sq Set.univ _)
  isplitr [Hg]
  · unfold Res
    sl_close
  unfold Res
  rw [← hl, ho, ← hk, ← hf]
  iintro ⟨H0, H1, H2, H3, H4, H5, H6, H7, ⟨%y0, HS0⟩, HS1, HS2, HS3, HS4, ⟨%y5, HS5⟩, ⟨%y6, HS6⟩, HS7, HS8⟩
  isplitl [H0 H1 H2 H3 H4 H5 H6]; · sl_close
  isplitl [H7]; · iexact H7
  iexists _; iexists _
  isplitr; · ipureintro; exact ⟨g1, g2⟩
  sl_close

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- What the body returns, from the input windows, the output window and the invariant. -/
theorem post_of (c : Dev nD) (t : Fin cfg0.N) :
    iprop(PhiS m c (t.val + 1) ∗ (dats m 0 c).owesAt () t.castSucc ∗ Ins m c t ∗ (dats m 0 c).leavesExact 7 t) ⊢ bodyPost m c t := by
  unfold bodyPost Ins
  rw [show (dats m 0 c).Φ t.succ = PhiS m c (t.val + 1) from rfl, show (dats m 0 c).owesAt () t.succ = (dats m 0 c).owesAt () t.castSucc from rfl]
  rw [show (dats m 0 c).leavesExact 0 t = owns (c : Thread nD τ) (ms0_0 t) fullShare (iblk m c 0 t) from rfl,
    show (dats m 0 c).leavesExact 1 t = owns (c : Thread nD τ) (ms0_1 t) fullShare (iblk m c 1 t) from rfl,
    show (dats m 0 c).leavesExact 2 t = owns (c : Thread nD τ) (ms0_2 t) fullShare (iblk m c 2 t) from rfl,
    show (dats m 0 c).leavesExact 3 t = owns (c : Thread nD τ) (ms0_3 t) fullShare (iblk m c 3 t) from rfl,
    show (dats m 0 c).leavesExact 4 t = owns (c : Thread nD τ) (ms0_4 t) fullShare (iblk m c 4 t) from rfl,
    show (dats m 0 c).leavesExact 5 t = owns (c : Thread nD τ) (ms0_5 t) fullShare (iblk m c 5 t) from rfl,
    show (dats m 0 c).leavesExact 6 t = owns (c : Thread nD τ) (ms0_6 t) fullShare (iblk m c 6 t) from rfl]
  iintro ⟨HP, Ho, ⟨H0, H1, H2, H3, H4, H5, H6⟩, H7⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- A point's triple over its windows and scratch gives the body's. -/
theorem body_of (c : Dev nD) (t : Fin cfg0.N) (x7 y7 : Vec F S1x32x2048 .f32) (P : sProp 𝕄)
    (hk : iprop(Ins m c t ∗ owns (c : Thread nD τ) (ms0_7 t) fullShare x7 ∗ P)
      ⊢ wp frame (wpE (defs₀ (F := F)) Variants.none c none) Set.univ (bodyAt0 t)
        (fun _ => iprop(Ins m c t ∗ owns (c : Thread nD τ) (ms0_7 t) fullShare y7 ∗ PhiS m c (t.val + 1))))
    (hq : owns (c : Thread nD τ) (ms0_7 t) fullShare y7 ⊢ (dats m 0 c).leavesExact 7 t) :
    iprop((dats m 0 c).owesAt () t.castSucc ∗ (Ins m c t ∗ owns (c : Thread nD τ) (ms0_7 t) fullShare x7 ∗ P))
      ⊢ wp frame (wpE (defs₀ (F := F)) Variants.none c none) Set.univ (bodyAt0 t) (fun _ => bodyPost m c t) := by
  refine ((sep_mono_right hk).trans (wp_frame_l _ _ _)).trans (wp_mono _ _ _ fun _ => ?_)
  refine .trans ?_ (post_of m c t)
  iintro ⟨Ho, HI, H7, HP⟩
  isplitl [HP]; · iexact HP
  isplitl [Ho]; · iexact Ho
  isplitl [HI]; · iexact HI
  iapply hq
  iexact H7

/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  have hb := body_of m c t
  unfold bodyPre
  simp only [before0_0, before0_1, before0_2, before0_3, before0_4, before0_5, before0_6]
  rw [show (dats m 0 c).Φ t.castSucc = PhiS m c t.val from rfl]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  by_cases h3 : t.val % 16 = 15
  · obtain ⟨n, hn⟩ : ∃ n, t.val = n + 1 := ⟨t.val - 1, by omega⟩
    have hlive := liveLast t ((hcond0_1 t).mpr h3)
    have hq : owns (c : Thread nD τ) (ms0_7 t) fullShare (outBlk m c (n + 1)) ⊢ (dats m 0 c).leavesExact 7 t := by
      unfold Dat.leavesExact; rw [hlive, after0_7, hn]; try exact .rfl
    iapply (hb ((dats m 0 c).before 7 t d7) _ _ (by rw [hn]; exact soundC m c t n hn (by omega) (by omega) _) hq)
    rw [hn]; unfold Ins
    isplitl [Ho]; · iexact Ho
    isplitr [H7 HP]
    · isplitl [H0]; · iexact H0
      isplitl [H1]; · iexact H1
      isplitl [H2]; · iexact H2
      isplitl [H3]; · iexact H3
      isplitl [H4]; · iexact H4
      isplitl [H5]; · iexact H5
      iexact H6
    isplitl [H7]; · iexact H7
    iexact HP
  · have hc1 : ¬isLast (grid0.coords t) := fun h => h3 ((hcond0_1 t).mp h)
    have hq : owns (c : Thread nD τ) (ms0_7 t) fullShare ((dats m 0 c).before 7 t d7) ⊢ (dats m 0 c).leavesExact 7 t := by
      rw [Dat.leavesExact_idle (dats m 0 c) 7 t (idleOff t hc1) (noFlushOff t hc1)]
      iintro H; iexists _; iexact H
    by_cases h0 : t.val % 16 = 0
    · ihave HP := (PhiS_any m c t.val) $$ HP
      icases HP with ⟨%ksq, %fe, %mb, %nb, %sm, %sq, HP⟩
      iapply (hb ((dats m 0 c).before 7 t d7) _ _ (soundA m c t h0 _ ksq fe mb nb sm sq) hq)
      unfold Ins
      isplitl [Ho]; · iexact Ho
      isplitr [H7 HP]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      iexact HP
    · obtain ⟨n, hn⟩ : ∃ n, t.val = n + 1 := ⟨t.val - 1, by omega⟩
      iapply (hb ((dats m 0 c).before 7 t d7) _ _ (by rw [hn]; exact soundB m c t n hn (by omega) (by omega) _) hq)
      rw [hn]; unfold Ins
      isplitl [Ho]; · iexact Ho
      isplitr [H7 HP]
      · isplitl [H0]; · iexact H0
        isplitl [H1]; · iexact H1
        isplitl [H2]; · iexact H2
        isplitl [H3]; · iexact H3
        isplitl [H4]; · iexact H4
        isplitl [H5]; · iexact H5
        iexact H6
      isplitl [H7]; · iexact H7
      iexact HP

/-- The body table's row at point `t`'s slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N from rfl]
  refine (PhiS_any m c _).trans ?_
  iintro ⟨%ksq, %fe, %mb, %nb, %sm, %sq, H⟩
  iapply (PhiA_of_scr c ksq fe mb nb sm sq)
  iexact H

/-! ## The run and the frame -/

set_option backward.isDefEq.respectTransparency.types false in
/-- The launch: every final state has the arrays the proof data names, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: termination, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.StageAIdeal.Hand

end
-- ==== Proof.StageA.Plain.lean ====
module

public import proofs.«01_k».proof.StageA
public import proofs.«01_k».proof.Proof.Gen.StageA
public import proofs.«01_k».proof.Proof.StageA.Run

@[expose] public section

set_option maxRecDepth 8192

noncomputable section

/-! # The frame of the printed kernel, from the frame of the idealized one -/

namespace Cert.StageA.Hand

open Idealize.ShloMosaic Idealize.ShloMosaic.TcCoe Idealize.SL Idealize.SL.Sem

variable {F : FTy → Type} [FloatOps F]

/-- A named constant read as the word it is printed from. -/
abbrev plainly : Named F where
  named _ _ {_} w := Scalar.ofBits _ w

/-- The two kernel bodies are one, a named constant being read as its word. -/
theorem body_eq : @Cert.StageA.cc0_body F _ _ = @Cert.StageAIdeal.cc0_body F _ plainly _ := by
  funext i a1 h1 a2 h2 a3 h3 a4 h4 a5 h5 a6 h6 a7 h7 a8 h8 a9 h9 a10 h10 a11 h11 a12 h12 a13 h13 a14 h14 a15 h15 a16 h16 a17 h17
  rfl

/-- So are the two body tables. -/
theorem table_eq : (Cert.StageA.defs₀ (F := F)) = @Cert.StageAIdeal.defs₀ F _ plainly _ := by
  unfold Cert.StageA.defs₀ Cert.StageAIdeal.defs₀
  congr 1
  funext l x
  match l, x with
  | 0, (t, s) => rfl

/-- And the two programs' definitions. -/
theorem defs_eq : (Cert.StageA.defs (F := F)) = @Cert.StageAIdeal.defs F _ plainly _ := by
  unfold Cert.StageA.defs Cert.StageAIdeal.defs
  rw [table_eq]
  rfl

variable (m : (ℓ : Loc Cert.StageA.nD Cert.StageA.τ Cert.StageA.sig) → Buf (Elt F) ℓ) (ρ : Dev Cert.StageA.nD → PrngReg)

/-- The frame of the printed kernel: termination, the arguments unchanged, every counter at zero. -/
theorem frame : θ_run Cert.StageA.defs (onTc (τ := Cert.StageA.τ) (Cert.StageA.main (F := F))) ⟨m, fun _ => 0, ρ⟩ (fun r => (∀ c : Dev Cert.StageA.nD,
      r.2.mem ((c.tc : Thread Cert.StageA.nD Cert.StageA.τ).loc Cert.StageA.main_arg0) = m ((c.tc : Thread Cert.StageA.nD Cert.StageA.τ).loc Cert.StageA.main_arg0)
      ∧ r.2.mem ((c.tc : Thread Cert.StageA.nD Cert.StageA.τ).loc Cert.StageA.main_arg1) = m ((c.tc : Thread Cert.StageA.nD Cert.StageA.τ).loc Cert.StageA.main_arg1)
      ∧ r.2.mem ((c.tc : Thread Cert.StageA.nD Cert.StageA.τ).loc Cert.StageA.main_arg2) = m ((c.tc : Thread Cert.StageA.nD Cert.StageA.τ).loc Cert.StageA.main_arg2)
      ∧ r.2.mem ((c.tc : Thread Cert.StageA.nD Cert.StageA.τ).loc Cert.StageA.main_arg3) = m ((c.tc : Thread Cert.StageA.nD Cert.StageA.τ).loc Cert.StageA.main_arg3)
      ∧ r.2.mem ((c.tc : Thread Cert.StageA.nD Cert.StageA.τ).loc Cert.StageA.main_arg4) = m ((c.tc : Thread Cert.StageA.nD Cert.StageA.τ).loc Cert.StageA.main_arg4)
      ∧ r.2.mem ((c.tc : Thread Cert.StageA.nD Cert.StageA.τ).loc Cert.StageA.main_arg5) = m ((c.tc : Thread Cert.StageA.nD Cert.StageA.τ).loc Cert.StageA.main_arg5))
      ∧ r.2.sem = fun _ => 0) := by
  rw [defs_eq]
  exact @Cert.StageAIdeal.Hand.frame F _ plainly m ρ

end Cert.StageA.Hand
end
-- ==== Proof.StageA.Vals.lean ====
module

public import proofs.«01_k».proof.Proof.StageA.Run
public import proofs.«01_k».proof.Proof.Knn.Trace
public import proofs.«01_k».proof.Proof.Knn.Words
public import Idealize.ShloMosaic.Lib.Pointwise
public import Idealize.ShloMosaic.Lib.Pipeline.ValueKit

@[expose] public section

set_option maxRecDepth 16384

noncomputable section

namespace Cert.StageAIdeal.Hand
open Idealize.ShloMosaic.TcCoe

open Cert.StageAIdeal.Gen
open Idealize.ShloMosaic

theorem rowIx_at (i : Fin 2048) (j : Fin 128) : rowIx (ix2 i j) = BitVec.ofNat 32 i.val := by
  unfold rowIx
  pointwise

theorem mask_named : (Named.named (F := Ideal) κ "mask" (φ := .f32) 1900671690#32) = ⊤ := rfl
theorem floor_named : (Named.named (F := Ideal) κ "floor" (φ := .f32) 4048155338#32) = ⊥ := rfl

/-- The mask of a round is set at the first place of the least entry of each column. -/
theorem hit (d : Vec Ideal S2048x128 .f32) (i : Fin 2048) (j : Fin 128) :
    k0_pay7 (F := Ideal) rowIx d (ix2 i j) = if i = Knn.least (fun k : Fin 2048 => d (ix2 k j)) then 1#1 else 0#1 := by
  pointwise [k0_pay7]
  simp only [Knn.inf_word, rowIx_at, Knn.fold_min]
  rw [Knn.fold_least (by norm_num) (fun k => d (ix2 k j))]
  exact Knn.same_word (by norm_num) _ _

/-- Marking puts the least entry of each column at `⊤` and leaves the others. -/
theorem open_at (d : Vec Ideal S2048x128 .f32) (i : Fin 2048) (j : Fin 128) :
    k0_pay8 (F := Ideal) rowIx d (ix2 i j) = if i = Knn.least (fun k : Fin 2048 => d (ix2 k j)) then ⊤ else d (ix2 i j) := by
  pointwise [k0_pay8]
  rw [hit, mask_named]
  split <;> rfl

/-- The round's product is taken at the marked neighbour. -/
theorem prod_at (v5 : Vec Ideal S8x2048 .f32) (v12 : Vec Ideal S8x128 .f32) (d : Vec Ideal S2048x128 .f32) (w : Vec Ideal S32x16 .f32) (i : Fin 32) (j : Fin 128) :
    k0_pay9 v5 rowIx v12 d w (ix2 i j) =
      Knn.edge (fun c : Fin 8 => w (ix2 i ⟨c.val, by omega⟩)) (fun c => w (ix2 i ⟨8 + c.val, by omega⟩)) (fun c k => v5 (ix2 c k))
        (fun c => v12 (ix2 c j)) (Knn.least (fun k : Fin 2048 => d (ix2 k j))) := by
  pointwise [k0_pay9]
  simp only [hit, Knn.truth_word, Knn.sum_indicator]
  rfl

/-- The product of the `r`-th neighbour of query `j` at output channel `i`, from the loop's inputs. -/
def prodOf (v5 : Vec Ideal S8x2048 .f32) (v12 : Vec Ideal S8x128 .f32) (w : Vec Ideal S32x16 .f32) (d : Vec Ideal S2048x128 .f32)
    (i : Fin 32) (j : Fin 128) (r : ℕ) : EReal :=
  Knn.edge (fun c : Fin 8 => w (ix2 i ⟨c.val, by omega⟩)) (fun c => w (ix2 i ⟨8 + c.val, by omega⟩)) (fun c k => v5 (ix2 c k))
    (fun c => v12 (ix2 c j)) (Knn.sel (fun k : Fin 2048 => d (ix2 k j)) r)

section
variable (v5 : Vec Ideal S8x2048 .f32) (v12 : Vec Ideal S8x128 .f32) (w : Vec Ideal S32x16 .f32) (s : LState Ideal)

/-- The distances still open after `k` neighbours. -/
theorem lstate_d (k : ℕ) (i : Fin 2048) (j : Fin 128) :
    (lstate v5 rowIx v12 w s k).d (ix2 i j) = Knn.rest (fun k' : Fin 2048 => s.d (ix2 k' j)) k i := by
  refine congrFun (Knn.rest_of_step (fun k i => (lstate v5 rowIx v12 w s k).d (ix2 i j)) (fun k i => ?_) k) i
  show (lstate v5 rowIx v12 w s (k + 1)).d (ix2 i j) = _
  rw [show lstate v5 rowIx v12 w s (k + 1) = lstep v5 rowIx v12 w (lstate v5 rowIx v12 w s k) from rfl]
  unfold lstep
  dsimp only
  rw [open_at]

/-- The product of a round. -/
theorem lstate_prod (k : ℕ) (i : Fin 32) (j : Fin 128) :
    k0_pay9 v5 rowIx v12 (lstate v5 rowIx v12 w s k).d w (ix2 i j) = prodOf v5 v12 w s.d i j k := by
  rw [prod_at]
  simp only [lstate_d]
  rfl

/-- The largest product so far. -/
theorem lstate_mx (k : ℕ) (i : Fin 32) (j : Fin 128) :
    (lstate v5 rowIx v12 w s k).mx (ix2 i j) = (Finset.range k).fold max (s.mx (ix2 i j)) (prodOf v5 v12 w s.d i j) := by
  refine Knn.max_of_step (fun k => (lstate v5 rowIx v12 w s k).mx (ix2 i j)) _ (fun k => ?_) k
  show k0_pay10 (F := Ideal) _ _ _ _ _ _ (ix2 i j) = _
  pointwise [k0_pay10]
  rw [lstate_prod]

/-- The least product so far. -/
theorem lstate_mn (k : ℕ) (i : Fin 32) (j : Fin 128) :
    (lstate v5 rowIx v12 w s k).mn (ix2 i j) = (Finset.range k).fold min (s.mn (ix2 i j)) (prodOf v5 v12 w s.d i j) := by
  refine Knn.min_of_step (fun k => (lstate v5 rowIx v12 w s k).mn (ix2 i j)) _ (fun k => ?_) k
  show k0_pay11 (F := Ideal) _ _ _ _ _ _ (ix2 i j) = _
  pointwise [k0_pay11]
  rw [lstate_prod]

/-- The sum of the products so far. -/
theorem lstate_sm (k : ℕ) (i : Fin 32) (j : Fin 128) :
    (lstate v5 rowIx v12 w s k).sm (ix2 i j) = s.sm (ix2 i j) + ∑ r ∈ Finset.range k, prodOf v5 v12 w s.d i j r := by
  refine Knn.sum_of_step (fun k => (lstate v5 rowIx v12 w s k).sm (ix2 i j)) _ (fun k => ?_) k
  show k0_pay2 (F := Ideal) _ _ (ix2 i j) = _
  pointwise [k0_pay2]
  rw [lstate_prod]

/-- The sum of their squares so far. -/
theorem lstate_sq (k : ℕ) (i : Fin 32) (j : Fin 128) :
    (lstate v5 rowIx v12 w s k).sq (ix2 i j) =
      s.sq (ix2 i j) + ∑ r ∈ Finset.range k, prodOf v5 v12 w s.d i j r * prodOf v5 v12 w s.d i j r := by
  refine Knn.sum_of_step (fun k => (lstate v5 rowIx v12 w s k).sq (ix2 i j)) _ (fun k => ?_) k
  show k0_pay3 (F := Ideal) _ _ (ix2 i j) = _
  pointwise [k0_pay3]
  rw [lstate_prod]
end

/-- The group matrix has a one where two channels lie in one group. -/
theorem group_word : ∀ i j : Fin 32, k0_pay17 (F := Ideal) k0_pay14 (iota .tc S32x32 32 [1] iota_S32x32_d1_w32) 8#32 k0_pay15 k0_pay16
      (Scalar.extui (Scalar.cmpi .sgt 8#32 0#32)) (ix2 i j) = if i.val / 8 = j.val / 8 then (1 : EReal) else 0 := by
  intro i j
  pointwise [k0_pay17,k0_pay14,k0_pay15,k0_pay16]
  rw [← Knn.truth_word]
  congr 2
  revert i j
  decide +kernel

theorem off1_1 (n : ℕ) : ∀ a, k0_off1 (grid0.coords (pt n)) a = ![0, 0, 128 * (n % 16)] a := by
  intro a
  rw [k0_off1_eq, coord1]
theorem off2_1 (n : ℕ) : ∀ a, k0_off2 (grid0.coords (pt n)) a = ![0, 128 * (n % 16)] a := by
  intro a
  rw [k0_off2_eq, coord1]

theorem qCoord_at (n) (i) (j : Fin 128) (x : Vec Ideal S1x3x2048 .f32) : qCoord (F := Ideal) (grid0.coords (pt n)) x (ix3 0 i j) = x (ix3 0 i ⟨128 * (n % 16) + j.val, by have := j.isLt; omega⟩) := by
  have e1 : k0_off1 (grid0.coords (pt n)) 1 = 0 := off1_1 n 1
  have e2 : k0_off1 (grid0.coords (pt n)) 2 = 128 * (n % 16) := off1_1 n 2
  unfold qCoord
  pointwise
  congr 2
  · apply Fin.ext; show k0_off1 (grid0.coords (pt n)) 1 + i.val = i.val; omega
  · apply Fin.ext; show k0_off1 (grid0.coords (pt n)) 2 + j.val = 128 * (n % 16) + j.val; omega

/-- The point's query features, element by element. -/
theorem qFeat_at (n) (i) (j : Fin 128) (x : Vec Ideal S8x2048 .f32) : qFeat (F := Ideal) (grid0.coords (pt n)) x (ix2 i j) = x (ix2 i ⟨128 * (n % 16) + j.val, by have := j.isLt; omega⟩) := by
  have e1 : k0_off2 (grid0.coords (pt n)) 0 = 0 := off2_1 n 0
  have e2 : k0_off2 (grid0.coords (pt n)) 1 = 128 * (n % 16) := off2_1 n 1
  unfold qFeat
  pointwise
  congr 2
  · apply Fin.ext; show k0_off2 (grid0.coords (pt n)) 0 + i.val = i.val; omega
  · apply Fin.ext; show k0_off2 (grid0.coords (pt n)) 1 + j.val = 128 * (n % 16) + j.val; omega

/-- Where each window lies at a point. -/
theorem idx : ∀ t : Fin cfg0.N, win0_0.index t = ![t.val / 16, 0, 0] ∧ win0_1.index t = ![t.val / 16, 0, 0] ∧ win0_2.index t = ![0, 0]
    ∧ win0_3.index t = ![0, 0] ∧ win0_4.index t = ![0, 0] ∧ win0_5.index t = ![0, 0] ∧ win0_6.index t = ![0, 0]
    ∧ win0_7.index t = ![t.val / 16, 0, 0] :=
  (by decide +kernel : ∀ t : Fin grid0.N, _)

section
variable (m : (ℓ : Loc nD τ sig) → Buf (Elt Ideal) ℓ) (c : Dev nD) (b : Fin 16) (t : Fin cfg0.N) (ht : t.val / 16 = b.val)
include ht

theorem blk0 (a k) : iblk (F := Ideal) m c 0 t (ix3 0 a k) = m ((c : Thread nD τ).loc main_arg0) (ix3 b a k) := by
  blk_ext! [iblk, V, idx t]
theorem blk1 (a k) : iblk (F := Ideal) m c 1 t (ix3 0 k a) = m ((c : Thread nD τ).loc main_arg0) (ix3 b a k) := by
  blk_ext! [iblk, V, idx t]
omit ht
theorem blk2 (a d) : iblk (F := Ideal) m c 2 t (ix2 a d) = m ((c : Thread nD τ).loc main_arg1) (ix2 a d) := by
  blk_ext! [iblk, V, idx t]
theorem blk3 (a) : iblk (F := Ideal) m c 3 t (ix2 a 0) = m ((c : Thread nD τ).loc main_arg2) (ix1 a) := by
  blk_ext! [iblk, V, idx t]
theorem blk4 (a k) : iblk (F := Ideal) m c 4 t (ix2 a k) = m ((c : Thread nD τ).loc main_arg3) (ix2 a k) := by
  blk_ext! [iblk, V, idx t]
theorem blk5 (a) : iblk (F := Ideal) m c 5 t (ix2 a 0) = m ((c : Thread nD τ).loc main_arg4) (ix1 a) := by
  blk_ext! [iblk, V, idx t]
theorem blk6 (a) : iblk (F := Ideal) m c 6 t (ix2 a 0) = m ((c : Thread nD τ).loc main_arg5) (ix1 a) := by
  blk_ext! [iblk, V, idx t]
end

section
variable (m : (ℓ : Loc nD τ sig) → Buf (Elt Ideal) ℓ) (c : Dev nD)

/-- The query column number `j` of tile `t`. -/
def qcol (t : ℕ) (j : Fin 128) : Fin 2048 := ⟨128 * (t % 16) + j.val, by have := j.isLt; omega⟩

/-- Coordinate `a` of point `k` of batch entry `b`. -/
def crd (b : Fin 16) (a : Fin 3) (k : Fin 2048) : EReal := m ((c : Thread nD τ).loc main_arg0) (ix3 b a k)

/-- The squared distances from query `q` of batch entry `b` to every key, not below zero. -/
def dist (b : Fin 16) (q : Fin 2048) : Fin 2048 → EReal :=
  Knn.dist (fun a k => m ((c : Thread nD τ).loc main_arg0) (ix3 b a k)) (fun a => m ((c : Thread nD τ).loc main_arg0) (ix3 b a q))

/-- One channel of the input layer: the weighted sum of a point's coordinates plus the bias. -/
def affine (w x : Fin 3 → EReal) (b : EReal) : EReal := (∑ d, w d * x d) + b

/-- Feature `a` of point `k` of batch entry `b`: the input layer at the point's coordinates. -/
def feat (b : Fin 16) (a : Fin 8) (k : Fin 2048) : EReal :=
  affine (fun d => m ((c : Thread nD τ).loc main_arg1) (ix2 a d)) (fun d => m ((c : Thread nD τ).loc main_arg0) (ix3 b d k))
    (m ((c : Thread nD τ).loc main_arg2) (ix1 a))

/-- The product of query `q`'s `r`-th neighbour at output channel `i`. -/
def prod (b : Fin 16) (i : Fin 32) (q : Fin 2048) (r : ℕ) : EReal :=
  Knn.edge (fun k : Fin 8 => m ((c : Thread nD τ).loc main_arg3) (ix2 i ⟨k.val, by omega⟩))
    (fun k => m ((c : Thread nD τ).loc main_arg3) (ix2 i ⟨8 + k.val, by omega⟩))
    (fun a k => feat m c b a k) (fun a => feat m c b a q)
    (Knn.sel (dist m c b q) r)

theorem pt_div (b : Fin 16) (t : ℕ) (ht : t < 16) : (pt (16 * b.val + t)).val / 16 = b.val := by
  show (16 * b.val + t) % 256 / 16 = b.val
  have := b.isLt
  omega

/-- The distances a point starts from. -/
theorem enter_d (b : Fin 16) (t : ℕ) (ht : t < 16) (sm sq : Vec Ideal S32x128 .f32) (k : Fin 2048) (j : Fin 128) :
    (enter (grid0.coords (pt (16 * b.val + t))) (iblk m c 0 (pt (16 * b.val + t))) (norms m c (16 * b.val + t)) sm sq).d (ix2 k j) =
      dist m c b (qcol t j) k := by
  have hb := b.isLt
  have e1 : norms m c (16 * b.val + t) (ix2 k 0) = ∑ a : Fin 3, crd m c b a k * crd m c b a k := by
    unfold norms
    have hd : (pt (16 * ((16 * b.val + t) / 16))).val / 16 = b.val := by
      have := pt_div b 0 (by decide)
      rwa [show 16 * ((16 * b.val + t) / 16) = 16 * b.val + 0 from by omega]
    pointwise [k0_pay23]
    simp only [blk1 m c b _ hd]
    rfl
  have e2 : qcol t j = ⟨128 * ((16 * b.val + t) % 16) + j.val, by have := j.isLt; omega⟩ := by
    apply Fin.ext; show 128 * (t % 16) + j.val = 128 * ((16 * b.val + t) % 16) + j.val; omega
  unfold enter
  dsimp only
  pointwise [k0_pay27, k0_pay22]
  simp only [e1, qCoord_at, blk0 m c b _ (pt_div b t ht), ← e2]
  rfl

/-- The features in force at a point are those of its batch entry. -/
theorem feats_at (b : Fin 16) (t : ℕ) (ht : t < 16) (a : Fin 8) (k : Fin 2048) :
    feats m c (16 * b.val + t) (ix2 a k) = feat m c b a k := by
  have hb := b.isLt
  have hd : (pt (16 * ((16 * b.val + t) / 16))).val / 16 = b.val := by
    have := pt_div b 0 (by decide)
    rwa [show 16 * ((16 * b.val + t) / 16) = 16 * b.val + 0 from by omega]
  unfold feats feat affine
  pointwise [k0_pay26, k0_pay22]
  simp only [blk0 m c b _ hd, blk2, blk3]

/-- A point's products are those of its queries. -/
theorem prodOf_eq (b : Fin 16) (t : ℕ) (ht : t < 16) (sm sq : Vec Ideal S32x128 .f32) (i : Fin 32) (j : Fin 128) (r : ℕ) :
    prodOf (feats m c (16 * b.val + t)) (qFeat (grid0.coords (pt (16 * b.val + t))) (feats m c (16 * b.val + t)))
      (iblk m c 4 (pt (16 * b.val + t)))
      (enter (grid0.coords (pt (16 * b.val + t))) (iblk m c 0 (pt (16 * b.val + t))) (norms m c (16 * b.val + t)) sm sq).d i j r =
      prod m c b i (qcol t j) r := by
  have e2 : qcol t j = ⟨128 * ((16 * b.val + t) % 16) + j.val, by have := j.isLt; omega⟩ := by
    apply Fin.ext; show 128 * (t % 16) + j.val = 128 * ((16 * b.val + t) % 16) + j.val; omega
  unfold prodOf prod
  simp only [enter_d m c b t ht, blk4, qFeat_at, feats_at m c b t ht, ← e2]

/-- The state after a point, from the sums before it. -/
theorem leave_at (b : Fin 16) (t : ℕ) (ht : t < 16) (sm sq : Vec Ideal S32x128 .f32) (i : Fin 32) (j : Fin 128) :
    let s := leave (grid0.coords (pt (16 * b.val + t))) (iblk m c 0 (pt (16 * b.val + t))) (iblk m c 4 (pt (16 * b.val + t)))
      (norms m c (16 * b.val + t)) (feats m c (16 * b.val + t)) sm sq
    s.mx (ix2 i j) = (Finset.range 16).fold max ⊥ (prod m c b i (qcol t j))
    ∧ s.mn (ix2 i j) = (Finset.range 16).fold min ⊤ (prod m c b i (qcol t j))
    ∧ s.sm (ix2 i j) = sm (ix2 i j) + ∑ r ∈ Finset.range 16, prod m c b i (qcol t j) r
    ∧ s.sq (ix2 i j) = sq (ix2 i j) + ∑ r ∈ Finset.range 16, prod m c b i (qcol t j) r * prod m c b i (qcol t j) r := by
  intro s
  have hp := funext (prodOf_eq m c b t ht sm sq i j)
  refine ⟨?_, ?_, ?_, ?_⟩
  · show (lstate _ _ _ _ _ 16).mx _ = _
    rw [lstate_mx, hp]
    congr 1
  · show (lstate _ _ _ _ _ 16).mn _ = _
    rw [lstate_mn, hp]
    congr 1
  · show (lstate _ _ _ _ _ 16).sm _ = _
    rw [lstate_sm, hp]
    rfl
  · show (lstate _ _ _ _ _ 16).sq _ = _
    rw [lstate_sq, hp]
    rfl

/-- The state after tile `t`: its own extrema, and the sums over the tiles so far. -/
theorem left_at (b : Fin 16) (t : ℕ) (ht : t < 16) (i : Fin 32) (j : Fin 128) :
    (left m c (16 * b.val + t)).mx (ix2 i j) = (Finset.range 16).fold max ⊥ (prod m c b i (qcol t j))
    ∧ (left m c (16 * b.val + t)).mn (ix2 i j) = (Finset.range 16).fold min ⊤ (prod m c b i (qcol t j))
    ∧ (left m c (16 * b.val + t)).sm (ix2 i j) = ∑ t' ∈ Finset.range (t + 1), ∑ r ∈ Finset.range 16, prod m c b i (qcol t' j) r
    ∧ (left m c (16 * b.val + t)).sq (ix2 i j) =
      ∑ t' ∈ Finset.range (t + 1), ∑ r ∈ Finset.range 16, prod m c b i (qcol t' j) r * prod m c b i (qcol t' j) r := by
  induction t with
  | zero =>
    rw [left_first m c (16 * b.val + 0) (by omega)]
    obtain ⟨h1, h2, h3, h4⟩ := leave_at m c b 0 ht (k0_pay24 (F := Ideal)) (k0_pay25 (F := Ideal)) i j
    refine ⟨h1, h2, h3.trans ?_, h4.trans ?_⟩
    · rw [Finset.sum_range_one]
      pointwise [k0_pay24]
    · rw [Finset.sum_range_one]
      pointwise [k0_pay25]
  | succ t ih =>
    obtain ⟨-, -, i3, i4⟩ := ih (by omega)
    obtain ⟨h1, h2, h3, h4⟩ := leave_at m c b (t + 1) ht (left m c (16 * b.val + t)).sm (left m c (16 * b.val + t)).sq i j
    have e : left m c (16 * b.val + (t + 1)) = _ := left_next m c (16 * b.val + t) (by omega)
    rw [e]
    refine ⟨h1, h2, h3.trans ?_, h4.trans ?_⟩
    · rw [i3, Finset.sum_range_succ _ (t + 1)]
    · rw [i4, Finset.sum_range_succ _ (t + 1)]
end

end Cert.StageAIdeal.Hand

end
-- ==== Proof.StageA.Out.lean ====
module

public import proofs.«01_k».proof.Proof.StageA.Vals
public import proofs.«01_k».proof.Proof.Knn.Layer

@[expose] public section

set_option maxRecDepth 16384

noncomputable section

namespace Cert.StageAIdeal.Hand
open Idealize.ShloMosaic.TcCoe

open Cert.StageAIdeal.Gen
open Idealize.ShloMosaic

/-- The stored value at an index, of the two tables, the accumulated sums and the two parameter columns. -/
theorem result_at (sm sq : Vec Ideal S32x128 .f32) (x4 x5 : Vec Ideal S32x1 .f32) (mb nb : Vec Ideal S32x2048 .f32) (i : Fin 32) (j : Fin 2048)
    (N e a : ℝ) (hN : Ideal.ofBits .f32 1216348160#32 = (N : EReal)) (he : Ideal.ofBits .f32 925353388#32 = (e : EReal))
    (ha : Ideal.ofBits .f32 1045220557#32 = (a : EReal)) :
    result (F := Ideal) sm sq x4 x5 mb nb (ix3 0 i j) =
      Knn.fused N e a (∑ x : Fin 32, (if i.val / 8 = x.val / 8 then (1 : EReal) else 0) * ∑ y : Fin 128, sm (ix2 x y))
        (∑ x : Fin 32, (if i.val / 8 = x.val / 8 then (1 : EReal) else 0) * ∑ y : Fin 128, sq (ix2 x y))
        (x4 (ix2 i 0)) (x5 (ix2 i 0)) (mb (ix2 i j)) (nb (ix2 i j)) := by
  unfold result
  pointwise [k0_pay6, k0_pay21, k0_pay20, k0_pay19, k0_pay18, k0_pay12, k0_pay13]
  have hw : ∀ x : Fin 32, k0_pay17 (F := Ideal) k0_pay14 (iota .tc S32x32 32 [1] iota_S32x32_d1_w32) 8#32 k0_pay15 k0_pay16 (Scalar.extui (Scalar.cmpi .sgt 8#32 0#32)) (ix2 i x) =
      if i.val / 8 = x.val / 8 then (1 : EReal) else 0 := group_word i
  simp only [hw, hN, he, ha]
  rfl

theorem out_at (m : (ℓ : Loc nD τ sig) → Buf (Elt Ideal) ℓ) (c : Dev nD) (b : Fin 16) (i : Fin 32) (q : Fin 2048)
    (N e a : ℝ) (hN : Ideal.ofBits .f32 1216348160#32 = (N : EReal)) (he : Ideal.ofBits .f32 925353388#32 = (e : EReal))
    (ha : Ideal.ofBits .f32 1045220557#32 = (a : EReal)) :
    outBlk m c (16 * b.val + 15) (ix3 0 i q) =
      Knn.fused N e a (Knn.tiledSum (G := 4) (C := 8) (T := 16) (prod m c b) i) (Knn.tiledSum (G := 4) (C := 8) (T := 16) (fun x y r => prod m c b x y r * prod m c b x y r) i)
        (m ((c : Thread nD τ).loc main_arg4) (ix1 i)) (m ((c : Thread nD τ).loc main_arg5) (ix1 i))
        ((Finset.range 16).fold max ⊥ (prod m c b i q)) ((Finset.range 16).fold min ⊤ (prod m c b i q)) := by
  have hq := q.isLt
  have hb := b.isLt
  have hcol : qcol (q.val / 128) ⟨q.val % 128, by omega⟩ = q := by apply Fin.ext; show 128 * (q.val / 128 % 16) + q.val % 128 = q.val; omega
  have hmx : maxTab m c (16 * b.val + 15) (ix2 i q) = (Finset.range 16).fold max ⊥ (prod m c b i q) := by
    have h := (left_at m c b (q.val / 128) (by omega) i ⟨q.val % 128, by omega⟩).1
    rw [hcol] at h
    rw [← h, show 16 * b.val + q.val / 128 = 16 * ((16 * b.val + 15) / 16) + q.val / 128 by omega]
    unfold maxTab
    pointwise [k0_pay4]
    exact congrArg _ (ix2_eq_valueIdx _ _).symm
  have hmn : minTab m c (16 * b.val + 15) (ix2 i q) = (Finset.range 16).fold min ⊤ (prod m c b i q) := by
    have h := (left_at m c b (q.val / 128) (by omega) i ⟨q.val % 128, by omega⟩).2.1
    rw [hcol] at h
    rw [← h, show 16 * b.val + q.val / 128 = 16 * ((16 * b.val + 15) / 16) + q.val / 128 by omega]
    unfold minTab
    pointwise [k0_pay5]
    exact congrArg _ (ix2_eq_valueIdx _ _).symm
  unfold outBlk
  rw [result_at _ _ _ _ _ _ i q N e a hN he ha, hmx, hmn, blk5, blk6]
  have hs := fun x y => (left_at m c b 15 (by omega) x y).2.2
  simp only [fun x y => (hs x y).1, fun x y => (hs x y).2]
  unfold Knn.tiledSum
  simp only [Finset.sum_range (n := 16), Finset.sum_range (n := 15 + 1)]
  have ht : ∀ (t : Fin 16) (y : Fin 128), qcol t.val y = Knn.tileAt (T := 16) t y := fun t y => by
    apply Fin.ext; show 128 * (t.val % 16) + y.val = 128 * t.val + y.val; have := t.isLt; omega
  simp only [ht]

end Cert.StageAIdeal.Hand

end
-- ==== Proof.StageA.Ref.lean ====
module

public import proofs.«01_k».proof.Proof.Gen.RefAIdeal.Read
public import proofs.«01_k».proof.Proof.Knn.Host
public import proofs.«01_k».proof.Proof.Knn.Norm
public import proofs.«01_k».proof.Proof.Knn.Words
public import proofs.«01_k».proof.Proof.Gen.Pre_finite1
public import Idealize.ShloMosaic.Lib.Pointwise
public import Idealize.ShloMosaic.Lib.Pipeline.ValueKit
public import Idealize.ShloMosaic.Lib.Quiescent

@[expose] public section

set_option maxRecDepth 16384

noncomputable section

namespace Cert.RefAIdeal.Hand

open Cert.RefAIdeal Cert.RefAIdeal.Read Cert.RefAIdeal.Gen
open Idealize.ShloMosaic Idealize.SL.Sem

variable (x0 : (⟨S16x3x2048, .f32⟩ : BufTy).Contents (Elt Ideal)) (x1 : (⟨S8x3, .f32⟩ : BufTy).Contents (Elt Ideal))
  (x2 : (⟨S8, .f32⟩ : BufTy).Contents (Elt Ideal)) (x3 : (⟨S32x16, .f32⟩ : BufTy).Contents (Elt Ideal))
  (x4 x5 : (⟨S32, .f32⟩ : BufTy).Contents (Elt Ideal))

/-- The squared distances from query `q` of batch entry `b` to every point, not below zero. -/
def dist (b : Fin 16) (q : Fin 2048) : Fin 2048 → EReal := Knn.dist (fun a k => x0 (ix3 b a k)) (fun a => x0 (ix3 b a q))

/-- The sort key is the negated distance. -/
theorem key_at (b q k) : val_main_v24 (F := Ideal) x0 (ix3 b q k) = -Ideal.sqrt (dist x0 b q k) := by
  pointwise [val_main_v24,val_main_v23,val_main_v22,val_main_v21,val_main_v20,val_main_v19,val_main_v18,val_main_v17,val_main_v16,val_main_v15,val_main_v14,val_main_v13,val_main_v12,val_main_v11,val_main_v10,val_main_v9,val_main_v8,val_main_v7,val_main_v6,val_main_v5,val_main_cst,val_main_cst_0,val_main_cst_1,val_main_cst_2]
  rfl

theorem index_at (b q) (r : Fin 16) (hd : ∀ j, dist x0 b q j ≠ ⊤) :
    val_main_indices (F := Ideal) x0 (ix3 b q r) = BitVec.ofNat 32 (Knn.sel (dist x0 b q) r.val).val :=
  Knn.topK_sel (by decide) _ _ (dist x0 b q) b q (key_at x0 b q) hd (fun j => le_max_right _ _) r

theorem start_at (b q) (r : Fin 16) (hd : ∀ j, dist x0 b q j ≠ ⊤) :
    val_main_v31 (F := Ideal) x0 (ix4 b q r 0) = BitVec.ofNat 32 (Knn.sel (dist x0 b q) r.val).val := by
  have h := (Knn.sel (dist x0 b q) r.val).isLt
  pointwise [val_main_v31, val_main_v30, val_main_v29,val_main_v28, val_main_v27, val_main_v26, val_main_c, val_main_c_3]
  rw [index_at x0 b q r hd]
  exact Knn.wrap_index _ (by omega) _

/-- Feature `a` of point `k` of batch entry `b`: the input layer at the point's coordinates. -/
def feat (b : Fin 16) (a : Fin 8) (k : Fin 2048) : EReal := (∑ d : Fin 3, x1 (ix2 a d) * x0 (ix3 b d k)) + x2 (ix1 a)

theorem feat_at (b a k) : val_main_v4 (F := Ideal) x0 x1 x2 (ix3 b a k) = feat x0 x1 x2 b a k := by
  pointwise [val_main_v4, val_main_v3, val_main_v2, val_main_v1, val_main_v0]
  exact congrArg (· + x2 (ix1 a)) (Finset.sum_congr rfl fun d _ => mul_comm _ _)

theorem take_at (b q) (r : Fin 16) (k) (hd : ∀ j, dist x0 b q j ≠ ⊤) :
    val_main_v32 (F := Ideal) x0 x1 x2 (ix4 b q r k) = feat x0 x1 x2 b k (Knn.sel (dist x0 b q) r.val) := by
  unfold val_main_v32
  rw [Knn.gather_row _ rfl rfl rfl rfl rfl rfl rfl _ _ b q r k _ (start_at x0 b q r hd) (by norm_num)]
  pointwise [val_main_v25]
  exact feat_at x0 x1 x2 b k _

/-- The product of query `q`'s `r`-th neighbour at output channel `o`. -/
def prod (b : Fin 16) (o : Fin 32) (q : Fin 2048) (r : ℕ) : EReal :=
  Knn.edge (fun k : Fin 8 => x3 (ix2 o ⟨k.val, by omega⟩)) (fun k => x3 (ix2 o ⟨8 + k.val, by omega⟩))
    (fun a k => feat x0 x1 x2 b a k) (fun a => feat x0 x1 x2 b a q) (Knn.sel (dist x0 b q) r)

theorem prod_at (b o q) (r : Fin 16) (hd : ∀ j, dist x0 b q j ≠ ⊤) :
    val_main_v39 (F := Ideal) x0 x1 x2 x3 (ix4 b o q r) = prod x0 x1 x2 x3 b o q r.val := by
  pointwise [val_main_v39,val_main_v38,val_main_v37,val_main_v36,val_main_v35,val_main_v34,val_main_v33]
  simp only [take_at x0 x1 x2 b q r _ hd, feat_at]
  unfold prod Knn.edge
  refine congrArg₂ (· + ·) (Finset.sum_congr rfl fun k _ => mul_comm _ _) (Finset.sum_congr rfl fun k _ => mul_comm _ _)

theorem count_word : Ideal.ofBits .f32 1216348160#32 = ((262144 : ℝ) : EReal) := by
  simp [Ideal.ofBits, Ideal.ieee, -EReal.coe_mul]; norm_num

/-- The sum of the products over the group of output channel `o`. -/
def total (b : Fin 16) (g : Fin 4) : EReal := ∑ x : Fin 8, ∑ y : Fin 2048, ∑ r : Fin 16, prod x0 x1 x2 x3 b ⟨8 * g.val + x.val, by omega⟩ y r.val

theorem mean_at (b g) (hd : ∀ q j, dist x0 b q j ≠ ⊤) :
    val_main_v44 (F := Ideal) x0 x1 x2 x3 (ix5 b g 0 0 0) = Ideal.div (total x0 x1 x2 x3 b g) ((262144 : ℝ) : EReal) := by
  rw [← count_word]
  pointwise [val_main_v44,val_main_v43,val_main_v42,val_main_v41,val_main_cst_5,val_main_cst_4,val_main_v40]
  simp only [prod_at x0 x1 x2 x3 b _ _ _ (hd _)]
  unfold total
  simp only [Nat.mul_comm 8]

theorem var_at (b g) (hd : ∀ q j, dist x0 b q j ≠ ⊤) :
    val_main_v45 (F := Ideal) x0 x1 x2 x3 (ix5 b g 0 0 0) = Ideal.div
      (∑ x : Fin 8, ∑ y : Fin 2048, ∑ r : Fin 16,
        (prod x0 x1 x2 x3 b ⟨8 * g.val + x.val, by omega⟩ y r.val - Ideal.div (total x0 x1 x2 x3 b g) ((262144 : ℝ) : EReal)) *
        (prod x0 x1 x2 x3 b ⟨8 * g.val + x.val, by omega⟩ y r.val - Ideal.div (total x0 x1 x2 x3 b g) ((262144 : ℝ) : EReal))) ((262144 : ℝ) : EReal) := by
  pointwise [val_main_v45,val_main_call0_v0, val_main_call0_v1, val_main_call0_cst_0, val_main_call0_v2, val_main_call0_v3, val_main_call0_v4, val_main_call0_v5, val_main_call0_v6, val_main_call0_v7, val_main_call0_cst_1, val_main_call0_v8, val_main_call0_cst_2, val_main_call0_v9, val_main_call0_v10, val_main_call0_v11, val_main_call0_v12, val_main_call0_cst_3, val_main_call0_v13, val_main_call0_cst_4, val_main_call0_call0_v0, val_main_call0_call0_v1,val_main_call0_cst,val_main_c_6,val_main_v40]
  simp only [prod_at x0 x1 x2 x3 b _ _ _ (hd _)]
  rw [Knn.zero_word, count_word, sub_zero, if_pos (by exact_mod_cast (by norm_num : (0 : ℝ) < 262144))]
  unfold total
  simp only [Nat.mul_comm 8]

theorem out_at (b o q) (hd : ∀ q j, dist x0 b q j ≠ ⊤) (e a : ℝ) (he : Ideal.ofBits .f32 925353388#32 = (e : EReal))
    (ha : Ideal.ofBits .f32 1045220557#32 = (a : EReal)) :
    val_main_v65 (F := Ideal) x0 x1 x2 x3 x4 x5 (ix3 b o q) = (Finset.univ : Finset (Fin 16)).fold max ⊥ fun r =>
      Knn.leaky a (Knn.normed e (val_main_v44 (F := Ideal) x0 x1 x2 x3 (ix5 b ⟨o.val / 8, by omega⟩ 0 0 0))
        (val_main_v45 (F := Ideal) x0 x1 x2 x3 (ix5 b ⟨o.val / 8, by omega⟩ 0 0 0)) (x4 (ix1 o)) (x5 (ix1 o)) (prod x0 x1 x2 x3 b o q r.val)) := by
  pointwise [val_main_v65, val_main_v64,val_main_v63,val_main_v62,val_main_v61,val_main_v60,val_main_v59,val_main_v58,val_main_v57,val_main_v56,val_main_v55,val_main_v54,val_main_v53,val_main_v52,val_main_v51,val_main_v50,val_main_v49,val_main_v48,val_main_v47,val_main_v46,val_main_cst_7,val_main_cst_8,val_main_cst_9,val_main_cst_10,val_main_v40]
  simp only [prod_at x0 x1 x2 x3 b _ _ _ (hd _), Knn.bot_word, he, ha]
  rfl

/-- The reference's run: its result is the last value of its chain, at the arguments. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v65) = val_main_v65 (F := Ideal) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v65_eq (StableHlo.launchContents m c)), (h c).2⟩) (Cert.RefAIdeal.Value.run m ρ)

/-- The reference's frame; it declares no semaphore. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 :=
  (θ_run defs _ _).mono (fun r h => ⟨fun c => (h c).2, sem_eq_zero_of_no_sems (by decide) r.2⟩) (Cert.RefAIdeal.Value.run m ρ)

end Cert.RefAIdeal.Hand

end
-- ==== Proof.StageA.Equal.lean ====
module

public import proofs.«01_k».proof.Defs
public import proofs.«01_k».proof.Proof.Gen.Pre_finite1
public import proofs.«01_k».proof.Proof.StageA.Out
public import proofs.«01_k».proof.Proof.StageA.Ref
public import proofs.«01_k».proof.Proof.Knn.Finite
public import Idealize.ShloMosaic.Lib.Claim

@[expose] public section

set_option maxRecDepth 16384

noncomputable section

namespace Cert.StageAIdeal.Hand
open Idealize.ShloMosaic.TcCoe

open Cert.StageAIdeal.Gen
open Idealize.ShloMosaic Idealize.SL.Sem

/-! # The kernel's array is the reference's -/

variable (m : (ℓ : Loc nD τ sig) → Buf (Elt Ideal) ℓ) (c : Dev nD)

/-- Under the precondition every element of every argument is a real number. -/
theorem reals (h : Cert.Pre_StageAIdeal_finite1 m) :
    (∀ i, Knn.IsReal (m ((c : Thread nD τ).loc main_arg0) i)) ∧ (∀ i, Knn.IsReal (m ((c : Thread nD τ).loc main_arg1) i))
    ∧ (∀ i, Knn.IsReal (m ((c : Thread nD τ).loc main_arg2) i)) ∧ (∀ i, Knn.IsReal (m ((c : Thread nD τ).loc main_arg3) i))
    ∧ (∀ i, Knn.IsReal (m ((c : Thread nD τ).loc main_arg4) i)) ∧ (∀ i, Knn.IsReal (m ((c : Thread nD τ).loc main_arg5) i)) := by
  haveI : Subsingleton (⟨0, ![]⟩ : Shape).Idx := ⟨fun a b => funext fun e => Fin.elim0 e⟩
  obtain ⟨h1, h6⟩ := IntOp.andi_eq_one.1 (congrFun (h c) fun a => (show Fin 0 from a).elim0)
  obtain ⟨h1, h5⟩ := IntOp.andi_eq_one.1 h1
  obtain ⟨h1, h4⟩ := IntOp.andi_eq_one.1 h1
  obtain ⟨h1, h3⟩ := IntOp.andi_eq_one.1 h1
  obtain ⟨h1, h2⟩ := IntOp.andi_eq_one.1 h1
  exact ⟨Knn.real_of_all _ _ _ _ _ _ h1, Knn.real_of_all _ _ _ _ _ _ h2, Knn.real_of_all _ _ _ _ _ _ h3, Knn.real_of_all _ _ _ _ _ _ h4,
    Knn.real_of_all _ _ _ _ _ _ h5, Knn.real_of_all _ _ _ _ _ _ h6⟩

/-- The kernel's output array. -/
theorem array_eq (G : Buf (Elt Ideal) ((c : Thread nD τ).loc main_v4))
    (hG : ∀ (b : Fin 16) (i : Fin 32) (q : Fin 2048), outBlk m c (16 * b.val + 15) (ix3 0 i q) = G (ix3 b i q)) :
    (dats m 0 c).arrAt 7 cfg0.N = G := by
  refine (dats m 0 c).arrAt_eq_of_covers 7 _ (by decide +kernel) fun t hf y => ?_
  blk_simp
  rw [after0_7]
  have h3 : t.val % 16 = 15 := (by decide +kernel : ∀ t : Fin cfg0.N, (cfg0.win 7).flush t = true → t.val % 16 = 15) t hf
  have ht : t.val < 256 := t.isLt
  have hy : y = ix3 0 (y 1) (y 2) := by
    funext e
    fin_cases e
    · exact Subsingleton.elim (α := Fin 1) _ _
    · rfl
    · rfl
  have he : (win0_7.blk t).view.emb y = ix3 ⟨t.val / 16, by omega⟩ (y 1) (y 2) := by
    funext e
    apply Fin.ext
    fin_cases e
    · blk_simp [idx t]
      rfl
    · blk_simp [idx t]
      rfl
    · blk_simp [idx t]
      rfl
  refine Eq.trans ?_ ((hG ⟨t.val / 16, by omega⟩ (y 1) (y 2)).trans (congrArg G he.symm))
  rw [show 16 * (⟨t.val / 16, by omega⟩ : Fin 16).val + 15 = t.val from by show 16 * (t.val / 16) + 15 = t.val; omega]
  exact congrArg _ hy

/-- The two programs' results agree element by element. -/
theorem value_eq (h : Cert.Pre_StageAIdeal_finite1 m) (b : Fin 16) (i : Fin 32) (q : Fin 2048) :
    outBlk m c (16 * b.val + 15) (ix3 0 i q) = Cert.RefAIdeal.Read.val_main_v65 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) (m ((c : Thread nD τ).loc main_arg5)) (ix3 b i q) := by
  obtain ⟨r0, r1, r2, r3, r4, r5⟩ := reals m c h
  obtain ⟨e, he0, he⟩ := Knn.eps_word
  obtain ⟨a, ha0, ha⟩ := Knn.slope_word
  have hd : ∀ q k, Knn.IsReal (dist m c b q k) := fun q k => Knn.dist_real (fun a k => r0 _) (fun a => r0 _) k
  have hd' : ∀ q k, Cert.RefAIdeal.Hand.dist (m ((c : Thread nD τ).loc main_arg0)) b q k ≠ ⊤ := fun q k => (hd q k).ne_top
  have hf : ∀ a k, Knn.IsReal (feat m c b a k) := fun a k => (Knn.IsReal.sum fun d => (r1 _).mul (r0 _)).add (r2 _)
  have hp : ∀ o q r, Knn.IsReal (prod m c b o q r) := fun o q r =>
    Knn.edge_real (fun c => r3 _) (fun c => r3 _) (fun c k => hf c k) (fun c => hf c _) _
  rw [out_at m c b i q 262144 e a Cert.RefAIdeal.Hand.count_word he ha, Cert.RefAIdeal.Hand.out_at _ _ _ _ _ _ b i q hd' e a he ha,
    Cert.RefAIdeal.Hand.mean_at _ _ _ _ b _ hd', Cert.RefAIdeal.Hand.var_at _ _ _ _ b _ hd']
  exact Knn.layer_eq (G := 4) (C := 8) (T := 16) (by norm_num) (prod m c b) hp i q 262144 e a (by norm_num) (by norm_num) he0 ha0 _ _ (r4 _) (r5 _)

/-- The call and its reference, from memories agreeing on the arguments, end with equal results. -/
theorem algebraic : Cert.algebraic_StageAIdeal_RefAIdeal_pre_finite1 := by
  pair_intro
  · run_from Cert.StageAIdeal.Hand.run_main m g
  · refine (θ_run Cert.RefAIdeal.defs _ _).mono (fun r h c => ⟨(h c).1.trans ?_, (h c).2⟩) (Cert.RefAIdeal.Hand.run m' g')
    obtain ⟨e0, e1, e2, e3, e4, e5⟩ := hagree c
    rw [e0, e1, e2, e3, e4, e5]
    exact (array_eq m c _ (value_eq m c hpre)).symm

end Cert.StageAIdeal.Hand

end
-- ==== Proof.lean ====
module

public import proofs.«01_k».proof.Defs
public import proofs.«01_k».proof.Proof.Gen.StageC
public import proofs.«01_k».proof.Proof.Gen.StageC.Skeleton
public import proofs.«01_k».proof.Proof.Gen.StageC.Loops
public import proofs.«01_k».proof.Proof.Gen.StageC.Launch
public import proofs.«01_k».proof.Proof.Gen.StageC.Points
public import proofs.«01_k».proof.Proof.Gen.StageC.Frame
public import proofs.«01_k».proof.Proof.Gen.StageCIdeal
public import proofs.«01_k».proof.Proof.Gen.StageCIdeal.Skeleton
public import proofs.«01_k».proof.Proof.Gen.StageCIdeal.Loops
public import proofs.«01_k».proof.Proof.Gen.StageCIdeal.Launch
public import proofs.«01_k».proof.Proof.Gen.StageCIdeal.Points
public import proofs.«01_k».proof.Proof.Gen.StageCIdeal.Frame
public import proofs.«01_k».proof.Proof.Gen.RefCIdeal
public import proofs.«01_k».proof.Proof.Gen.RefCIdeal.Run
public import proofs.«01_k».proof.Proof.Gen.RefCIdeal.Read
public import proofs.«01_k».proof.Proof.Gen.Pre_finite
public import proofs.«01_k».proof.Proof.Gen.StageD
public import proofs.«01_k».proof.Proof.Gen.StageDIdeal
public import proofs.«01_k».proof.Proof.Gen.StageDIdeal.Skeleton
public import proofs.«01_k».proof.Proof.Gen.StageDIdeal.Loops
public import proofs.«01_k».proof.Proof.Gen.StageDIdeal.Launch
public import proofs.«01_k».proof.Proof.Gen.StageDIdeal.Points
public import proofs.«01_k».proof.Proof.Gen.RefDIdeal
public import proofs.«01_k».proof.Proof.Gen.RefDIdeal.Run
public import proofs.«01_k».proof.Proof.Gen.RefDIdeal.Read
public import proofs.«01_k».proof.Proof.Gen.Pre_finite_in_range
public import proofs.«01_k».proof.Proof.Gen.StageB
public import proofs.«01_k».proof.Proof.Gen.StageBIdeal
public import proofs.«01_k».proof.Proof.Gen.StageBIdeal.Skeleton
public import proofs.«01_k».proof.Proof.Gen.StageBIdeal.Loops
public import proofs.«01_k».proof.Proof.Gen.StageBIdeal.Launch
public import proofs.«01_k».proof.Proof.Gen.StageBIdeal.Points
public import proofs.«01_k».proof.Proof.Gen.StageBIdeal.Frame
public import proofs.«01_k».proof.Proof.Gen.RefBIdeal
public import proofs.«01_k».proof.Proof.Gen.RefBIdeal.Run
public import proofs.«01_k».proof.Proof.Gen.RefBIdeal.Read
public import proofs.«01_k».proof.Proof.Gen.Pre_finite_in_range2
public import proofs.«01_k».proof.Proof.Gen.StageA
public import proofs.«01_k».proof.Proof.Gen.StageAIdeal
public import proofs.«01_k».proof.Proof.Gen.StageAIdeal.Skeleton
public import proofs.«01_k».proof.Proof.Gen.StageAIdeal.Loops
public import proofs.«01_k».proof.Proof.Gen.StageAIdeal.Launch
public import proofs.«01_k».proof.Proof.Gen.StageAIdeal.Points
public import proofs.«01_k».proof.Proof.Gen.StageAIdeal.Frame
public import proofs.«01_k».proof.Proof.Gen.RefAIdeal
public import proofs.«01_k».proof.Proof.Gen.RefAIdeal.Run
public import proofs.«01_k».proof.Proof.Gen.RefAIdeal.Read
public import proofs.«01_k».proof.Proof.Gen.Pre_finite1
public import proofs.«01_k».proof.Proof.StageC.Plain
public import proofs.«01_k».proof.Proof.StageC.Equal
public import proofs.«01_k».proof.Proof.StageD.Plain
public import proofs.«01_k».proof.Proof.StageD.Equal
public import proofs.«01_k».proof.Proof.StageB.Plain
public import proofs.«01_k».proof.Proof.StageB.Equal
public import proofs.«01_k».proof.Proof.StageA.Plain
public import proofs.«01_k».proof.Proof.StageA.Equal
public import Idealize.ShloMosaic.Lib.Claim
public import Idealize.ShloMosaic.Adequacy
public import Idealize.ShloMosaic.Init

@[expose] public section

noncomputable section

namespace Cert.Proof

open Idealize.ShloMosaic Idealize.SL.Sem

theorem claim : Cert.Claim := ⟨Cert.StageC.Gen.facts, Cert.StageCIdeal.Gen.facts, Cert.RefCIdeal.Gen.facts, Cert.StageD.Gen.facts,
  Cert.StageDIdeal.Gen.facts, Cert.RefDIdeal.Gen.facts, Cert.StageB.Gen.facts, Cert.StageBIdeal.Gen.facts, Cert.RefBIdeal.Gen.facts,
  Cert.StageA.Gen.facts, Cert.StageAIdeal.Gen.facts, Cert.RefAIdeal.Gen.facts,
  Cert.Pre_finite.Gen.facts, Cert.Pre_finite_in_range.Gen.facts, Cert.Pre_finite_in_range2.Gen.facts, Cert.Pre_finite1.Gen.facts,
  fun m g _ => Cert.StageC.Hand.frame m g, fun m g _ => Cert.StageCIdeal.Hand.frame m g, fun m g _ => Cert.StageCIdeal.Hand.frame m g,
  fun m g _ => Cert.RefCIdeal.Hand.frame m g, fun m g _ => Cert.RefCIdeal.Hand.frame m g,
  fun m g _ => Cert.StageD.Hand.frame m g, fun m g _ => Cert.StageDIdeal.Hand.frame m g, fun m g _ => Cert.StageDIdeal.Hand.frame m g,
  fun m g _ => Cert.RefDIdeal.Hand.frame m g, fun m g _ => Cert.RefDIdeal.Hand.frame m g,
  fun m g _ => Cert.StageB.Hand.frame m g, fun m g _ => Cert.StageBIdeal.Hand.frame m g, fun m g _ => Cert.StageBIdeal.Hand.frame m g,
  fun m g _ => Cert.RefBIdeal.Hand.frame m g, fun m g _ => Cert.RefBIdeal.Hand.frame m g,
  fun m g _ => Cert.StageA.Hand.frame m g, fun m g _ => Cert.StageAIdeal.Hand.frame m g, fun m g _ => Cert.StageAIdeal.Hand.frame m g,
  fun m g _ => Cert.RefAIdeal.Hand.frame m g, fun m g _ => Cert.RefAIdeal.Hand.frame m g,
  ⟨IdealRules.named_const.statement _ _ _ _ _ rfl, IdealRules.named_const.statement _ _ _ _ _ rfl⟩, Cert.StageCIdeal.Hand.algebraic,
  ⟨IdealRules.named_const.statement _ _ _ _ _ rfl, IdealRules.named_const.statement _ _ _ _ _ rfl⟩, Cert.StageDIdeal.Hand.algebraic,
  ⟨IdealRules.named_const.statement _ _ _ _ _ rfl, IdealRules.named_const.statement _ _ _ _ _ rfl⟩, Cert.StageBIdeal.Hand.algebraic,
  ⟨IdealRules.named_const.statement _ _ _ _ _ rfl, IdealRules.named_const.statement _ _ _ _ _ rfl⟩, Cert.StageAIdeal.Hand.algebraic⟩

end Cert.Proof

end
